-- ==== Defs.lean ====
def Pre_Kernel [hPre_rows_partitioned : Cert.Pre_rows_partitioned.Facts] (m : (ℓ : Loc Cert.Kernel.nD Cert.Kernel.τ Cert.Kernel.sig) → Buf (Elt Bits) ℓ) : Prop :=
  ∀ c : Dev Cert.Kernel.nD,
    (Cert.Pre_rows_partitioned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_rows_partitioned : Cert.Pre_rows_partitioned.Facts] (m : (ℓ : Loc Cert.KernelIdeal.nD Cert.KernelIdeal.τ Cert.KernelIdeal.sig) → Buf (Elt Ideal) ℓ) : Prop :=
  ∀ c : Dev Cert.KernelIdeal.nD,
    (Cert.Pre_rows_partitioned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_partitioned [hPre_rows_partitioned : Cert.Pre_rows_partitioned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_partitioned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Down [hPre_down_rows_partitioned : Cert.Pre_down_rows_partitioned.Facts] (m : (ℓ : Loc Cert.Down.nD Cert.Down.τ Cert.Down.sig) → Buf (Elt Bits) ℓ) : Prop :=
  ∀ c : Dev Cert.Down.nD,
    (Cert.Pre_down_rows_partitioned.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))) = (fun _ => 1#1)

def Pre_DownIdeal [hPre_down_rows_partitioned : Cert.Pre_down_rows_partitioned.Facts] (m : (ℓ : Loc Cert.DownIdeal.nD Cert.DownIdeal.τ Cert.DownIdeal.sig) → Buf (Elt Ideal) ℓ) : Prop :=
  ∀ c : Dev Cert.DownIdeal.nD,
    (Cert.Pre_down_rows_partitioned.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_rows_partitioned [hPre_down_rows_partitioned : Cert.Pre_down_rows_partitioned.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_rows_partitioned.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))) = (fun _ => 1#1)

def quiescent_Kernel [hKernel : Cert.Kernel.Facts] [hPre_rows_partitioned : Cert.Pre_rows_partitioned.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_rows_partitioned : Cert.Pre_rows_partitioned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_rows_partitioned [hReferenceIdeal : Cert.ReferenceIdeal.Facts] [hPre_rows_partitioned : Cert.Pre_rows_partitioned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_partitioned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Down [hDown : Cert.Down.Facts] [hPre_down_rows_partitioned : Cert.Pre_down_rows_partitioned.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] [hPre_down_rows_partitioned : Cert.Pre_down_rows_partitioned.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_DownReferenceIdeal_pre_down_rows_partitioned [hDownReferenceIdeal : Cert.DownReferenceIdeal.Facts] [hPre_down_rows_partitioned : Cert.Pre_down_rows_partitioned.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_rows_partitioned m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_partitioned : Cert.Pre_rows_partitioned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Down_DownIdeal : Prop :=
  True

def algebraic_DownIdeal_DownReferenceIdeal [hDownIdeal : Cert.DownIdeal.Facts] [hDownReferenceIdeal : Cert.DownReferenceIdeal.Facts] [hPre_down_rows_partitioned : Cert.Pre_down_rows_partitioned.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v49)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v49) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hPre_rows_partitioned : Cert.Pre_rows_partitioned.Facts) (hPre_down_rows_partitioned : Cert.Pre_down_rows_partitioned.Facts),
    quiescent_Kernel (hKernel := hKernel) (hPre_rows_partitioned := hPre_rows_partitioned)
    ∧ quiescent_KernelIdeal (hKernelIdeal := hKernelIdeal) (hPre_rows_partitioned := hPre_rows_partitioned)
    ∧ quiescent_ReferenceIdeal (hReferenceIdeal := hReferenceIdeal)
    ∧ quiescent_ReferenceIdeal_pre_rows_partitioned (hReferenceIdeal := hReferenceIdeal) (hPre_rows_partitioned := hPre_rows_partitioned)
    ∧ quiescent_Down (hDown := hDown) (hPre_down_rows_partitioned := hPre_down_rows_partitioned)
    ∧ quiescent_DownIdeal (hDownIdeal := hDownIdeal) (hPre_down_rows_partitioned := hPre_down_rows_partitioned)
    ∧ quiescent_DownReferenceIdeal (hDownReferenceIdeal := hDownReferenceIdeal)
    ∧ quiescent_DownReferenceIdeal_pre_down_rows_partitioned (hDownReferenceIdeal := hDownReferenceIdeal) (hPre_down_rows_partitioned := hPre_down_rows_partitioned)
    ∧ preserves_Kernel_KernelIdeal
    ∧ algebraic_KernelIdeal_ReferenceIdeal (hKernelIdeal := hKernelIdeal) (hReferenceIdeal := hReferenceIdeal) (hPre_rows_partitioned := hPre_rows_partitioned)
    ∧ preserves_Down_DownIdeal
    ∧ algebraic_DownIdeal_DownReferenceIdeal (hDownIdeal := hDownIdeal) (hDownReferenceIdeal := hDownReferenceIdeal) (hPre_down_rows_partitioned := hPre_down_rows_partitioned)
-- ==== Pre_down_rows_partitioned.lean ====
abbrev S9216x4096 : Shape := ⟨2, ![9216, 4096]⟩
abbrev S8 : Shape := ⟨1, ![8]⟩
abbrev S8x2048x6144 : Shape := ⟨3, ![8, 2048, 6144]⟩
abbrev S8x32x6144 : Shape := ⟨3, ![8, 32, 6144]⟩
abbrev S8x6144 : Shape := ⟨2, ![8, 6144]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S9216x4096 .fp8e4m3) (main_arg1 : IVec S8 32) (main_arg2 : FVec F S8 .f32) (main_arg3 : IVec S8x2048x6144 8) (main_arg4 : FVec F S8x32x6144 .fp8e4m3) (main_arg5 : FVec F S8x6144 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 9216#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg1 main_c_1
  let main_c_2 : IVec S_ 32 := constantI S_ 32 9216#32
  let main_v6 : IVec S_ 1 := cmpi .eq main_v5 main_c_2
  let main_v7 : IVec S8 1 := broadcastInDim S8 ![] bcast_S_S8 main_v6
  let main_v8 : IVec S8 1 := andi main_v4 main_v7
  main_v8
-- ==== Pre_rows_partitioned.lean ====
abbrev S9216x6144 : Shape := ⟨2, ![9216, 6144]⟩
abbrev S8 : Shape := ⟨1, ![8]⟩
abbrev S8x3072x4096 : Shape := ⟨3, ![8, 3072, 4096]⟩
abbrev S8x48x4096 : Shape := ⟨3, ![8, 48, 4096]⟩
abbrev S8x4096 : Shape := ⟨2, ![8, 4096]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S9216x6144 .fp8e4m3) (main_arg1 : IVec S8 32) (main_arg2 : FVec F S8 .f32) (main_arg3 : IVec S8x3072x4096 8) (main_arg4 : IVec S8x3072x4096 8) (main_arg5 : FVec F S8x48x4096 .fp8e4m3) (main_arg6 : FVec F S8x48x4096 .fp8e4m3) (main_arg7 : FVec F S8x4096 .f32) (main_arg8 : FVec F S8x4096 .f32) (main_arg9 : FVec F S8x4096 .f32) (main_arg10 : FVec F S8 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 9216#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg1 main_c_1
  let main_c_2 : IVec S_ 32 := constantI S_ 32 9216#32
  let main_v6 : IVec S_ 1 := cmpi .eq main_v5 main_c_2
  let main_v7 : IVec S8 1 := broadcastInDim S8 ![] bcast_S_S8 main_v6
  let main_v8 : IVec S8 1 := andi main_v4 main_v7
  main_v8
-- ==== Kernel.lean ====
abbrev S9216x6144 : Shape := ⟨2, ![9216, 6144]⟩
abbrev S8 : Shape := ⟨1, ![8]⟩
abbrev S8x3072x4096 : Shape := ⟨3, ![8, 3072, 4096]⟩
abbrev S8x48x4096 : Shape := ⟨3, ![8, 48, 4096]⟩
abbrev S8x4096 : Shape := ⟨2, ![8, 4096]⟩
abbrev S_ : Shape := ⟨0, ![]⟩
abbrev S1 : Shape := ⟨1, ![1]⟩
abbrev S9 : Shape := ⟨1, ![9]⟩
abbrev S43 : Shape := ⟨1, ![43]⟩
abbrev S8x1 : Shape := ⟨2, ![8, 1]⟩
abbrev S1x43 : Shape := ⟨2, ![1, 43]⟩
abbrev S8x43 : Shape := ⟨2, ![8, 43]⟩
abbrev S43x1 : Shape := ⟨2, ![43, 1]⟩
abbrev S8x1x4096 : Shape := ⟨3, ![8, 1, 4096]⟩
abbrev S9216x4096 : Shape := ⟨2, ![9216, 4096]⟩
abbrev S256x6144 : Shape := ⟨2, ![256, 6144]⟩
abbrev S1x3072x256 : Shape := ⟨3, ![1, 3072, 256]⟩
abbrev S1x48x256 : Shape := ⟨3, ![1, 48, 256]⟩
abbrev S1x1x256 : Shape := ⟨3, ![1, 1, 256]⟩
abbrev S256x256 : Shape := ⟨2, ![256, 256]⟩
abbrev S6144x512 : Shape := ⟨2, ![6144, 512]⟩
abbrev S256x1 : Shape := ⟨2, ![256, 1]⟩
abbrev S3072x256 : Shape := ⟨2, ![3072, 256]⟩
abbrev S48x256 : Shape := ⟨2, ![48, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S1x256 : Shape := ⟨2, ![1, 256]⟩
abbrev S256x512 : Shape := ⟨2, ![256, 512]⟩

abbrev nBuf : Space → Nat
  | .hbm => 111
  | .vmem => 19
  | .smem => 6
  | _ => 0

abbrev bufTy : (tb : Table) → Fin (tcTables nBuf tb) → BufTy
  | .hbm, ⟨0, _⟩ => ⟨S9216x6144, .fp8e4m3⟩
  | .hbm, ⟨1, _⟩ => ⟨S8, .i32⟩
  | .hbm, ⟨2, _⟩ => ⟨S8, .f32⟩
  | .hbm, ⟨3, _⟩ => ⟨S8x3072x4096, .i8⟩
  | .hbm, ⟨4, _⟩ => ⟨S8x3072x4096, .i8⟩
  | .hbm, ⟨5, _⟩ => ⟨S8x48x4096, .fp8e4m3⟩
  | .hbm, ⟨6, _⟩ => ⟨S8x48x4096, .fp8e4m3⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S8, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S8, .i1⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i1⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S8, .i32⟩
  | .hbm, ⟨47, _⟩ => ⟨S_, .i32⟩
  | .hbm, ⟨48, _⟩ => ⟨S8, .i32⟩
  | .hbm, ⟨49, _⟩ => ⟨S8, .i1⟩
  | .hbm, ⟨50, _⟩ => ⟨S8, .i32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i1⟩
  | .hbm, ⟨55, _⟩ => ⟨S8, .i1⟩
  | .hbm, ⟨56, _⟩ => ⟨S_, .i32⟩
  | .hbm, ⟨57, _⟩ => ⟨S8, .i32⟩
  | .hbm, ⟨58, _⟩ => ⟨S8, .i32⟩
  | .hbm, ⟨59, _⟩ => ⟨S8, .i32⟩
  | .hbm, ⟨60, _⟩ => ⟨S8, .i32⟩
  | .hbm, ⟨61, _⟩ => ⟨S_, .i32⟩
  | .hbm, ⟨62, _⟩ => ⟨S8, .i32⟩
  | .hbm, ⟨63, _⟩ => ⟨S8, .i32⟩
  | .hbm, ⟨64, _⟩ => ⟨S_, .i32⟩
  | .hbm, ⟨65, _⟩ => ⟨S_, .i32⟩
  | .hbm, ⟨66, _⟩ => ⟨S8, .i32⟩
  | .hbm, ⟨67, _⟩ => ⟨S8, .i32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S_, .i32⟩
  | .hbm, ⟨72, _⟩ => ⟨S8, .i32⟩
  | .hbm, ⟨73, _⟩ => ⟨S9, .i32⟩
  | .hbm, ⟨74, _⟩ => ⟨S43, .i32⟩
  | .hbm, ⟨75, _⟩ => ⟨S_, .i32⟩
  | .hbm, ⟨76, _⟩ => ⟨S1, .i32⟩
  | .hbm, ⟨77, _⟩ => ⟨S1, .i32⟩
  | .hbm, ⟨78, _⟩ => ⟨S43, .i32⟩
  | .hbm, ⟨79, _⟩ => ⟨S43, .i32⟩
  | .hbm, ⟨80, _⟩ => ⟨S8, .i32⟩
  | .hbm, ⟨81, _⟩ => ⟨S8x1, .i32⟩
  | .hbm, ⟨82, _⟩ => ⟨S1x43, .i32⟩
  | .hbm, ⟨83, _⟩ => ⟨S8x43, .i32⟩
  | .hbm, ⟨84, _⟩ => ⟨S8x43, .i32⟩
  | .hbm, ⟨85, _⟩ => ⟨S8x43, .i1⟩
  | .hbm, ⟨86, _⟩ => ⟨S8x43, .i32⟩
  | .hbm, ⟨87, _⟩ => ⟨S_, .i32⟩
  | .hbm, ⟨88, _⟩ => ⟨S_, .i32⟩
  | .hbm, ⟨89, _⟩ => ⟨S43, .i32⟩
  | .hbm, ⟨90, _⟩ => ⟨S43, .i1⟩
  | .hbm, ⟨91, _⟩ => ⟨S_, .i32⟩
  | .hbm, ⟨92, _⟩ => ⟨S43, .i32⟩
  | .hbm, ⟨93, _⟩ => ⟨S43, .i32⟩
  | .hbm, ⟨94, _⟩ => ⟨S43, .i32⟩
  | .hbm, ⟨95, _⟩ => ⟨S43x1, .i32⟩
  | .hbm, ⟨96, _⟩ => ⟨S43, .i32⟩
  | .hbm, ⟨97, _⟩ => ⟨S43, .i32⟩
  | .hbm, ⟨98, _⟩ => ⟨S_, .i32⟩
  | .hbm, ⟨99, _⟩ => ⟨S43, .i32⟩
  | .hbm, ⟨100, _⟩ => ⟨S43, .i1⟩
  | .hbm, ⟨101, _⟩ => ⟨S_, .i32⟩
  | .hbm, ⟨102, _⟩ => ⟨S43, .i32⟩
  | .hbm, ⟨103, _⟩ => ⟨S43, .i32⟩
  | .hbm, ⟨104, _⟩ => ⟨S43, .i32⟩
  | .hbm, ⟨105, _⟩ => ⟨S43x1, .i32⟩
  | .hbm, ⟨106, _⟩ => ⟨S43, .i32⟩
  | .hbm, ⟨107, _⟩ => ⟨S8x1x4096, .f32⟩
  | .hbm, ⟨108, _⟩ => ⟨S8x1x4096, .f32⟩
  | .hbm, ⟨109, _⟩ => ⟨S8x1x4096, .f32⟩
  | .hbm, ⟨110, _⟩ => ⟨S9216x4096, .fp8e4m3⟩
  | .local _ .vmem, ⟨0, _⟩ => ⟨S256x6144, .fp8e4m3⟩
  | .local _ .vmem, ⟨1, _⟩ => ⟨S256x6144, .fp8e4m3⟩
  | .local _ .vmem, ⟨2, _⟩ => ⟨S1x3072x256, .i8⟩
  | .local _ .vmem, ⟨3, _⟩ => ⟨S1x3072x256, .i8⟩
  | .local _ .vmem, ⟨4, _⟩ => ⟨S1x3072x256, .i8⟩
  | .local _ .vmem, ⟨5, _⟩ => ⟨S1x3072x256, .i8⟩
  | .local _ .vmem, ⟨6, _⟩ => ⟨S1x48x256, .fp8e4m3⟩
  | .local _ .vmem, ⟨7, _⟩ => ⟨S1x48x256, .fp8e4m3⟩
  | .local _ .vmem, ⟨8, _⟩ => ⟨S1x48x256, .fp8e4m3⟩
  | .local _ .vmem, ⟨9, _⟩ => ⟨S1x48x256, .fp8e4m3⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S256x256, .fp8e4m3⟩
  | .local _ .vmem, ⟨17, _⟩ => ⟨S256x256, .fp8e4m3⟩
  | .local _ .vmem, ⟨18, _⟩ => ⟨S6144x512, .bf16⟩
  | .local _ .smem, ⟨0, _⟩ => ⟨S43, .i32⟩
  | .local _ .smem, ⟨1, _⟩ => ⟨S43, .i32⟩
  | .local _ .smem, ⟨2, _⟩ => ⟨S9, .i32⟩
  | .local _ .smem, ⟨3, _⟩ => ⟨S1, .i32⟩
  | .local _ .smem, ⟨4, _⟩ => ⟨S8, .f32⟩
  | .local _ .smem, ⟨5, _⟩ => ⟨S8, .f32⟩
  | _, _ => ⟨S9216x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_call0_call0_c : Ref sig .tc := ⟨.hbm, 13, rfl⟩
abbrev main_call0_call0_v0 : Ref sig .tc := ⟨.hbm, 14, rfl⟩
abbrev main_v1 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v4 : Ref sig .tc := ⟨.hbm, 34, rfl⟩
abbrev main_c_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_c_2 : Ref sig .tc := ⟨.hbm, 39, rfl⟩
abbrev main_v8 : Ref sig .tc := ⟨.hbm, 40, rfl⟩
abbrev main_v9 : Ref sig .tc := ⟨.hbm, 41, rfl⟩
abbrev main_c_3 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v10 : Ref sig .tc := ⟨.hbm, 59, rfl⟩
abbrev main_v11 : Ref sig .tc := ⟨.hbm, 60, rfl⟩
abbrev main_c_4 : Ref sig .tc := ⟨.hbm, 61, rfl⟩
abbrev main_v12 : Ref sig .tc := ⟨.hbm, 62, rfl⟩
abbrev main_v13 : Ref sig .tc := ⟨.hbm, 63, rfl⟩
abbrev main_c_5 : Ref sig .tc := ⟨.hbm, 64, rfl⟩
abbrev main_call3_v0 : Ref sig .tc := ⟨.hbm, 65, rfl⟩
abbrev main_call3_v1 : Ref sig .tc := ⟨.hbm, 66, rfl⟩
abbrev main_v14 : Ref sig .tc := ⟨.hbm, 67, rfl⟩
abbrev main_c_6 : Ref sig .tc := ⟨.hbm, 68, rfl⟩
abbrev main_v15 : Ref sig .tc := ⟨.hbm, 69, rfl⟩
abbrev main_call4_call0_c : Ref sig .tc := ⟨.hbm, 70, rfl⟩
abbrev main_call4_call0_v0 : Ref sig .tc := ⟨.hbm, 71, rfl⟩
abbrev main_v16 : Ref sig .tc := ⟨.hbm, 72, rfl⟩
abbrev main_v17 : Ref sig .tc := ⟨.hbm, 73, rfl⟩
abbrev main_v19 : Ref sig .tc := ⟨.hbm, 74, rfl⟩
abbrev main_c_7 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_c_8 : Ref sig .tc := ⟨.hbm, 87, rfl⟩
abbrev main_c_9 : Ref sig .tc := ⟨.hbm, 88, rfl⟩
abbrev main_v32 : Ref sig .tc := ⟨.hbm, 89, rfl⟩
abbrev main_v33 : Ref sig .tc := ⟨.hbm, 90, rfl⟩
abbrev main_c_10 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_c_11 : Ref sig .tc := ⟨.hbm, 98, rfl⟩
abbrev main_v40 : Ref sig .tc := ⟨.hbm, 99, rfl⟩
abbrev main_v41 : Ref sig .tc := ⟨.hbm, 100, rfl⟩
abbrev main_c_12 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v31 : Ref sig .tc := ⟨.smem, 0, rfl⟩
abbrev main_v47 : Ref sig .tc := ⟨.smem, 1, rfl⟩
abbrev main_v2 : Ref sig .tc := ⟨.smem, 2, rfl⟩
abbrev main_v18 : Ref sig .tc := ⟨.smem, 3, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_stg0_0 : Ref sig .tc := ⟨.smem, 4, rfl⟩
abbrev cc0_stg1_0 : Ref sig .tc := ⟨.smem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 43], ![false, false]⟩

abbrev pre0 : Pipeline.Prefetch sig := ⟨4, ![main_v31.idx, main_v47.idx, main_v2.idx, main_v18.idx], fun | 0 => main_v31.names | 1 => main_v47.names | 2 => main_v2.names | 3 => main_v18.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v4 : Index := Scalar.indexCast arg1
  ![v4.toNat]
def k0_off3 (v5 : BitVec 32) : Fin 1 → Nat :=
  let v12 : Index := Scalar.indexCast v5
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_off4 (v5 : BitVec 32) : Fin 1 → Nat :=
  let c1_i32 : BitVec 32 := 1#32
  let v16 : BitVec 32 := Scalar.addi v5 c1_i32
  let v17 : Index := Scalar.indexCast v16
  ![v17.toNat]
def k0_off5 (i : grid0.Coords) : Fin 1 → Nat :=
  let arg1 : BitVec 32 := BitVec.ofNat 32 (i 1).val
  let c1_i32_1 : BitVec 32 := 1#32
  let v23 : BitVec 32 := Scalar.subi arg1 c1_i32_1
  let c0_i32_2 : BitVec 32 := 0#32
  let v24 : BitVec 32 := Scalar.maxsi v23 c0_i32_2
  let v25 : Index := Scalar.indexCast v24
  ![v25.toNat]
def k0_off6 (v5 : BitVec 32) : Fin 1 → Nat :=
  let v40 : Index := Scalar.indexCast v5
  ![v40.toNat]

def k0_chk1 (i : grid0.Coords) (v0 : BitVec 32) (v5 : BitVec 32) : Prop :=
  (∀ (k0_h1 : k0_cond1 i v0 = 1#1), ∀ a, (k0_off3 v5) a + S1.size a ≤ S9.size a) ∧
  (∀ (k0_h1 : k0_cond1 i v0 = 1#1), ∀ a, (k0_off4 v5) a + S1.size a ≤ S9.size a) ∧
  (∀ (k0_h1 : k0_cond1 i v0 = 1#1), ∀ a, (k0_off6 v5) a + S1.size a ≤ S8.size a)
theorem k0_off3_inb : ∀ (i : grid0.Coords) (v0 : BitVec 32) (v5 : BitVec 32) (k0_hw1 : k0_chk1 i v0 v5), ∀ (k0_h1 : k0_cond1 i v0 = 1#1), ∀ a, (k0_off3 v5) a + S1.size a ≤ S9.size a := fun i v0 v5 k0_hw1 k0_h1 => k0_hw1.1 k0_h1
theorem k0_off4_inb : ∀ (i : grid0.Coords) (v0 : BitVec 32) (v5 : BitVec 32) (k0_hw1 : k0_chk1 i v0 v5), ∀ (k0_h1 : k0_cond1 i v0 = 1#1), ∀ a, (k0_off4 v5) a + S1.size a ≤ S9.size a := fun i v0 v5 k0_hw1 k0_h1 => k0_hw1.2.1 k0_h1
theorem k0_off6_inb : ∀ (i : grid0.Coords) (v0 : BitVec 32) (v5 : BitVec 32) (k0_hw1 : k0_chk1 i v0 v5), ∀ (k0_h1 : k0_cond1 i v0 = 1#1), ∀ a, (k0_off6 v5) a + S1.size a ≤ S8.size a := fun i v0 v5 k0_hw1 k0_h1 => k0_hw1.2.2 k0_h1

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S43) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_6 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_7 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_8 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_9 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_10 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S43) ![v0.toNat] S1.size (k0_off1_inb i)) numel1_S1
  let c0_i32 : BitVec 32 := 0#32
  ![v1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3072x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3072x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x48x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x48x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S9216x6144 : Shape := ⟨2, ![9216, 6144]⟩
abbrev S8 : Shape := ⟨1, ![8]⟩
abbrev S8x3072x4096 : Shape := ⟨3, ![8, 3072, 4096]⟩
abbrev S8x48x4096 : Shape := ⟨3, ![8, 48, 4096]⟩
abbrev S8x4096 : Shape := ⟨2, ![8, 4096]⟩
abbrev S9216x3072 : Shape := ⟨2, ![9216, 3072]⟩
abbrev S9216x4096 : Shape := ⟨2, ![9216, 4096]⟩
abbrev S9216x1 : Shape := ⟨2, ![9216, 1]⟩
abbrev S1 : Shape := ⟨1, ![1]⟩
abbrev S1x3072x4096 : Shape := ⟨3, ![1, 3072, 4096]⟩
abbrev S3072x4096 : Shape := ⟨2, ![3072, 4096]⟩
abbrev S1x48x4096 : Shape := ⟨3, ![1, 48, 4096]⟩
abbrev S48x4096 : Shape := ⟨2, ![48, 4096]⟩
abbrev S48x1x4096 : Shape := ⟨3, ![48, 1, 4096]⟩
abbrev S48x64x4096 : Shape := ⟨3, ![48, 64, 4096]⟩
abbrev S1x4096 : Shape := ⟨2, ![1, 4096]⟩

abbrev nBuf : Space → Nat
  | .hbm => 14
  | .vmem => 10
  | .smem => 3
  | _ => 0

abbrev bufTy : (tb : Table) → Fin (tcTables nBuf tb) → BufTy
  | .hbm, ⟨0, _⟩ => ⟨S9216x6144, .fp8e4m3⟩
  | .hbm, ⟨1, _⟩ => ⟨S8, .i32⟩
  | .hbm, ⟨2, _⟩ => ⟨S8, .f32⟩
  | .hbm, ⟨3, _⟩ => ⟨S8x3072x4096, .i8⟩
  | .hbm, ⟨4, _⟩ => ⟨S8x3072x4096, .i8⟩
  | .hbm, ⟨5, _⟩ => ⟨S8x48x4096, .fp8e4m3⟩
  | .hbm, ⟨6, _⟩ => ⟨S8x48x4096, .fp8e4m3⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S8, .f32⟩
  | .hbm, ⟨11, _⟩ => ⟨S9216x3072, .fp8e4m3⟩
  | .hbm, ⟨12, _⟩ => ⟨S9216x3072, .fp8e4m3⟩
  | .hbm, ⟨13, _⟩ => ⟨S9216x4096, .fp8e4m3⟩
  | .local _ .vmem, ⟨0, _⟩ => ⟨S9216x3072, .fp8e4m3⟩
  | .local _ .vmem, ⟨1, _⟩ => ⟨S9216x3072, .fp8e4m3⟩
  | .local _ .vmem, ⟨2, _⟩ => ⟨S8x3072x4096, .i8⟩
  | .local _ .vmem, ⟨3, _⟩ => ⟨S8x3072x4096, .i8⟩
  | .local _ .vmem, ⟨4, _⟩ => ⟨S8x48x4096, .fp8e4m3⟩
  | .local _ .vmem, ⟨5, _⟩ => ⟨S8x48x4096, .fp8e4m3⟩
  | .local _ .vmem, ⟨6, _⟩ => ⟨S8x4096, .f32⟩
  | .local _ .vmem, ⟨7, _⟩ => ⟨S8x4096, .f32⟩
  | .local _ .vmem, ⟨8, _⟩ => ⟨S8x4096, .f32⟩
  | .local _ .vmem, ⟨9, _⟩ => ⟨S9216x4096, .fp8e4m3⟩
  | .local _ .smem, ⟨0, _⟩ => ⟨S8, .i32⟩
  | .local _ .smem, ⟨1, _⟩ => ⟨S8, .f32⟩
  | .local _ .smem, ⟨2, _⟩ => ⟨S8, .f32⟩
  | _, _ => ⟨S9216x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3072x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x3072x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x48x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x48x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S9216x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Down.lean ====
abbrev S9216x4096 : Shape := ⟨2, ![9216, 4096]⟩
abbrev S8 : Shape := ⟨1, ![8]⟩
abbrev S8x2048x6144 : Shape := ⟨3, ![8, 2048, 6144]⟩
abbrev S8x32x6144 : Shape := ⟨3, ![8, 32, 6144]⟩
abbrev S8x6144 : Shape := ⟨2, ![8, 6144]⟩
abbrev S_ : Shape := ⟨0, ![]⟩
abbrev S1 : Shape := ⟨1, ![1]⟩
abbrev S9 : Shape := ⟨1, ![9]⟩
abbrev S43 : Shape := ⟨1, ![43]⟩
abbrev S8x1 : Shape := ⟨2, ![8, 1]⟩
abbrev S1x43 : Shape := ⟨2, ![1, 43]⟩
abbrev S8x43 : Shape := ⟨2, ![8, 43]⟩
abbrev S43x1 : Shape := ⟨2, ![43, 1]⟩
abbrev S8x1x6144 : Shape := ⟨3, ![8, 1, 6144]⟩
abbrev S9216x6144 : Shape := ⟨2, ![9216, 6144]⟩
abbrev S256x4096 : Shape := ⟨2, ![256, 4096]⟩
abbrev S1x2048x512 : Shape := ⟨3, ![1, 2048, 512]⟩
abbrev S1x32x512 : Shape := ⟨3, ![1, 32, 512]⟩
abbrev S1x1x512 : Shape := ⟨3, ![1, 1, 512]⟩
abbrev S256x512 : Shape := ⟨2, ![256, 512]⟩
abbrev S4096x512 : Shape := ⟨2, ![4096, 512]⟩
abbrev S256x1 : Shape := ⟨2, ![256, 1]⟩
abbrev S2048x512 : Shape := ⟨2, ![2048, 512]⟩
abbrev S32x512 : Shape := ⟨2, ![32, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩

abbrev nBuf : Space → Nat
  | .hbm => 104
  | .vmem => 11
  | .smem => 5
  | _ => 0

abbrev bufTy : (tb : Table) → Fin (tcTables nBuf tb) → BufTy
  | .hbm, ⟨0, _⟩ => ⟨S9216x4096, .fp8e4m3⟩
  | .hbm, ⟨1, _⟩ => ⟨S8, .i32⟩
  | .hbm, ⟨2, _⟩ => ⟨S8, .f32⟩
  | .hbm, ⟨3, _⟩ => ⟨S8x2048x6144, .i8⟩
  | .hbm, ⟨4, _⟩ => ⟨S8x32x6144, .fp8e4m3⟩
  | .hbm, ⟨5, _⟩ => ⟨S8x6144, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i1⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S_, .i32⟩
  | .hbm, ⟨39, _⟩ => ⟨S8, .i32⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S8, .i32⟩
  | .hbm, ⟨44, _⟩ => ⟨S8, .i1⟩
  | .hbm, ⟨45, _⟩ => ⟨S8, .i32⟩
  | .hbm, ⟨46, _⟩ => ⟨S8, .i32⟩
  | .hbm, ⟨47, _⟩ => ⟨S_, .i32⟩
  | .hbm, ⟨48, _⟩ => ⟨S8, .i32⟩
  | .hbm, ⟨49, _⟩ => ⟨S8, .i1⟩
  | .hbm, ⟨50, _⟩ => ⟨S8, .i1⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S8, .i32⟩
  | .hbm, ⟨55, _⟩ => ⟨S8, .i32⟩
  | .hbm, ⟨56, _⟩ => ⟨S_, .i32⟩
  | .hbm, ⟨57, _⟩ => ⟨S8, .i32⟩
  | .hbm, ⟨58, _⟩ => ⟨S8, .i32⟩
  | .hbm, ⟨59, _⟩ => ⟨S_, .i32⟩
  | .hbm, ⟨60, _⟩ => ⟨S_, .i32⟩
  | .hbm, ⟨61, _⟩ => ⟨S8, .i32⟩
  | .hbm, ⟨62, _⟩ => ⟨S8, .i32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S_, .i32⟩
  | .hbm, ⟨67, _⟩ => ⟨S8, .i32⟩
  | .hbm, ⟨68, _⟩ => ⟨S9, .i32⟩
  | .hbm, ⟨69, _⟩ => ⟨S43, .i32⟩
  | .hbm, ⟨70, _⟩ => ⟨S_, .i32⟩
  | .hbm, ⟨71, _⟩ => ⟨S1, .i32⟩
  | .hbm, ⟨72, _⟩ => ⟨S1, .i32⟩
  | .hbm, ⟨73, _⟩ => ⟨S43, .i32⟩
  | .hbm, ⟨74, _⟩ => ⟨S43, .i32⟩
  | .hbm, ⟨75, _⟩ => ⟨S8, .i32⟩
  | .hbm, ⟨76, _⟩ => ⟨S8x1, .i32⟩
  | .hbm, ⟨77, _⟩ => ⟨S1x43, .i32⟩
  | .hbm, ⟨78, _⟩ => ⟨S8x43, .i32⟩
  | .hbm, ⟨79, _⟩ => ⟨S8x43, .i32⟩
  | .hbm, ⟨80, _⟩ => ⟨S8x43, .i1⟩
  | .hbm, ⟨81, _⟩ => ⟨S8x43, .i32⟩
  | .hbm, ⟨82, _⟩ => ⟨S_, .i32⟩
  | .hbm, ⟨83, _⟩ => ⟨S_, .i32⟩
  | .hbm, ⟨84, _⟩ => ⟨S43, .i32⟩
  | .hbm, ⟨85, _⟩ => ⟨S43, .i1⟩
  | .hbm, ⟨86, _⟩ => ⟨S_, .i32⟩
  | .hbm, ⟨87, _⟩ => ⟨S43, .i32⟩
  | .hbm, ⟨88, _⟩ => ⟨S43, .i32⟩
  | .hbm, ⟨89, _⟩ => ⟨S43, .i32⟩
  | .hbm, ⟨90, _⟩ => ⟨S43x1, .i32⟩
  | .hbm, ⟨91, _⟩ => ⟨S43, .i32⟩
  | .hbm, ⟨92, _⟩ => ⟨S43, .i32⟩
  | .hbm, ⟨93, _⟩ => ⟨S_, .i32⟩
  | .hbm, ⟨94, _⟩ => ⟨S43, .i32⟩
  | .hbm, ⟨95, _⟩ => ⟨S43, .i1⟩
  | .hbm, ⟨96, _⟩ => ⟨S_, .i32⟩
  | .hbm, ⟨97, _⟩ => ⟨S43, .i32⟩
  | .hbm, ⟨98, _⟩ => ⟨S43, .i32⟩
  | .hbm, ⟨99, _⟩ => ⟨S43, .i32⟩
  | .hbm, ⟨100, _⟩ => ⟨S43x1, .i32⟩
  | .hbm, ⟨101, _⟩ => ⟨S43, .i32⟩
  | .hbm, ⟨102, _⟩ => ⟨S8x1x6144, .f32⟩
  | .hbm, ⟨103, _⟩ => ⟨S9216x6144, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S1x2048x512, .i8⟩
  | .local _ .vmem, ⟨3, _⟩ => ⟨S1x2048x512, .i8⟩
  | .local _ .vmem, ⟨4, _⟩ => ⟨S1x32x512, .fp8e4m3⟩
  | .local _ .vmem, ⟨5, _⟩ => ⟨S1x32x512, .fp8e4m3⟩
  | .local _ .vmem, ⟨6, _⟩ => ⟨S1x1x512, .f32⟩
  | .local _ .vmem, ⟨7, _⟩ => ⟨S1x1x512, .f32⟩
  | .local _ .vmem, ⟨8, _⟩ => ⟨S256x512, .f32⟩
  | .local _ .vmem, ⟨9, _⟩ => ⟨S256x512, .f32⟩
  | .local _ .vmem, ⟨10, _⟩ => ⟨S4096x512, .bf16⟩
  | .local _ .smem, ⟨0, _⟩ => ⟨S43, .i32⟩
  | .local _ .smem, ⟨1, _⟩ => ⟨S43, .i32⟩
  | .local _ .smem, ⟨2, _⟩ => ⟨S9, .i32⟩
  | .local _ .smem, ⟨3, _⟩ => ⟨S1, .i32⟩
  | .local _ .smem, ⟨4, _⟩ => ⟨S8, .f32⟩
  | _, _ => ⟨S9216x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_c : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_0 : Ref sig .tc := ⟨.hbm, 26, rfl⟩
abbrev main_call1_v12 : Ref sig .tc := ⟨.hbm, 27, rfl⟩
abbrev main_call1_v13 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c_2 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_v12 : Ref sig .tc := ⟨.hbm, 57, rfl⟩
abbrev main_v13 : Ref sig .tc := ⟨.hbm, 58, rfl⟩
abbrev main_c_5 : Ref sig .tc := ⟨.hbm, 59, rfl⟩
abbrev main_call3_v0 : Ref sig .tc := ⟨.hbm, 60, rfl⟩
abbrev main_call3_v1 : Ref sig .tc := ⟨.hbm, 61, rfl⟩
abbrev main_v14 : Ref sig .tc := ⟨.hbm, 62, rfl⟩
abbrev main_c_6 : Ref sig .tc := ⟨.hbm, 63, rfl⟩
abbrev main_v15 : Ref sig .tc := ⟨.hbm, 64, rfl⟩
abbrev main_call4_call0_c : Ref sig .tc := ⟨.hbm, 65, rfl⟩
abbrev main_call4_call0_v0 : Ref sig .tc := ⟨.hbm, 66, rfl⟩
abbrev main_v16 : Ref sig .tc := ⟨.hbm, 67, rfl⟩
abbrev main_v17 : Ref sig .tc := ⟨.hbm, 68, rfl⟩
abbrev main_v19 : Ref sig .tc := ⟨.hbm, 69, rfl⟩
abbrev main_c_7 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_8 : Ref sig .tc := ⟨.hbm, 82, rfl⟩
abbrev main_c_9 : Ref sig .tc := ⟨.hbm, 83, rfl⟩
abbrev main_v32 : Ref sig .tc := ⟨.hbm, 84, rfl⟩
abbrev main_v33 : Ref sig .tc := ⟨.hbm, 85, rfl⟩
abbrev main_c_10 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_c_11 : Ref sig .tc := ⟨.hbm, 93, rfl⟩
abbrev main_v40 : Ref sig .tc := ⟨.hbm, 94, rfl⟩
abbrev main_v41 : Ref sig .tc := ⟨.hbm, 95, rfl⟩
abbrev main_c_12 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v48 : Ref sig .tc := ⟨.hbm, 102, rfl⟩
abbrev main_v49 : Ref sig .tc := ⟨.hbm, 103, rfl⟩
abbrev main_v31 : Ref sig .tc := ⟨.smem, 0, rfl⟩
abbrev main_v47 : Ref sig .tc := ⟨.smem, 1, rfl⟩
abbrev main_v2 : Ref sig .tc := ⟨.smem, 2, rfl⟩
abbrev main_v18 : Ref sig .tc := ⟨.smem, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 43], ![false, false]⟩

abbrev pre0 : Pipeline.Prefetch sig := ⟨4, ![main_v31.idx, main_v47.idx, main_v2.idx, main_v18.idx], fun | 0 => main_v31.names | 1 => main_v47.names | 2 => main_v2.names | 3 => main_v18.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v4 : Index := Scalar.indexCast arg1
  ![v4.toNat]
def k0_off3 (v5 : BitVec 32) : Fin 1 → Nat :=
  let v12 : Index := Scalar.indexCast v5
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_off4 (v5 : BitVec 32) : Fin 1 → Nat :=
  let c1_i32 : BitVec 32 := 1#32
  let v16 : BitVec 32 := Scalar.addi v5 c1_i32
  let v17 : Index := Scalar.indexCast v16
  ![v17.toNat]
def k0_off5 (i : grid0.Coords) : Fin 1 → Nat :=
  let arg1 : BitVec 32 := BitVec.ofNat 32 (i 1).val
  let c1_i32_1 : BitVec 32 := 1#32
  let v23 : BitVec 32 := Scalar.subi arg1 c1_i32_1
  let c0_i32_2 : BitVec 32 := 0#32
  let v24 : BitVec 32 := Scalar.maxsi v23 c0_i32_2
  let v25 : Index := Scalar.indexCast v24
  ![v25.toNat]
def k0_off6 (v5 : BitVec 32) : Fin 1 → Nat :=
  let v39 : Index := Scalar.indexCast v5
  ![v39.toNat]

def k0_chk1 (i : grid0.Coords) (v0 : BitVec 32) (v5 : BitVec 32) : Prop :=
  (∀ (k0_h1 : k0_cond1 i v0 = 1#1), ∀ a, (k0_off3 v5) a + S1.size a ≤ S9.size a) ∧
  (∀ (k0_h1 : k0_cond1 i v0 = 1#1), ∀ a, (k0_off4 v5) a + S1.size a ≤ S9.size a) ∧
  (∀ (k0_h1 : k0_cond1 i v0 = 1#1), ∀ a, (k0_off6 v5) a + S1.size a ≤ S8.size a)
theorem k0_off3_inb : ∀ (i : grid0.Coords) (v0 : BitVec 32) (v5 : BitVec 32) (k0_hw1 : k0_chk1 i v0 v5), ∀ (k0_h1 : k0_cond1 i v0 = 1#1), ∀ a, (k0_off3 v5) a + S1.size a ≤ S9.size a := fun i v0 v5 k0_hw1 k0_h1 => k0_hw1.1 k0_h1
theorem k0_off4_inb : ∀ (i : grid0.Coords) (v0 : BitVec 32) (v5 : BitVec 32) (k0_hw1 : k0_chk1 i v0 v5), ∀ (k0_h1 : k0_cond1 i v0 = 1#1), ∀ a, (k0_off4 v5) a + S1.size a ≤ S9.size a := fun i v0 v5 k0_hw1 k0_h1 => k0_hw1.2.1 k0_h1
theorem k0_off6_inb : ∀ (i : grid0.Coords) (v0 : BitVec 32) (v5 : BitVec 32) (k0_hw1 : k0_chk1 i v0 v5), ∀ (k0_h1 : k0_cond1 i v0 = 1#1), ∀ a, (k0_off6 v5) a + S1.size a ≤ S8.size a := fun i v0 v5 k0_hw1 k0_h1 => k0_hw1.2.2 k0_h1

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S43) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S43) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S43) ![v0.toNat] S1.size (k0_off1_inb i)) numel1_S1
  let c0_i32 : BitVec 32 := 0#32
  ![v1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownReferenceIdeal.lean ====
abbrev S9216x4096 : Shape := ⟨2, ![9216, 4096]⟩
abbrev S8 : Shape := ⟨1, ![8]⟩
abbrev S8x2048x6144 : Shape := ⟨3, ![8, 2048, 6144]⟩
abbrev S8x32x6144 : Shape := ⟨3, ![8, 32, 6144]⟩
abbrev S8x6144 : Shape := ⟨2, ![8, 6144]⟩
abbrev S9216x2048 : Shape := ⟨2, ![9216, 2048]⟩
abbrev S9216x6144 : Shape := ⟨2, ![9216, 6144]⟩
abbrev S9216x1 : Shape := ⟨2, ![9216, 1]⟩
abbrev S1 : Shape := ⟨1, ![1]⟩
abbrev S1x2048x6144 : Shape := ⟨3, ![1, 2048, 6144]⟩
abbrev S2048x6144 : Shape := ⟨2, ![2048, 6144]⟩
abbrev S1x32x6144 : Shape := ⟨3, ![1, 32, 6144]⟩
abbrev S32x6144 : Shape := ⟨2, ![32, 6144]⟩
abbrev S32x1x6144 : Shape := ⟨3, ![32, 1, 6144]⟩
abbrev S32x64x6144 : Shape := ⟨3, ![32, 64, 6144]⟩
abbrev S1x6144 : Shape := ⟨2, ![1, 6144]⟩

abbrev nBuf : Space → Nat
  | .hbm => 9
  | .vmem => 6
  | .smem => 2
  | _ => 0

abbrev bufTy : (tb : Table) → Fin (tcTables nBuf tb) → BufTy
  | .hbm, ⟨0, _⟩ => ⟨S9216x4096, .fp8e4m3⟩
  | .hbm, ⟨1, _⟩ => ⟨S8, .i32⟩
  | .hbm, ⟨2, _⟩ => ⟨S8, .f32⟩
  | .hbm, ⟨3, _⟩ => ⟨S8x2048x6144, .i8⟩
  | .hbm, ⟨4, _⟩ => ⟨S8x32x6144, .fp8e4m3⟩
  | .hbm, ⟨5, _⟩ => ⟨S8x6144, .f32⟩
  | .hbm, ⟨6, _⟩ => ⟨S9216x2048, .fp8e4m3⟩
  | .hbm, ⟨7, _⟩ => ⟨S9216x2048, .fp8e4m3⟩
  | .hbm, ⟨8, _⟩ => ⟨S9216x6144, .f32⟩
  | .local _ .vmem, ⟨0, _⟩ => ⟨S9216x2048, .fp8e4m3⟩
  | .local _ .vmem, ⟨1, _⟩ => ⟨S9216x2048, .fp8e4m3⟩
  | .local _ .vmem, ⟨2, _⟩ => ⟨S8x2048x6144, .i8⟩
  | .local _ .vmem, ⟨3, _⟩ => ⟨S8x32x6144, .fp8e4m3⟩
  | .local _ .vmem, ⟨4, _⟩ => ⟨S8x6144, .f32⟩
  | .local _ .vmem, ⟨5, _⟩ => ⟨S9216x6144, .f32⟩
  | .local _ .smem, ⟨0, _⟩ => ⟨S8, .i32⟩
  | .local _ .smem, ⟨1, _⟩ => ⟨S8, .f32⟩
  | _, _ => ⟨S9216x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x6144 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Runs.lean ====
/- The body of the kernel run once, in its three control cases: a visit past the live ones, a live visit
   that dequantises its expert's weights into the scratch, and a live visit that finds them there. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Defs nD τ sig (Elt F) Λ₀) (q : PosShare TreeShare) (i : grid0.Coords) (c : Dev nD)
  (arg2 : Memref sig .tc .smem S43 .i32) (harg2 : arg2.IsWhole)
  (arg3 : Memref sig .tc .smem S43 .i32) (harg3 : arg3.IsWhole)
  (arg4 : Memref sig .tc .smem S9 .i32) (harg4 : arg4.IsWhole)
  (arg5 : Memref sig .tc .smem S1 .i32) (harg5 : arg5.IsWhole)
  (arg6 : Memref sig .tc .smem S8 .f32) (harg6 : arg6.IsWhole)
  (arg7 : Memref sig .tc .smem S8 .f32) (harg7 : arg7.IsWhole)
  (arg8 : Memref sig .tc .vmem S256x6144 .fp8e4m3) (harg8 : arg8.IsWhole)
  (arg9 : Memref sig .tc .vmem S1x3072x256 .i8) (harg9 : arg9.IsWhole)
  (arg10 : Memref sig .tc .vmem S1x3072x256 .i8) (harg10 : arg10.IsWhole)
  (arg11 : Memref sig .tc .vmem S1x48x256 .fp8e4m3) (harg11 : arg11.IsWhole)
  (arg12 : Memref sig .tc .vmem S1x48x256 .fp8e4m3) (harg12 : arg12.IsWhole)
  (arg13 : Memref sig .tc .vmem S1x1x256 .f32) (harg13 : arg13.IsWhole)
  (arg14 : Memref sig .tc .vmem S1x1x256 .f32) (harg14 : arg14.IsWhole)
  (arg15 : Memref sig .tc .vmem S1x1x256 .f32) (harg15 : arg15.IsWhole)
  (arg16 : Memref sig .tc .vmem S256x256 .fp8e4m3) (harg16 : arg16.IsWhole)
  (arg17 : Memref sig .tc .vmem S6144x512 .bf16) (harg17 : arg17.IsWhole)
variable (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F))

set_option maxHeartbeats 4000000 in
/-- A visit past the live ones touches nothing. -/
theorem runSkip
  (h1 : ¬ (k0_cond1 i (View.readAt (Elt F) arg5.view (Rect.unit (s := S1) ![0] S1.size inb_S1_S1_0).toLoadRect f5 (Shape.Idx.first (numel1_S1.symm ▸ Nat.one_pos))) = 1#1)) (E : Set ℕ) (K : PUnit → sProp 𝕄) :
        iprop((arg5.view.loc (c : Thread nD τ) ↦[arg5.view.set]{q} f5) ∗ ((arg5.view.loc (c : Thread nD τ) ↦[arg5.view.set]{q} f5) -∗ K ⟨⟩))
          ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    iintro ⟨H5, Hk⟩
    rw [cc0_gate_up_eq_skeleton]; unfold cc0_gate_up_skel
    sl_exec
    sl_step
    iapply Hk
    iexact H5

set_option maxHeartbeats 4000000 in
/-- A live visit that keeps the scratch: the pieces written to the output block, with the proof. -/
noncomputable def runKeep
  (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : ¬ (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1)) :
  { L : List (View.Piece (Elt F) S256x256 .fp8e4m3) //
    ∀ (E : Set ℕ) (K : PUnit → sProp 𝕄),
        iprop((arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
            ∗ (iprop((arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} (arg16.view.writes (Elt F) f16 L)) ∗ (arg17.view.loc (c : Thread nD τ) ↦[arg17.view.set]{fullShare} f17)) -∗ K ⟨⟩))
          ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    iintro ⟨H2, H3, H4, H5, H6, H7, H8, H9, H10, H11, H12, H13, H14, H15, H16, H17, Hk⟩
    rw [cc0_gate_up_eq_skeleton]; unfold cc0_gate_up_skel
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

set_option maxHeartbeats 4000000 in
/-- A live visit that reloads the scratch: the pieces written to the output block and to the scratch, with the proof that the body writes them. -/
noncomputable def runReload
  (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1)) :
  { L : List (View.Piece (Elt F) S256x256 .fp8e4m3) × List (View.Piece (Elt F) S6144x512 .bf16) //
    ∀ (E : Set ℕ) (K : PUnit → sProp 𝕄),
        iprop((arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
            ∗ (iprop((arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} (arg16.view.writes (Elt F) f16 L.1)) ∗ (arg17.view.loc (c : Thread nD τ) ↦[arg17.view.set]{fullShare} (arg17.view.writes (Elt F) f17 L.2))) -∗ K ⟨⟩))
          ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_⟩, fun E K => ?run⟩
  case run =>
    iintro ⟨H2, H3, H4, H5, H6, H7, H8, H9, H10, H11, H12, H13, H14, H15, H16, H17, Hk⟩
    rw [cc0_gate_up_eq_skeleton]; unfold cc0_gate_up_skel
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.Kernel.Body

end
-- ==== Proof.Kernel.Slab.lean ====
/- What a reload leaves in the scratch: 96 slabs of 128 rows by 256 columns, each a function of 64 packed rows
   and of one scale row, which together tile the scratch. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import proofs.«01_k».proof.Proof.Kernel.Runs

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem slab_slices (g : Fin 48) : S3072x256.Slices ![64 * g.val, 0] S64x256 :=
  ⟨rfl, fun a => by
    have := g.2
    match a with
    | ⟨0, _⟩ => show 64 * g.val + 64 ≤ 3072; omega
    | ⟨1, _⟩ => show 0 + 256 ≤ 256; omega⟩

theorem slab_scales (g : Fin 48) : S48x256.Slices ![g.val, 0] S1x256 :=
  ⟨rfl, fun a => by
    have := g.2
    match a with
    | ⟨0, _⟩ => show g.val + 1 ≤ 48; omega
    | ⟨1, _⟩ => show 0 + 256 ≤ 256; omega⟩

/-- The 4-bit codes of group `g`, one a word: rows 64 g … of the packed words, each row twice, shifted so that the row
    parity's half is sign-extended. -/
def nib (g : Fin 48) (P : IVec S3072x256 8) : IVec S128x256 32 :=
  shrsi (shli (shapeCast S128x256 (broadcastTo S64x2x256 (shapeCast S64x1x256 (shapeCast S64x1x256 (extsi 32
      (extractStridedSlice S64x256 ![64 * g.val, 0] P (slab_slices g)) natLt_8_32)
      shapeCasts_S64x256_S64x1x256) shapeCasts_S64x1x256_S64x1x256) broadcasts_S64x1x256_S64x2x256) shapeCasts_S64x2x256_S128x256)
    (subi (broadcast S128x256 28#32) (muli (broadcast S128x256 4#32) (andi (iota .tc S128x256 32 [0] iota_S128x256_d0_w32) (broadcast S128x256 1#32)))))
    (broadcast S128x256 28#32)

/-- The slab of group `g`: its codes times its scale row. -/
def slab (g : Fin 48) (P : IVec S3072x256 8) (S : FVec F S48x256 .fp8e4m3) : FVec F S128x256 .bf16 :=
  shapeCast S128x256 (mulf (sitofp .bf16 (nib g P))
    (broadcastTo S128x256 (extf .bf16 (extractStridedSlice S1x256 ![g.val, 0] S (slab_scales g)) bitsLt_fp8e4m3_bf16) broadcasts_S1x256_S128x256))
    shapeCasts_S128x256_S128x256

/-- Where the slab of group `g` goes: rows 128 g … of the left (`h = 0`) or right (`h = 1`) 256 columns. -/
theorem slab_inb (g : Fin 48) (h : Fin 2) : ∀ a, (![128 * g.val, 256 * h.val] : Fin 2 → Nat) a + S128x256.size a ≤ S6144x512.size a := fun a => by
  have := g.2; have := h.2
  match a with
  | ⟨0, _⟩ => show 128 * g.val + 128 ≤ 6144; omega
  | ⟨1, _⟩ => show 256 * h.val + 256 ≤ 512; omega

def slabAt (g : Fin 48) (h : Fin 2) (P : IVec S3072x256 8) (S : FVec F S48x256 .fp8e4m3) : View.Piece (Elt F) S6144x512 .bf16 :=
  ⟨Rect.unit (s := S6144x512) ![128 * g.val, 256 * h.val] S128x256.size (slab_inb g h), slab g P S⟩

/-- All the slabs, the last stored first. -/
def slabs (P1 P3 : IVec S3072x256 8) (S1 S3 : FVec F S48x256 .fp8e4m3) : List (View.Piece (Elt F) S6144x512 .bf16) :=
  ((List.finRange 48).reverse.map fun g => slabAt g 1 P3 S3) ++ ((List.finRange 48).reverse.map fun g => slabAt g 0 P1 S1)

/-- The scratch after a reload, entry by entry. -/
def wscr (P1 P3 : IVec S3072x256 8) (S1 S3 : FVec F S48x256 .fp8e4m3) : Vec F S6144x512 .bf16 := fun y =>
  if (y 1).val < 256 then
    slab ⟨(y 0).val / 128, by have : (y 0).val < 6144 := (y 0).2; omega⟩ P1 S1 (fun a => match a with
      | ⟨0, _⟩ => (⟨(y 0).val % 128, Nat.mod_lt _ (by decide)⟩ : Fin 128)
      | ⟨1, _⟩ => (⟨(y 1).val % 256, Nat.mod_lt _ (by decide)⟩ : Fin 256))
  else
    slab ⟨(y 0).val / 128, by have : (y 0).val < 6144 := (y 0).2; omega⟩ P3 S3 (fun a => match a with
      | ⟨0, _⟩ => (⟨(y 0).val % 128, Nat.mod_lt _ (by decide)⟩ : Fin 128)
      | ⟨1, _⟩ => (⟨(y 1).val % 256, Nat.mod_lt _ (by decide)⟩ : Fin 256))

/-- The pieces the run found are the slabs. -/
theorem reload_pieces (D : Defs nD τ sig (Elt F) Λ₀) (q : PosShare TreeShare) (i : grid0.Coords) (c : Dev nD) (arg2 : Memref sig .tc .smem S43 .i32) (harg2 : arg2.IsWhole) (arg3 : Memref sig .tc .smem S43 .i32) (harg3 : arg3.IsWhole) (arg4 : Memref sig .tc .smem S9 .i32) (harg4 : arg4.IsWhole) (arg5 : Memref sig .tc .smem S1 .i32) (harg5 : arg5.IsWhole) (arg6 : Memref sig .tc .smem S8 .f32) (harg6 : arg6.IsWhole) (arg7 : Memref sig .tc .smem S8 .f32) (harg7 : arg7.IsWhole) (arg8 : Memref sig .tc .vmem S256x6144 .fp8e4m3) (harg8 : arg8.IsWhole) (arg9 : Memref sig .tc .vmem S1x3072x256 .i8) (harg9 : arg9.IsWhole) (arg10 : Memref sig .tc .vmem S1x3072x256 .i8) (harg10 : arg10.IsWhole) (arg11 : Memref sig .tc .vmem S1x48x256 .fp8e4m3) (harg11 : arg11.IsWhole) (arg12 : Memref sig .tc .vmem S1x48x256 .fp8e4m3) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S256x256 .fp8e4m3) (harg16 : arg16.IsWhole) (arg17 : Memref sig .tc .vmem S6144x512 .bf16) (harg17 : arg17.IsWhole) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F))
  (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1) :
  (runReload D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 h1 hw hC).1.2 = slabs (k0_pay2 (View.readAt (Elt F) arg9.view (Rect.unit (s := S1x3072x256) ![0, 0, 0] S1x3072x256.size inb_S1x3072x256_S1x3072x256_0_0_0).toLoadRect f9)) (k0_pay2 (View.readAt (Elt F) arg10.view (Rect.unit (s := S1x3072x256) ![0, 0, 0] S1x3072x256.size inb_S1x3072x256_S1x3072x256_0_0_0).toLoadRect f10)) (k0_pay3 (View.readAt (Elt F) arg11.view (Rect.unit (s := S1x48x256) ![0, 0, 0] S1x48x256.size inb_S1x48x256_S1x48x256_0_0_0).toLoadRect f11)) (k0_pay3 (View.readAt (Elt F) arg12.view (Rect.unit (s := S1x48x256) ![0, 0, 0] S1x48x256.size inb_S1x48x256_S1x48x256_0_0_0).toLoadRect f12)) := by
  sl_kernel_rfl

/-- An entry of the scratch lies in a slab. -/
theorem slabs_cover (P1 P3 : IVec S3072x256 8) (S1 S3 : FVec F S48x256 .fp8e4m3) (y : S6144x512.Idx) :
    ∃ p ∈ slabs P1 P3 S1 S3, y ∈ p.1.set := by
  have h0 : (y 0).val < 6144 := (y 0).2
  have h1 : (y 1).val < 512 := (y 1).2
  by_cases hy : (y 1).val < 256
  · refine ⟨slabAt ⟨(y 0).val / 128, by omega⟩ 0 P1 S1, List.mem_append_right _ (List.mem_map.2 ⟨_, List.mem_reverse.2 (List.mem_finRange _), rfl⟩), ?_⟩
    refine (Rect.mem_set_unit (inb := slab_inb _ _)).2 fun a => ?_
    match a with
    | ⟨0, _⟩ => show 128 * ((y 0).val / 128) ≤ (y 0).val ∧ (y 0).val < 128 * ((y 0).val / 128) + 128; omega
    | ⟨1, _⟩ => show 256 * 0 ≤ (y 1).val ∧ (y 1).val < 256 * 0 + 256; omega
  · refine ⟨slabAt ⟨(y 0).val / 128, by omega⟩ 1 P3 S3, List.mem_append_left _ (List.mem_map.2 ⟨_, List.mem_reverse.2 (List.mem_finRange _), rfl⟩), ?_⟩
    refine (Rect.mem_set_unit (inb := slab_inb _ _)).2 fun a => ?_
    match a with
    | ⟨0, _⟩ => show 128 * ((y 0).val / 128) ≤ (y 0).val ∧ (y 0).val < 128 * ((y 0).val / 128) + 128; omega
    | ⟨1, _⟩ => show 256 * 1 ≤ (y 1).val ∧ (y 1).val < 256 * 1 + 256; omega

/-- Each slab holds the scratch's entries. -/
theorem slabs_agree (P1 P3 : IVec S3072x256 8) (S1 S3 : FVec F S48x256 .fp8e4m3) :
    ∀ p ∈ slabs P1 P3 S1 S3, ∀ x : p.1.shape.Idx, p.2 x = wscr P1 P3 S1 S3 (p.1.emb x) := by
  intro p hp x
  rcases List.mem_append.1 hp with h | h
  · obtain ⟨g, -, rfl⟩ := List.mem_map.1 h
    have hx0 : (x 0).val < 128 := (x 0).2
    have hx1 : (x 1).val < 256 := (x 1).2
    have e0 : (((slabAt g 1 P3 S3).1.emb x) 0).val = 128 * g.val + (x 0).val := by
      show 128 * g.val + 1 * (x 0).val = _; omega
    have e1 : (((slabAt g 1 P3 S3).1.emb x) 1).val = 256 + (x 1).val := by
      show 256 * 1 + 1 * (x 1).val = _; omega
    unfold wscr
    rw [if_neg (by rw [e1]; omega)]
    show slab g P3 S3 x = _
    congr 1
    · apply Fin.ext; show g.val = _ / 128; rw [e0]; omega
    · funext a
      match a with
      | ⟨0, _⟩ => apply Fin.ext; show (x 0).val = _ % 128; rw [e0]; omega
      | ⟨1, _⟩ => apply Fin.ext; show (x 1).val = _ % 256; rw [e1]; omega
  · obtain ⟨g, -, rfl⟩ := List.mem_map.1 h
    have hx0 : (x 0).val < 128 := (x 0).2
    have hx1 : (x 1).val < 256 := (x 1).2
    have e0 : (((slabAt g 0 P1 S1).1.emb x) 0).val = 128 * g.val + (x 0).val := by
      show 128 * g.val + 1 * (x 0).val = _; omega
    have e1 : (((slabAt g 0 P1 S1).1.emb x) 1).val = (x 1).val := by
      show 256 * 0 + 1 * (x 1).val = _; omega
    unfold wscr
    rw [if_pos (by rw [e1]; omega)]
    show slab g P1 S1 x = _
    congr 1
    · apply Fin.ext; show g.val = _ / 128; rw [e0]; omega
    · funext a
      match a with
      | ⟨0, _⟩ => apply Fin.ext; show (x 0).val = _ % 128; rw [e0]; omega
      | ⟨1, _⟩ => apply Fin.ext; show (x 1).val = _ % 256; rw [e1]; omega

/-- The slabs written over anything read as `wscr`. -/
theorem canon_slabs (P1 P3 : IVec S3072x256 8) (S1 S3 : FVec F S48x256 .fp8e4m3) :
    View.canon (slabs P1 P3 S1 S3) = wscr P1 P3 S1 S3 :=
  funext fun y => View.canon_apply_of_pieces _ _ (slabs_agree P1 P3 S1 S3) y (slabs_cover P1 P3 S1 S3 y)

theorem read_slabs {sp : Space} (v : View sig .tc sp S6144x512 .bf16) (f : v.ty.Contents (Elt F)) (P1 P3 : IVec S3072x256 8) (S1 S3 : FVec F S48x256 .fp8e4m3) :
    v.read (Elt F) (v.writes (Elt F) f (slabs P1 P3 S1 S3)) = wscr P1 P3 S1 S3 :=
  funext fun y => (View.read_writes_apply_eq_canon v f y _ (slabs_cover P1 P3 S1 S3 y)).trans (congrFun (canon_slabs P1 P3 S1 S3) y)

end Cert.Kernel.Body

end
-- ==== Proof.Kernel.Spec.lean ====
/- The body's triples over the values its buffers hold: what a live visit leaves in the output block and in the
   scratch. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.Kernel.Slab

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one-coordinate index `k`. -/
def ix1 {n : ℕ} (k : Fin n) : (⟨1, ![n]⟩ : Shape).Idx := fun a => match a with
  | ⟨0, _⟩ => k

/-- Entry `k` of a vector of one axis. -/
def at1 {n : ℕ} {α : Type} (x : (⟨1, ![n]⟩ : Shape).Idx → α) (k : Fin n) : α := x (ix1 k)

/-- A one-word load at offset `k` reads entry `k`. -/
theorem readAt_word {n : ℕ} {sp : Space} {e : EltTy} (v : View sig .tc sp ⟨1, ![n]⟩ e) (f : v.ty.Contents (Elt F)) (off : Fin 1 → ℕ)
    (h : ∀ a, off a + S1.size a ≤ (⟨1, ![n]⟩ : Shape).size a) (k : Fin n) (hk : off 0 = k.val) :
    View.readAt (Elt F) v (Rect.unit (s := ⟨1, ![n]⟩) off S1.size h).toLoadRect f (Shape.Idx.first (numel1_S1.symm ▸ Nat.one_pos)) = at1 (v.read (Elt F) f) k := by
  rw [View.readAt_apply]
  unfold at1
  congr 1
  funext a
  match a with
  | ⟨0, _⟩ =>
    apply Fin.ext
    show off 0 + 1 * 0 = k.val
    omega

theorem readAt_zero2 {n m : ℕ} {sp : Space} {e : EltTy} (v : View sig .tc sp ⟨2, ![n, m]⟩ e) (f : v.ty.Contents (Elt F))
    (h : ∀ a, (![0, 0] : Fin 2 → ℕ) a + (⟨2, ![n, m]⟩ : Shape).size a ≤ (⟨2, ![n, m]⟩ : Shape).size a) :
    View.readAt (Elt F) v (Rect.unit (s := ⟨2, ![n, m]⟩) ![0, 0] (⟨2, ![n, m]⟩ : Shape).size h).toLoadRect f = v.read (Elt F) f :=
  View.readAt_full v f h

theorem readAt_zero3 {n m k : ℕ} {sp : Space} {e : EltTy} (v : View sig .tc sp ⟨3, ![n, m, k]⟩ e) (f : v.ty.Contents (Elt F))
    (h : ∀ a, (![0, 0, 0] : Fin 3 → ℕ) a + (⟨3, ![n, m, k]⟩ : Shape).size a ≤ (⟨3, ![n, m, k]⟩ : Shape).size a) :
    View.readAt (Elt F) v (Rect.unit (s := ⟨3, ![n, m, k]⟩) ![0, 0, 0] (⟨3, ![n, m, k]⟩ : Shape).size h).toLoadRect f = v.read (Elt F) f :=
  View.readAt_full v f h

theorem View.read_writes_one {sp : Space} {e : EltTy} (v : View sig .tc sp S256x256 e) (f : v.ty.Contents (Elt F)) (w : Vec F S256x256 e) :
    v.read (Elt F) (v.writes (Elt F) f [⟨Rect.unit (s := S256x256) ![0, 0] S256x256.size inb_S256x256_S256x256_0_0, w⟩]) = w :=
  View.read_writes_full v f inb_S256x256_S256x256_0_0 w []

attribute [local irreducible] slabs wscr in
theorem readCov_slabs {sp : Space} (v : View sig .tc sp S6144x512 .bf16) (P1 P3 : IVec S3072x256 8) (S1 S3 : FVec F S48x256 .fp8e4m3) :
    View.readCov v (slabs P1 P3 S1 S3) (Rect.unit (s := S6144x512) ![0, 0] S6144x512.size inb_S6144x512_S6144x512_0_0).toLoadRect = wscr P1 P3 S1 S3 := by
  unfold View.readCov
  exact (readAt_zero2 v _ _).trans (read_slabs v _ P1 P3 S1 S3)

theorem off2_eq (i : grid0.Coords) : k0_off2 i 0 = (i 1).val := by
  have h : (i 1).val < 43 := (i 1).2
  unfold k0_off2
  revert h; generalize (i 1).val = n; revert n; decide

theorem off5_eq (i : grid0.Coords) : k0_off5 i 0 = (i 1).val - 1 := by
  have h : (i 1).val < 43 := (i 1).2
  unfold k0_off5
  revert h; generalize (i 1).val = n; revert n; decide

theorem off3_eq (w : BitVec 32) (e : Fin 8) (h : w = BitVec.ofNat 32 e.val) : k0_off3 w 0 = e.castSucc.val := by
  subst h; revert e; decide

theorem off4_eq (w : BitVec 32) (e : Fin 8) (h : w = BitVec.ofNat 32 e.val) : k0_off4 w 0 = e.succ.val := by
  subst h; revert e; decide

theorem off6_eq (w : BitVec 32) (e : Fin 8) (h : w = BitVec.ofNat 32 e.val) : k0_off6 w 0 = e.val := by
  subst h; revert e; decide

/-- The body's assumption about its expert word holds at every expert. -/
theorem chk_of (i : grid0.Coords) (v0 w : BitVec 32) (e : Fin 8) (h : w = BitVec.ofNat 32 e.val) : k0_chk1 i v0 w := by
  have := e.2
  refine ⟨fun _ a => ?_, fun _ a => ?_, fun _ a => ?_⟩
  · match a with
    | ⟨0, _⟩ => have := off3_eq w e h; show k0_off3 w 0 + 1 ≤ 9; rw [this]; show e.val + 1 ≤ 9; omega
  · match a with
    | ⟨0, _⟩ => have := off4_eq w e h; show k0_off4 w 0 + 1 ≤ 9; rw [this]; show e.val + 1 + 1 ≤ 9; omega
  · match a with
    | ⟨0, _⟩ => have := off6_eq w e h; show k0_off6 w 0 + 1 ≤ 8; rw [this]; omega

/-- The reload's condition: the first visit, or another expert than the visit before. -/
theorem cond_iff (i : grid0.Coords) (a b : BitVec 32) :
    Scalar.cmpi .ne (Scalar.extui (Scalar.ori (Scalar.cmpi .eq (BitVec.ofNat 32 (i 1).val) 0#32) (Scalar.cmpi .ne a b)) : BitVec 32) 0#32 = 1#1
      ↔ ((i 1).val = 0 ∨ a ≠ b) := by
  have h : (i 1).val < 43 := (i 1).2
  have hz : Scalar.cmpi .eq (BitVec.ofNat 32 (i 1).val) 0#32 = 1#1 ↔ (i 1).val = 0 := by
    revert h; generalize (i 1).val = n; revert n; decide
  have hn : Scalar.cmpi .ne a b = 1#1 ↔ a ≠ b := by
    show BitVec.ofBool (a != b) = 1#1 ↔ a ≠ b
    by_cases hab : a = b
    · subst hab; simp
    · have : (a != b) = true := by simp [hab]
      rw [this]; exact ⟨fun _ => hab, fun _ => rfl⟩
  rw [← hz, ← hn]
  generalize Scalar.cmpi .eq (BitVec.ofNat 32 (i 1).val) 0#32 = p
  generalize Scalar.cmpi .ne a b = r
  revert p r; decide

/-- What a live visit leaves in the output block, from the tile `v8`, its expert's first row `v13` and past-the-end row
    `v18`, the expert's activation scales, the activation block, the scratch and the blocks of the scale rows. -/
def outBlk (v8 v13 v18 : BitVec 32) (s1 s2 : F .f32) (x8 : Vec F S256x6144 .fp8e4m3) (W : Vec F S6144x512 .bf16)
    (x13 x14 x15 : Vec F S1x1x256 .f32) (x16 : Vec F S256x256 .fp8e4m3) : Vec F S256x256 .fp8e4m3 :=
  k0_pay1 (k0_pay174 (F := F) v8 v13 v18) (k0_pay178 x8 W x13 s1) (k0_pay179 x8 W) x14 s1 x15 s2 x16

variable (D : Defs nD τ sig (Elt F) Λ₀) (q : PosShare TreeShare) (i : grid0.Coords) (c : Dev nD)
  (arg2 : Memref sig .tc .smem S43 .i32) (harg2 : arg2.IsWhole)
  (arg3 : Memref sig .tc .smem S43 .i32) (harg3 : arg3.IsWhole)
  (arg4 : Memref sig .tc .smem S9 .i32) (harg4 : arg4.IsWhole)
  (arg5 : Memref sig .tc .smem S1 .i32) (harg5 : arg5.IsWhole)
  (arg6 : Memref sig .tc .smem S8 .f32) (harg6 : arg6.IsWhole)
  (arg7 : Memref sig .tc .smem S8 .f32) (harg7 : arg7.IsWhole)
  (arg8 : Memref sig .tc .vmem S256x6144 .fp8e4m3) (harg8 : arg8.IsWhole)
  (arg9 : Memref sig .tc .vmem S1x3072x256 .i8) (harg9 : arg9.IsWhole)
  (arg10 : Memref sig .tc .vmem S1x3072x256 .i8) (harg10 : arg10.IsWhole)
  (arg11 : Memref sig .tc .vmem S1x48x256 .fp8e4m3) (harg11 : arg11.IsWhole)
  (arg12 : Memref sig .tc .vmem S1x48x256 .fp8e4m3) (harg12 : arg12.IsWhole)
  (arg13 : Memref sig .tc .vmem S1x1x256 .f32) (harg13 : arg13.IsWhole)
  (arg14 : Memref sig .tc .vmem S1x1x256 .f32) (harg14 : arg14.IsWhole)
  (arg15 : Memref sig .tc .vmem S1x1x256 .f32) (harg15 : arg15.IsWhole)
  (arg16 : Memref sig .tc .vmem S256x256 .fp8e4m3) (harg16 : arg16.IsWhole)
  (arg17 : Memref sig .tc .vmem S6144x512 .bf16) (harg17 : arg17.IsWhole)
variable (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F))
variable (x2 : Vec F S43 .i32) (x3 : Vec F S43 .i32) (x4 : Vec F S9 .i32) (x5 : Vec F S1 .i32) (x6 : Vec F S8 .f32) (x7 : Vec F S8 .f32) (x8 : Vec F S256x6144 .fp8e4m3) (x9 : Vec F S1x3072x256 .i8) (x10 : Vec F S1x3072x256 .i8) (x11 : Vec F S1x48x256 .fp8e4m3) (x12 : Vec F S1x48x256 .fp8e4m3) (x13 : Vec F S1x1x256 .f32) (x14 : Vec F S1x1x256 .f32) (x15 : Vec F S1x1x256 .f32) (x16 : Vec F S256x256 .fp8e4m3) (x17 : Vec F S6144x512 .bf16)

theorem runKeep_out
    (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : ¬ (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1)) :
    (runKeep D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 h1 hw hC).1 = [(⟨Rect.unit (s := S256x256) ![0, 0] S256x256.size inb_S256x256_S256x256_0_0, k0_pay1 (k0_pay174 (View.readAt (Elt F) arg3.view (Rect.unit (s := S43) (k0_off2 i) S1.size (k0_off2_inb i)).toLoadRect f3 (Shape.Idx.first (numel1_S1.symm ▸ Nat.one_pos))) (View.readAt (Elt F) arg4.view (Rect.unit (s := S9) (k0_off3 (View.readAt (Elt F) arg2.view (Rect.unit (s := S43) (k0_off2 i) S1.size (k0_off2_inb i)).toLoadRect f2 (Shape.Idx.first (numel1_S1.symm ▸ Nat.one_pos)))) S1.size (k0_off3_inb i _ _ hw h1)).toLoadRect f4 (Shape.Idx.first (numel1_S1.symm ▸ Nat.one_pos))) (View.readAt (Elt F) arg4.view (Rect.unit (s := S9) (k0_off4 (View.readAt (Elt F) arg2.view (Rect.unit (s := S43) (k0_off2 i) S1.size (k0_off2_inb i)).toLoadRect f2 (Shape.Idx.first (numel1_S1.symm ▸ Nat.one_pos)))) S1.size (k0_off4_inb i _ _ hw h1)).toLoadRect f4 (Shape.Idx.first (numel1_S1.symm ▸ Nat.one_pos)))) (k0_pay178 (View.readAt (Elt F) arg8.view (Rect.unit (s := S256x6144) ![0, 0] S256x6144.size inb_S256x6144_S256x6144_0_0).toLoadRect f8) (View.readAt (Elt F) arg17.view (Rect.unit (s := S6144x512) ![0, 0] S6144x512.size inb_S6144x512_S6144x512_0_0).toLoadRect f17) (View.readAt (Elt F) arg13.view (Rect.unit (s := S1x1x256) ![0, 0, 0] S1x1x256.size inb_S1x1x256_S1x1x256_0_0_0).toLoadRect f13) (View.readAt (Elt F) arg6.view (Rect.unit (s := S8) (k0_off6 (View.readAt (Elt F) arg2.view (Rect.unit (s := S43) (k0_off2 i) S1.size (k0_off2_inb i)).toLoadRect f2 (Shape.Idx.first (numel1_S1.symm ▸ Nat.one_pos)))) S1.size (k0_off6_inb i _ _ hw h1)).toLoadRect f6 (Shape.Idx.first (numel1_S1.symm ▸ Nat.one_pos)))) (k0_pay179 (View.readAt (Elt F) arg8.view (Rect.unit (s := S256x6144) ![0, 0] S256x6144.size inb_S256x6144_S256x6144_0_0).toLoadRect f8) (View.readAt (Elt F) arg17.view (Rect.unit (s := S6144x512) ![0, 0] S6144x512.size inb_S6144x512_S6144x512_0_0).toLoadRect f17)) (View.readAt (Elt F) arg14.view (Rect.unit (s := S1x1x256) ![0, 0, 0] S1x1x256.size inb_S1x1x256_S1x1x256_0_0_0).toLoadRect f14) (View.readAt (Elt F) arg6.view (Rect.unit (s := S8) (k0_off6 (View.readAt (Elt F) arg2.view (Rect.unit (s := S43) (k0_off2 i) S1.size (k0_off2_inb i)).toLoadRect f2 (Shape.Idx.first (numel1_S1.symm ▸ Nat.one_pos)))) S1.size (k0_off6_inb i _ _ hw h1)).toLoadRect f6 (Shape.Idx.first (numel1_S1.symm ▸ Nat.one_pos))) (View.readAt (Elt F) arg15.view (Rect.unit (s := S1x1x256) ![0, 0, 0] S1x1x256.size inb_S1x1x256_S1x1x256_0_0_0).toLoadRect f15) (View.readAt (Elt F) arg7.view (Rect.unit (s := S8) (k0_off6 (View.readAt (Elt F) arg2.view (Rect.unit (s := S43) (k0_off2 i) S1.size (k0_off2_inb i)).toLoadRect f2 (Shape.Idx.first (numel1_S1.symm ▸ Nat.one_pos)))) S1.size (k0_off6_inb i _ _ hw h1)).toLoadRect f7 (Shape.Idx.first (numel1_S1.symm ▸ Nat.one_pos))) (View.readAt (Elt F) arg16.view (Rect.unit (s := S256x256) ![0, 0] S256x256.size inb_S256x256_S256x256_0_0).toLoadRect f16)⟩ : View.Piece (Elt F) S256x256 .fp8e4m3)] := by
  sl_kernel_rfl

theorem runReload_out
    (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1) :
    (runReload D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 h1 hw hC).1.1 = [(⟨Rect.unit (s := S256x256) ![0, 0] S256x256.size inb_S256x256_S256x256_0_0, k0_pay1 (k0_pay174 (View.readAt (Elt F) arg3.view (Rect.unit (s := S43) (k0_off2 i) S1.size (k0_off2_inb i)).toLoadRect f3 (Shape.Idx.first (numel1_S1.symm ▸ Nat.one_pos))) (View.readAt (Elt F) arg4.view (Rect.unit (s := S9) (k0_off3 (View.readAt (Elt F) arg2.view (Rect.unit (s := S43) (k0_off2 i) S1.size (k0_off2_inb i)).toLoadRect f2 (Shape.Idx.first (numel1_S1.symm ▸ Nat.one_pos)))) S1.size (k0_off3_inb i _ _ hw h1)).toLoadRect f4 (Shape.Idx.first (numel1_S1.symm ▸ Nat.one_pos))) (View.readAt (Elt F) arg4.view (Rect.unit (s := S9) (k0_off4 (View.readAt (Elt F) arg2.view (Rect.unit (s := S43) (k0_off2 i) S1.size (k0_off2_inb i)).toLoadRect f2 (Shape.Idx.first (numel1_S1.symm ▸ Nat.one_pos)))) S1.size (k0_off4_inb i _ _ hw h1)).toLoadRect f4 (Shape.Idx.first (numel1_S1.symm ▸ Nat.one_pos)))) (k0_pay178 (View.readAt (Elt F) arg8.view (Rect.unit (s := S256x6144) ![0, 0] S256x6144.size inb_S256x6144_S256x6144_0_0).toLoadRect f8) (View.readCov arg17.view (slabs (k0_pay2 (View.readAt (Elt F) arg9.view (Rect.unit (s := S1x3072x256) ![0, 0, 0] S1x3072x256.size inb_S1x3072x256_S1x3072x256_0_0_0).toLoadRect f9)) (k0_pay2 (View.readAt (Elt F) arg10.view (Rect.unit (s := S1x3072x256) ![0, 0, 0] S1x3072x256.size inb_S1x3072x256_S1x3072x256_0_0_0).toLoadRect f10)) (k0_pay3 (View.readAt (Elt F) arg11.view (Rect.unit (s := S1x48x256) ![0, 0, 0] S1x48x256.size inb_S1x48x256_S1x48x256_0_0_0).toLoadRect f11)) (k0_pay3 (View.readAt (Elt F) arg12.view (Rect.unit (s := S1x48x256) ![0, 0, 0] S1x48x256.size inb_S1x48x256_S1x48x256_0_0_0).toLoadRect f12))) (Rect.unit (s := S6144x512) ![0, 0] S6144x512.size inb_S6144x512_S6144x512_0_0).toLoadRect) (View.readAt (Elt F) arg13.view (Rect.unit (s := S1x1x256) ![0, 0, 0] S1x1x256.size inb_S1x1x256_S1x1x256_0_0_0).toLoadRect f13) (View.readAt (Elt F) arg6.view (Rect.unit (s := S8) (k0_off6 (View.readAt (Elt F) arg2.view (Rect.unit (s := S43) (k0_off2 i) S1.size (k0_off2_inb i)).toLoadRect f2 (Shape.Idx.first (numel1_S1.symm ▸ Nat.one_pos)))) S1.size (k0_off6_inb i _ _ hw h1)).toLoadRect f6 (Shape.Idx.first (numel1_S1.symm ▸ Nat.one_pos)))) (k0_pay179 (View.readAt (Elt F) arg8.view (Rect.unit (s := S256x6144) ![0, 0] S256x6144.size inb_S256x6144_S256x6144_0_0).toLoadRect f8) (View.readCov arg17.view (slabs (k0_pay2 (View.readAt (Elt F) arg9.view (Rect.unit (s := S1x3072x256) ![0, 0, 0] S1x3072x256.size inb_S1x3072x256_S1x3072x256_0_0_0).toLoadRect f9)) (k0_pay2 (View.readAt (Elt F) arg10.view (Rect.unit (s := S1x3072x256) ![0, 0, 0] S1x3072x256.size inb_S1x3072x256_S1x3072x256_0_0_0).toLoadRect f10)) (k0_pay3 (View.readAt (Elt F) arg11.view (Rect.unit (s := S1x48x256) ![0, 0, 0] S1x48x256.size inb_S1x48x256_S1x48x256_0_0_0).toLoadRect f11)) (k0_pay3 (View.readAt (Elt F) arg12.view (Rect.unit (s := S1x48x256) ![0, 0, 0] S1x48x256.size inb_S1x48x256_S1x48x256_0_0_0).toLoadRect f12))) (Rect.unit (s := S6144x512) ![0, 0] S6144x512.size inb_S6144x512_S6144x512_0_0).toLoadRect)) (View.readAt (Elt F) arg14.view (Rect.unit (s := S1x1x256) ![0, 0, 0] S1x1x256.size inb_S1x1x256_S1x1x256_0_0_0).toLoadRect f14) (View.readAt (Elt F) arg6.view (Rect.unit (s := S8) (k0_off6 (View.readAt (Elt F) arg2.view (Rect.unit (s := S43) (k0_off2 i) S1.size (k0_off2_inb i)).toLoadRect f2 (Shape.Idx.first (numel1_S1.symm ▸ Nat.one_pos)))) S1.size (k0_off6_inb i _ _ hw h1)).toLoadRect f6 (Shape.Idx.first (numel1_S1.symm ▸ Nat.one_pos))) (View.readAt (Elt F) arg15.view (Rect.unit (s := S1x1x256) ![0, 0, 0] S1x1x256.size inb_S1x1x256_S1x1x256_0_0_0).toLoadRect f15) (View.readAt (Elt F) arg7.view (Rect.unit (s := S8) (k0_off6 (View.readAt (Elt F) arg2.view (Rect.unit (s := S43) (k0_off2 i) S1.size (k0_off2_inb i)).toLoadRect f2 (Shape.Idx.first (numel1_S1.symm ▸ Nat.one_pos)))) S1.size (k0_off6_inb i _ _ hw h1)).toLoadRect f7 (Shape.Idx.first (numel1_S1.symm ▸ Nat.one_pos))) (View.readAt (Elt F) arg16.view (Rect.unit (s := S256x256) ![0, 0] S256x256.size inb_S256x256_S256x256_0_0).toLoadRect f16)⟩ : View.Piece (Elt F) S256x256 .fp8e4m3)] := by
  sl_kernel_rfl

set_option maxHeartbeats 1000000 in
/-- A live visit that finds its expert's weights in the scratch: it writes the output block and keeps the rest. The triple
    holds for any table `D` of definitions, since the body calls none. -/
theorem keep_spec
    (e : Fin 8) (he : at1 x2 (i 1) = BitVec.ofNat 32 e.val) (hlive : k0_cond1 i (at1 x5 0) = 1#1) (hC : ¬ ((i 1).val = 0 ∨ at1 x2 (Fin.mk ((i 1).val - 1) (by have := (i 1).2; exact Nat.lt_of_le_of_lt (Nat.sub_le _ _) this)) ≠ at1 x2 (i 1))) (E : Set ℕ) (K : PUnit → sProp 𝕄) :
    iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outBlk (at1 x3 (i 1)) (at1 x4 e.castSucc) (at1 x4 e.succ) (at1 x6 e) (at1 x7 e) x8 x17 x13 x14 x15 x16) ∗ owns (c : Thread nD τ) arg17 fullShare x17) -∗ K ⟨⟩))
      ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    have e0 : (View.readAt (Elt F) arg5.view (Rect.unit (s := S1) ![0] S1.size inb_S1_S1_0).toLoadRect f5 (Shape.Idx.first (numel1_S1.symm ▸ Nat.one_pos))) = at1 x5 0 := (readAt_word arg5.view f5 ![0] inb_S1_S1_0 0 rfl).trans (by rw [hf5])
    have e5 : (View.readAt (Elt F) arg2.view (Rect.unit (s := S43) (k0_off2 i) S1.size (k0_off2_inb i)).toLoadRect f2 (Shape.Idx.first (numel1_S1.symm ▸ Nat.one_pos))) = at1 x2 (i 1) := by rw [readAt_word arg2.view f2 _ _ (i 1) (off2_eq i), hf2]
    have e26 : (View.readAt (Elt F) arg2.view (Rect.unit (s := S43) (k0_off5 i) S1.size (k0_off5_inb i)).toLoadRect f2 (Shape.Idx.first (numel1_S1.symm ▸ Nat.one_pos))) = at1 x2 (Fin.mk ((i 1).val - 1) (by have := (i 1).2; exact Nat.lt_of_le_of_lt (Nat.sub_le _ _) this)) := by rw [readAt_word arg2.view f2 _ _ (Fin.mk ((i 1).val - 1) (by have := (i 1).2; exact Nat.lt_of_le_of_lt (Nat.sub_le _ _) this)) (off5_eq i), hf2]
    have h1 : k0_cond1 i (View.readAt (Elt F) arg5.view (Rect.unit (s := S1) ![0] S1.size inb_S1_S1_0).toLoadRect f5 (Shape.Idx.first (numel1_S1.symm ▸ Nat.one_pos))) = 1#1 := by rw [e0]; exact hlive
    have he5 : (View.readAt (Elt F) arg2.view (Rect.unit (s := S43) (k0_off2 i) S1.size (k0_off2_inb i)).toLoadRect f2 (Shape.Idx.first (numel1_S1.symm ▸ Nat.one_pos))) = BitVec.ofNat 32 e.val := e5.trans he
    have hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))) := chk_of i _ _ e he5
    have hc : ¬ (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1) := by rw [e5, e26]; exact fun h => hC ((cond_iff i _ _).1 h)
    have r8 : (View.readAt (Elt F) arg8.view (Rect.unit (s := S256x6144) ![0, 0] S256x6144.size inb_S256x6144_S256x6144_0_0).toLoadRect f8) = x8 := (readAt_zero2 arg8.view f8 _).trans hf8
    have r13 : (View.readAt (Elt F) arg13.view (Rect.unit (s := S1x1x256) ![0, 0, 0] S1x1x256.size inb_S1x1x256_S1x1x256_0_0_0).toLoadRect f13) = x13 := (readAt_zero3 arg13.view f13 _).trans hf13
    have r14 : (View.readAt (Elt F) arg14.view (Rect.unit (s := S1x1x256) ![0, 0, 0] S1x1x256.size inb_S1x1x256_S1x1x256_0_0_0).toLoadRect f14) = x14 := (readAt_zero3 arg14.view f14 _).trans hf14
    have r15 : (View.readAt (Elt F) arg15.view (Rect.unit (s := S1x1x256) ![0, 0, 0] S1x1x256.size inb_S1x1x256_S1x1x256_0_0_0).toLoadRect f15) = x15 := (readAt_zero3 arg15.view f15 _).trans hf15
    have r16 : (View.readAt (Elt F) arg16.view (Rect.unit (s := S256x256) ![0, 0] S256x256.size inb_S256x256_S256x256_0_0).toLoadRect f16) = x16 := (readAt_zero2 arg16.view f16 _).trans hf16
    have r17 : (View.readAt (Elt F) arg17.view (Rect.unit (s := S6144x512) ![0, 0] S6144x512.size inb_S6144x512_S6144x512_0_0).toLoadRect f17) = x17 := (readAt_zero2 arg17.view f17 _).trans hf17
    iapply (((runKeep D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 h1 hw hc)).2 E K)
    rw [runKeep_out]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; swap; · iexact H16
      ipureintro
      rw [View.read_writes_one, readAt_word arg3.view f3 _ _ (i 1) (off2_eq i), readAt_word arg4.view f4 _ _ e.castSucc (off3_eq _ e he5),
        readAt_word arg4.view f4 _ _ e.succ (off4_eq _ e he5), readAt_word arg6.view f6 _ _ e (off6_eq _ e he5), readAt_word arg7.view f7 _ _ e (off6_eq _ e he5),
        hf3, hf4, hf6, hf7]
      rw [r17, r8, r13, r14, r15, r16, outBlk]
    iexists _; isplitr; swap; · iexact H17
    ipureintro; exact hf17

set_option maxHeartbeats 1000000 in
/-- A live visit that dequantises its expert's weights into the scratch, and writes the output block from them. -/
theorem reload_spec
    (e : Fin 8) (he : at1 x2 (i 1) = BitVec.ofNat 32 e.val) (hlive : k0_cond1 i (at1 x5 0) = 1#1) (hC : (i 1).val = 0 ∨ at1 x2 (Fin.mk ((i 1).val - 1) (by have := (i 1).2; exact Nat.lt_of_le_of_lt (Nat.sub_le _ _) this)) ≠ at1 x2 (i 1)) (E : Set ℕ) (K : PUnit → sProp 𝕄) :
    iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d)
        ∗ (iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outBlk (at1 x3 (i 1)) (at1 x4 e.castSucc) (at1 x4 e.succ) (at1 x6 e) (at1 x7 e) x8 (wscr (k0_pay2 x9) (k0_pay2 x10) (k0_pay3 x11) (k0_pay3 x12)) x13 x14 x15 x16) ∗ owns (c : Thread nD τ) arg17 fullShare (wscr (k0_pay2 x9) (k0_pay2 x10) (k0_pay3 x11) (k0_pay3 x12))) -∗ K ⟨⟩))
      ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    have e0 : (View.readAt (Elt F) arg5.view (Rect.unit (s := S1) ![0] S1.size inb_S1_S1_0).toLoadRect f5 (Shape.Idx.first (numel1_S1.symm ▸ Nat.one_pos))) = at1 x5 0 := (readAt_word arg5.view f5 ![0] inb_S1_S1_0 0 rfl).trans (by rw [hf5])
    have e5 : (View.readAt (Elt F) arg2.view (Rect.unit (s := S43) (k0_off2 i) S1.size (k0_off2_inb i)).toLoadRect f2 (Shape.Idx.first (numel1_S1.symm ▸ Nat.one_pos))) = at1 x2 (i 1) := by rw [readAt_word arg2.view f2 _ _ (i 1) (off2_eq i), hf2]
    have e26 : (View.readAt (Elt F) arg2.view (Rect.unit (s := S43) (k0_off5 i) S1.size (k0_off5_inb i)).toLoadRect f2 (Shape.Idx.first (numel1_S1.symm ▸ Nat.one_pos))) = at1 x2 (Fin.mk ((i 1).val - 1) (by have := (i 1).2; exact Nat.lt_of_le_of_lt (Nat.sub_le _ _) this)) := by rw [readAt_word arg2.view f2 _ _ (Fin.mk ((i 1).val - 1) (by have := (i 1).2; exact Nat.lt_of_le_of_lt (Nat.sub_le _ _) this)) (off5_eq i), hf2]
    have h1 : k0_cond1 i (View.readAt (Elt F) arg5.view (Rect.unit (s := S1) ![0] S1.size inb_S1_S1_0).toLoadRect f5 (Shape.Idx.first (numel1_S1.symm ▸ Nat.one_pos))) = 1#1 := by rw [e0]; exact hlive
    have he5 : (View.readAt (Elt F) arg2.view (Rect.unit (s := S43) (k0_off2 i) S1.size (k0_off2_inb i)).toLoadRect f2 (Shape.Idx.first (numel1_S1.symm ▸ Nat.one_pos))) = BitVec.ofNat 32 e.val := e5.trans he
    have hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))) := chk_of i _ _ e he5
    have hc : (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1) := by rw [e5, e26]; exact (cond_iff i _ _).2 hC
    have r8 : (View.readAt (Elt F) arg8.view (Rect.unit (s := S256x6144) ![0, 0] S256x6144.size inb_S256x6144_S256x6144_0_0).toLoadRect f8) = x8 := (readAt_zero2 arg8.view f8 _).trans hf8
    have r13 : (View.readAt (Elt F) arg13.view (Rect.unit (s := S1x1x256) ![0, 0, 0] S1x1x256.size inb_S1x1x256_S1x1x256_0_0_0).toLoadRect f13) = x13 := (readAt_zero3 arg13.view f13 _).trans hf13
    have r14 : (View.readAt (Elt F) arg14.view (Rect.unit (s := S1x1x256) ![0, 0, 0] S1x1x256.size inb_S1x1x256_S1x1x256_0_0_0).toLoadRect f14) = x14 := (readAt_zero3 arg14.view f14 _).trans hf14
    have r15 : (View.readAt (Elt F) arg15.view (Rect.unit (s := S1x1x256) ![0, 0, 0] S1x1x256.size inb_S1x1x256_S1x1x256_0_0_0).toLoadRect f15) = x15 := (readAt_zero3 arg15.view f15 _).trans hf15
    have r16 : (View.readAt (Elt F) arg16.view (Rect.unit (s := S256x256) ![0, 0] S256x256.size inb_S256x256_S256x256_0_0).toLoadRect f16) = x16 := (readAt_zero2 arg16.view f16 _).trans hf16
    have r9 : (View.readAt (Elt F) arg9.view (Rect.unit (s := S1x3072x256) ![0, 0, 0] S1x3072x256.size inb_S1x3072x256_S1x3072x256_0_0_0).toLoadRect f9) = x9 := (readAt_zero3 arg9.view f9 _).trans hf9
    have r10 : (View.readAt (Elt F) arg10.view (Rect.unit (s := S1x3072x256) ![0, 0, 0] S1x3072x256.size inb_S1x3072x256_S1x3072x256_0_0_0).toLoadRect f10) = x10 := (readAt_zero3 arg10.view f10 _).trans hf10
    have r11 : (View.readAt (Elt F) arg11.view (Rect.unit (s := S1x48x256) ![0, 0, 0] S1x48x256.size inb_S1x48x256_S1x48x256_0_0_0).toLoadRect f11) = x11 := (readAt_zero3 arg11.view f11 _).trans hf11
    have r12 : (View.readAt (Elt F) arg12.view (Rect.unit (s := S1x48x256) ![0, 0, 0] S1x48x256.size inb_S1x48x256_S1x48x256_0_0_0).toLoadRect f12) = x12 := (readAt_zero3 arg12.view f12 _).trans hf12
    iapply (((runReload D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 h1 hw hc)).2 E K)
    rw [reload_pieces, runReload_out]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; swap; · iexact H16
      ipureintro
      rw [View.read_writes_one, readAt_word arg3.view f3 _ _ (i 1) (off2_eq i), readAt_word arg4.view f4 _ _ e.castSucc (off3_eq _ e he5),
        readAt_word arg4.view f4 _ _ e.succ (off4_eq _ e he5), readAt_word arg6.view f6 _ _ e (off6_eq _ e he5), readAt_word arg7.view f7 _ _ e (off6_eq _ e he5),
        hf3, hf4, hf6, hf7]
      rw [readCov_slabs, r8, r13, r14, r15, r16, r9, r10, r11, r12, outBlk]
    iexists _; isplitr; swap; · iexact H17
    ipureintro; rw [read_slabs, r9, r10, r11, r12]

/-- A dead visit only looks at the number of visits. -/
theorem skip_spec
    (hdead : ¬ k0_cond1 i (at1 x5 0) = 1#1) (E : Set ℕ) (K : PUnit → sProp 𝕄) :
    iprop(owns (c : Thread nD τ) arg5 q x5 ∗ (owns (c : Thread nD τ) arg5 q x5 -∗ K ⟨⟩))
      ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f5, %hf5, H5⟩, Hk⟩
  have h1 : ¬ k0_cond1 i (View.readAt (Elt F) arg5.view (Rect.unit (s := S1) ![0] S1.size inb_S1_S1_0).toLoadRect f5 (Shape.Idx.first (numel1_S1.symm ▸ Nat.one_pos))) = 1#1 := by
    rw [readAt_word arg5.view f5 ![0] inb_S1_S1_0 0 rfl, hf5]; exact hdead
  iapply (runSkip D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f5 h1 E K)
  isplitl [H5]; · iexact H5
  iintro H5
  iapply Hk
  iexists _; isplitr; · ipureintro; exact hf5
  iexact H5

end Cert.Kernel.Body

end
-- ==== Proof.Tables.Count.lean ====
/-
  The schedule of the visits, on natural numbers. Expert `e` owns the rows `off e … off (e + 1)`; it visits the tiles of
  256 rows that these rows meet, in order; the visits of all experts are numbered one after another. Here: which expert
  and which tile visit `v` has, and what one visit and the next have in common.
-/
module

public import Mathlib.Algebra.BigOperators.Fin
public import Mathlib.Order.Interval.Finset.Nat
public import Mathlib.Data.Nat.Count
public import Mathlib.Tactic.Ring

@[expose] public section

namespace Cert.Tables

variable (n : ℕ → ℕ)

/-- The first row of expert `k`: the sizes of the experts before it. -/
def offN : ℕ → ℕ
  | 0 => 0
  | k + 1 => offN k + n k

/-- The number of tiles that expert `e`'s rows meet. -/
def cntN (e : ℕ) : ℕ := if 0 < n e then (offN n (e + 1) - 1) / 256 - offN n e / 256 + 1 else 0

/-- The number of visits before expert `k`'s. -/
def cumN : ℕ → ℕ
  | 0 => 0
  | k + 1 => cumN k + cntN n k

/-- The visit whose work visit `v` does: itself while there is one, the last one after that. -/
def visN (v : ℕ) : ℕ := min v (cumN n 8 - 1)

/-- The expert of visit `v`. -/
def eN (v : ℕ) : ℕ := Nat.count (fun p => cumN n (p + 1) ≤ visN n v) 8

/-- The tile of visit `v`. -/
def mN (v : ℕ) : ℕ := offN n (eN n v) / 256 + visN n v - cumN n (eN n v)

theorem offN_mono {i j : ℕ} (h : i ≤ j) : offN n i ≤ offN n j := by
  induction j, h using Nat.le_induction with
  | base => exact le_rfl
  | succ j _ ih => show _ ≤ offN n j + n j; omega

theorem cumN_mono {i j : ℕ} (h : i ≤ j) : cumN n i ≤ cumN n j := by
  induction j, h using Nat.le_induction with
  | base => exact le_rfl
  | succ j _ ih => show _ ≤ cumN n j + cntN n j; omega

theorem offN_eq_of_cumN {i j : ℕ} (h : i ≤ j) (hc : cumN n i = cumN n j) : offN n i = offN n j := by
  induction j, h using Nat.le_induction with
  | base => rfl
  | succ j hj ih =>
    have h1 := cumN_mono n hj
    have h2 : cumN n (j + 1) = cumN n j + cntN n j := rfl
    have h3 : offN n (j + 1) = offN n j + n j := rfl
    have h4 : cntN n j = 0 := by omega
    have h5 : n j = 0 := by
      by_contra hn
      unfold cntN at h4
      rw [if_pos (Nat.pos_of_ne_zero hn)] at h4
      omega
    have := ih (by omega)
    omega

/-- The visits up to expert `k` are at most the tiles begun and one more for each further expert. -/
theorem cumN_le (k : ℕ) : (offN n k = 0 → cumN n k = 0) ∧ (0 < offN n k → cumN n k ≤ (offN n k - 1) / 256 + k) := by
  induction k with
  | zero => exact ⟨fun _ => rfl, fun h => absurd h (by show ¬ 0 < 0; omega)⟩
  | succ k ih =>
    have h2 : cumN n (k + 1) = cumN n k + cntN n k := rfl
    have h3 : offN n (k + 1) = offN n k + n k := rfl
    unfold cntN at h2
    rcases Nat.eq_zero_or_pos (n k) with h | h
    · rw [if_neg (by omega)] at h2
      have e : offN n (k + 1) = offN n k := by omega
      rw [e, h2]
      exact ⟨fun h0 => by have := ih.1 h0; omega, fun h0 => by have := ih.2 h0; omega⟩
    · rw [if_pos h] at h2
      refine ⟨fun h0 => by omega, fun _ => ?_⟩
      rcases Nat.eq_zero_or_pos (offN n k) with h0 | h0
      · have := ih.1 h0; omega
      · have := ih.2 h0; omega

theorem cumN_bound (h8 : offN n 8 = 9216) : cumN n 8 ≤ 43 := by
  have := (cumN_le n 8).2 (by omega)
  omega

theorem cumN_pos (h8 : offN n 8 = 9216) : 0 < cumN n 8 := by
  by_contra h
  have := offN_eq_of_cumN n (Nat.zero_le 8) (by show 0 = _; omega)
  have h0 : offN n 0 = 0 := rfl
  omega

/-- Counting the experts that end by visit `w` finds the expert that `w` falls to. -/
theorem count_spec (w : ℕ) (N : ℕ) (h : w < cumN n N) :
    Nat.count (fun p => cumN n (p + 1) ≤ w) N < N ∧ cumN n (Nat.count (fun p => cumN n (p + 1) ≤ w) N) ≤ w
      ∧ w < cumN n (Nat.count (fun p => cumN n (p + 1) ≤ w) N + 1) := by
  induction N with
  | zero => exact absurd h (by show ¬ w < 0; omega)
  | succ N ih =>
    rw [Nat.count_succ, if_neg (by omega), Nat.add_zero]
    rcases Nat.lt_or_ge w (cumN n N) with hw | hw
    · have := ih hw
      exact ⟨by omega, this.2⟩
    · have hall : Nat.count (fun p => cumN n (p + 1) ≤ w) N = N := by
        rw [Nat.count_iff_forall]
        intro p hp
        exact le_trans (cumN_mono n (by omega)) hw
      rw [hall]
      exact ⟨by omega, hw, h⟩

section
variable (h8 : offN n 8 = 9216)
include h8

theorem visN_lt (v : ℕ) : visN n v < cumN n 8 := by
  have := cumN_pos n h8
  unfold visN
  omega

theorem eN_lt (v : ℕ) : eN n v < 8 := (count_spec n _ 8 (visN_lt n h8 v)).1

theorem eN_le (v : ℕ) : cumN n (eN n v) ≤ visN n v := (count_spec n _ 8 (visN_lt n h8 v)).2.1

theorem lt_eN (v : ℕ) : visN n v < cumN n (eN n v + 1) := (count_spec n _ 8 (visN_lt n h8 v)).2.2

/-- What visit `v` is: its expert has rows, and the tile lies between the expert's first and last. -/
theorem visit (v : ℕ) : 0 < n (eN n v) ∧ offN n (eN n v + 1) ≤ 9216
    ∧ cumN n (eN n v + 1) = cumN n (eN n v) + ((offN n (eN n v + 1) - 1) / 256 - offN n (eN n v) / 256 + 1) := by
  have h1 := eN_le n h8 v
  have h2 := lt_eN n h8 v
  have h3 : cumN n (eN n v + 1) = cumN n (eN n v) + cntN n (eN n v) := rfl
  have hn : 0 < n (eN n v) := by
    by_contra hn
    have : cntN n (eN n v) = 0 := by unfold cntN; rw [if_neg hn]
    omega
  refine ⟨hn, h8 ▸ offN_mono n (eN_lt n h8 v), ?_⟩
  rw [h3]
  unfold cntN
  rw [if_pos hn]

theorem mN_lt (v : ℕ) : mN n v < 36 := by
  have h1 := eN_le n h8 v
  have h2 := lt_eN n h8 v
  obtain ⟨h3, h4, h5⟩ := visit n h8 v
  have h6 : offN n (eN n v + 1) = offN n (eN n v) + n (eN n v) := rfl
  unfold mN
  omega

/-- One visit and the next, while both have work: the same expert goes on to the next tile, or the next expert with rows
    begins where this one ends. -/
theorem next_live (v : ℕ) (hv : v + 1 < cumN n 8) :
    (eN n (v + 1) = eN n v ∧ mN n (v + 1) = mN n v + 1 ∧ 256 * (mN n v + 1) < offN n (eN n v + 1) ∧ offN n (eN n v) ≤ 256 * (mN n v + 1))
      ∨ (offN n (eN n (v + 1)) = offN n (eN n v + 1) ∧ mN n v = (offN n (eN n v + 1) - 1) / 256 ∧ mN n (v + 1) = offN n (eN n v + 1) / 256
        ∧ 0 < offN n (eN n v + 1)) := by
  have h1 := eN_le n h8 v
  have h2 := lt_eN n h8 v
  obtain ⟨h3, h4, h5⟩ := visit n h8 v
  have h6 : offN n (eN n v + 1) = offN n (eN n v) + n (eN n v) := rfl
  have k1 := eN_le n h8 (v + 1)
  have k2 := lt_eN n h8 (v + 1)
  have w1 : visN n v = v := by unfold visN; omega
  have w2 : visN n (v + 1) = v + 1 := by unfold visN; omega
  rw [w1] at h1 h2
  rw [w2] at k1 k2
  rcases lt_trichotomy (eN n v) (eN n (v + 1)) with hlt | heq | hgt
  · right
    have c1 := cumN_mono n (show eN n v + 1 ≤ eN n (v + 1) from hlt)
    have c2 := offN_eq_of_cumN n (show eN n v + 1 ≤ eN n (v + 1) from hlt) (by omega)
    refine ⟨c2.symm, ?_, ?_, by omega⟩
    · unfold mN; rw [w1]; omega
    · unfold mN; rw [w2, ← c2]; omega
  · left
    have a : mN n v = offN n (eN n v) / 256 + v - cumN n (eN n v) := by unfold mN; rw [w1]
    have b : mN n (v + 1) = offN n (eN n v) / 256 + (v + 1) - cumN n (eN n v) := by unfold mN; rw [w2, ← heq]
    rw [← heq] at k1 k2
    refine ⟨heq.symm, by omega, by omega, by omega⟩
  · exfalso
    have c1 := cumN_mono n (show eN n (v + 1) + 1 ≤ eN n v from hgt)
    omega

/-- A visit without work repeats the last one. -/
theorem next_dead (v : ℕ) (hv : cumN n 8 ≤ v + 1) : visN n (v + 1) = visN n v ∧ eN n (v + 1) = eN n v ∧ mN n (v + 1) = mN n v := by
  have e : visN n (v + 1) = visN n v := by unfold visN; omega
  have e2 : eN n (v + 1) = eN n v := by unfold eN; rw [e]
  exact ⟨e, e2, by unfold mN; rw [e, e2]⟩

/-- A next visit to the same tile begins no later than this one's expert ends. -/
theorem same_tile (v : ℕ) (h : mN n (v + 1) = mN n v) : offN n (eN n (v + 1)) ≤ offN n (eN n v + 1) := by
  rcases Nat.lt_or_ge (v + 1) (cumN n 8) with hv | hv
  · rcases next_live n h8 v hv with ⟨_, h1, _⟩ | ⟨h1, _⟩
    · omega
    · omega
  · rw [(next_dead n h8 v hv).2.1]
    exact offN_mono n (Nat.le_succ _)

/-- The first visit to a tile begins at or before the tile. -/
theorem new_tile (v : ℕ) (h : mN n (v + 1) ≠ mN n v) : offN n (eN n (v + 1)) ≤ 256 * mN n (v + 1) := by
  rcases Nat.lt_or_ge (v + 1) (cumN n 8) with hv | hv
  · rcases next_live n h8 v hv with ⟨h0, h1, _, h2⟩ | ⟨h1, h2, h3, h4⟩
    · rw [h0, h1]; exact h2
    · omega
  · exact absurd (next_dead n h8 v hv).2.2 h

theorem first_tile : offN n (eN n 0) = 0 ∧ mN n 0 = 0 := by
  have h1 := eN_le n h8 0
  have w : visN n 0 = 0 := by unfold visN; omega
  rw [w] at h1
  have h2 := offN_eq_of_cumN n (Nat.zero_le (eN n 0)) (by show 0 = _; omega)
  have h0 : offN n 0 = 0 := rfl
  refine ⟨by omega, ?_⟩
  unfold mN
  rw [w]
  omega

/-- The last visit to a tile ends at or after the tile. -/
theorem end_tile (v : ℕ) (h : mN n (v + 1) ≠ mN n v) : 256 * (mN n v + 1) ≤ offN n (eN n v + 1) := by
  rcases Nat.lt_or_ge (v + 1) (cumN n 8) with hv | hv
  · rcases next_live n h8 v hv with ⟨_, _, h1, _⟩ | ⟨_, h2, h3, h4⟩
    · omega
    · omega
  · exact absurd (next_dead n h8 v hv).2.2 h

theorem last_visit : offN n (eN n 42 + 1) = 9216 ∧ mN n 42 = 35 := by
  have hb := cumN_bound n h8
  have hp := cumN_pos n h8
  have w : visN n 42 = cumN n 8 - 1 := by unfold visN; omega
  have h1 := eN_le n h8 42
  have h2 := lt_eN n h8 42
  rw [w] at h1 h2
  obtain ⟨h3, h4, h5⟩ := visit n h8 42
  have c1 := cumN_mono n (show eN n 42 + 1 ≤ 8 from eN_lt n h8 42)
  have c2 := offN_eq_of_cumN n (show eN n 42 + 1 ≤ 8 from eN_lt n h8 42) (by omega)
  have h6 : offN n (eN n 42 + 1) = offN n (eN n 42) + n (eN n 42) := rfl
  refine ⟨by omega, ?_⟩
  unfold mN
  rw [w]
  omega

theorem mN_step (v : ℕ) : mN n (v + 1) = mN n v ∨ mN n (v + 1) = mN n v + 1 := by
  rcases Nat.lt_or_ge (v + 1) (cumN n 8) with hv | hv
  · rcases next_live n h8 v hv with ⟨_, h1, _, h2⟩ | ⟨h1, h2, h3, h4⟩
    · exact Or.inr h1
    · omega
  · exact Or.inl (next_dead n h8 v hv).2.2

/-- Every tile has a last visit. -/
theorem exists_last (m : ℕ) (hm : m < 36) : ∃ v, v < 43 ∧ mN n v = m ∧ (v = 42 ∨ mN n (v + 1) ≠ mN n v) := by
  have key : ∀ k, k ≤ 42 → m ≤ mN n k → ∃ v, v ≤ k ∧ mN n v = m := by
    intro k
    induction k with
    | zero => intro _ h; exact ⟨0, le_rfl, by have := (first_tile n h8).2; omega⟩
    | succ k ih =>
      intro hk h
      by_cases he : mN n (k + 1) = m
      · exact ⟨k + 1, le_rfl, he⟩
      · obtain ⟨v, hv, e⟩ := ih (by omega) (by have := mN_step n h8 k; omega)
        exact ⟨v, by omega, e⟩
  obtain ⟨v, hv, e⟩ := key 42 le_rfl (by rw [(last_visit n h8).2]; omega)
  -- go on from `v` while the tile stays
  have go : ∀ d v, v + d = 42 → mN n v = m → ∃ u, u < 43 ∧ mN n u = m ∧ (u = 42 ∨ mN n (u + 1) ≠ mN n u) := by
    intro d
    induction d with
    | zero => intro v hv e; exact ⟨v, by omega, e, Or.inl (by omega)⟩
    | succ d ih =>
      intro v hv e
      by_cases h : mN n (v + 1) = mN n v
      · exact ih (v + 1) (by omega) (h.trans e)
      · exact ⟨v, by omega, e, Or.inr h⟩
  exact go (42 - v) v (by omega) e

end

end Cert.Tables

end
-- ==== Proof.Tables.Words.lean ====
/-
  The schedule tables as the host computes them from the group sizes, in 32-bit words, and what they hold: the numbers of
  Count.lean, wherever the sizes are counts that add up to 9216.
-/
module

public import proofs.«01_k».proof.Proof.Tables.Count
public import Idealize.ShloMosaic.Lib.Routing.OpsOne
public import Idealize.ShloMosaic.Lib.Routing.OpsSet
public import Idealize.ShloMosaic.Lib.Routing.Words
public import Idealize.ShloMosaic.Lib.PlanTiles.Rows
public import Idealize.ShloMosaic.Lib.Pipeline.Value

@[expose] public section

set_option maxRecDepth 16384

noncomputable section

namespace Cert.Tables

open Idealize.ShloMosaic Idealize.ShloMosaic.Routing Idealize.ShloMosaic.ValueIdx Idealize.ShloMosaic.WordCmp

theorem bc_8 : shape0.BroadcastsInDim (shape1 8) (![] : Fin 0 → Fin (shape1 8).rank) := by decide
theorem bc_1 : shape0.BroadcastsInDim (shape1 1) (![] : Fin 0 → Fin (shape1 1).rank) := by decide
theorem bc_43 : shape0.BroadcastsInDim (shape1 43) (![] : Fin 0 → Fin (shape1 43).rank) := by decide
theorem bc_1_43 : (shape1 1).BroadcastsInDim (shape1 43) (![0] : Fin 1 → Fin (shape1 43).rank) := by decide
theorem bc_8_col : (shape1 8).BroadcastsInDim (shape2 8 1) (![0] : Fin 1 → Fin (shape2 8 1).rank) := by decide
theorem bc_43_row : (shape1 43).BroadcastsInDim (shape2 1 43) (![1] : Fin 1 → Fin (shape2 1 43).rank) := by decide
theorem bc_col : (shape2 8 1).BroadcastsInDim (shape2 8 43) (![0, 1] : Fin 2 → Fin (shape2 8 43).rank) := by decide
theorem bc_row : (shape2 1 43).BroadcastsInDim (shape2 8 43) (![0, 1] : Fin 2 → Fin (shape2 8 43).rank) := by decide
theorem bc_43_col : (shape1 43).BroadcastsInDim (shape2 43 1) (![0] : Fin 1 → Fin (shape2 43 1).rank) := by decide
theorem win8 : (shape1 8).ReduceWindows (![8] : Fin 1 → Nat) ![1] ![7] ![0] (shape1 8) := by decide
theorem h0 : 0 < shape0.numel := by decide
theorem cat : Shape.Concatenates [shape1 1, shape1 8] (shape1 9) 0 := by decide
theorem sl0 : (shape1 9).Slices ![0] (shape1 8) := by decide
theorem sl1 : (shape1 9).Slices ![1] (shape1 8) := by decide
theorem sl8 : (shape1 9).Slices ![8] (shape1 1) := by decide
theorem red : (shape2 8 43).ReducesTo [0] (shape1 43) := by decide
theorem gwf8 : GatherDims.WF (shape1 8) (shape2 43 1) (shape1 43) [] [0] [] [0] [] 1 ![1] := by decide
theorem gwf9 : GatherDims.WF (shape1 9) (shape2 43 1) (shape1 43) [] [0] [] [0] [] 1 ![1] := by decide

/-- Reading entry by word, of a table of 8. -/
def g8 : GatherDims (shape1 8) (shape2 43 1) (shape1 43) where
  offsetDims := []
  collapsedSliceDims := [0]
  operandBatchingDims := []
  startIndexMap := [0]
  startIndicesBatchingDims := []
  indexVectorDim := 1
  sliceSizes := ![1]
  wf := gwf8

/-- Reading entry by word, of a table of 9. -/
def g9 : GatherDims (shape1 9) (shape2 43 1) (shape1 43) where
  offsetDims := []
  collapsedSliceDims := [0]
  operandBatchingDims := []
  startIndexMap := [0]
  startIndicesBatchingDims := []
  indexVectorDim := 1
  sliceSizes := ![1]
  wf := gwf9

/-- Zero, then the running sums. -/
def sums (x : IVec (shape1 8) 32) : IVec (shape1 9) 32 :=
  concatenate (shape1 9) 0 [⟨shape1 1, broadcastInDim (shape1 1) ![] bc_1 (constantI shape0 32 0#32)⟩,
    ⟨shape1 8, Host.reduceWindow IntOp.addi ![8] ![1] ![7] ![0] x (broadcastInDim shape0 ![] (by decide) (constantI shape0 32 0#32)) win8 h0⟩] cat

variable (gs : IVec (shape1 8) 32)

/-- Each expert's first tile. -/
def firstT : IVec (shape1 8) 32 := pyDiv bc_8 (extractStridedSlice (shape1 8) ![0] (sums gs) sl0) (constantI shape0 32 256#32)

/-- Each expert's last tile, where it has rows. -/
def lastT : IVec (shape1 8) 32 :=
  pyDiv bc_8 (subi (extractStridedSlice (shape1 8) ![1] (sums gs) sl1) (broadcastInDim (shape1 8) ![] bc_8 (constantI shape0 32 1#32))) (constantI shape0 32 256#32)

/-- Each expert's number of tiles. -/
def countT : IVec (shape1 8) 32 :=
  select (cmpi .sgt gs (broadcastInDim (shape1 8) ![] bc_8 (constantI shape0 32 0#32)))
    (addi (subi (lastT gs) (firstT gs)) (broadcastInDim (shape1 8) ![] bc_8 (constantI shape0 32 1#32)))
    (broadcastInDim (shape1 8) ![] bc_8 (constantI shape0 32 0#32))

/-- The number of visits, from the visits before each expert. -/
def totalOf (c : IVec (shape1 9) 32) : IVec (shape1 1) 32 := extractStridedSlice (shape1 1) ![8] c sl8

/-- The visit whose work each visit does, from the number of visits. -/
def visOf (t : IVec (shape1 1) 32) : IVec (shape1 43) 32 :=
  minsi (iotaInDim (shape1 43) 32 0)
    (broadcastInDim (shape1 43) ![0] bc_1_43 (subi t (broadcastInDim (shape1 1) ![] bc_1 (constantI shape0 32 1#32))))

/-- Each visit's expert: the number of experts that end by it. -/
def veOf (c : IVec (shape1 9) 32) (w : IVec (shape1 43) 32) : IVec (shape1 43) 32 :=
  Host.reduce IntOp.addi (extui 32 (cmpi .sle
    (broadcastInDim (shape2 8 43) ![0, 1] bc_col (broadcastInDim (shape2 8 1) ![0] bc_8_col (extractStridedSlice (shape1 8) ![1] c sl1)))
    (broadcastInDim (shape2 8 43) ![0, 1] bc_row (broadcastInDim (shape2 1 43) ![1] bc_43_row w))) (by decide)) (constantI shape0 32 0#32) red h0

def totalT : IVec (shape1 1) 32 := totalOf (sums (countT gs))

def visT : IVec (shape1 43) 32 := visOf (totalT gs)

def veT : IVec (shape1 43) 32 := veOf (sums (countT gs)) (visT gs)

/-- An index word, moved up by `k` where it is negative, as a column. -/
def wrapT (k : BitVec 32) (x : IVec (shape1 43) 32) : IVec (shape2 43 1) 32 :=
  broadcastInDim (shape2 43 1) ![0] bc_43_col (select (cmpi .slt x (broadcastInDim (shape1 43) ![] bc_43 (constantI shape0 32 0#32)))
    (addi x (broadcastInDim (shape1 43) ![] bc_43 (constantI shape0 32 k))) x)

/-- Each visit's tile. -/
def vmOf (f : IVec (shape1 8) 32) (c : IVec (shape1 9) 32) (w e : IVec (shape1 43) 32) : IVec (shape1 43) 32 :=
  subi (addi (Host.gather g8 f (wrapT 8#32 e)) w) (Host.gather g9 c (wrapT 9#32 e))

def vmT : IVec (shape1 43) 32 := vmOf (firstT gs) (sums (countT gs)) (visT gs) (veT gs)

/-! ## What they hold -/

/-- Running sums of words that hold naturals hold the naturals' running sums. -/
theorem sums_ap (x : IVec (shape1 8) 32) (f s : ℕ → ℕ) (hx : ∀ i : Fin 8, x (ix1 i) = BitVec.ofNat 32 (f i.val)) (hs0 : s 0 = 0)
    (hs : ∀ k, s (k + 1) = s k + f k) (k : Fin 9) : sums x (ix1 k) = BitVec.ofNat 32 (s k.val) := by
  have hsum : ∀ k, ((List.range k).map f).sum = s k := by
    intro k
    induction k with
    | zero => exact hs0.symm
    | succ k ih => rw [List.range_succ, List.map_append, List.sum_append, ih, hs]; simp
  unfold sums
  rcases Nat.eq_zero_or_pos k.val with h | h
  · rw [concatenate_pair_apply_left (t := shape1 9) 0 _ _ cat (ix1 k) rfl (ix1 (0 : Fin 1)) (fun b => by
      match b with
      | ⟨0, _⟩ => exact h.symm)]
    rw [bc0, h, hs0]
    rfl
  · rw [concatenate_pair_apply_right (t := shape1 9) 0 _ _ cat (ix1 k) rfl rfl (ix1 (⟨k.val - 1, by omega⟩ : Fin 8)) (fun b hb => by
      match b with
      | ⟨0, _⟩ => exact absurd rfl hb) (by show k.val - 1 + 1 = k.val; omega)]
    rw [cumsum1 (by decide) x f hx _ (by rw [bc0]; rfl)]
    show BitVec.ofNat 32 ((List.range (k.val - 1 + 1)).map f).sum = _
    rw [hsum, Nat.sub_add_cancel h]

variable (n : ℕ → ℕ) (hgs : ∀ i : Fin 8, gs (ix1 i) = BitVec.ofNat 32 (n i.val)) (h8 : offN n 8 = 9216)
include hgs h8

omit h8 in
theorem off_ap (k : Fin 9) : sums gs (ix1 k) = BitVec.ofNat 32 (offN n k.val) := sums_ap gs n (offN n) hgs rfl (fun _ => rfl) k

omit gs hgs in
theorem offN_le (k : Fin 9) : offN n k.val ≤ 9216 := h8 ▸ offN_mono n (by omega)

theorem firstT_ap (e : Fin 8) : firstT gs (ix1 e) = BitVec.ofNat 32 (offN n e.val / 256) := by
  have := offN_le n h8 e.castSucc
  unfold firstT
  exact pyDiv_ap bc_8 _ _ _ ((slice1 0 _ sl0 e (by omega)).trans (by rw [off_ap gs n hgs]; show BitVec.ofNat 32 (offN n (0 + e.val)) = _; rw [Nat.zero_add])) rfl
    (by have : offN n e.val ≤ 9216 := this; omega) (by omega) (by omega)

theorem lastT_ap (e : Fin 8) (he : 0 < offN n (e.val + 1)) : lastT gs (ix1 e) = BitVec.ofNat 32 ((offN n (e.val + 1) - 1) / 256) := by
  have : offN n (e.val + 1) ≤ 9216 := offN_le n h8 e.succ
  unfold lastT
  refine pyDiv_ap bc_8 _ _ _ ?_ rfl (by omega) (by omega) (by omega)
  rw [subi_ap, bc0, slice1 1 _ sl1 e (by omega), off_ap gs n hgs, constantI_at]
  show BitVec.ofNat 32 (offN n (1 + e.val)) - BitVec.ofNat 32 1 = _
  rw [Nat.add_comm, ofNat32_sub (by omega)]

theorem countT_ap (e : Fin 8) : countT gs (ix1 e) = BitVec.ofNat 32 (cntN n e.val) := by
  have a1 : offN n (e.val + 1) ≤ 9216 := offN_le n h8 e.succ
  have a2 : offN n (e.val + 1) = offN n e.val + n e.val := rfl
  unfold countT cntN
  rw [select_at, cmpi_at, hgs, bc0, constantI_at]
  by_cases h : 0 < n e.val
  · have c : IntOp.cmpi .sgt (BitVec.ofNat 32 (n e.val)) 0#32 = 1#1 := by
      show BitVec.ofBool ((BitVec.ofNat 32 0).slt (BitVec.ofNat 32 (n e.val))) = _
      rw [slt_ofNat32 (by omega) (by omega), decide_eq_true h]; rfl
    rw [c, if_pos h]
    show addi _ _ _ = _
    rw [addi_ap, subi_ap, lastT_ap gs n hgs h8 e (by omega), firstT_ap gs n hgs h8 e, bc0, constantI_at, ofNat32_sub (by omega)]
    exact (BitVec.ofNat_add _ _).symm
  · have c : IntOp.cmpi .sgt (BitVec.ofNat 32 (n e.val)) 0#32 = 0#1 := by
      show BitVec.ofBool ((BitVec.ofNat 32 0).slt (BitVec.ofNat 32 (n e.val))) = _
      rw [slt_ofNat32 (by omega) (by omega), decide_eq_false h]; rfl
    rw [c, if_neg h]
    show broadcastInDim (shape1 8) ![] bc_8 (constantI shape0 32 0#32) (ix1 e) = _
    rw [bc0]; rfl

theorem cum_ap (k : Fin 9) : sums (countT gs) (ix1 k) = BitVec.ofNat 32 (cumN n k.val) :=
  sums_ap _ (cntN n) (cumN n) (countT_ap gs n hgs h8) rfl (fun _ => rfl) k

omit gs hgs in
theorem cum_le (k : Fin 9) : cumN n k.val ≤ 43 := (cumN_mono n (show k.val ≤ 8 by omega)).trans (cumN_bound n h8)

theorem totalT_ap : totalT gs (ix1 0) = BitVec.ofNat 32 (cumN n 8) := by
  unfold totalT totalOf
  rw [slice1 8 _ sl8 (0 : Fin 1) (by decide)]
  exact cum_ap gs n hgs h8 8

attribute [local irreducible] totalT in
theorem visT_ap (v : Fin 43) : visT gs (ix1 v) = BitVec.ofNat 32 (visN n v.val) := by
  have hb := cumN_bound n h8
  have hp := cumN_pos n h8
  have hbc : ∀ x : IVec (shape1 1) 32, broadcastInDim (shape1 43) ![0] bc_1_43 x (ix1 v) = x (ix1 0) := fun x =>
    broadcastInDim_apply _ bc_1_43 x _ _ fun a => by
      match a with
      | ⟨0, _⟩ => rfl
  unfold visT visOf visN
  have hm : ∀ x y : IVec (shape1 43) 32, minsi x y (ix1 v) = IntOp.minsi (x (ix1 v)) (y (ix1 v)) := fun _ _ => rfl
  rw [hm, iota1_ap, hbc, subi_ap, totalT_ap gs n hgs h8, bc0, constantI_at]
  rw [show (1#32 : BitVec 32) = BitVec.ofNat 32 1 from rfl, ofNat32_sub (by omega), PlanTiles.minsi_word (by omega) (by omega), Nat.min_comm]

theorem veT_ap (v : Fin 43) : veT gs (ix1 v) = BitVec.ofNat 32 (eN n v.val) := by
  apply BitVec.eq_of_toNat_eq
  unfold veT veOf
  rw [StableHlo.Predicate.toNat_reduce_count_rows (by decide), BitVec.toNat_ofNat,
    Nat.mod_eq_of_lt (by have := eN_lt n h8 v.val; omega)]
  unfold eN
  rw [← card_filter_fin]
  refine congrArg Finset.card (Finset.filter_congr fun p _ => ?_)
  have h1 : visN n v.val ≤ 43 := le_trans (visN_lt n h8 v.val).le (cumN_bound n h8)
  have h2 : cumN n (p.val + 1) ≤ 43 := cum_le n h8 p.succ
  rw [ij_eq_ix2, cmpi_at, bcRows bc_8_col bc_col, bcCols bc_43_row bc_row, slice1 1 _ sl1 p (by omega)]
  rw [cum_ap gs n hgs h8]
  have e2 : visT gs (ix1 ((ix1 v : (shape1 43).Idx) 0)) = BitVec.ofNat 32 (visN n v.val) := visT_ap gs n hgs h8 v
  rw [e2]
  show BitVec.ofBool ((BitVec.ofNat 32 (cumN n (1 + p.val))).sle (BitVec.ofNat 32 (visN n v.val))) = 1#1 ↔ _
  rw [Nat.add_comm, sle_ofNat32 (by omega) (by omega)]
  by_cases h : cumN n (p.val + 1) ≤ visN n v.val
  · simp [h]
  · simp [h]

omit gs hgs h8 n in
theorem wrapT_ap (k : BitVec 32) (x : IVec (shape1 43) 32) (v : Fin 43) (b : ℕ) (hb : b < 2 ^ 31) (hx : x (ix1 v) = BitVec.ofNat 32 b) :
    wrapT k x (ix2 v (0 : Fin 1)) = BitVec.ofNat 32 b := by
  unfold wrapT
  rw [bcCol, select_at, cmpi_at, bc0, constantI_at, hx]
  have c : IntOp.cmpi .slt (BitVec.ofNat 32 b) 0#32 = 0#1 := by
    show BitVec.ofBool ((BitVec.ofNat 32 b).slt (BitVec.ofNat 32 0)) = _
    rw [slt_ofNat32 hb (by omega), decide_eq_false (by omega)]; rfl
  rw [c]
  rfl

theorem vmT_ap (v : Fin 43) : vmT gs (ix1 v) = BitVec.ofNat 32 (mN n v.val) := by
  have he := eN_lt n h8 v.val
  have hm := mN_lt n h8 v.val
  have hle := eN_le n h8 v.val
  unfold vmT vmOf mN
  rw [subi_ap, addi_ap, visT_ap gs n hgs h8,
    gather_take1 g8 rfl rfl rfl rfl _ _ v ⟨eN n v.val, he⟩ (wrapT_ap _ _ v _ (by omega) (veT_ap gs n hgs h8 v)) (by decide),
    gather_take1 g9 rfl rfl rfl rfl _ _ v ⟨eN n v.val, by omega⟩ (wrapT_ap _ _ v _ (by omega) (veT_ap gs n hgs h8 v)) (by decide),
    firstT_ap gs n hgs h8, cum_ap gs n hgs h8]
  show BitVec.ofNat 32 (offN n (eN n v.val) / 256) + BitVec.ofNat 32 _ - BitVec.ofNat 32 (cumN n (eN n v.val)) = _
  rw [← BitVec.ofNat_add, ofNat32_sub (by omega)]

end Cert.Tables

end
-- ==== Proof.Tables.Pre.lean ====
/-
  The preconditions of the two calls, read off: the group sizes hold naturals that add up to 9216.
-/
module

public import proofs.«01_k».proof.Proof.Tables.Words
public import proofs.«01_k».proof.Proof.Gen.Pre_rows_partitioned
public import proofs.«01_k».proof.Proof.Gen.Pre_down_rows_partitioned

@[expose] public section

set_option maxRecDepth 16384

noncomputable section

namespace Cert.Tables

open Idealize.ShloMosaic Idealize.ShloMosaic.Routing Idealize.ShloMosaic.ValueIdx Idealize.ShloMosaic.WordCmp

/-- The sizes as naturals. -/
def sizes (gs : IVec (shape1 8) 32) (e : ℕ) : ℕ := if h : e < 8 then (gs (ix1 ⟨e, h⟩)).toNat else 0

theorem sizes_ap (gs : IVec (shape1 8) 32) (i : Fin 8) : gs (ix1 i) = BitVec.ofNat 32 (sizes gs i.val) := by
  unfold sizes
  rw [dif_pos i.isLt, BitVec.ofNat_toNat, BitVec.setWidth_eq]

theorem list_sum (f : ℕ → ℕ) (k : ℕ) : ((List.range k).map f).sum = offN f k := by
  induction k with
  | zero => rfl
  | succ k ih => rw [List.range_succ, List.map_append, List.sum_append, ih]; show offN f k + (f k + 0) = offN f k + f k; omega

theorem and_one {a b : BitVec 1} (h : IntOp.andi a b = 1#1) : a = 1#1 ∧ b = 1#1 := by
  revert a b; decide

/-- Sizes between 0 and 9216 whose words add up to the word 9216 add up to 9216. -/
theorem sum_of_words (gs : IVec (shape1 8) 32)
    (hi : ∀ i : Fin 8, IntOp.cmpi .sge (gs (ix1 i)) 0#32 = 1#1 ∧ IntOp.cmpi .sle (gs (ix1 i)) 9216#32 = 1#1
      ∧ IntOp.cmpi .eq (Host.reduce IntOp.addi gs (constantI shape0 32 0#32) (by decide : (shape1 8).ReducesTo [0] shape0) h0 ix0) 9216#32 = 1#1) :
    offN (sizes gs) 8 = 9216 := by
  have hle : ∀ i : Fin 8, sizes gs i.val ≤ 9216 := by
    intro i
    obtain ⟨h1, h2, _⟩ := hi i
    have hn : sizes gs i.val = (gs (ix1 i)).toNat := by unfold sizes; rw [dif_pos i.isLt]
    rw [hn]
    generalize gs (ix1 i) = w at h1 h2
    have a : (0#32 : BitVec 32).sle w = true := by
      have : BitVec.ofBool ((0#32 : BitVec 32).sle w) = 1#1 := h1
      revert this; cases (0#32 : BitVec 32).sle w <;> simp
    have b : w.sle 9216#32 = true := by
      have : BitVec.ofBool (w.sle 9216#32) = 1#1 := h2
      revert this; cases w.sle 9216#32 <;> simp
    rw [BitVec.sle_iff_toInt_le] at a b
    have hw := BitVec.toInt_eq_toNat_cond w
    have h9 : (9216#32 : BitVec 32).toInt = 9216 := by decide
    have h00 : (0#32 : BitVec 32).toInt = 0 := by decide
    have := w.isLt
    split at hw <;> omega
  obtain ⟨_, _, h3⟩ := hi 0
  rw [reduce_sum gs (sizes gs) (sizes_ap gs), list_sum] at h3
  have e : BitVec.ofNat 32 (offN (sizes gs) 8) = 9216#32 := by
    have : BitVec.ofBool (BitVec.ofNat 32 (offN (sizes gs) 8) == 9216#32) = 1#1 := h3
    revert this
    cases hb : (BitVec.ofNat 32 (offN (sizes gs) 8) == 9216#32)
    · simp
    · intro _; exact eq_of_beq hb
  have hb : offN (sizes gs) 8 ≤ 8 * 9216 := by
    have a0 := hle 0; have a1 := hle 1; have a2 := hle 2; have a3 := hle 3
    have a4 := hle 4; have a5 := hle 5; have a6 := hle 6; have a7 := hle 7
    have : offN (sizes gs) 8 = 0 + sizes gs 0 + sizes gs 1 + sizes gs 2 + sizes gs 3 + sizes gs 4 + sizes gs 5 + sizes gs 6 + sizes gs 7 := rfl
    rw [this]
    simp only [Fin.val_zero, Fin.val_one] at a0 a1
    have b2 : sizes gs 2 ≤ 9216 := a2
    have b3 : sizes gs 3 ≤ 9216 := a3
    have b4 : sizes gs 4 ≤ 9216 := a4
    have b5 : sizes gs 5 ≤ 9216 := a5
    have b6 : sizes gs 6 ≤ 9216 := a6
    have b7 : sizes gs 7 ≤ 9216 := a7
    omega
  have := congrArg BitVec.toNat e
  rw [BitVec.toNat_ofNat] at this
  have h9 : (9216#32 : BitVec 32).toNat = 9216 := by decide
  omega

/-- Under the precondition the sizes are counts that add up to the rows. -/
theorem sum_sizes {F : FTy → Type} [FloatOps F] (gs : IVec (shape1 8) 32) {x0 x2 x3 x4 x5 x6 x7 x8 x9 x10}
    (h : Cert.Pre_rows_partitioned.fn (F := F) x0 gs x2 x3 x4 x5 x6 x7 x8 x9 x10 = fun _ => 1#1) : offN (sizes gs) 8 = 9216 := by
  refine sum_of_words gs fun i => ?_
  have e := congrFun h (ix1 i)
  unfold Cert.Pre_rows_partitioned.fn at e
  dsimp only at e
  rw [andi_at, andi_at] at e
  obtain ⟨e1, e2⟩ := and_one e
  obtain ⟨e3, e4⟩ := and_one e1
  rw [cmpi_at] at e3 e4
  refine ⟨?_, ?_, ?_⟩
  · rw [← e3]; congr 1
  · rw [← e4]; congr 1
  · rw [← e2]; rfl

/-- Under the precondition of the second call the sizes are counts that add up to the rows. -/
theorem sum_sizes_down {F : FTy → Type} [FloatOps F] (gs : IVec (shape1 8) 32) {x0 x2 x3 x4 x5}
    (h : Cert.Pre_down_rows_partitioned.fn (F := F) x0 gs x2 x3 x4 x5 = fun _ => 1#1) : offN (sizes gs) 8 = 9216 := by
  refine sum_of_words gs fun i => ?_
  have e := congrFun h (ix1 i)
  unfold Cert.Pre_down_rows_partitioned.fn at e
  dsimp only at e
  rw [andi_at, andi_at] at e
  obtain ⟨e1, e2⟩ := and_one e
  obtain ⟨e3, e4⟩ := and_one e1
  rw [cmpi_at] at e3 e4
  refine ⟨?_, ?_, ?_⟩
  · rw [← e3]; congr 1
  · rw [← e4]; congr 1
  · rw [← e2]; rfl

end Cert.Tables

end
-- ==== Proof.Kernel.Geom.lean ====
module

public import proofs.«01_k».proof.Proof.Kernel.Spec
public import proofs.«01_k».proof.Proof.Tables.Words
public import proofs.«01_k».proof.Proof.Tables.Pre
set_option maxRecDepth 16384

/-!
# Which block every window reads at a grid point

The four prefetched tables are functions of the group sizes `gs`. With them the index maps have closed
forms: at the point of column block `i 0` and visit `i 1` the activations and the output are at row tile
`mN (i 1)`, the weights and scales at expert `eN (i 1)`. Every block is inside its array.
-/

@[expose] public section

namespace Cert.Kernel.Body
open Cert.Kernel Cert.Kernel.Gen
open Idealize.ShloMosaic Idealize.ShloMosaic.TcCoe
open Cert.Tables

variable {F : FTy → Type} [FloatOps F]

/-- The contents of the prefetched tables: expert per visit, tile per visit, group offsets, number of visits. -/
noncomputable def tab (gs : IVec (⟨1, ![8]⟩ : Shape) 32) : pre0.Contents (Elt F) := fun
  | 0 => veT gs | 1 => vmT gs | 2 => sums gs | 3 => totalT gs
  | ⟨_ + 4, h⟩ => absurd h (Nat.not_lt.2 (Nat.le_add_left _ _))

/-- Coordinate `k` of the one-word rectangle a table is read at. -/
theorem emb_word (i : grid0.Coords) (h1 : S1.numel = 1)
    (h : ∀ a, (![(Scalar.indexCast (BitVec.ofNat 32 (i 1).val) : Index).toNat] : Fin 1 → ℕ) a + S1.size a ≤ S43.size a) :
    (Rect.unit (s := S43) ![(Scalar.indexCast (BitVec.ofNat 32 (i 1).val) : Index).toNat] S1.size h).emb
      (Shape.Idx.first (h1.symm ▸ Nat.one_pos)) = (ix1 (i 1) : (⟨1, ![43]⟩ : Shape).Idx) := by
  funext a
  match a with
  | ⟨0, _⟩ =>
    apply Fin.ext
    have h43 : (i 1).val < 43 := (i 1).isLt
    show (BitVec.ofNat 32 (i 1).val).toNat + 1 * 0 = (i 1).val
    rw [BitVec.toNat_ofNat]
    omega

theorem fits2 {m n : ℕ} (hm : m < 36) {b : ℕ} (k : ℕ) (hn : (n + 1) * b ≤ k) :
    ∀ a, (![m, n] a + 1) * (⟨2, ![256, b]⟩ : Shape).size a ≤ (⟨2, ![9216, k]⟩ : Shape).size a := by
  intro a
  match a with
  | ⟨0, _⟩ => show (m + 1) * 256 ≤ 9216; omega
  | ⟨1, _⟩ => exact hn

theorem fits3 {e n : ℕ} (he : e < 8) (hn : n < 16) (k : ℕ) :
    ∀ a, (![e, 0, n] a + 1) * (⟨3, ![1, k, 256]⟩ : Shape).size a ≤ (⟨3, ![8, k, 4096]⟩ : Shape).size a := by
  intro a
  match a with
  | ⟨0, _⟩ => show (e + 1) * 1 ≤ 8; omega
  | ⟨1, _⟩ => show (0 + 1) * k ≤ k; omega
  | ⟨2, _⟩ => show (n + 1) * 256 ≤ 4096; omega

theorem words2 {m n b k p : ℕ} (hd : p ∣ 256)
    (h : ∀ a, (![m, n] a + 1) * (⟨2, ![256, b]⟩ : Shape).size a ≤ (⟨2, ![9216, k]⟩ : Shape).size a) :
    (Rect.block (s := ⟨2, ![9216, k]⟩) (⟨2, ![256, b]⟩ : Shape).size ![m, n] h).WholeWords p := by
  refine .inl (.inr ⟨le_refl _, rfl, .inl ⟨?_, ?_⟩⟩)
  · show p ∣ m * 256
    exact hd.mul_left m
  · exact hd

theorem words3 {e n k p : ℕ}
    (h : ∀ a, (![e, 0, n] a + 1) * (⟨3, ![1, k, 256]⟩ : Shape).size a ≤ (⟨3, ![8, k, 4096]⟩ : Shape).size a) :
    (Rect.block (s := ⟨3, ![8, k, 4096]⟩) (⟨3, ![1, k, 256]⟩ : Shape).size ![e, 0, n] h).WholeWords p := by
  refine .inr ⟨by show 2 ≤ 3; omega, rfl, ?_, rfl⟩
  show 0 * k = 0
  omega

theorem col_word (i : grid0.Coords) : (BitVec.ofNat 32 (i 0).val).toNat = (i 0).val := by
  have h : (i 0).val < 16 := (i 0).isLt
  rw [BitVec.toNat_ofNat]; omega

variable (gs : IVec (⟨1, ![8]⟩ : Shape) 32) (hp : offN (sizes gs) 8 = 9216)

/-- Expert of visit `v`. -/
abbrev ex (v : ℕ) : ℕ := eN (sizes gs) v
/-- Row tile of visit `v`. -/
abbrev tl (v : ℕ) : ℕ := mN (sizes gs) v

include hp
theorem ve_entry (v : Fin 43) : veT gs (ix1 v) = BitVec.ofNat 32 (ex gs v.val) :=
  veT_ap gs (sizes gs) (sizes_ap gs) hp v
theorem vm_entry (v : Fin 43) : vmT gs (ix1 v) = BitVec.ofNat 32 (tl gs v.val) :=
  vmT_ap gs (sizes gs) (sizes_ap gs) hp v
theorem ex_lt (v : Fin 43) : ex gs v.val < 8 := eN_lt (sizes gs) hp v
theorem tl_lt (v : Fin 43) : tl gs v.val < 36 := mN_lt (sizes gs) hp v

theorem ve_word (i : grid0.Coords) (h1 : S1.numel = 1)
    (h : ∀ a, (![(Scalar.indexCast (BitVec.ofNat 32 (i 1).val) : Index).toNat] : Fin 1 → ℕ) a + S1.size a ≤ S43.size a) :
    ((tab (F := F) gs).at 0 (Rect.unit (s := S43) ![(Scalar.indexCast (BitVec.ofNat 32 (i 1).val) : Index).toNat] S1.size h) h1 : BitVec 32).toNat
      = ex gs (i 1).val := by
  have e := congrArg (veT gs) (emb_word i h1 h)
  have e2 := (e.trans (ve_entry gs hp (i 1)))
  refine (congrArg BitVec.toNat e2).trans ?_
  have := ex_lt gs hp (i 1)
  rw [BitVec.toNat_ofNat]; omega

theorem vm_word (i : grid0.Coords) (h1 : S1.numel = 1)
    (h : ∀ a, (![(Scalar.indexCast (BitVec.ofNat 32 (i 1).val) : Index).toNat] : Fin 1 → ℕ) a + S1.size a ≤ S43.size a) :
    ((tab (F := F) gs).at 1 (Rect.unit (s := S43) ![(Scalar.indexCast (BitVec.ofNat 32 (i 1).val) : Index).toNat] S1.size h) h1 : BitVec 32).toNat
      = tl gs (i 1).val := by
  have e := congrArg (vmT gs) (emb_word i h1 h)
  have e2 := (e.trans (vm_entry gs hp (i 1)))
  refine (congrArg BitVec.toNat e2).trans ?_
  have := tl_lt gs hp (i 1)
  rw [BitVec.toNat_ofNat]; omega

/-- The activations' block index, -/
theorem ixX (i : grid0.Coords) : cc0_transform_2 k0_off1_inb numel1_S1 (tab (F := F) gs) i = ![tl gs (i 1).val, 0] := by
  have e := vm_word (F := F) gs hp i numel1_S1 (k0_off1_inb i)
  exact congrArg (fun x => (![x, 0] : Fin 2 → ℕ)) e
/-- the output's, -/
theorem ixO (i : grid0.Coords) : cc0_transform_10 k0_off1_inb numel1_S1 (tab (F := F) gs) i = ![tl gs (i 1).val, (i 0).val] := by
  have e := vm_word (F := F) gs hp i numel1_S1 (k0_off1_inb i)
  exact congrArg₂ (fun x y => (![x, y] : Fin 2 → ℕ)) e (col_word i)
/-- and those of the weights and scales. -/
theorem ix3w (i : grid0.Coords) : cc0_transform_3 k0_off1_inb numel1_S1 (tab (F := F) gs) i = ![ex gs (i 1).val, 0, (i 0).val] := by
  have e := ve_word (F := F) gs hp i numel1_S1 (k0_off1_inb i)
  exact congrArg₂ (fun x y => (![x, 0, y] : Fin 3 → ℕ)) e (col_word i)
theorem ix4w (i : grid0.Coords) : cc0_transform_4 k0_off1_inb numel1_S1 (tab (F := F) gs) i = ![ex gs (i 1).val, 0, (i 0).val] := ix3w gs hp i
theorem ix5w (i : grid0.Coords) : cc0_transform_5 k0_off1_inb numel1_S1 (tab (F := F) gs) i = ![ex gs (i 1).val, 0, (i 0).val] := ix3w gs hp i
theorem ix6w (i : grid0.Coords) : cc0_transform_6 k0_off1_inb numel1_S1 (tab (F := F) gs) i = ![ex gs (i 1).val, 0, (i 0).val] := ix3w gs hp i
theorem ix7w (i : grid0.Coords) : cc0_transform_7 k0_off1_inb numel1_S1 (tab (F := F) gs) i = ![ex gs (i 1).val, 0, (i 0).val] := ix3w gs hp i
theorem ix8w (i : grid0.Coords) : cc0_transform_8 k0_off1_inb numel1_S1 (tab (F := F) gs) i = ![ex gs (i 1).val, 0, (i 0).val] := ix3w gs hp i
theorem ix9w (i : grid0.Coords) : cc0_transform_9 k0_off1_inb numel1_S1 (tab (F := F) gs) i = ![ex gs (i 1).val, 0, (i 0).val] := ix3w gs hp i

/-- Every block the tables name is inside its array and made of whole words. -/
theorem tab_ok : ok0 (tab (F := F) gs) := by
  have he := fun i : grid0.Coords => ex_lt gs hp (i 1)
  have hm := fun i : grid0.Coords => tl_lt gs hp (i 1)
  have hn : ∀ i : grid0.Coords, (i 0).val < 16 := fun i => (i 0).isLt
  refine ⟨fun i => ?_, fun i => ?_, fun i => ?_, fun i => ?_, fun i => ?_, fun i => ?_, fun i => ?_, fun i => ?_, fun i => ?_⟩
  · rw [ixX gs hp i]; exact ⟨fits2 (hm i) 6144 (by omega), .inr (words2 (by decide) _)⟩
  · rw [ix3w gs hp i]; exact ⟨fits3 (he i) (hn i) 3072, .inr (words3 _)⟩
  · rw [ix4w gs hp i]; exact ⟨fits3 (he i) (hn i) 3072, .inr (words3 _)⟩
  · rw [ix5w gs hp i]; exact ⟨fits3 (he i) (hn i) 48, .inr (words3 _)⟩
  · rw [ix6w gs hp i]; exact ⟨fits3 (he i) (hn i) 48, .inr (words3 _)⟩
  · rw [ix7w gs hp i]; exact ⟨fits3 (he i) (hn i) 1, .inl rfl⟩
  · rw [ix8w gs hp i]; exact ⟨fits3 (he i) (hn i) 1, .inl rfl⟩
  · rw [ix9w gs hp i]; exact ⟨fits3 (he i) (hn i) 1, .inl rfl⟩
  · rw [ixO gs hp i]; exact ⟨fits2 (hm i) 4096 (by have := hn i; omega), .inr (words2 (by decide) _)⟩

/-- The pipeline's tables, as admissible contents. -/
noncomputable def adm : (pcfg0 (F := F)).Adm := ⟨tab gs, tab_ok gs hp⟩

end Cert.Kernel.Body
-- ==== Proof.Kernel.Data.lean ====
/- The pipeline of the kernel: the blocks its windows hold and the data its loop is proved with. -/
module

public import proofs.«01_k».proof.Proof.Kernel.Geom

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

open Idealize.ShloMosaic.ValueIdx (ix2 ix3)

/-- Contents of the core's buffers when the kernel starts. -/
abbrev Bufs (c : Dev nD) := (b : Ref sig .tc) → Buf (Elt F) ((c.tc : Thread nD τ).loc b)

/-- The block of rows `256 m …` of the activations. -/
def xB (x : Vec F S9216x6144 .fp8e4m3) (m : ℕ) : Vec F S256x6144 .fp8e4m3 := fun j => x (ix2 (Fin.ofNat 9216 (m * 256 + (j 0).val)) (j 1))
/-- The block of expert `e`, columns `256 n …`, of a weight array, -/
def wB (w : Vec F S8x3072x4096 .i8) (e n : ℕ) : Vec F S1x3072x256 .i8 := fun j => w (ix3 (Fin.ofNat 8 e) (j 1) (Fin.ofNat 4096 (n * 256 + (j 2).val)))
/-- of an array of block scales -/
def sB (s : Vec F S8x48x4096 .fp8e4m3) (e n : ℕ) : Vec F S1x48x256 .fp8e4m3 := fun j => s (ix3 (Fin.ofNat 8 e) (j 1) (Fin.ofNat 4096 (n * 256 + (j 2).val)))
/-- and of an array of column scales. -/
def cB (s : Vec F S8x1x4096 .f32) (e n : ℕ) : Vec F S1x1x256 .f32 := fun j => s (ix3 (Fin.ofNat 8 e) (j 1) (Fin.ofNat 4096 (n * 256 + (j 2).val)))

section
variable (gs : IVec (⟨1, ![8]⟩ : Shape) 32) (hp : offN (sizes gs) 8 = 9216) (c : Dev nD) (B : Bufs (F := F) c)

/-- The unpacked weights of expert `e`, column block `n`, as the scratch holds them. -/
def scrW (e n : ℕ) : Vec F S6144x512 .bf16 :=
  wscr (k0_pay2 (F := F) (wB (B main_arg3) e n)) (k0_pay2 (F := F) (wB (B main_arg4) e n)) (k0_pay3 (sB (B main_arg5) e n)) (k0_pay3 (sB (B main_arg6) e n))

/-- What visit `v` of column block `n` makes of the output block. -/
def step (v : Fin 43) (n : ℕ) (Y : Vec F S256x256 .fp8e4m3) : Vec F S256x256 .fp8e4m3 :=
  if v.val < cumN (sizes gs) 8 then
    outBlk (at1 (vmT gs) v) (at1 (sums gs) (Fin.ofNat 8 (ex gs v)).castSucc) (at1 (sums gs) (Fin.ofNat 8 (ex gs v)).succ)
      (at1 (B main_arg2) (Fin.ofNat 8 (ex gs v))) (at1 (B main_arg10) (Fin.ofNat 8 (ex gs v))) (xB (B main_arg0) (tl gs v)) (scrW c B (ex gs v) n)
      (cB (B main_v48) (ex gs v) n) (cB (B main_v49) (ex gs v) n) (cB (B main_v50) (ex gs v) n) Y
  else Y

/-- The proof data of the pipeline: inputs stay, the output block takes the visit's step, and after every visit the
    scratch holds the weights of the visit's expert. -/
def rdat : RDat τ (Elt F) Unit ℕ (UR sig nD τ) ℕ (cfg0 (adm (F := F) gs hp)) c where
  A := fun w => B (Pipeline.arrRef spec0 w)
  after := fun
    | 10 => fun t Y X => X = step gs c B (grid0.coords t 1) (grid0.coords t 0).val Y
    | 0 => fun _ Y X => X = Y | 1 => fun _ Y X => X = Y | 2 => fun _ Y X => X = Y | 3 => fun _ Y X => X = Y
    | 4 => fun _ Y X => X = Y | 5 => fun _ Y X => X = Y | 6 => fun _ Y X => X = Y | 7 => fun _ Y X => X = Y
    | 8 => fun _ Y X => X = Y | 9 => fun _ Y X => X = Y
    | ⟨_ + 11, h⟩ => absurd h (Nat.not_lt.2 (Nat.le_add_left _ _))
  Φ := fun s => iprop((∃ d : Vec F S6144x512 .bf16, ⌜∀ t : Fin grid0.N, t.val + 1 = s.val → d = scrW c B (ex gs (grid0.coords t 1)) (grid0.coords t 0).val⌝
    ∗ owns (c : Thread nD τ) (Memref.whole cc0_scratch0) fullShare d) ∗ (∃ r, prngReg c r) ∗ Pipeline.ΦT pre0 (tab (F := F) gs) c)
  q := fun _ => fullShare
  owed := fun _ => 0

theorem blk_2 (t : Fin grid0.N) : (rdat gs hp c B).blockOf 2 t = xB (B main_arg0) (tl gs (grid0.coords t 1)) := by
  refine funext fun (y : S256x6144.Idx) => ?_
  refine congrArg (B main_arg0) ?_
  have e := ixX (F := F) gs hp (grid0.coords t)
  have hm := tl_lt gs hp (grid0.coords t 1)
  funext a
  match a with
  | ⟨0, _⟩ =>
    apply Fin.ext
    have hy : (y 0).val < 256 := (y 0).isLt
    show cc0_transform_2 k0_off1_inb numel1_S1 (tab (F := F) gs) (grid0.coords t) 0 * 256 + 1 * (y 0).val = (tl gs (grid0.coords t 1).val * 256 + (y 0).val) % 9216
    rw [e]
    show tl gs (grid0.coords t 1).val * 256 + 1 * (y 0).val = _
    omega
  | ⟨1, _⟩ =>
    apply Fin.ext
    show cc0_transform_2 k0_off1_inb numel1_S1 (tab (F := F) gs) (grid0.coords t) 1 * 6144 + 1 * (y 1).val = (y 1).val
    rw [e]
    show 0 * 6144 + 1 * (y 1).val = _
    omega

theorem blk_3 (t : Fin grid0.N) : (rdat gs hp c B).blockOf 3 t = wB (B main_arg3) (ex gs (grid0.coords t 1)) (grid0.coords t 0).val := by
  refine funext fun (y : (⟨3, ![1, 3072, 256]⟩ : Shape).Idx) => ?_
  refine congrArg (B main_arg3) ?_
  have e := ix3w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_3 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_3 k0_off1_inb numel1_S1 (tab (F := F) gs) (grid0.coords t) 1 * 3072 + 1 * (y 1).val = (y 1).val
    rw [e]
    show 0 * 3072 + 1 * (y 1).val = _
    omega
  | ⟨2, _⟩ =>
    apply Fin.ext
    have hy : (y 2).val < 256 := (y 2).isLt
    show cc0_transform_3 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_4 (t : Fin grid0.N) : (rdat gs hp c B).blockOf 4 t = wB (B main_arg4) (ex gs (grid0.coords t 1)) (grid0.coords t 0).val := by
  refine funext fun (y : (⟨3, ![1, 3072, 256]⟩ : Shape).Idx) => ?_
  refine congrArg (B main_arg4) ?_
  have e := ix4w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_4 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_4 k0_off1_inb numel1_S1 (tab (F := F) gs) (grid0.coords t) 1 * 3072 + 1 * (y 1).val = (y 1).val
    rw [e]
    show 0 * 3072 + 1 * (y 1).val = _
    omega
  | ⟨2, _⟩ =>
    apply Fin.ext
    have hy : (y 2).val < 256 := (y 2).isLt
    show cc0_transform_4 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_5 (t : Fin grid0.N) : (rdat gs hp c B).blockOf 5 t = sB (B main_arg5) (ex gs (grid0.coords t 1)) (grid0.coords t 0).val := by
  refine funext fun (y : (⟨3, ![1, 48, 256]⟩ : Shape).Idx) => ?_
  refine congrArg (B main_arg5) ?_
  have e := ix5w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_5 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_5 k0_off1_inb numel1_S1 (tab (F := F) gs) (grid0.coords t) 1 * 48 + 1 * (y 1).val = (y 1).val
    rw [e]
    show 0 * 48 + 1 * (y 1).val = _
    omega
  | ⟨2, _⟩ =>
    apply Fin.ext
    have hy : (y 2).val < 256 := (y 2).isLt
    show cc0_transform_5 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_6 (t : Fin grid0.N) : (rdat gs hp c B).blockOf 6 t = sB (B main_arg6) (ex gs (grid0.coords t 1)) (grid0.coords t 0).val := by
  refine funext fun (y : (⟨3, ![1, 48, 256]⟩ : Shape).Idx) => ?_
  refine congrArg (B main_arg6) ?_
  have e := ix6w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_6 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_6 k0_off1_inb numel1_S1 (tab (F := F) gs) (grid0.coords t) 1 * 48 + 1 * (y 1).val = (y 1).val
    rw [e]
    show 0 * 48 + 1 * (y 1).val = _
    omega
  | ⟨2, _⟩ =>
    apply Fin.ext
    have hy : (y 2).val < 256 := (y 2).isLt
    show cc0_transform_6 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_7 (t : Fin grid0.N) : (rdat gs hp c B).blockOf 7 t = cB (B main_v48) (ex gs (grid0.coords t 1)) (grid0.coords t 0).val := by
  refine funext fun (y : (⟨3, ![1, 1, 256]⟩ : Shape).Idx) => ?_
  refine congrArg (B main_v48) ?_
  have e := ix7w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_7 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_7 k0_off1_inb numel1_S1 (tab (F := F) gs) (grid0.coords t) 1 * 1 + 1 * (y 1).val = (y 1).val
    rw [e]
    show 0 * 1 + 1 * (y 1).val = _
    omega
  | ⟨2, _⟩ =>
    apply Fin.ext
    have hy : (y 2).val < 256 := (y 2).isLt
    show cc0_transform_7 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_8 (t : Fin grid0.N) : (rdat gs hp c B).blockOf 8 t = cB (B main_v49) (ex gs (grid0.coords t 1)) (grid0.coords t 0).val := by
  refine funext fun (y : (⟨3, ![1, 1, 256]⟩ : Shape).Idx) => ?_
  refine congrArg (B main_v49) ?_
  have e := ix8w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_8 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_8 k0_off1_inb numel1_S1 (tab (F := F) gs) (grid0.coords t) 1 * 1 + 1 * (y 1).val = (y 1).val
    rw [e]
    show 0 * 1 + 1 * (y 1).val = _
    omega
  | ⟨2, _⟩ =>
    apply Fin.ext
    have hy : (y 2).val < 256 := (y 2).isLt
    show cc0_transform_8 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_9 (t : Fin grid0.N) : (rdat gs hp c B).blockOf 9 t = cB (B main_v50) (ex gs (grid0.coords t 1)) (grid0.coords t 0).val := by
  refine funext fun (y : (⟨3, ![1, 1, 256]⟩ : Shape).Idx) => ?_
  refine congrArg (B main_v50) ?_
  have e := ix9w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_9 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_9 k0_off1_inb numel1_S1 (tab (F := F) gs) (grid0.coords t) 1 * 1 + 1 * (y 1).val = (y 1).val
    rw [e]
    show 0 * 1 + 1 * (y 1).val = _
    omega
  | ⟨2, _⟩ =>
    apply Fin.ext
    have hy : (y 2).val < 256 := (y 2).isLt
    show cc0_transform_9 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

/-- What the body finds in an input window is the block the point names. -/
theorem found (w : Fin 11) (hw : (spec0 w).isOut = false)
    (hk : ∀ (t : Fin grid0.N) (Y X : (spec0 w).block.Idx → Elt F (spec0 w).elt), (rdat gs hp c B).after w t Y X → X = Y)
    (t : Fin grid0.N) (Y : (spec0 w).block.Idx → Elt F (spec0 w).elt)
    (h : (rdat gs hp c B).Finds w t Y) : Y = (rdat gs hp c B).blockOf w t := by
  obtain ⟨d, hd⟩ := RDat.finds_in_eq_fetched (rdat gs hp c B) w hw (fun _ _ _ => rfl) hk t Y h
  rw [hd]
  funext j
  exact Window.fill_xinj ((cfg0 (adm (F := F) gs hp)).win w) (grid0.coords t) d _ j

end

end Cert.Kernel.Body

end
-- ==== Proof.Kernel.Obligation.lean ====
/- The body at every grid point: the loop of the kernel keeps its invariant. -/
module

public import proofs.«01_k».proof.Proof.Kernel.Data

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

variable (gs : IVec (⟨1, ![8]⟩ : Shape) 32) (hp : offN (sizes gs) 8 = 9216) (c : Dev nD) (B : Bufs (F := F) c)

theorem blk_0 (t : Fin grid0.N) : (rdat gs hp c B).blockOf 0 t = B main_arg2 := by
  refine funext fun (y : S8.Idx) => ?_
  refine congrArg (B main_arg2) ?_
  funext a
  match a with
  | ⟨0, _⟩ =>
    apply Fin.ext
    show 0 * 8 + 1 * (y 0).val = (y 0).val
    omega

theorem blk_1 (t : Fin grid0.N) : (rdat gs hp c B).blockOf 1 t = B main_arg10 := by
  refine funext fun (y : S8.Idx) => ?_
  refine congrArg (B main_arg10) ?_
  funext a
  match a with
  | ⟨0, _⟩ =>
    apply Fin.ext
    show 0 * 8 + 1 * (y 0).val = (y 0).val
    omega

/-- Coordinates of a grid point: column block `t / 43`, visit `t % 43`. -/
theorem coord_one : ∀ t : Fin grid0.N, (grid0.coords t 1).val = t.val % 43 := by decide +kernel
theorem coord_zero : ∀ t : Fin grid0.N, (grid0.coords t 0).val = t.val / 43 := by decide +kernel

/-- The tables, one by one. -/
theorem tables : (Pipeline.ΦT pre0 (tab (F := F) gs) c : sProp 𝕄) ⊣⊢ iprop(owns (c : Thread nD τ) (Memref.whole main_v31) fullShare.right (veT gs) ∗ owns (c : Thread nD τ) (Memref.whole main_v47) fullShare.right (vmT gs) ∗ owns (c : Thread nD τ) (Memref.whole main_v2) fullShare.right (sums gs) ∗ owns (c : Thread nD τ) (Memref.whole main_v18) fullShare.right (totalT gs)) := by
  rw [show (Pipeline.ΦT pre0 (tab (F := F) gs) c : sProp 𝕄) = _ from bigSep_univ_eq_bigSepL [(0 : Fin 4), (1 : Fin 4), (2 : Fin 4), (3 : Fin 4)] (by decide) (by decide) _]
  rw [owns_whole, owns_whole, owns_whole, owns_whole]
  exact .rfl

/-- Entry `k` of a table, through either spelling of a one-coordinate index. -/
theorem at1_eq {n : ℕ} {α : Type} (x : (⟨1, ![n]⟩ : Shape).Idx → α) (k : Fin n) : at1 x k = x (Idealize.ShloMosaic.ValueIdx.ix1 k) := by
  unfold at1
  refine congrArg x ?_
  funext a
  match a with
  | ⟨0, _⟩ => rfl

include hp in
/-- A visit is live when it is below the number of visits. -/
theorem live_iff (i : grid0.Coords) : k0_cond1 i (at1 (totalT gs) 0) = 1#1 ↔ (i 1).val < cumN (sizes gs) 8 := by
  have h : (i 1).val < 43 := (i 1).2
  have hc := cumN_bound (sizes gs) hp
  rw [at1_eq, totalT_ap gs (sizes gs) (sizes_ap gs) hp]
  unfold k0_cond1
  generalize hk : cumN (sizes gs) 8 = k at *
  generalize hv : (i 1).val = v at *
  have key : ∀ v < 43, ∀ k ≤ 43, (Scalar.cmpi .ne (Scalar.extui (Scalar.cmpi .slt (BitVec.ofNat 32 v) (BitVec.ofNat 32 k)) : BitVec 32) 0#32 = 1#1 ↔ v < k) := by decide +kernel
  exact key v h k hc

include hp in
theorem ve_at (v : Fin 43) : at1 (veT gs) v = BitVec.ofNat 32 (Fin.ofNat 8 (ex gs v.val)).val := by
  rw [at1_eq, veT_ap gs (sizes gs) (sizes_ap gs) hp]
  refine congrArg _ ?_
  have := ex_lt gs hp v
  show ex gs v.val = ex gs v.val % 8
  omega

include hp in
/-- Two visits with one table entry are of one expert. -/
theorem ex_of_entry {v w : Fin 43} (h : at1 (veT gs) v = at1 (veT gs) w) : ex gs v.val = ex gs w.val := by
  rw [ve_at gs hp, ve_at gs hp] at h
  have h1 := ex_lt gs hp v
  have h2 := ex_lt gs hp w
  have := congrArg BitVec.toNat h
  rw [BitVec.toNat_ofNat, BitVec.toNat_ofNat] at this
  have e1 : (Fin.ofNat 8 (ex gs v.val)).val = ex gs v.val % 8 := rfl
  have e2 : (Fin.ofNat 8 (ex gs w.val)).val = ex gs w.val % 8 := rfl
  omega

/-- The scratch after a visit that does not reload is the visit's expert's. -/
theorem scr_keep (t : Fin grid0.N) (d : Vec F S6144x512 .bf16)
    (hd : ∀ u : Fin grid0.N, u.val + 1 = t.castSucc.val → d = scrW c B (ex gs (grid0.coords u 1)) (grid0.coords u 0).val)
    (h0 : (grid0.coords t 1).val ≠ 0)
    (he : ex gs ((grid0.coords t 1).val - 1) = ex gs (grid0.coords t 1)) :
    ∀ u : Fin grid0.N, u.val + 1 = t.succ.val → d = scrW c B (ex gs (grid0.coords u 1)) (grid0.coords u 0).val := by
  intro u hu
  have hut : u = t := Fin.ext (by have := Fin.val_succ t; omega)
  subst hut
  have hN := N_0
  have ht := u.isLt
  rw [coord_one] at h0
  obtain ⟨p, hpv⟩ : ∃ p : Fin grid0.N, p.val + 1 = u.val := ⟨⟨u.val - 1, by omega⟩, by show u.val - 1 + 1 = u.val; omega⟩
  have h1 := hd p (by rw [Fin.val_castSucc]; exact hpv)
  have e1 : (grid0.coords p 1).val = (grid0.coords u 1).val - 1 := by rw [coord_one, coord_one]; omega
  have e0 : (grid0.coords p 0).val = (grid0.coords u 0).val := by rw [coord_zero, coord_zero]; omega
  rw [h1, e1, e0, he]

theorem scr_new (t : Fin grid0.N) :
    ∀ u : Fin grid0.N, u.val + 1 = t.succ.val → scrW c B (ex gs (grid0.coords t 1)) (grid0.coords t 0).val = scrW c B (ex gs (grid0.coords u 1)) (grid0.coords u 0).val := by
  intro u hu
  have : u = t := Fin.ext (by have := Fin.val_succ t; omega)
  rw [this]

/-- The invariant, spelled out. -/
theorem phi_eq (s : Fin (grid0.N + 1)) : (rdat gs hp c B).Φ s = iprop((∃ d : Vec F S6144x512 .bf16, ⌜∀ t : Fin grid0.N, t.val + 1 = s.val → d = scrW c B (ex gs (grid0.coords t 1)) (grid0.coords t 0).val⌝
    ∗ owns (c : Thread nD τ) (Memref.whole cc0_scratch0) fullShare d) ∗ (∃ r, prngReg c r) ∗ Pipeline.ΦT pre0 (tab (F := F) gs) c) := rfl

/-- The body as the loop calls it at point `t`. -/
def bodyAt (t : Fin grid0.N) : Prog (TpuEff nD τ sig (Elt F) Λ₀ .tc) PUnit := cc0_gate_up (grid0.coords t) (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (spec0_6.stage ((cfg0 (adm (F := F) gs hp)).slots t 6)) (hstage0_6 (((cfg0 (adm (F := F) gs hp)).slots t 6).cast nbuf0_6)) (spec0_7.stage ((cfg0 (adm (F := F) gs hp)).slots t 7)) (hstage0_7 (((cfg0 (adm (F := F) gs hp)).slots t 7).cast nbuf0_7)) (spec0_8.stage ((cfg0 (adm (F := F) gs hp)).slots t 8)) (hstage0_8 (((cfg0 (adm (F := F) gs hp)).slots t 8).cast nbuf0_8)) (spec0_9.stage ((cfg0 (adm (F := F) gs hp)).slots t 9)) (hstage0_9 (((cfg0 (adm (F := F) gs hp)).slots t 9).cast nbuf0_9)) (spec0_10.stage ((cfg0 (adm (F := F) gs hp)).slots t 10)) (hstage0_10 (((cfg0 (adm (F := F) gs hp)).slots t 10).cast nbuf0_10)) (Memref.whole cc0_scratch0) (Memref.isWhole_whole _)

theorem defs₀_row (t : Fin grid0.N) : defs₀ (F := F) .tc (cfg0 (adm (F := F) gs hp)).body ((cfg0 (adm (F := F) gs hp)).bodyArgs t ((cfg0 (adm (F := F) gs hp)).slots t)) = bodyAt gs hp t := by
  unfold defs₀; rw [Defs.onTc_tc]; rfl

set_option maxHeartbeats 4000000 in
/-- The body at every point, from what its windows may hold. -/
theorem body_at (t : Fin grid0.N) (Y : (w : Fin 11) → (spec0 w).block.Idx → Elt F (spec0 w).elt) (hY : ∀ w, (rdat gs hp c B).Finds w t (Y w)) :
    iprop((rdat gs hp c B).Φ t.castSucc ∗ (rdat gs hp c B).owesAt () t.castSucc ∗ owns (c : Thread nD τ) (spec0_0.stage ((cfg0 (adm (F := F) gs hp)).slots t 0)) fullShare (Y 0) ∗ owns (c : Thread nD τ) (spec0_1.stage ((cfg0 (adm (F := F) gs hp)).slots t 1)) fullShare (Y 1) ∗ owns (c : Thread nD τ) (spec0_2.stage ((cfg0 (adm (F := F) gs hp)).slots t 2)) fullShare (Y 2) ∗ owns (c : Thread nD τ) (spec0_3.stage ((cfg0 (adm (F := F) gs hp)).slots t 3)) fullShare (Y 3) ∗ owns (c : Thread nD τ) (spec0_4.stage ((cfg0 (adm (F := F) gs hp)).slots t 4)) fullShare (Y 4) ∗ owns (c : Thread nD τ) (spec0_5.stage ((cfg0 (adm (F := F) gs hp)).slots t 5)) fullShare (Y 5) ∗ owns (c : Thread nD τ) (spec0_6.stage ((cfg0 (adm (F := F) gs hp)).slots t 6)) fullShare (Y 6) ∗ owns (c : Thread nD τ) (spec0_7.stage ((cfg0 (adm (F := F) gs hp)).slots t 7)) fullShare (Y 7) ∗ owns (c : Thread nD τ) (spec0_8.stage ((cfg0 (adm (F := F) gs hp)).slots t 8)) fullShare (Y 8) ∗ owns (c : Thread nD τ) (spec0_9.stage ((cfg0 (adm (F := F) gs hp)).slots t 9)) fullShare (Y 9) ∗ owns (c : Thread nD τ) (spec0_10.stage ((cfg0 (adm (F := F) gs hp)).slots t 10)) fullShare (Y 10))
      ⊢ wp frame (wpE (defs₀ (F := F)) Variants.none c none) Set.univ (bodyAt gs hp t) fun _ =>
        iprop((rdat gs hp c B).Φ t.succ ∗ (rdat gs hp c B).owesAt () t.succ ∗ (∃ X, ⌜(rdat gs hp c B).after 0 t (Y 0) X⌝ ∗ owns (c : Thread nD τ) (spec0_0.stage ((cfg0 (adm (F := F) gs hp)).slots t 0)) fullShare X) ∗ (∃ X, ⌜(rdat gs hp c B).after 1 t (Y 1) X⌝ ∗ owns (c : Thread nD τ) (spec0_1.stage ((cfg0 (adm (F := F) gs hp)).slots t 1)) fullShare X) ∗ (∃ X, ⌜(rdat gs hp c B).after 2 t (Y 2) X⌝ ∗ owns (c : Thread nD τ) (spec0_2.stage ((cfg0 (adm (F := F) gs hp)).slots t 2)) fullShare X) ∗ (∃ X, ⌜(rdat gs hp c B).after 3 t (Y 3) X⌝ ∗ owns (c : Thread nD τ) (spec0_3.stage ((cfg0 (adm (F := F) gs hp)).slots t 3)) fullShare X) ∗ (∃ X, ⌜(rdat gs hp c B).after 4 t (Y 4) X⌝ ∗ owns (c : Thread nD τ) (spec0_4.stage ((cfg0 (adm (F := F) gs hp)).slots t 4)) fullShare X) ∗ (∃ X, ⌜(rdat gs hp c B).after 5 t (Y 5) X⌝ ∗ owns (c : Thread nD τ) (spec0_5.stage ((cfg0 (adm (F := F) gs hp)).slots t 5)) fullShare X) ∗ (∃ X, ⌜(rdat gs hp c B).after 6 t (Y 6) X⌝ ∗ owns (c : Thread nD τ) (spec0_6.stage ((cfg0 (adm (F := F) gs hp)).slots t 6)) fullShare X) ∗ (∃ X, ⌜(rdat gs hp c B).after 7 t (Y 7) X⌝ ∗ owns (c : Thread nD τ) (spec0_7.stage ((cfg0 (adm (F := F) gs hp)).slots t 7)) fullShare X) ∗ (∃ X, ⌜(rdat gs hp c B).after 8 t (Y 8) X⌝ ∗ owns (c : Thread nD τ) (spec0_8.stage ((cfg0 (adm (F := F) gs hp)).slots t 8)) fullShare X) ∗ (∃ X, ⌜(rdat gs hp c B).after 9 t (Y 9) X⌝ ∗ owns (c : Thread nD τ) (spec0_9.stage ((cfg0 (adm (F := F) gs hp)).slots t 9)) fullShare X) ∗ (∃ X, ⌜(rdat gs hp c B).after 10 t (Y 10) X⌝ ∗ owns (c : Thread nD τ) (spec0_10.stage ((cfg0 (adm (F := F) gs hp)).slots t 10)) fullShare X)) := by
  have y0 : Y 0 = B main_arg2 := (found gs hp c B 0 rfl (fun _ _ _ h => h) t (Y 0) (hY 0)).trans (blk_0 gs hp c B t)
  have y1 : Y 1 = B main_arg10 := (found gs hp c B 1 rfl (fun _ _ _ h => h) t (Y 1) (hY 1)).trans (blk_1 gs hp c B t)
  have y2 : Y 2 = xB (B main_arg0) (tl gs (grid0.coords t 1)) := (found gs hp c B 2 rfl (fun _ _ _ h => h) t (Y 2) (hY 2)).trans (blk_2 gs hp c B t)
  have y3 : Y 3 = wB (B main_arg3) (ex gs (grid0.coords t 1)) (grid0.coords t 0).val := (found gs hp c B 3 rfl (fun _ _ _ h => h) t (Y 3) (hY 3)).trans (blk_3 gs hp c B t)
  have y4 : Y 4 = wB (B main_arg4) (ex gs (grid0.coords t 1)) (grid0.coords t 0).val := (found gs hp c B 4 rfl (fun _ _ _ h => h) t (Y 4) (hY 4)).trans (blk_4 gs hp c B t)
  have y5 : Y 5 = sB (B main_arg5) (ex gs (grid0.coords t 1)) (grid0.coords t 0).val := (found gs hp c B 5 rfl (fun _ _ _ h => h) t (Y 5) (hY 5)).trans (blk_5 gs hp c B t)
  have y6 : Y 6 = sB (B main_arg6) (ex gs (grid0.coords t 1)) (grid0.coords t 0).val := (found gs hp c B 6 rfl (fun _ _ _ h => h) t (Y 6) (hY 6)).trans (blk_6 gs hp c B t)
  have y7 : Y 7 = cB (B main_v48) (ex gs (grid0.coords t 1)) (grid0.coords t 0).val := (found gs hp c B 7 rfl (fun _ _ _ h => h) t (Y 7) (hY 7)).trans (blk_7 gs hp c B t)
  have y8 : Y 8 = cB (B main_v49) (ex gs (grid0.coords t 1)) (grid0.coords t 0).val := (found gs hp c B 8 rfl (fun _ _ _ h => h) t (Y 8) (hY 8)).trans (blk_8 gs hp c B t)
  have y9 : Y 9 = cB (B main_v50) (ex gs (grid0.coords t 1)) (grid0.coords t 0).val := (found gs hp c B 9 rfl (fun _ _ _ h => h) t (Y 9) (hY 9)).trans (blk_9 gs hp c B t)
  unfold bodyAt
  rw [phi_eq, phi_eq]
  iintro ⟨⟨⟨%d, %hd, Gs⟩, Hp, HT⟩, Ho, G0, G1, G2, G3, G4, G5, G6, G7, G8, G9, G10⟩
  ihave HT' := (tables gs c).1 $$ HT
  icases HT' with ⟨T2, T3, T4, T5⟩
  by_cases hl : (grid0.coords t 1).val < cumN (sizes gs) 8
  · have hlive := (live_iff gs hp (grid0.coords t)).2 hl
    have e10 : ∀ W, W = scrW c B (ex gs (grid0.coords t 1)) (grid0.coords t 0).val →
        outBlk (at1 (vmT gs) (grid0.coords t 1)) (at1 (sums gs) (Fin.ofNat 8 (ex gs (grid0.coords t 1))).castSucc) (at1 (sums gs) (Fin.ofNat 8 (ex gs (grid0.coords t 1))).succ)
          (at1 (Y 0) (Fin.ofNat 8 (ex gs (grid0.coords t 1)))) (at1 (Y 1) (Fin.ofNat 8 (ex gs (grid0.coords t 1)))) (Y 2) W (Y 7) (Y 8) (Y 9) (Y 10)
          = step gs c B (grid0.coords t 1) (grid0.coords t 0).val (Y 10) := by
      intro W hW
      unfold step
      rw [if_pos hl, hW, y0, y1, y2, y7, y8, y9]
    by_cases hC : (grid0.coords t 1).val = 0 ∨ at1 (veT gs) (Fin.mk ((grid0.coords t 1).val - 1) (by have := (grid0.coords t 1).2; exact Nat.lt_of_le_of_lt (Nat.sub_le _ _) this)) ≠ at1 (veT gs) (grid0.coords t 1)
    · have eW : wscr (k0_pay2 (F := F) (Y 3)) (k0_pay2 (F := F) (Y 4)) (k0_pay3 (Y 5)) (k0_pay3 (Y 6)) = scrW c B (ex gs (grid0.coords t 1)) (grid0.coords t 0).val := by
        rw [y3, y4, y5, y6]; rfl
      iapply (reload_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (spec0_6.stage ((cfg0 (adm (F := F) gs hp)).slots t 6)) (hstage0_6 (((cfg0 (adm (F := F) gs hp)).slots t 6).cast nbuf0_6)) (spec0_7.stage ((cfg0 (adm (F := F) gs hp)).slots t 7)) (hstage0_7 (((cfg0 (adm (F := F) gs hp)).slots t 7).cast nbuf0_7)) (spec0_8.stage ((cfg0 (adm (F := F) gs hp)).slots t 8)) (hstage0_8 (((cfg0 (adm (F := F) gs hp)).slots t 8).cast nbuf0_8)) (spec0_9.stage ((cfg0 (adm (F := F) gs hp)).slots t 9)) (hstage0_9 (((cfg0 (adm (F := F) gs hp)).slots t 9).cast nbuf0_9)) (spec0_10.stage ((cfg0 (adm (F := F) gs hp)).slots t 10)) (hstage0_10 (((cfg0 (adm (F := F) gs hp)).slots t 10).cast nbuf0_10)) (Memref.whole cc0_scratch0) (Memref.isWhole_whole _) (veT gs) (vmT gs) (sums gs) (totalT gs) (Y 0) (Y 1) (Y 2) (Y 3) (Y 4) (Y 5) (Y 6) (Y 7) (Y 8) (Y 9) (Y 10) (Fin.ofNat 8 (ex gs (grid0.coords t 1))) (ve_at gs hp _) hlive hC Set.univ _)
      isplitl [T2]; · iexact T2
      isplitl [T3]; · iexact T3
      isplitl [T4]; · iexact T4
      isplitl [T5]; · iexact T5
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [Gs]; · iexists _; iexact Gs
      iintro ⟨T2, T3, T4, T5, G0, G1, G2, G3, G4, G5, G6, G7, G8, G9, G10, Gs⟩
      isplitl [Gs Hp T2 T3 T4 T5]
      · isplitl [Gs]
        · iexists _; isplitr
          rotate_left
          · iexact Gs
          · ipureintro; exact (fun u hu => eW.trans (scr_new gs c B t u hu))
        isplitl [Hp]
        · iexact Hp
        iapply (tables gs c).2
        isplitl [T2]; · iexact T2
        isplitl [T3]; · iexact T3
        isplitl [T4]; · iexact T4
        iexact T5
      isplitl [Ho]; · iexact Ho
      isplitl [G0]
      · iexists _; isplitr; · ipureintro; exact rfl
        iexact G0
      isplitl [G1]
      · iexists _; isplitr; · ipureintro; exact rfl
        iexact G1
      isplitl [G2]
      · iexists _; isplitr; · ipureintro; exact rfl
        iexact G2
      isplitl [G3]
      · iexists _; isplitr; · ipureintro; exact rfl
        iexact G3
      isplitl [G4]
      · iexists _; isplitr; · ipureintro; exact rfl
        iexact G4
      isplitl [G5]
      · iexists _; isplitr; · ipureintro; exact rfl
        iexact G5
      isplitl [G6]
      · iexists _; isplitr; · ipureintro; exact rfl
        iexact G6
      isplitl [G7]
      · iexists _; isplitr; · ipureintro; exact rfl
        iexact G7
      isplitl [G8]
      · iexists _; isplitr; · ipureintro; exact rfl
        iexact G8
      isplitl [G9]
      · iexists _; isplitr; · ipureintro; exact rfl
        iexact G9
      iexists _; isplitr; · ipureintro; exact e10 _ eW
      iexact G10
    · have h0 : (grid0.coords t 1).val ≠ 0 := fun h => hC (.inl h)
      have he : ex gs ((grid0.coords t 1).val - 1) = ex gs (grid0.coords t 1) :=
        ex_of_entry gs hp (v := Fin.mk ((grid0.coords t 1).val - 1) (by have := (grid0.coords t 1).2; exact Nat.lt_of_le_of_lt (Nat.sub_le _ _) this)) (not_ne_iff.1 fun h => hC (.inr h))
      have hk := scr_keep gs c B t d hd h0 he
      have eW := hk t rfl
      iapply (keep_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (spec0_6.stage ((cfg0 (adm (F := F) gs hp)).slots t 6)) (hstage0_6 (((cfg0 (adm (F := F) gs hp)).slots t 6).cast nbuf0_6)) (spec0_7.stage ((cfg0 (adm (F := F) gs hp)).slots t 7)) (hstage0_7 (((cfg0 (adm (F := F) gs hp)).slots t 7).cast nbuf0_7)) (spec0_8.stage ((cfg0 (adm (F := F) gs hp)).slots t 8)) (hstage0_8 (((cfg0 (adm (F := F) gs hp)).slots t 8).cast nbuf0_8)) (spec0_9.stage ((cfg0 (adm (F := F) gs hp)).slots t 9)) (hstage0_9 (((cfg0 (adm (F := F) gs hp)).slots t 9).cast nbuf0_9)) (spec0_10.stage ((cfg0 (adm (F := F) gs hp)).slots t 10)) (hstage0_10 (((cfg0 (adm (F := F) gs hp)).slots t 10).cast nbuf0_10)) (Memref.whole cc0_scratch0) (Memref.isWhole_whole _) (veT gs) (vmT gs) (sums gs) (totalT gs) (Y 0) (Y 1) (Y 2) (Y 3) (Y 4) (Y 5) (Y 6) (Y 7) (Y 8) (Y 9) (Y 10) d (Fin.ofNat 8 (ex gs (grid0.coords t 1))) (ve_at gs hp _) hlive hC Set.univ _)
      isplitl [T2]; · iexact T2
      isplitl [T3]; · iexact T3
      isplitl [T4]; · iexact T4
      isplitl [T5]; · iexact T5
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [Gs]; · iexact Gs
      iintro ⟨T2, T3, T4, T5, G0, G1, G2, G3, G4, G5, G6, G7, G8, G9, G10, Gs⟩
      isplitl [Gs Hp T2 T3 T4 T5]
      · isplitl [Gs]
        · iexists _; isplitr
          rotate_left
          · iexact Gs
          · ipureintro; exact hk
        isplitl [Hp]
        · iexact Hp
        iapply (tables gs c).2
        isplitl [T2]; · iexact T2
        isplitl [T3]; · iexact T3
        isplitl [T4]; · iexact T4
        iexact T5
      isplitl [Ho]; · iexact Ho
      isplitl [G0]
      · iexists _; isplitr; · ipureintro; exact rfl
        iexact G0
      isplitl [G1]
      · iexists _; isplitr; · ipureintro; exact rfl
        iexact G1
      isplitl [G2]
      · iexists _; isplitr; · ipureintro; exact rfl
        iexact G2
      isplitl [G3]
      · iexists _; isplitr; · ipureintro; exact rfl
        iexact G3
      isplitl [G4]
      · iexists _; isplitr; · ipureintro; exact rfl
        iexact G4
      isplitl [G5]
      · iexists _; isplitr; · ipureintro; exact rfl
        iexact G5
      isplitl [G6]
      · iexists _; isplitr; · ipureintro; exact rfl
        iexact G6
      isplitl [G7]
      · iexists _; isplitr; · ipureintro; exact rfl
        iexact G7
      isplitl [G8]
      · iexists _; isplitr; · ipureintro; exact rfl
        iexact G8
      isplitl [G9]
      · iexists _; isplitr; · ipureintro; exact rfl
        iexact G9
      iexists _; isplitr; · ipureintro; exact e10 _ eW
      iexact G10
  · have hdead : ¬ k0_cond1 (grid0.coords t) (at1 (totalT gs) 0) = 1#1 := fun h => hl ((live_iff gs hp (grid0.coords t)).1 h)
    have hpos := cumN_pos (sizes gs) hp
    have h0 : (grid0.coords t 1).val ≠ 0 := by omega
    have he : ex gs ((grid0.coords t 1).val - 1) = ex gs (grid0.coords t 1) := by
      have h := (next_dead (sizes gs) hp ((grid0.coords t 1).val - 1) (by omega)).2.1
      rw [show (grid0.coords t 1).val - 1 + 1 = (grid0.coords t 1).val by omega] at h
      exact h.symm
    have hk := scr_keep gs c B t d hd h0 he
    have e10 : Y 10 = step gs c B (grid0.coords t 1) (grid0.coords t 0).val (Y 10) := by
      unfold step
      rw [if_neg hl]
    iapply (skip_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (spec0_6.stage ((cfg0 (adm (F := F) gs hp)).slots t 6)) (hstage0_6 (((cfg0 (adm (F := F) gs hp)).slots t 6).cast nbuf0_6)) (spec0_7.stage ((cfg0 (adm (F := F) gs hp)).slots t 7)) (hstage0_7 (((cfg0 (adm (F := F) gs hp)).slots t 7).cast nbuf0_7)) (spec0_8.stage ((cfg0 (adm (F := F) gs hp)).slots t 8)) (hstage0_8 (((cfg0 (adm (F := F) gs hp)).slots t 8).cast nbuf0_8)) (spec0_9.stage ((cfg0 (adm (F := F) gs hp)).slots t 9)) (hstage0_9 (((cfg0 (adm (F := F) gs hp)).slots t 9).cast nbuf0_9)) (spec0_10.stage ((cfg0 (adm (F := F) gs hp)).slots t 10)) (hstage0_10 (((cfg0 (adm (F := F) gs hp)).slots t 10).cast nbuf0_10)) (Memref.whole cc0_scratch0) (Memref.isWhole_whole _) (totalT gs) hdead Set.univ _)
    isplitl [T5]; · iexact T5
    iintro T5
    isplitl [Gs Hp T2 T3 T4 T5]
    · isplitl [Gs]
      · iexists _; isplitr
        rotate_left
        · iexact Gs
        · ipureintro; exact hk
      isplitl [Hp]
      · iexact Hp
      iapply (tables gs c).2
      isplitl [T2]; · iexact T2
      isplitl [T3]; · iexact T3
      isplitl [T4]; · iexact T4
      iexact T5
    isplitl [Ho]; · iexact Ho
    isplitl [G0]
    · iexists _; isplitr; · ipureintro; exact rfl
      iexact G0
    isplitl [G1]
    · iexists _; isplitr; · ipureintro; exact rfl
      iexact G1
    isplitl [G2]
    · iexists _; isplitr; · ipureintro; exact rfl
      iexact G2
    isplitl [G3]
    · iexists _; isplitr; · ipureintro; exact rfl
      iexact G3
    isplitl [G4]
    · iexists _; isplitr; · ipureintro; exact rfl
      iexact G4
    isplitl [G5]
    · iexists _; isplitr; · ipureintro; exact rfl
      iexact G5
    isplitl [G6]
    · iexists _; isplitr; · ipureintro; exact rfl
      iexact G6
    isplitl [G7]
    · iexists _; isplitr; · ipureintro; exact rfl
      iexact G7
    isplitl [G8]
    · iexists _; isplitr; · ipureintro; exact rfl
      iexact G8
    isplitl [G9]
    · iexists _; isplitr; · ipureintro; exact rfl
      iexact G9
    iexists _; isplitr; · ipureintro; exact e10
    iexact G10

/-- The pipeline's body obligation. -/
theorem obligation : (rdat gs hp c B).BodyObligation (defs₀ (F := F)) Variants.none () Set.univ := fun t Y hY => by
  rw [bigSep_W0, bigSep_W0, defs₀_row]
  exact triple_restated (body_at gs hp c B t Y hY) rfl .rfl fun _ => .rfl

end Cert.Kernel.Body

end
-- ==== Proof.Kernel.Host.lean ====
/-
  What the host lines before the kernel leave: the four tables of the schedule, and the three rows of scales reshaped.
-/
module

public import proofs.«01_k».proof.Proof.Gen.Kernel.Launch
public import proofs.«01_k».proof.Proof.Tables.Words
public import Idealize.ShloMosaic.Lib.StableHlo.RunClose

@[expose] public section

set_option maxRecDepth 16384

noncomputable section

namespace Cert.Kernel.Body

open Idealize.ShloMosaic Idealize.SL.Sem Cert.Kernel Cert.Kernel.Gen
open Idealize.ShloMosaic.StableHlo
open Cert.Tables Idealize.ShloMosaic.Routing

variable {F : FTy → Type} [FloatOps F]

/-- The host lines before the kernel, in order. -/
def hostLines : List (List (HloOp τ sig (Elt F))) :=
  [hostOps0, hostOps0_1, hostOps0_2, hostOps0_3, hostOps0_4, hostOps0_5, hostOps0_6, hostOps0_7, hostOps0_8, hostOps0_9, hostOps0_10]

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons o l ih => exact ih _

/-! The lines one stretch at a time, over any contents before them. -/

set_option maxHeartbeats 1000000 in
theorem st0_v2 (X : Valuation τ sig (Elt F)) : StableHlo.after (hostOps0 ++ hostOps0_1 ++ hostOps0_2 : List (HloOp τ sig (Elt F))) X (Proc.devRef .tc main_v2) = sums (X (Proc.devRef .tc main_arg1) : IVec (shape1 8) 32) := by
  simp only [after_app]
  after_results_simp
  rfl

set_option maxHeartbeats 1000000 in
theorem st0_v3 (X : Valuation τ sig (Elt F)) : StableHlo.after (hostOps0 ++ hostOps0_1 ++ hostOps0_2 : List (HloOp τ sig (Elt F))) X (Proc.devRef .tc main_v3) = extractStridedSlice (shape1 8) ![0] (sums (X (Proc.devRef .tc main_arg1) : IVec (shape1 8) 32)) sl0 := by
  simp only [after_app]
  after_results_simp
  rfl

set_option maxHeartbeats 1000000 in
theorem st0_c (X : Valuation τ sig (Elt F)) : StableHlo.after (hostOps0 ++ hostOps0_1 ++ hostOps0_2 : List (HloOp τ sig (Elt F))) X (Proc.devRef .tc main_c_0) = constantI shape0 32 256#32 := by
  simp only [after_app]
  after_results_simp

set_option maxHeartbeats 1000000 in
theorem st0_main_arg1 (X : Valuation τ sig (Elt F)) : StableHlo.after (hostOps0 ++ hostOps0_1 ++ hostOps0_2 : List (HloOp τ sig (Elt F))) X (Proc.devRef .tc main_arg1) = X (Proc.devRef .tc main_arg1) := by
  simp only [after_app]
  after_results_simp

set_option maxHeartbeats 1000000 in
theorem st1_v4 (X : Valuation τ sig (Elt F)) : StableHlo.after (hostOps0_3 : List (HloOp τ sig (Elt F))) X (Proc.devRef .tc main_v4) = pyDiv bc_8 (X (Proc.devRef .tc main_v3) : IVec (shape1 8) 32) (X (Proc.devRef .tc main_c_0) : IVec (shape0) 32) := by
  after_results_simp
  rfl

set_option maxHeartbeats 1000000 in
theorem st1_main_arg1 (X : Valuation τ sig (Elt F)) : StableHlo.after (hostOps0_3 : List (HloOp τ sig (Elt F))) X (Proc.devRef .tc main_arg1) = X (Proc.devRef .tc main_arg1) := by
  after_results_simp

set_option maxHeartbeats 1000000 in
theorem st1_main_v2 (X : Valuation τ sig (Elt F)) : StableHlo.after (hostOps0_3 : List (HloOp τ sig (Elt F))) X (Proc.devRef .tc main_v2) = X (Proc.devRef .tc main_v2) := by
  after_results_simp

set_option maxHeartbeats 1000000 in
theorem st2_v6 (X : Valuation τ sig (Elt F)) : StableHlo.after (hostOps0_4 : List (HloOp τ sig (Elt F))) X (Proc.devRef .tc main_v6) = cmpi .sgt (X (Proc.devRef .tc main_arg1) : IVec (shape1 8) 32) (broadcastInDim (shape1 8) ![] bc_8 (constantI shape0 32 0#32)) := by
  after_results_simp

set_option maxHeartbeats 1000000 in
theorem st2_v9 (X : Valuation τ sig (Elt F)) : StableHlo.after (hostOps0_4 : List (HloOp τ sig (Elt F))) X (Proc.devRef .tc main_v9) = subi (extractStridedSlice (shape1 8) ![1] (X (Proc.devRef .tc main_v2) : IVec (shape1 9) 32) sl1) (broadcastInDim (shape1 8) ![] bc_8 (constantI shape0 32 1#32)) := by
  after_results_simp

set_option maxHeartbeats 1000000 in
theorem st2_c (X : Valuation τ sig (Elt F)) : StableHlo.after (hostOps0_4 : List (HloOp τ sig (Elt F))) X (Proc.devRef .tc main_c_3) = constantI shape0 32 256#32 := by
  after_results_simp

set_option maxHeartbeats 1000000 in
theorem st2_main_v4 (X : Valuation τ sig (Elt F)) : StableHlo.after (hostOps0_4 : List (HloOp τ sig (Elt F))) X (Proc.devRef .tc main_v4) = X (Proc.devRef .tc main_v4) := by
  after_results_simp

set_option maxHeartbeats 1000000 in
theorem st3_v10 (X : Valuation τ sig (Elt F)) : StableHlo.after (hostOps0_5 : List (HloOp τ sig (Elt F))) X (Proc.devRef .tc main_v10) = pyDiv bc_8 (X (Proc.devRef .tc main_v9) : IVec (shape1 8) 32) (X (Proc.devRef .tc main_c_3) : IVec (shape0) 32) := by
  after_results_simp
  rfl

set_option maxHeartbeats 1000000 in
theorem st3_main_v4 (X : Valuation τ sig (Elt F)) : StableHlo.after (hostOps0_5 : List (HloOp τ sig (Elt F))) X (Proc.devRef .tc main_v4) = X (Proc.devRef .tc main_v4) := by
  after_results_simp

set_option maxHeartbeats 1000000 in
theorem st3_main_v6 (X : Valuation τ sig (Elt F)) : StableHlo.after (hostOps0_5 : List (HloOp τ sig (Elt F))) X (Proc.devRef .tc main_v6) = X (Proc.devRef .tc main_v6) := by
  after_results_simp

set_option maxHeartbeats 1000000 in
theorem st4_v14 (X : Valuation τ sig (Elt F)) : StableHlo.after (hostOps0_6 ++ hostOps0_7 : List (HloOp τ sig (Elt F))) X (Proc.devRef .tc main_v14) = select (X (Proc.devRef .tc main_v6) : IVec (shape1 8) 1)
      (addi (subi (X (Proc.devRef .tc main_v10) : IVec (shape1 8) 32) (X (Proc.devRef .tc main_v4) : IVec (shape1 8) 32)) (broadcastInDim (shape1 8) ![] bc_8 (constantI shape0 32 1#32)))
      (broadcastInDim (shape1 8) ![] bc_8 (constantI shape0 32 0#32)) := by
  simp only [after_app]
  after_results_simp
  rfl

set_option maxHeartbeats 1000000 in
theorem st4_main_v4 (X : Valuation τ sig (Elt F)) : StableHlo.after (hostOps0_6 ++ hostOps0_7 : List (HloOp τ sig (Elt F))) X (Proc.devRef .tc main_v4) = X (Proc.devRef .tc main_v4) := by
  simp only [after_app]
  after_results_simp

/-- The first line of the last stretch: the visits before each expert. -/
def lineCum : List (HloOp τ sig (Elt F)) := [StableHlo.binary main_v15 main_v16 main_v17 ((fun a b => concatenate S9 0 [⟨S1, a⟩, ⟨S8, b⟩] concatenates_S1_S8_S9_d0) : (⟨S1, .i32⟩ : BufTy).Contents (Elt F) → (⟨S8, .i32⟩ : BufTy).Contents (Elt F) → (⟨S9, .i32⟩ : BufTy).Contents (Elt F))]

/-- The lines of the last stretch up to the table of experts. -/
def linesVe : List (HloOp τ sig (Elt F)) := (hostOps0_10.drop 1).take 16

/-- The rest of the last stretch. -/
def linesVm : List (HloOp τ sig (Elt F)) := hostOps0_10.drop 17

set_option maxHeartbeats 1000000 in
theorem st5_cum (X : Valuation τ sig (Elt F)) : StableHlo.after (hostOps0_8 ++ hostOps0_9 ++ lineCum : List (HloOp τ sig (Elt F))) X (Proc.devRef .tc main_v17) = sums (X (Proc.devRef .tc main_v14) : IVec (shape1 8) 32) := by
  unfold lineCum
  simp only [after_app]
  after_results_simp
  rfl

set_option maxHeartbeats 1000000 in
theorem st5_main_v4 (X : Valuation τ sig (Elt F)) : StableHlo.after (hostOps0_8 ++ hostOps0_9 ++ lineCum : List (HloOp τ sig (Elt F))) X (Proc.devRef .tc main_v4) = X (Proc.devRef .tc main_v4) := by
  unfold lineCum
  simp only [after_app]
  after_results_simp

set_option maxHeartbeats 1000000 in
theorem st6_total (X : Valuation τ sig (Elt F)) : StableHlo.after (linesVe : List (HloOp τ sig (Elt F))) X (Proc.devRef .tc main_v18) = totalOf (X (Proc.devRef .tc main_v17) : IVec (shape1 9) 32) := by
  simp only [linesVe, hostOps0_10, List.drop_succ_cons, List.drop_zero, List.take_succ_cons, List.take_zero]
  after_results_simp
  rfl

set_option maxHeartbeats 1000000 in
theorem st6_vis (X : Valuation τ sig (Elt F)) : StableHlo.after (linesVe : List (HloOp τ sig (Elt F))) X (Proc.devRef .tc main_v23) = visOf (totalOf (X (Proc.devRef .tc main_v17) : IVec (shape1 9) 32)) := by
  simp only [linesVe, hostOps0_10, List.drop_succ_cons, List.drop_zero, List.take_succ_cons, List.take_zero]
  after_results_simp
  rfl

set_option maxHeartbeats 1000000 in
theorem st6_ve (X : Valuation τ sig (Elt F)) : StableHlo.after (linesVe : List (HloOp τ sig (Elt F))) X (Proc.devRef .tc main_v31) = veOf (X (Proc.devRef .tc main_v17) : IVec (shape1 9) 32) (visOf (totalOf (X (Proc.devRef .tc main_v17) : IVec (shape1 9) 32))) := by
  simp only [linesVe, hostOps0_10, List.drop_succ_cons, List.drop_zero, List.take_succ_cons, List.take_zero]
  after_results_simp
  rfl

set_option maxHeartbeats 1000000 in
theorem st6_main_v4 (X : Valuation τ sig (Elt F)) : StableHlo.after (linesVe : List (HloOp τ sig (Elt F))) X (Proc.devRef .tc main_v4) = X (Proc.devRef .tc main_v4) := by
  simp only [linesVe, hostOps0_10, List.drop_succ_cons, List.drop_zero, List.take_succ_cons, List.take_zero]
  after_results_simp

set_option maxHeartbeats 1000000 in
theorem st6_main_v17 (X : Valuation τ sig (Elt F)) : StableHlo.after (linesVe : List (HloOp τ sig (Elt F))) X (Proc.devRef .tc main_v17) = X (Proc.devRef .tc main_v17) := by
  simp only [linesVe, hostOps0_10, List.drop_succ_cons, List.drop_zero, List.take_succ_cons, List.take_zero]
  after_results_simp

set_option maxHeartbeats 1000000 in
theorem st7_vm (X : Valuation τ sig (Elt F)) : StableHlo.after (linesVm : List (HloOp τ sig (Elt F))) X (Proc.devRef .tc main_v47) = vmOf (X (Proc.devRef .tc main_v4) : IVec (shape1 8) 32) (X (Proc.devRef .tc main_v17) : IVec (shape1 9) 32) (X (Proc.devRef .tc main_v23) : IVec (shape1 43) 32) (X (Proc.devRef .tc main_v31) : IVec (shape1 43) 32) := by
  simp only [linesVm, hostOps0_10, List.drop_succ_cons, List.drop_zero, List.take_succ_cons, List.take_zero]
  after_results_simp
  rfl

set_option maxHeartbeats 1000000 in
theorem st7_main_v31 (X : Valuation τ sig (Elt F)) : StableHlo.after (linesVm : List (HloOp τ sig (Elt F))) X (Proc.devRef .tc main_v31) = X (Proc.devRef .tc main_v31) := by
  simp only [linesVm, hostOps0_10, List.drop_succ_cons, List.drop_zero, List.take_succ_cons, List.take_zero]
  after_results_simp

set_option maxHeartbeats 1000000 in
theorem st7_main_v18 (X : Valuation τ sig (Elt F)) : StableHlo.after (linesVm : List (HloOp τ sig (Elt F))) X (Proc.devRef .tc main_v18) = X (Proc.devRef .tc main_v18) := by
  simp only [linesVm, hostOps0_10, List.drop_succ_cons, List.drop_zero, List.take_succ_cons, List.take_zero]
  after_results_simp

theorem lines_eq : (hostLines (F := F)).flatten = ((hostOps0 ++ hostOps0_1 ++ hostOps0_2) ++ (hostOps0_3 ++ (hostOps0_4 ++ (hostOps0_5 ++ ((hostOps0_6 ++ hostOps0_7) ++ ((hostOps0_8 ++ hostOps0_9 ++ lineCum) ++ (linesVe ++ linesVm))))))) := rfl

set_option maxHeartbeats 1000000 in
/-- Table `main_v2`: the rows before each expert. -/
theorem host_off (X : Valuation τ sig (Elt F)) : StableHlo.after (hostLines (F := F)).flatten X (Proc.devRef .tc main_v2) = Cert.Tables.sums (X (Proc.devRef .tc main_arg1)) := by
  simp only [hostLines, List.flatten_cons, List.flatten_nil, List.cons_append, List.nil_append, List.append_nil]
  after_results_simp
  rfl

/-- The contents after the stretches before the tables. -/
def upTo (X : Valuation τ sig (Elt F)) : Valuation τ sig (Elt F) :=
  StableHlo.after (hostOps0_8 ++ hostOps0_9 ++ lineCum) (StableHlo.after (hostOps0_6 ++ hostOps0_7) (StableHlo.after hostOps0_5 (StableHlo.after hostOps0_4
    (StableHlo.after hostOps0_3 (StableHlo.after (hostOps0 ++ hostOps0_1 ++ hostOps0_2) X)))))

theorem upTo_first (X : Valuation τ sig (Elt F)) : upTo X (Proc.devRef .tc main_v4) = firstT (X (Proc.devRef .tc main_arg1)) := by
  unfold upTo
  rw [st5_main_v4, st4_main_v4, st3_main_v4, st2_main_v4, st1_v4, st0_v3, st0_c]
  rfl

theorem upTo_cum (X : Valuation τ sig (Elt F)) : upTo X (Proc.devRef .tc main_v17) = sums (countT (X (Proc.devRef .tc main_arg1))) := by
  unfold upTo
  rw [st5_cum, st4_v14, st3_v10, st3_main_v4, st3_main_v6, st2_main_v4, st2_v9, st2_c, st2_v6, st1_v4, st1_main_v2, st1_main_arg1,
    st0_v3, st0_c, st0_v2, st0_main_arg1]
  rfl

theorem lines_upTo (X : Valuation τ sig (Elt F)) :
    StableHlo.after (hostLines (F := F)).flatten X = StableHlo.after linesVm (StableHlo.after linesVe (upTo X)) := by
  rw [lines_eq, after_app (hostOps0 ++ hostOps0_1 ++ hostOps0_2), after_app hostOps0_3, after_app hostOps0_4, after_app hostOps0_5, after_app (hostOps0_6 ++ hostOps0_7), after_app (hostOps0_8 ++ hostOps0_9 ++ lineCum), after_app linesVe]
  rfl

/-- Table `main_v18`: the number of visits. -/
theorem host_total (X : Valuation τ sig (Elt F)) : StableHlo.after (hostLines (F := F)).flatten X (Proc.devRef .tc main_v18) = Cert.Tables.totalT (X (Proc.devRef .tc main_arg1)) := by
  rw [lines_upTo, st7_main_v18, st6_total, upTo_cum]
  rfl

/-- Table `main_v31`: each visit's expert. -/
theorem host_ve (X : Valuation τ sig (Elt F)) : StableHlo.after (hostLines (F := F)).flatten X (Proc.devRef .tc main_v31) = Cert.Tables.veT (X (Proc.devRef .tc main_arg1)) := by
  rw [lines_upTo, st7_main_v31, st6_ve, upTo_cum]
  rfl

/-- Table `main_v47`: each visit's tile. -/
theorem host_vm (X : Valuation τ sig (Elt F)) : StableHlo.after (hostLines (F := F)).flatten X (Proc.devRef .tc main_v47) = Cert.Tables.vmT (X (Proc.devRef .tc main_arg1)) := by
  rw [lines_upTo, st7_vm, st6_main_v4, st6_main_v17, st6_vis, st6_ve, upTo_cum, upTo_first]
  rfl

set_option maxHeartbeats 2000000 in
theorem host_c1 (X : Valuation τ sig (Elt F)) : StableHlo.after (hostLines (F := F)).flatten X (Proc.devRef .tc main_v48)
    = (shapeCast S8x1x4096 (X (Proc.devRef .tc main_arg7) : Vec F S8x4096 .f32) shapeCasts_S8x4096_S8x1x4096 : Vec F S8x1x4096 .f32) := by
  simp only [hostLines, List.flatten_cons, List.flatten_nil, List.cons_append, List.nil_append, List.append_nil]
  after_results_simp
  rfl

set_option maxHeartbeats 2000000 in
theorem host_c3 (X : Valuation τ sig (Elt F)) : StableHlo.after (hostLines (F := F)).flatten X (Proc.devRef .tc main_v49)
    = (shapeCast S8x1x4096 (X (Proc.devRef .tc main_arg8) : Vec F S8x4096 .f32) shapeCasts_S8x4096_S8x1x4096 : Vec F S8x1x4096 .f32) := by
  simp only [hostLines, List.flatten_cons, List.flatten_nil, List.cons_append, List.nil_append, List.append_nil]
  after_results_simp
  rfl

set_option maxHeartbeats 2000000 in
theorem host_p2 (X : Valuation τ sig (Elt F)) : StableHlo.after (hostLines (F := F)).flatten X (Proc.devRef .tc main_v50)
    = (shapeCast S8x1x4096 (X (Proc.devRef .tc main_arg9) : Vec F S8x4096 .f32) shapeCasts_S8x4096_S8x1x4096 : Vec F S8x1x4096 .f32) := by
  simp only [hostLines, List.flatten_cons, List.flatten_nil, List.cons_append, List.nil_append, List.append_nil]
  after_results_simp
  rfl

set_option maxHeartbeats 2000000 in
theorem host_arg0 (X : Valuation τ sig (Elt F)) : StableHlo.after (hostLines (F := F)).flatten X (Proc.devRef .tc main_arg0) = X (Proc.devRef .tc main_arg0) := by
  simp only [hostLines, List.flatten_cons, List.flatten_nil, List.cons_append, List.nil_append, List.append_nil]
  after_results_simp

set_option maxHeartbeats 2000000 in
theorem host_arg1 (X : Valuation τ sig (Elt F)) : StableHlo.after (hostLines (F := F)).flatten X (Proc.devRef .tc main_arg1) = X (Proc.devRef .tc main_arg1) := by
  simp only [hostLines, List.flatten_cons, List.flatten_nil, List.cons_append, List.nil_append, List.append_nil]
  after_results_simp

set_option maxHeartbeats 2000000 in
theorem host_arg2 (X : Valuation τ sig (Elt F)) : StableHlo.after (hostLines (F := F)).flatten X (Proc.devRef .tc main_arg2) = X (Proc.devRef .tc main_arg2) := by
  simp only [hostLines, List.flatten_cons, List.flatten_nil, List.cons_append, List.nil_append, List.append_nil]
  after_results_simp

set_option maxHeartbeats 2000000 in
theorem host_arg3 (X : Valuation τ sig (Elt F)) : StableHlo.after (hostLines (F := F)).flatten X (Proc.devRef .tc main_arg3) = X (Proc.devRef .tc main_arg3) := by
  simp only [hostLines, List.flatten_cons, List.flatten_nil, List.cons_append, List.nil_append, List.append_nil]
  after_results_simp

set_option maxHeartbeats 2000000 in
theorem host_arg4 (X : Valuation τ sig (Elt F)) : StableHlo.after (hostLines (F := F)).flatten X (Proc.devRef .tc main_arg4) = X (Proc.devRef .tc main_arg4) := by
  simp only [hostLines, List.flatten_cons, List.flatten_nil, List.cons_append, List.nil_append, List.append_nil]
  after_results_simp

set_option maxHeartbeats 2000000 in
theorem host_arg5 (X : Valuation τ sig (Elt F)) : StableHlo.after (hostLines (F := F)).flatten X (Proc.devRef .tc main_arg5) = X (Proc.devRef .tc main_arg5) := by
  simp only [hostLines, List.flatten_cons, List.flatten_nil, List.cons_append, List.nil_append, List.append_nil]
  after_results_simp

set_option maxHeartbeats 2000000 in
theorem host_arg6 (X : Valuation τ sig (Elt F)) : StableHlo.after (hostLines (F := F)).flatten X (Proc.devRef .tc main_arg6) = X (Proc.devRef .tc main_arg6) := by
  simp only [hostLines, List.flatten_cons, List.flatten_nil, List.cons_append, List.nil_append, List.append_nil]
  after_results_simp

set_option maxHeartbeats 2000000 in
theorem host_arg7 (X : Valuation τ sig (Elt F)) : StableHlo.after (hostLines (F := F)).flatten X (Proc.devRef .tc main_arg7) = X (Proc.devRef .tc main_arg7) := by
  simp only [hostLines, List.flatten_cons, List.flatten_nil, List.cons_append, List.nil_append, List.append_nil]
  after_results_simp

set_option maxHeartbeats 2000000 in
theorem host_arg8 (X : Valuation τ sig (Elt F)) : StableHlo.after (hostLines (F := F)).flatten X (Proc.devRef .tc main_arg8) = X (Proc.devRef .tc main_arg8) := by
  simp only [hostLines, List.flatten_cons, List.flatten_nil, List.cons_append, List.nil_append, List.append_nil]
  after_results_simp

set_option maxHeartbeats 2000000 in
theorem host_arg9 (X : Valuation τ sig (Elt F)) : StableHlo.after (hostLines (F := F)).flatten X (Proc.devRef .tc main_arg9) = X (Proc.devRef .tc main_arg9) := by
  simp only [hostLines, List.flatten_cons, List.flatten_nil, List.cons_append, List.nil_append, List.append_nil]
  after_results_simp

set_option maxHeartbeats 2000000 in
theorem host_arg10 (X : Valuation τ sig (Elt F)) : StableHlo.after (hostLines (F := F)).flatten X (Proc.devRef .tc main_arg10) = X (Proc.devRef .tc main_arg10) := by
  simp only [hostLines, List.flatten_cons, List.flatten_nil, List.cons_append, List.nil_append, List.append_nil]
  after_results_simp

end Cert.Kernel.Body

end
-- ==== Proof.Kernel.Run.lean ====
/- The launch: every run of the program terminates, leaves its arguments and brings every counter back to zero. -/
module

public import proofs.«01_k».proof.Proof.Kernel.Obligation
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

/-- The state a run starts from. -/
abbrev start (m : (ℓ : Loc nD τ sig) → Buf (Elt F) ℓ) (ρ : Dev nD → PrngReg) : MemSt nD τ sig (Elt F) := ⟨m, fun _ => 0, ρ⟩

/-- The group sizes in memory. -/
def gsOf (m : (ℓ : Loc nD τ sig) → Buf (Elt F) ℓ) : IVec (⟨1, ![8]⟩ : Shape) 32 := m (((0 : Dev nD).tc : Thread nD τ).loc main_arg1)

/-- The core's buffers after the host lines. -/
def V (m : (ℓ : Loc nD τ sig) → Buf (Elt F) ℓ) (c : Dev nD) : Bufs (F := F) c :=
  fun b => StableHlo.after (hostLines (F := F)).flatten (fun b => m (c, b)) (Proc.devRef .tc b)

variable (m : (ℓ : Loc nD τ sig) → Buf (Elt F) ℓ) (ρ : Dev nD → PrngReg)

theorem tables_at (c : Dev nD) (k : Fin 4) : V m c (pre0.ref k) = tab (F := F) (gsOf m) k := by
  obtain rfl : c = 0 := Subsingleton.elim _ _
  match k with
  | 0 => exact host_ve _
  | 1 => exact host_vm _
  | 2 => exact host_off _
  | 3 => exact host_total _

theorem lines_sub : (hostLines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

set_option maxHeartbeats 4000000 in
theorem lines_fresh : (hostLines (F := F)).Forall fun ops => ops.Forall fun op => op.fresh = ∅ := by
  simp only [hostLines, List.Forall]
  repeat' constructor

theorem main_lines (c : Dev nD) : main (F := F) c = Pipeline.chain ((hostLines (F := F)).map StableHlo.seq ++ [Prog.lift (.customCall (Pipeline.entry 0) ())]) :=
  main_chain c

variable (hp : offN (sizes (gsOf m)) 8 = 9216)

set_option backward.isDefEq.respectTransparency.types false in
/-- Every run of the program terminates; then every array holds what the proof data allow, every other buffer what the
    host lines left there, and every counter is at zero. -/
theorem run : θ_run defs (onTc (τ := τ) (main (F := F))) (start m ρ) (fun r =>
    RDat.FramePost (cfg0 (adm (F := F) (gsOf m) hp)) (fun c => rdat (gsOf m) hp c (V m c)) (V m) r ∧ r.2.sem = fun _ => 0) :=
  RDat.θ_run_frameP_track (Q' := _) pcfgs (fun _ => adm (F := F) (gsOf m) hp) (0 : Fin 1) launch0 defs₀ Variants.none
    (fun c => rdat (gsOf m) hp c (V m c)) m ρ main
    (hbody := fun c => obligation (gsOf m) hp c (V m c))
    (hshare := fun c w => (rdat (gsOf m) hp c (V m c)).share_full (fun _ => rfl) w)
    (howed := fun _ _ => rfl) (V := V m)
    (hmain := Pipeline.hmainP_prefixes pcfgs 0 defs₀ Variants.none m main hostLines lines_sub lines_fresh main_lines)
    (hA := fun _ _ => rfl) (hpf := fun c k => tables_at m c k)
    (hin := fun c => by
      rw [phi_eq]
      unfold Pipeline.ΦA
      rw [show (Pipeline.scopedRest spec0 c : sProp 𝕄) = _ from scopedRest0_eq c]
      simp only [owns_whole]
      iintro ⟨⟨⟨%f, Hs⟩, Hp⟩, HT⟩
      isplitl [Hs]
      · iexists f
        isplitr
        · ipureintro
          intro t ht
          exact absurd ht (by show ¬ t.val + 1 = 0; omega)
        iexact Hs
      isplitl [Hp]
      · iexact Hp
      iexact HT)
    (hout := fun c => by
      rw [phi_eq]
      unfold Pipeline.ΦA
      rw [show (Pipeline.scopedRest spec0 c : sProp 𝕄) = _ from scopedRest0_eq c]
      simp only [owns_whole]
      iintro ⟨⟨%f, -, Hs⟩, Hp, -⟩
      isplitl [Hs]
      · iexists f
        iexact Hs
      iexact Hp)

/-- What the result's array may hold at the end. -/
def OutAt (c : Dev nD) (G : Vec F S9216x4096 .fp8e4m3) : Prop := (rdat (gsOf m) hp c (V m c)).ArrAt (10 : Fin 11) (cfg0 (adm (F := F) (gsOf m) hp)).N G

section
variable {m hp} {r : PUnit × MemSt nD τ sig (Elt F)}
    (h : RDat.FramePost (cfg0 (adm (F := F) (gsOf m) hp)) (fun c => rdat (gsOf m) hp c (V m c)) (V m) r) (c : Dev nD)
include h

theorem out_of : OutAt m hp c (r.2.mem ((c.tc : Thread nD τ).loc main_v51)) := (h c).1 (10 : Fin 11)

/-- An input's array ends as the host lines left it. -/
theorem in_at (w : Fin 11) (hw : (spec0 w).isOut = false) :
    r.2.mem ((spec0 w).arr.view.loc (c.tc : Thread nD τ)) = V m c (Pipeline.arrRef spec0 w) := by
  have e := (h c).1 w
  rw [RDat.ArrAt_in (rdat (gsOf m) hp c (V m c)) w hw] at e
  exact e

theorem kept_0 : r.2.mem ((c.tc : Thread nD τ).loc main_arg0) = m ((c.tc : Thread nD τ).loc main_arg0) :=
  (in_at h c 2 rfl).trans (host_arg0 _)
theorem kept_1 : r.2.mem ((c.tc : Thread nD τ).loc main_arg1) = m ((c.tc : Thread nD τ).loc main_arg1) :=
  ((h c).2 main_arg1 (Pipeline.mem_restRefs_of main_arg1 (by decide) (show ∀ w : Fin 11, (spec0 w).arr.view.ref ≠ main_arg1 by decide))).trans (host_arg1 _)
theorem kept_2 : r.2.mem ((c.tc : Thread nD τ).loc main_arg2) = m ((c.tc : Thread nD τ).loc main_arg2) :=
  (in_at h c 0 rfl).trans (host_arg2 _)
theorem kept_3 : r.2.mem ((c.tc : Thread nD τ).loc main_arg3) = m ((c.tc : Thread nD τ).loc main_arg3) :=
  (in_at h c 3 rfl).trans (host_arg3 _)
theorem kept_4 : r.2.mem ((c.tc : Thread nD τ).loc main_arg4) = m ((c.tc : Thread nD τ).loc main_arg4) :=
  (in_at h c 4 rfl).trans (host_arg4 _)
theorem kept_5 : r.2.mem ((c.tc : Thread nD τ).loc main_arg5) = m ((c.tc : Thread nD τ).loc main_arg5) :=
  (in_at h c 5 rfl).trans (host_arg5 _)
theorem kept_6 : r.2.mem ((c.tc : Thread nD τ).loc main_arg6) = m ((c.tc : Thread nD τ).loc main_arg6) :=
  (in_at h c 6 rfl).trans (host_arg6 _)
theorem kept_7 : r.2.mem ((c.tc : Thread nD τ).loc main_arg7) = m ((c.tc : Thread nD τ).loc main_arg7) :=
  ((h c).2 main_arg7 (Pipeline.mem_restRefs_of main_arg7 (by decide) (show ∀ w : Fin 11, (spec0 w).arr.view.ref ≠ main_arg7 by decide))).trans (host_arg7 _)
theorem kept_8 : r.2.mem ((c.tc : Thread nD τ).loc main_arg8) = m ((c.tc : Thread nD τ).loc main_arg8) :=
  ((h c).2 main_arg8 (Pipeline.mem_restRefs_of main_arg8 (by decide) (show ∀ w : Fin 11, (spec0 w).arr.view.ref ≠ main_arg8 by decide))).trans (host_arg8 _)
theorem kept_9 : r.2.mem ((c.tc : Thread nD τ).loc main_arg9) = m ((c.tc : Thread nD τ).loc main_arg9) :=
  ((h c).2 main_arg9 (Pipeline.mem_restRefs_of main_arg9 (by decide) (show ∀ w : Fin 11, (spec0 w).arr.view.ref ≠ main_arg9 by decide))).trans (host_arg9 _)
theorem kept_10 : r.2.mem ((c.tc : Thread nD τ).loc main_arg10) = m ((c.tc : Thread nD τ).loc main_arg10) :=
  (in_at h c 1 rfl).trans (host_arg10 _)

end

/-- The result and the arguments at the end of every run. -/
theorem run_ends : θ_run defs (onTc (τ := τ) (main (F := F))) (start m ρ) (fun r => (∀ c : Dev nD,
      OutAt m hp c (r.2.mem ((c.tc : Thread nD τ).loc main_v51))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => ⟨out_of h.1 c, kept_0 h.1 c,
    kept_1 h.1 c,
    kept_2 h.1 c,
    kept_3 h.1 c,
    kept_4 h.1 c,
    kept_5 h.1 c,
    kept_6 h.1 c,
    kept_7 h.1 c,
    kept_8 h.1 c,
    kept_9 h.1 c,
    kept_10 h.1 c⟩, h.2⟩) (run m ρ hp)

end Cert.Kernel.Body

end
-- ==== Proof.KernelIdeal.Spec.lean ====
/- The body's triples for the program over the extended reals. Its body is that of the program over the words, term for
   term, so each triple is the one already proved. -/
module

public import proofs.«01_k».proof.Proof.Gen.KernelIdeal.Launch
public import proofs.«01_k».proof.Proof.Gen.KernelIdeal.Skeleton
public import proofs.«01_k».proof.Proof.Kernel.Spec

@[expose] public section

set_option maxRecDepth 65536
set_option maxHeartbeats 8000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

export Cert.Kernel.Body (ix1 at1 nib slab wscr)

variable {F : FTy → Type} [FloatOps F]

local notation "𝕄" => MT nD τ sig Unit (Elt F) ℕ (UR sig nD τ) ℕ

/-- What a live visit leaves in the output block, from the tile `v8`, its expert's first row `v13` and past-the-end row
    `v18`, the expert's activation scales, the activation block, the scratch and the blocks of the scale rows. -/
def outBlk (v8 v13 v18 : BitVec 32) (s1 s2 : F .f32) (x8 : Vec F S256x6144 .fp8e4m3) (W : Vec F S6144x512 .bf16)
    (x13 x14 x15 : Vec F S1x1x256 .f32) (x16 : Vec F S256x256 .fp8e4m3) : Vec F S256x256 .fp8e4m3 :=
  k0_pay1 (k0_pay174 (F := F) v8 v13 v18) (k0_pay178 x8 W x13 s1) (k0_pay179 x8 W) x14 s1 x15 s2 x16

/-- The two programs have the same body. -/
theorem bodyEq : @Cert.KernelIdeal.cc0_gate_up F _ Cert.KernelIdeal.Gen.facts = @Cert.Kernel.cc0_gate_up F _ Cert.Kernel.Gen.facts := rfl

variable (D : Defs nD τ sig (Elt F) Λ₀) (q : PosShare TreeShare) (i : grid0.Coords) (c : Dev nD)
  (arg2 : Memref sig .tc .smem S43 .i32) (harg2 : arg2.IsWhole)
  (arg3 : Memref sig .tc .smem S43 .i32) (harg3 : arg3.IsWhole)
  (arg4 : Memref sig .tc .smem S9 .i32) (harg4 : arg4.IsWhole)
  (arg5 : Memref sig .tc .smem S1 .i32) (harg5 : arg5.IsWhole)
  (arg6 : Memref sig .tc .smem S8 .f32) (harg6 : arg6.IsWhole)
  (arg7 : Memref sig .tc .smem S8 .f32) (harg7 : arg7.IsWhole)
  (arg8 : Memref sig .tc .vmem S256x6144 .fp8e4m3) (harg8 : arg8.IsWhole)
  (arg9 : Memref sig .tc .vmem S1x3072x256 .i8) (harg9 : arg9.IsWhole)
  (arg10 : Memref sig .tc .vmem S1x3072x256 .i8) (harg10 : arg10.IsWhole)
  (arg11 : Memref sig .tc .vmem S1x48x256 .fp8e4m3) (harg11 : arg11.IsWhole)
  (arg12 : Memref sig .tc .vmem S1x48x256 .fp8e4m3) (harg12 : arg12.IsWhole)
  (arg13 : Memref sig .tc .vmem S1x1x256 .f32) (harg13 : arg13.IsWhole)
  (arg14 : Memref sig .tc .vmem S1x1x256 .f32) (harg14 : arg14.IsWhole)
  (arg15 : Memref sig .tc .vmem S1x1x256 .f32) (harg15 : arg15.IsWhole)
  (arg16 : Memref sig .tc .vmem S256x256 .fp8e4m3) (harg16 : arg16.IsWhole)
  (arg17 : Memref sig .tc .vmem S6144x512 .bf16) (harg17 : arg17.IsWhole)
variable (x2 : Vec F S43 .i32) (x3 : Vec F S43 .i32) (x4 : Vec F S9 .i32) (x5 : Vec F S1 .i32) (x6 : Vec F S8 .f32) (x7 : Vec F S8 .f32) (x8 : Vec F S256x6144 .fp8e4m3) (x9 : Vec F S1x3072x256 .i8) (x10 : Vec F S1x3072x256 .i8) (x11 : Vec F S1x48x256 .fp8e4m3) (x12 : Vec F S1x48x256 .fp8e4m3) (x13 : Vec F S1x1x256 .f32) (x14 : Vec F S1x1x256 .f32) (x15 : Vec F S1x1x256 .f32) (x16 : Vec F S256x256 .fp8e4m3) (x17 : Vec F S6144x512 .bf16)

/-- A live visit that finds its expert's weights in the scratch: it writes the output block and keeps the rest. The triple
    holds for any table `D` of definitions, since the body calls none. -/
theorem keep_spec
    (e : Fin 8) (he : at1 x2 (i 1) = BitVec.ofNat 32 e.val) (hlive : k0_cond1 i (at1 x5 0) = 1#1) (hC : ¬ ((i 1).val = 0 ∨ at1 x2 (Fin.mk ((i 1).val - 1) (by have := (i 1).2; exact Nat.lt_of_le_of_lt (Nat.sub_le _ _) this)) ≠ at1 x2 (i 1))) (E : Set ℕ) (K : PUnit → sProp 𝕄) :
    iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outBlk (at1 x3 (i 1)) (at1 x4 e.castSucc) (at1 x4 e.succ) (at1 x6 e) (at1 x7 e) x8 x17 x13 x14 x15 x16) ∗ owns (c : Thread nD τ) arg17 fullShare x17) -∗ K ⟨⟩))
      ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [show @cc0_gate_up F _ _ = _ from bodyEq]
  exact Cert.Kernel.Body.keep_spec D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 x17 e he hlive hC E K

/-- A live visit that dequantises its expert's weights into the scratch, and writes the output block from them. -/
theorem reload_spec
    (e : Fin 8) (he : at1 x2 (i 1) = BitVec.ofNat 32 e.val) (hlive : k0_cond1 i (at1 x5 0) = 1#1) (hC : (i 1).val = 0 ∨ at1 x2 (Fin.mk ((i 1).val - 1) (by have := (i 1).2; exact Nat.lt_of_le_of_lt (Nat.sub_le _ _) this)) ≠ at1 x2 (i 1)) (E : Set ℕ) (K : PUnit → sProp 𝕄) :
    iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d)
        ∗ (iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outBlk (at1 x3 (i 1)) (at1 x4 e.castSucc) (at1 x4 e.succ) (at1 x6 e) (at1 x7 e) x8 (wscr (k0_pay2 x9) (k0_pay2 x10) (k0_pay3 x11) (k0_pay3 x12)) x13 x14 x15 x16) ∗ owns (c : Thread nD τ) arg17 fullShare (wscr (k0_pay2 x9) (k0_pay2 x10) (k0_pay3 x11) (k0_pay3 x12))) -∗ K ⟨⟩))
      ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [show @cc0_gate_up F _ _ = _ from bodyEq]
  exact Cert.Kernel.Body.reload_spec D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 x10 x11 x12 x13 x14 x15 x16 e he hlive hC E K

/-- A dead visit only looks at the number of visits. -/
theorem skip_spec
    (hdead : ¬ k0_cond1 i (at1 x5 0) = 1#1) (E : Set ℕ) (K : PUnit → sProp 𝕄) :
    iprop(owns (c : Thread nD τ) arg5 q x5 ∗ (owns (c : Thread nD τ) arg5 q x5 -∗ K ⟨⟩))
      ⊢ wp frame (wpE D Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [show @cc0_gate_up F _ _ = _ from bodyEq]
  exact Cert.Kernel.Body.skip_spec D q i c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x5 hdead E K

end Cert.KernelIdeal.Body

end
-- ==== Proof.KernelIdeal.Geom.lean ====
module

public import proofs.«01_k».proof.Proof.KernelIdeal.Spec
public import proofs.«01_k».proof.Proof.Tables.Words
public import proofs.«01_k».proof.Proof.Tables.Pre
set_option maxRecDepth 16384

/-!
# Which block every window reads at a grid point

The four prefetched tables are functions of the group sizes `gs`. With them the index maps have closed
forms: at the point of column block `i 0` and visit `i 1` the activations and the output are at row tile
`mN (i 1)`, the weights and scales at expert `eN (i 1)`. Every block is inside its array.
-/

@[expose] public section

namespace Cert.KernelIdeal.Body
open Cert.KernelIdeal Cert.KernelIdeal.Gen
open Idealize.ShloMosaic Idealize.ShloMosaic.TcCoe
open Cert.Tables

variable {F : FTy → Type} [FloatOps F]

/-- The contents of the prefetched tables: expert per visit, tile per visit, group offsets, number of visits. -/
noncomputable def tab (gs : IVec (⟨1, ![8]⟩ : Shape) 32) : pre0.Contents (Elt F) := fun
  | 0 => veT gs | 1 => vmT gs | 2 => sums gs | 3 => totalT gs
  | ⟨_ + 4, h⟩ => absurd h (Nat.not_lt.2 (Nat.le_add_left _ _))

/-- Coordinate `k` of the one-word rectangle a table is read at. -/
theorem emb_word (i : grid0.Coords) (h1 : S1.numel = 1)
    (h : ∀ a, (![(Scalar.indexCast (BitVec.ofNat 32 (i 1).val) : Index).toNat] : Fin 1 → ℕ) a + S1.size a ≤ S43.size a) :
    (Rect.unit (s := S43) ![(Scalar.indexCast (BitVec.ofNat 32 (i 1).val) : Index).toNat] S1.size h).emb
      (Shape.Idx.first (h1.symm ▸ Nat.one_pos)) = (ix1 (i 1) : (⟨1, ![43]⟩ : Shape).Idx) := by
  funext a
  match a with
  | ⟨0, _⟩ =>
    apply Fin.ext
    have h43 : (i 1).val < 43 := (i 1).isLt
    show (BitVec.ofNat 32 (i 1).val).toNat + 1 * 0 = (i 1).val
    rw [BitVec.toNat_ofNat]
    omega

theorem fits2 {m n : ℕ} (hm : m < 36) {b : ℕ} (k : ℕ) (hn : (n + 1) * b ≤ k) :
    ∀ a, (![m, n] a + 1) * (⟨2, ![256, b]⟩ : Shape).size a ≤ (⟨2, ![9216, k]⟩ : Shape).size a := by
  intro a
  match a with
  | ⟨0, _⟩ => show (m + 1) * 256 ≤ 9216; omega
  | ⟨1, _⟩ => exact hn

theorem fits3 {e n : ℕ} (he : e < 8) (hn : n < 16) (k : ℕ) :
    ∀ a, (![e, 0, n] a + 1) * (⟨3, ![1, k, 256]⟩ : Shape).size a ≤ (⟨3, ![8, k, 4096]⟩ : Shape).size a := by
  intro a
  match a with
  | ⟨0, _⟩ => show (e + 1) * 1 ≤ 8; omega
  | ⟨1, _⟩ => show (0 + 1) * k ≤ k; omega
  | ⟨2, _⟩ => show (n + 1) * 256 ≤ 4096; omega

theorem words2 {m n b k p : ℕ} (hd : p ∣ 256)
    (h : ∀ a, (![m, n] a + 1) * (⟨2, ![256, b]⟩ : Shape).size a ≤ (⟨2, ![9216, k]⟩ : Shape).size a) :
    (Rect.block (s := ⟨2, ![9216, k]⟩) (⟨2, ![256, b]⟩ : Shape).size ![m, n] h).WholeWords p := by
  refine .inl (.inr ⟨le_refl _, rfl, .inl ⟨?_, ?_⟩⟩)
  · show p ∣ m * 256
    exact hd.mul_left m
  · exact hd

theorem words3 {e n k p : ℕ}
    (h : ∀ a, (![e, 0, n] a + 1) * (⟨3, ![1, k, 256]⟩ : Shape).size a ≤ (⟨3, ![8, k, 4096]⟩ : Shape).size a) :
    (Rect.block (s := ⟨3, ![8, k, 4096]⟩) (⟨3, ![1, k, 256]⟩ : Shape).size ![e, 0, n] h).WholeWords p := by
  refine .inr ⟨by show 2 ≤ 3; omega, rfl, ?_, rfl⟩
  show 0 * k = 0
  omega

theorem col_word (i : grid0.Coords) : (BitVec.ofNat 32 (i 0).val).toNat = (i 0).val := by
  have h : (i 0).val < 16 := (i 0).isLt
  rw [BitVec.toNat_ofNat]; omega

variable (gs : IVec (⟨1, ![8]⟩ : Shape) 32) (hp : offN (sizes gs) 8 = 9216)

/-- Expert of visit `v`. -/
abbrev ex (v : ℕ) : ℕ := eN (sizes gs) v
/-- Row tile of visit `v`. -/
abbrev tl (v : ℕ) : ℕ := mN (sizes gs) v

include hp
theorem ve_entry (v : Fin 43) : veT gs (ix1 v) = BitVec.ofNat 32 (ex gs v.val) :=
  veT_ap gs (sizes gs) (sizes_ap gs) hp v
theorem vm_entry (v : Fin 43) : vmT gs (ix1 v) = BitVec.ofNat 32 (tl gs v.val) :=
  vmT_ap gs (sizes gs) (sizes_ap gs) hp v
theorem ex_lt (v : Fin 43) : ex gs v.val < 8 := eN_lt (sizes gs) hp v
theorem tl_lt (v : Fin 43) : tl gs v.val < 36 := mN_lt (sizes gs) hp v

theorem ve_word (i : grid0.Coords) (h1 : S1.numel = 1)
    (h : ∀ a, (![(Scalar.indexCast (BitVec.ofNat 32 (i 1).val) : Index).toNat] : Fin 1 → ℕ) a + S1.size a ≤ S43.size a) :
    ((tab (F := F) gs).at 0 (Rect.unit (s := S43) ![(Scalar.indexCast (BitVec.ofNat 32 (i 1).val) : Index).toNat] S1.size h) h1 : BitVec 32).toNat
      = ex gs (i 1).val := by
  have e := congrArg (veT gs) (emb_word i h1 h)
  have e2 := (e.trans (ve_entry gs hp (i 1)))
  refine (congrArg BitVec.toNat e2).trans ?_
  have := ex_lt gs hp (i 1)
  rw [BitVec.toNat_ofNat]; omega

theorem vm_word (i : grid0.Coords) (h1 : S1.numel = 1)
    (h : ∀ a, (![(Scalar.indexCast (BitVec.ofNat 32 (i 1).val) : Index).toNat] : Fin 1 → ℕ) a + S1.size a ≤ S43.size a) :
    ((tab (F := F) gs).at 1 (Rect.unit (s := S43) ![(Scalar.indexCast (BitVec.ofNat 32 (i 1).val) : Index).toNat] S1.size h) h1 : BitVec 32).toNat
      = tl gs (i 1).val := by
  have e := congrArg (vmT gs) (emb_word i h1 h)
  have e2 := (e.trans (vm_entry gs hp (i 1)))
  refine (congrArg BitVec.toNat e2).trans ?_
  have := tl_lt gs hp (i 1)
  rw [BitVec.toNat_ofNat]; omega

/-- The activations' block index, -/
theorem ixX (i : grid0.Coords) : cc0_transform_2 k0_off1_inb numel1_S1 (tab (F := F) gs) i = ![tl gs (i 1).val, 0] := by
  have e := vm_word (F := F) gs hp i numel1_S1 (k0_off1_inb i)
  exact congrArg (fun x => (![x, 0] : Fin 2 → ℕ)) e
/-- the output's, -/
theorem ixO (i : grid0.Coords) : cc0_transform_10 k0_off1_inb numel1_S1 (tab (F := F) gs) i = ![tl gs (i 1).val, (i 0).val] := by
  have e := vm_word (F := F) gs hp i numel1_S1 (k0_off1_inb i)
  exact congrArg₂ (fun x y => (![x, y] : Fin 2 → ℕ)) e (col_word i)
/-- and those of the weights and scales. -/
theorem ix3w (i : grid0.Coords) : cc0_transform_3 k0_off1_inb numel1_S1 (tab (F := F) gs) i = ![ex gs (i 1).val, 0, (i 0).val] := by
  have e := ve_word (F := F) gs hp i numel1_S1 (k0_off1_inb i)
  exact congrArg₂ (fun x y => (![x, 0, y] : Fin 3 → ℕ)) e (col_word i)
theorem ix4w (i : grid0.Coords) : cc0_transform_4 k0_off1_inb numel1_S1 (tab (F := F) gs) i = ![ex gs (i 1).val, 0, (i 0).val] := ix3w gs hp i
theorem ix5w (i : grid0.Coords) : cc0_transform_5 k0_off1_inb numel1_S1 (tab (F := F) gs) i = ![ex gs (i 1).val, 0, (i 0).val] := ix3w gs hp i
theorem ix6w (i : grid0.Coords) : cc0_transform_6 k0_off1_inb numel1_S1 (tab (F := F) gs) i = ![ex gs (i 1).val, 0, (i 0).val] := ix3w gs hp i
theorem ix7w (i : grid0.Coords) : cc0_transform_7 k0_off1_inb numel1_S1 (tab (F := F) gs) i = ![ex gs (i 1).val, 0, (i 0).val] := ix3w gs hp i
theorem ix8w (i : grid0.Coords) : cc0_transform_8 k0_off1_inb numel1_S1 (tab (F := F) gs) i = ![ex gs (i 1).val, 0, (i 0).val] := ix3w gs hp i
theorem ix9w (i : grid0.Coords) : cc0_transform_9 k0_off1_inb numel1_S1 (tab (F := F) gs) i = ![ex gs (i 1).val, 0, (i 0).val] := ix3w gs hp i

/-- Every block the tables name is inside its array and made of whole words. -/
theorem tab_ok : ok0 (tab (F := F) gs) := by
  have he := fun i : grid0.Coords => ex_lt gs hp (i 1)
  have hm := fun i : grid0.Coords => tl_lt gs hp (i 1)
  have hn : ∀ i : grid0.Coords, (i 0).val < 16 := fun i => (i 0).isLt
  refine ⟨fun i => ?_, fun i => ?_, fun i => ?_, fun i => ?_, fun i => ?_, fun i => ?_, fun i => ?_, fun i => ?_, fun i => ?_⟩
  · rw [ixX gs hp i]; exact ⟨fits2 (hm i) 6144 (by omega), .inr (words2 (by decide) _)⟩
  · rw [ix3w gs hp i]; exact ⟨fits3 (he i) (hn i) 3072, .inr (words3 _)⟩
  · rw [ix4w gs hp i]; exact ⟨fits3 (he i) (hn i) 3072, .inr (words3 _)⟩
  · rw [ix5w gs hp i]; exact ⟨fits3 (he i) (hn i) 48, .inr (words3 _)⟩
  · rw [ix6w gs hp i]; exact ⟨fits3 (he i) (hn i) 48, .inr (words3 _)⟩
  · rw [ix7w gs hp i]; exact ⟨fits3 (he i) (hn i) 1, .inl rfl⟩
  · rw [ix8w gs hp i]; exact ⟨fits3 (he i) (hn i) 1, .inl rfl⟩
  · rw [ix9w gs hp i]; exact ⟨fits3 (he i) (hn i) 1, .inl rfl⟩
  · rw [ixO gs hp i]; exact ⟨fits2 (hm i) 4096 (by have := hn i; omega), .inr (words2 (by decide) _)⟩

/-- The pipeline's tables, as admissible contents. -/
noncomputable def adm : (pcfg0 (F := F)).Adm := ⟨tab gs, tab_ok gs hp⟩

end Cert.KernelIdeal.Body
-- ==== Proof.KernelIdeal.Data.lean ====
/- The pipeline of the kernel: the blocks its windows hold and the data its loop is proved with. -/
module

public import proofs.«01_k».proof.Proof.KernelIdeal.Geom

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

open Idealize.ShloMosaic.ValueIdx (ix2 ix3)

/-- Contents of the core's buffers when the kernel starts. -/
abbrev Bufs (c : Dev nD) := (b : Ref sig .tc) → Buf (Elt F) ((c.tc : Thread nD τ).loc b)

/-- The block of rows `256 m …` of the activations. -/
def xB (x : Vec F S9216x6144 .fp8e4m3) (m : ℕ) : Vec F S256x6144 .fp8e4m3 := fun j => x (ix2 (Fin.ofNat 9216 (m * 256 + (j 0).val)) (j 1))
/-- The block of expert `e`, columns `256 n …`, of a weight array, -/
def wB (w : Vec F S8x3072x4096 .i8) (e n : ℕ) : Vec F S1x3072x256 .i8 := fun j => w (ix3 (Fin.ofNat 8 e) (j 1) (Fin.ofNat 4096 (n * 256 + (j 2).val)))
/-- of an array of block scales -/
def sB (s : Vec F S8x48x4096 .fp8e4m3) (e n : ℕ) : Vec F S1x48x256 .fp8e4m3 := fun j => s (ix3 (Fin.ofNat 8 e) (j 1) (Fin.ofNat 4096 (n * 256 + (j 2).val)))
/-- and of an array of column scales. -/
def cB (s : Vec F S8x1x4096 .f32) (e n : ℕ) : Vec F S1x1x256 .f32 := fun j => s (ix3 (Fin.ofNat 8 e) (j 1) (Fin.ofNat 4096 (n * 256 + (j 2).val)))

section
variable (gs : IVec (⟨1, ![8]⟩ : Shape) 32) (hp : offN (sizes gs) 8 = 9216) (c : Dev nD) (B : Bufs (F := F) c)

/-- The unpacked weights of expert `e`, column block `n`, as the scratch holds them. -/
def scrW (e n : ℕ) : Vec F S6144x512 .bf16 :=
  wscr (k0_pay2 (F := F) (wB (B main_arg3) e n)) (k0_pay2 (F := F) (wB (B main_arg4) e n)) (k0_pay3 (sB (B main_arg5) e n)) (k0_pay3 (sB (B main_arg6) e n))

/-- What visit `v` of column block `n` makes of the output block. -/
def step (v : Fin 43) (n : ℕ) (Y : Vec F S256x256 .fp8e4m3) : Vec F S256x256 .fp8e4m3 :=
  if v.val < cumN (sizes gs) 8 then
    outBlk (at1 (vmT gs) v) (at1 (sums gs) (Fin.ofNat 8 (ex gs v)).castSucc) (at1 (sums gs) (Fin.ofNat 8 (ex gs v)).succ)
      (at1 (B main_arg2) (Fin.ofNat 8 (ex gs v))) (at1 (B main_arg10) (Fin.ofNat 8 (ex gs v))) (xB (B main_arg0) (tl gs v)) (scrW c B (ex gs v) n)
      (cB (B main_v48) (ex gs v) n) (cB (B main_v49) (ex gs v) n) (cB (B main_v50) (ex gs v) n) Y
  else Y

/-- The proof data of the pipeline: inputs stay, the output block takes the visit's step, and after every visit the
    scratch holds the weights of the visit's expert. -/
def rdat : RDat τ (Elt F) Unit ℕ (UR sig nD τ) ℕ (cfg0 (adm (F := F) gs hp)) c where
  A := fun w => B (Pipeline.arrRef spec0 w)
  after := fun
    | 10 => fun t Y X => X = step gs c B (grid0.coords t 1) (grid0.coords t 0).val Y
    | 0 => fun _ Y X => X = Y | 1 => fun _ Y X => X = Y | 2 => fun _ Y X => X = Y | 3 => fun _ Y X => X = Y
    | 4 => fun _ Y X => X = Y | 5 => fun _ Y X => X = Y | 6 => fun _ Y X => X = Y | 7 => fun _ Y X => X = Y
    | 8 => fun _ Y X => X = Y | 9 => fun _ Y X => X = Y
    | ⟨_ + 11, h⟩ => absurd h (Nat.not_lt.2 (Nat.le_add_left _ _))
  Φ := fun s => iprop((∃ d : Vec F S6144x512 .bf16, ⌜∀ t : Fin grid0.N, t.val + 1 = s.val → d = scrW c B (ex gs (grid0.coords t 1)) (grid0.coords t 0).val⌝
    ∗ owns (c : Thread nD τ) (Memref.whole cc0_scratch0) fullShare d) ∗ (∃ r, prngReg c r) ∗ Pipeline.ΦT pre0 (tab (F := F) gs) c)
  q := fun _ => fullShare
  owed := fun _ => 0

theorem blk_2 (t : Fin grid0.N) : (rdat gs hp c B).blockOf 2 t = xB (B main_arg0) (tl gs (grid0.coords t 1)) := by
  refine funext fun (y : S256x6144.Idx) => ?_
  refine congrArg (B main_arg0) ?_
  have e := ixX (F := F) gs hp (grid0.coords t)
  have hm := tl_lt gs hp (grid0.coords t 1)
  funext a
  match a with
  | ⟨0, _⟩ =>
    apply Fin.ext
    have hy : (y 0).val < 256 := (y 0).isLt
    show cc0_transform_2 k0_off1_inb numel1_S1 (tab (F := F) gs) (grid0.coords t) 0 * 256 + 1 * (y 0).val = (tl gs (grid0.coords t 1).val * 256 + (y 0).val) % 9216
    rw [e]
    show tl gs (grid0.coords t 1).val * 256 + 1 * (y 0).val = _
    omega
  | ⟨1, _⟩ =>
    apply Fin.ext
    show cc0_transform_2 k0_off1_inb numel1_S1 (tab (F := F) gs) (grid0.coords t) 1 * 6144 + 1 * (y 1).val = (y 1).val
    rw [e]
    show 0 * 6144 + 1 * (y 1).val = _
    omega

theorem blk_3 (t : Fin grid0.N) : (rdat gs hp c B).blockOf 3 t = wB (B main_arg3) (ex gs (grid0.coords t 1)) (grid0.coords t 0).val := by
  refine funext fun (y : (⟨3, ![1, 3072, 256]⟩ : Shape).Idx) => ?_
  refine congrArg (B main_arg3) ?_
  have e := ix3w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_3 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_3 k0_off1_inb numel1_S1 (tab (F := F) gs) (grid0.coords t) 1 * 3072 + 1 * (y 1).val = (y 1).val
    rw [e]
    show 0 * 3072 + 1 * (y 1).val = _
    omega
  | ⟨2, _⟩ =>
    apply Fin.ext
    have hy : (y 2).val < 256 := (y 2).isLt
    show cc0_transform_3 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_4 (t : Fin grid0.N) : (rdat gs hp c B).blockOf 4 t = wB (B main_arg4) (ex gs (grid0.coords t 1)) (grid0.coords t 0).val := by
  refine funext fun (y : (⟨3, ![1, 3072, 256]⟩ : Shape).Idx) => ?_
  refine congrArg (B main_arg4) ?_
  have e := ix4w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_4 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_4 k0_off1_inb numel1_S1 (tab (F := F) gs) (grid0.coords t) 1 * 3072 + 1 * (y 1).val = (y 1).val
    rw [e]
    show 0 * 3072 + 1 * (y 1).val = _
    omega
  | ⟨2, _⟩ =>
    apply Fin.ext
    have hy : (y 2).val < 256 := (y 2).isLt
    show cc0_transform_4 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_5 (t : Fin grid0.N) : (rdat gs hp c B).blockOf 5 t = sB (B main_arg5) (ex gs (grid0.coords t 1)) (grid0.coords t 0).val := by
  refine funext fun (y : (⟨3, ![1, 48, 256]⟩ : Shape).Idx) => ?_
  refine congrArg (B main_arg5) ?_
  have e := ix5w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_5 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_5 k0_off1_inb numel1_S1 (tab (F := F) gs) (grid0.coords t) 1 * 48 + 1 * (y 1).val = (y 1).val
    rw [e]
    show 0 * 48 + 1 * (y 1).val = _
    omega
  | ⟨2, _⟩ =>
    apply Fin.ext
    have hy : (y 2).val < 256 := (y 2).isLt
    show cc0_transform_5 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_6 (t : Fin grid0.N) : (rdat gs hp c B).blockOf 6 t = sB (B main_arg6) (ex gs (grid0.coords t 1)) (grid0.coords t 0).val := by
  refine funext fun (y : (⟨3, ![1, 48, 256]⟩ : Shape).Idx) => ?_
  refine congrArg (B main_arg6) ?_
  have e := ix6w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_6 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_6 k0_off1_inb numel1_S1 (tab (F := F) gs) (grid0.coords t) 1 * 48 + 1 * (y 1).val = (y 1).val
    rw [e]
    show 0 * 48 + 1 * (y 1).val = _
    omega
  | ⟨2, _⟩ =>
    apply Fin.ext
    have hy : (y 2).val < 256 := (y 2).isLt
    show cc0_transform_6 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_7 (t : Fin grid0.N) : (rdat gs hp c B).blockOf 7 t = cB (B main_v48) (ex gs (grid0.coords t 1)) (grid0.coords t 0).val := by
  refine funext fun (y : (⟨3, ![1, 1, 256]⟩ : Shape).Idx) => ?_
  refine congrArg (B main_v48) ?_
  have e := ix7w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_7 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_7 k0_off1_inb numel1_S1 (tab (F := F) gs) (grid0.coords t) 1 * 1 + 1 * (y 1).val = (y 1).val
    rw [e]
    show 0 * 1 + 1 * (y 1).val = _
    omega
  | ⟨2, _⟩ =>
    apply Fin.ext
    have hy : (y 2).val < 256 := (y 2).isLt
    show cc0_transform_7 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_8 (t : Fin grid0.N) : (rdat gs hp c B).blockOf 8 t = cB (B main_v49) (ex gs (grid0.coords t 1)) (grid0.coords t 0).val := by
  refine funext fun (y : (⟨3, ![1, 1, 256]⟩ : Shape).Idx) => ?_
  refine congrArg (B main_v49) ?_
  have e := ix8w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_8 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_8 k0_off1_inb numel1_S1 (tab (F := F) gs) (grid0.coords t) 1 * 1 + 1 * (y 1).val = (y 1).val
    rw [e]
    show 0 * 1 + 1 * (y 1).val = _
    omega
  | ⟨2, _⟩ =>
    apply Fin.ext
    have hy : (y 2).val < 256 := (y 2).isLt
    show cc0_transform_8 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

theorem blk_9 (t : Fin grid0.N) : (rdat gs hp c B).blockOf 9 t = cB (B main_v50) (ex gs (grid0.coords t 1)) (grid0.coords t 0).val := by
  refine funext fun (y : (⟨3, ![1, 1, 256]⟩ : Shape).Idx) => ?_
  refine congrArg (B main_v50) ?_
  have e := ix9w (F := F) gs hp (grid0.coords t)
  have hm := ex_lt gs hp (grid0.coords t 1)
  have hn : (grid0.coords t 0).val < 16 := (grid0.coords t 0).isLt
  funext a
  match a with
  | ⟨0, _⟩ =>
    apply Fin.ext
    have hy : (y 0).val < 1 := (y 0).isLt
    show cc0_transform_9 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_9 k0_off1_inb numel1_S1 (tab (F := F) gs) (grid0.coords t) 1 * 1 + 1 * (y 1).val = (y 1).val
    rw [e]
    show 0 * 1 + 1 * (y 1).val = _
    omega
  | ⟨2, _⟩ =>
    apply Fin.ext
    have hy : (y 2).val < 256 := (y 2).isLt
    show cc0_transform_9 k0_off1_inb numel1_S1 (tab (F := F) gs) (grid0.coords t) 2 * 256 + 1 * (y 2).val = ((grid0.coords t 0).val * 256 + (y 2).val) % 4096
    rw [e]
    show (grid0.coords t 0).val * 256 + 1 * (y 2).val = _
    omega

/-- What the body finds in an input window is the block the point names. -/
theorem found (w : Fin 11) (hw : (spec0 w).isOut = false)
    (hk : ∀ (t : Fin grid0.N) (Y X : (spec0 w).block.Idx → Elt F (spec0 w).elt), (rdat gs hp c B).after w t Y X → X = Y)
    (t : Fin grid0.N) (Y : (spec0 w).block.Idx → Elt F (spec0 w).elt)
    (h : (rdat gs hp c B).Finds w t Y) : Y = (rdat gs hp c B).blockOf w t := by
  obtain ⟨d, hd⟩ := RDat.finds_in_eq_fetched (rdat gs hp c B) w hw (fun _ _ _ => rfl) hk t Y h
  rw [hd]
  funext j
  exact Window.fill_xinj ((cfg0 (adm (F := F) gs hp)).win w) (grid0.coords t) d _ j

end

end Cert.KernelIdeal.Body

end
-- ==== Proof.KernelIdeal.Obligation.lean ====
/- The body at every grid point: the loop of the kernel keeps its invariant. -/
module

public import proofs.«01_k».proof.Proof.KernelIdeal.Data

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

variable (gs : IVec (⟨1, ![8]⟩ : Shape) 32) (hp : offN (sizes gs) 8 = 9216) (c : Dev nD) (B : Bufs (F := F) c)

theorem blk_0 (t : Fin grid0.N) : (rdat gs hp c B).blockOf 0 t = B main_arg2 := by
  refine funext fun (y : S8.Idx) => ?_
  refine congrArg (B main_arg2) ?_
  funext a
  match a with
  | ⟨0, _⟩ =>
    apply Fin.ext
    show 0 * 8 + 1 * (y 0).val = (y 0).val
    omega

theorem blk_1 (t : Fin grid0.N) : (rdat gs hp c B).blockOf 1 t = B main_arg10 := by
  refine funext fun (y : S8.Idx) => ?_
  refine congrArg (B main_arg10) ?_
  funext a
  match a with
  | ⟨0, _⟩ =>
    apply Fin.ext
    show 0 * 8 + 1 * (y 0).val = (y 0).val
    omega

/-- Coordinates of a grid point: column block `t / 43`, visit `t % 43`. -/
theorem coord_one : ∀ t : Fin grid0.N, (grid0.coords t 1).val = t.val % 43 := by decide +kernel
theorem coord_zero : ∀ t : Fin grid0.N, (grid0.coords t 0).val = t.val / 43 := by decide +kernel

/-- The tables, one by one. -/
theorem tables : (Pipeline.ΦT pre0 (tab (F := F) gs) c : sProp 𝕄) ⊣⊢ iprop(owns (c : Thread nD τ) (Memref.whole main_v31) fullShare.right (veT gs) ∗ owns (c : Thread nD τ) (Memref.whole main_v47) fullShare.right (vmT gs) ∗ owns (c : Thread nD τ) (Memref.whole main_v2) fullShare.right (sums gs) ∗ owns (c : Thread nD τ) (Memref.whole main_v18) fullShare.right (totalT gs)) := by
  rw [show (Pipeline.ΦT pre0 (tab (F := F) gs) c : sProp 𝕄) = _ from bigSep_univ_eq_bigSepL [(0 : Fin 4), (1 : Fin 4), (2 : Fin 4), (3 : Fin 4)] (by decide) (by decide) _]
  rw [owns_whole, owns_whole, owns_whole, owns_whole]
  exact .rfl

/-- Entry `k` of a table, through either spelling of a one-coordinate index. -/
theorem at1_eq {n : ℕ} {α : Type} (x : (⟨1, ![n]⟩ : Shape).Idx → α) (k : Fin n) : at1 x k = x (Idealize.ShloMosaic.ValueIdx.ix1 k) := by
  unfold at1
  refine congrArg x ?_
  funext a
  match a with
  | ⟨0, _⟩ => rfl

include hp in
/-- A visit is live when it is below the number of visits. -/
theorem live_iff (i : grid0.Coords) : k0_cond1 i (at1 (totalT gs) 0) = 1#1 ↔ (i 1).val < cumN (sizes gs) 8 := by
  have h : (i 1).val < 43 := (i 1).2
  have hc := cumN_bound (sizes gs) hp
  rw [at1_eq, totalT_ap gs (sizes gs) (sizes_ap gs) hp]
  unfold k0_cond1
  generalize hk : cumN (sizes gs) 8 = k at *
  generalize hv : (i 1).val = v at *
  have key : ∀ v < 43, ∀ k ≤ 43, (Scalar.cmpi .ne (Scalar.extui (Scalar.cmpi .slt (BitVec.ofNat 32 v) (BitVec.ofNat 32 k)) : BitVec 32) 0#32 = 1#1 ↔ v < k) := by decide +kernel
  exact key v h k hc

include hp in
theorem ve_at (v : Fin 43) : at1 (veT gs) v = BitVec.ofNat 32 (Fin.ofNat 8 (ex gs v.val)).val := by
  rw [at1_eq, veT_ap gs (sizes gs) (sizes_ap gs) hp]
  refine congrArg _ ?_
  have := ex_lt gs hp v
  show ex gs v.val = ex gs v.val % 8
  omega

include hp in
/-- Two visits with one table entry are of one expert. -/
theorem ex_of_entry {v w : Fin 43} (h : at1 (veT gs) v = at1 (veT gs) w) : ex gs v.val = ex gs w.val := by
  rw [ve_at gs hp, ve_at gs hp] at h
  have h1 := ex_lt gs hp v
  have h2 := ex_lt gs hp w
  have := congrArg BitVec.toNat h
  rw [BitVec.toNat_ofNat, BitVec.toNat_ofNat] at this
  have e1 : (Fin.ofNat 8 (ex gs v.val)).val = ex gs v.val % 8 := rfl
  have e2 : (Fin.ofNat 8 (ex gs w.val)).val = ex gs w.val % 8 := rfl
  omega

/-- The scratch after a visit that does not reload is the visit's expert's. -/
theorem scr_keep (t : Fin grid0.N) (d : Vec F S6144x512 .bf16)
    (hd : ∀ u : Fin grid0.N, u.val + 1 = t.castSucc.val → d = scrW c B (ex gs (grid0.coords u 1)) (grid0.coords u 0).val)
    (h0 : (grid0.coords t 1).val ≠ 0)
    (he : ex gs ((grid0.coords t 1).val - 1) = ex gs (grid0.coords t 1)) :
    ∀ u : Fin grid0.N, u.val + 1 = t.succ.val → d = scrW c B (ex gs (grid0.coords u 1)) (grid0.coords u 0).val := by
  intro u hu
  have hut : u = t := Fin.ext (by have := Fin.val_succ t; omega)
  subst hut
  have hN := N_0
  have ht := u.isLt
  rw [coord_one] at h0
  obtain ⟨p, hpv⟩ : ∃ p : Fin grid0.N, p.val + 1 = u.val := ⟨⟨u.val - 1, by omega⟩, by show u.val - 1 + 1 = u.val; omega⟩
  have h1 := hd p (by rw [Fin.val_castSucc]; exact hpv)
  have e1 : (grid0.coords p 1).val = (grid0.coords u 1).val - 1 := by rw [coord_one, coord_one]; omega
  have e0 : (grid0.coords p 0).val = (grid0.coords u 0).val := by rw [coord_zero, coord_zero]; omega
  rw [h1, e1, e0, he]

theorem scr_new (t : Fin grid0.N) :
    ∀ u : Fin grid0.N, u.val + 1 = t.succ.val → scrW c B (ex gs (grid0.coords t 1)) (grid0.coords t 0).val = scrW c B (ex gs (grid0.coords u 1)) (grid0.coords u 0).val := by
  intro u hu
  have : u = t := Fin.ext (by have := Fin.val_succ t; omega)
  rw [this]

/-- The invariant, spelled out. -/
theorem phi_eq (s : Fin (grid0.N + 1)) : (rdat gs hp c B).Φ s = iprop((∃ d : Vec F S6144x512 .bf16, ⌜∀ t : Fin grid0.N, t.val + 1 = s.val → d = scrW c B (ex gs (grid0.coords t 1)) (grid0.coords t 0).val⌝
    ∗ owns (c : Thread nD τ) (Memref.whole cc0_scratch0) fullShare d) ∗ (∃ r, prngReg c r) ∗ Pipeline.ΦT pre0 (tab (F := F) gs) c) := rfl

/-- The body as the loop calls it at point `t`. -/
def bodyAt (t : Fin grid0.N) : Prog (TpuEff nD τ sig (Elt F) Λ₀ .tc) PUnit := cc0_gate_up (grid0.coords t) (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (spec0_6.stage ((cfg0 (adm (F := F) gs hp)).slots t 6)) (hstage0_6 (((cfg0 (adm (F := F) gs hp)).slots t 6).cast nbuf0_6)) (spec0_7.stage ((cfg0 (adm (F := F) gs hp)).slots t 7)) (hstage0_7 (((cfg0 (adm (F := F) gs hp)).slots t 7).cast nbuf0_7)) (spec0_8.stage ((cfg0 (adm (F := F) gs hp)).slots t 8)) (hstage0_8 (((cfg0 (adm (F := F) gs hp)).slots t 8).cast nbuf0_8)) (spec0_9.stage ((cfg0 (adm (F := F) gs hp)).slots t 9)) (hstage0_9 (((cfg0 (adm (F := F) gs hp)).slots t 9).cast nbuf0_9)) (spec0_10.stage ((cfg0 (adm (F := F) gs hp)).slots t 10)) (hstage0_10 (((cfg0 (adm (F := F) gs hp)).slots t 10).cast nbuf0_10)) (Memref.whole cc0_scratch0) (Memref.isWhole_whole _)

theorem defs₀_row (t : Fin grid0.N) : defs₀ (F := F) .tc (cfg0 (adm (F := F) gs hp)).body ((cfg0 (adm (F := F) gs hp)).bodyArgs t ((cfg0 (adm (F := F) gs hp)).slots t)) = bodyAt gs hp t := by
  unfold defs₀; rw [Defs.onTc_tc]; rfl

set_option maxHeartbeats 4000000 in
/-- The body at every point, from what its windows may hold. -/
theorem body_at (t : Fin grid0.N) (Y : (w : Fin 11) → (spec0 w).block.Idx → Elt F (spec0 w).elt) (hY : ∀ w, (rdat gs hp c B).Finds w t (Y w)) :
    iprop((rdat gs hp c B).Φ t.castSucc ∗ (rdat gs hp c B).owesAt () t.castSucc ∗ owns (c : Thread nD τ) (spec0_0.stage ((cfg0 (adm (F := F) gs hp)).slots t 0)) fullShare (Y 0) ∗ owns (c : Thread nD τ) (spec0_1.stage ((cfg0 (adm (F := F) gs hp)).slots t 1)) fullShare (Y 1) ∗ owns (c : Thread nD τ) (spec0_2.stage ((cfg0 (adm (F := F) gs hp)).slots t 2)) fullShare (Y 2) ∗ owns (c : Thread nD τ) (spec0_3.stage ((cfg0 (adm (F := F) gs hp)).slots t 3)) fullShare (Y 3) ∗ owns (c : Thread nD τ) (spec0_4.stage ((cfg0 (adm (F := F) gs hp)).slots t 4)) fullShare (Y 4) ∗ owns (c : Thread nD τ) (spec0_5.stage ((cfg0 (adm (F := F) gs hp)).slots t 5)) fullShare (Y 5) ∗ owns (c : Thread nD τ) (spec0_6.stage ((cfg0 (adm (F := F) gs hp)).slots t 6)) fullShare (Y 6) ∗ owns (c : Thread nD τ) (spec0_7.stage ((cfg0 (adm (F := F) gs hp)).slots t 7)) fullShare (Y 7) ∗ owns (c : Thread nD τ) (spec0_8.stage ((cfg0 (adm (F := F) gs hp)).slots t 8)) fullShare (Y 8) ∗ owns (c : Thread nD τ) (spec0_9.stage ((cfg0 (adm (F := F) gs hp)).slots t 9)) fullShare (Y 9) ∗ owns (c : Thread nD τ) (spec0_10.stage ((cfg0 (adm (F := F) gs hp)).slots t 10)) fullShare (Y 10))
      ⊢ wp frame (wpE (defs₀ (F := F)) Variants.none c none) Set.univ (bodyAt gs hp t) fun _ =>
        iprop((rdat gs hp c B).Φ t.succ ∗ (rdat gs hp c B).owesAt () t.succ ∗ (∃ X, ⌜(rdat gs hp c B).after 0 t (Y 0) X⌝ ∗ owns (c : Thread nD τ) (spec0_0.stage ((cfg0 (adm (F := F) gs hp)).slots t 0)) fullShare X) ∗ (∃ X, ⌜(rdat gs hp c B).after 1 t (Y 1) X⌝ ∗ owns (c : Thread nD τ) (spec0_1.stage ((cfg0 (adm (F := F) gs hp)).slots t 1)) fullShare X) ∗ (∃ X, ⌜(rdat gs hp c B).after 2 t (Y 2) X⌝ ∗ owns (c : Thread nD τ) (spec0_2.stage ((cfg0 (adm (F := F) gs hp)).slots t 2)) fullShare X) ∗ (∃ X, ⌜(rdat gs hp c B).after 3 t (Y 3) X⌝ ∗ owns (c : Thread nD τ) (spec0_3.stage ((cfg0 (adm (F := F) gs hp)).slots t 3)) fullShare X) ∗ (∃ X, ⌜(rdat gs hp c B).after 4 t (Y 4) X⌝ ∗ owns (c : Thread nD τ) (spec0_4.stage ((cfg0 (adm (F := F) gs hp)).slots t 4)) fullShare X) ∗ (∃ X, ⌜(rdat gs hp c B).after 5 t (Y 5) X⌝ ∗ owns (c : Thread nD τ) (spec0_5.stage ((cfg0 (adm (F := F) gs hp)).slots t 5)) fullShare X) ∗ (∃ X, ⌜(rdat gs hp c B).after 6 t (Y 6) X⌝ ∗ owns (c : Thread nD τ) (spec0_6.stage ((cfg0 (adm (F := F) gs hp)).slots t 6)) fullShare X) ∗ (∃ X, ⌜(rdat gs hp c B).after 7 t (Y 7) X⌝ ∗ owns (c : Thread nD τ) (spec0_7.stage ((cfg0 (adm (F := F) gs hp)).slots t 7)) fullShare X) ∗ (∃ X, ⌜(rdat gs hp c B).after 8 t (Y 8) X⌝ ∗ owns (c : Thread nD τ) (spec0_8.stage ((cfg0 (adm (F := F) gs hp)).slots t 8)) fullShare X) ∗ (∃ X, ⌜(rdat gs hp c B).after 9 t (Y 9) X⌝ ∗ owns (c : Thread nD τ) (spec0_9.stage ((cfg0 (adm (F := F) gs hp)).slots t 9)) fullShare X) ∗ (∃ X, ⌜(rdat gs hp c B).after 10 t (Y 10) X⌝ ∗ owns (c : Thread nD τ) (spec0_10.stage ((cfg0 (adm (F := F) gs hp)).slots t 10)) fullShare X)) := by
  have y0 : Y 0 = B main_arg2 := (found gs hp c B 0 rfl (fun _ _ _ h => h) t (Y 0) (hY 0)).trans (blk_0 gs hp c B t)
  have y1 : Y 1 = B main_arg10 := (found gs hp c B 1 rfl (fun _ _ _ h => h) t (Y 1) (hY 1)).trans (blk_1 gs hp c B t)
  have y2 : Y 2 = xB (B main_arg0) (tl gs (grid0.coords t 1)) := (found gs hp c B 2 rfl (fun _ _ _ h => h) t (Y 2) (hY 2)).trans (blk_2 gs hp c B t)
  have y3 : Y 3 = wB (B main_arg3) (ex gs (grid0.coords t 1)) (grid0.coords t 0).val := (found gs hp c B 3 rfl (fun _ _ _ h => h) t (Y 3) (hY 3)).trans (blk_3 gs hp c B t)
  have y4 : Y 4 = wB (B main_arg4) (ex gs (grid0.coords t 1)) (grid0.coords t 0).val := (found gs hp c B 4 rfl (fun _ _ _ h => h) t (Y 4) (hY 4)).trans (blk_4 gs hp c B t)
  have y5 : Y 5 = sB (B main_arg5) (ex gs (grid0.coords t 1)) (grid0.coords t 0).val := (found gs hp c B 5 rfl (fun _ _ _ h => h) t (Y 5) (hY 5)).trans (blk_5 gs hp c B t)
  have y6 : Y 6 = sB (B main_arg6) (ex gs (grid0.coords t 1)) (grid0.coords t 0).val := (found gs hp c B 6 rfl (fun _ _ _ h => h) t (Y 6) (hY 6)).trans (blk_6 gs hp c B t)
  have y7 : Y 7 = cB (B main_v48) (ex gs (grid0.coords t 1)) (grid0.coords t 0).val := (found gs hp c B 7 rfl (fun _ _ _ h => h) t (Y 7) (hY 7)).trans (blk_7 gs hp c B t)
  have y8 : Y 8 = cB (B main_v49) (ex gs (grid0.coords t 1)) (grid0.coords t 0).val := (found gs hp c B 8 rfl (fun _ _ _ h => h) t (Y 8) (hY 8)).trans (blk_8 gs hp c B t)
  have y9 : Y 9 = cB (B main_v50) (ex gs (grid0.coords t 1)) (grid0.coords t 0).val := (found gs hp c B 9 rfl (fun _ _ _ h => h) t (Y 9) (hY 9)).trans (blk_9 gs hp c B t)
  unfold bodyAt
  rw [phi_eq, phi_eq]
  iintro ⟨⟨⟨%d, %hd, Gs⟩, Hp, HT⟩, Ho, G0, G1, G2, G3, G4, G5, G6, G7, G8, G9, G10⟩
  ihave HT' := (tables gs c).1 $$ HT
  icases HT' with ⟨T2, T3, T4, T5⟩
  by_cases hl : (grid0.coords t 1).val < cumN (sizes gs) 8
  · have hlive := (live_iff gs hp (grid0.coords t)).2 hl
    have e10 : ∀ W, W = scrW c B (ex gs (grid0.coords t 1)) (grid0.coords t 0).val →
        outBlk (at1 (vmT gs) (grid0.coords t 1)) (at1 (sums gs) (Fin.ofNat 8 (ex gs (grid0.coords t 1))).castSucc) (at1 (sums gs) (Fin.ofNat 8 (ex gs (grid0.coords t 1))).succ)
          (at1 (Y 0) (Fin.ofNat 8 (ex gs (grid0.coords t 1)))) (at1 (Y 1) (Fin.ofNat 8 (ex gs (grid0.coords t 1)))) (Y 2) W (Y 7) (Y 8) (Y 9) (Y 10)
          = step gs c B (grid0.coords t 1) (grid0.coords t 0).val (Y 10) := by
      intro W hW
      unfold step
      rw [if_pos hl, hW, y0, y1, y2, y7, y8, y9]
    by_cases hC : (grid0.coords t 1).val = 0 ∨ at1 (veT gs) (Fin.mk ((grid0.coords t 1).val - 1) (by have := (grid0.coords t 1).2; exact Nat.lt_of_le_of_lt (Nat.sub_le _ _) this)) ≠ at1 (veT gs) (grid0.coords t 1)
    · have eW : wscr (k0_pay2 (F := F) (Y 3)) (k0_pay2 (F := F) (Y 4)) (k0_pay3 (Y 5)) (k0_pay3 (Y 6)) = scrW c B (ex gs (grid0.coords t 1)) (grid0.coords t 0).val := by
        rw [y3, y4, y5, y6]; rfl
      iapply (reload_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (spec0_6.stage ((cfg0 (adm (F := F) gs hp)).slots t 6)) (hstage0_6 (((cfg0 (adm (F := F) gs hp)).slots t 6).cast nbuf0_6)) (spec0_7.stage ((cfg0 (adm (F := F) gs hp)).slots t 7)) (hstage0_7 (((cfg0 (adm (F := F) gs hp)).slots t 7).cast nbuf0_7)) (spec0_8.stage ((cfg0 (adm (F := F) gs hp)).slots t 8)) (hstage0_8 (((cfg0 (adm (F := F) gs hp)).slots t 8).cast nbuf0_8)) (spec0_9.stage ((cfg0 (adm (F := F) gs hp)).slots t 9)) (hstage0_9 (((cfg0 (adm (F := F) gs hp)).slots t 9).cast nbuf0_9)) (spec0_10.stage ((cfg0 (adm (F := F) gs hp)).slots t 10)) (hstage0_10 (((cfg0 (adm (F := F) gs hp)).slots t 10).cast nbuf0_10)) (Memref.whole cc0_scratch0) (Memref.isWhole_whole _) (veT gs) (vmT gs) (sums gs) (totalT gs) (Y 0) (Y 1) (Y 2) (Y 3) (Y 4) (Y 5) (Y 6) (Y 7) (Y 8) (Y 9) (Y 10) (Fin.ofNat 8 (ex gs (grid0.coords t 1))) (ve_at gs hp _) hlive hC Set.univ _)
      isplitl [T2]; · iexact T2
      isplitl [T3]; · iexact T3
      isplitl [T4]; · iexact T4
      isplitl [T5]; · iexact T5
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [Gs]; · iexists _; iexact Gs
      iintro ⟨T2, T3, T4, T5, G0, G1, G2, G3, G4, G5, G6, G7, G8, G9, G10, Gs⟩
      isplitl [Gs Hp T2 T3 T4 T5]
      · isplitl [Gs]
        · iexists _; isplitr
          rotate_left
          · iexact Gs
          · ipureintro; exact (fun u hu => eW.trans (scr_new gs c B t u hu))
        isplitl [Hp]
        · iexact Hp
        iapply (tables gs c).2
        isplitl [T2]; · iexact T2
        isplitl [T3]; · iexact T3
        isplitl [T4]; · iexact T4
        iexact T5
      isplitl [Ho]; · iexact Ho
      isplitl [G0]
      · iexists _; isplitr; · ipureintro; exact rfl
        iexact G0
      isplitl [G1]
      · iexists _; isplitr; · ipureintro; exact rfl
        iexact G1
      isplitl [G2]
      · iexists _; isplitr; · ipureintro; exact rfl
        iexact G2
      isplitl [G3]
      · iexists _; isplitr; · ipureintro; exact rfl
        iexact G3
      isplitl [G4]
      · iexists _; isplitr; · ipureintro; exact rfl
        iexact G4
      isplitl [G5]
      · iexists _; isplitr; · ipureintro; exact rfl
        iexact G5
      isplitl [G6]
      · iexists _; isplitr; · ipureintro; exact rfl
        iexact G6
      isplitl [G7]
      · iexists _; isplitr; · ipureintro; exact rfl
        iexact G7
      isplitl [G8]
      · iexists _; isplitr; · ipureintro; exact rfl
        iexact G8
      isplitl [G9]
      · iexists _; isplitr; · ipureintro; exact rfl
        iexact G9
      iexists _; isplitr; · ipureintro; exact e10 _ eW
      iexact G10
    · have h0 : (grid0.coords t 1).val ≠ 0 := fun h => hC (.inl h)
      have he : ex gs ((grid0.coords t 1).val - 1) = ex gs (grid0.coords t 1) :=
        ex_of_entry gs hp (v := Fin.mk ((grid0.coords t 1).val - 1) (by have := (grid0.coords t 1).2; exact Nat.lt_of_le_of_lt (Nat.sub_le _ _) this)) (not_ne_iff.1 fun h => hC (.inr h))
      have hk := scr_keep gs c B t d hd h0 he
      have eW := hk t rfl
      iapply (keep_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (spec0_6.stage ((cfg0 (adm (F := F) gs hp)).slots t 6)) (hstage0_6 (((cfg0 (adm (F := F) gs hp)).slots t 6).cast nbuf0_6)) (spec0_7.stage ((cfg0 (adm (F := F) gs hp)).slots t 7)) (hstage0_7 (((cfg0 (adm (F := F) gs hp)).slots t 7).cast nbuf0_7)) (spec0_8.stage ((cfg0 (adm (F := F) gs hp)).slots t 8)) (hstage0_8 (((cfg0 (adm (F := F) gs hp)).slots t 8).cast nbuf0_8)) (spec0_9.stage ((cfg0 (adm (F := F) gs hp)).slots t 9)) (hstage0_9 (((cfg0 (adm (F := F) gs hp)).slots t 9).cast nbuf0_9)) (spec0_10.stage ((cfg0 (adm (F := F) gs hp)).slots t 10)) (hstage0_10 (((cfg0 (adm (F := F) gs hp)).slots t 10).cast nbuf0_10)) (Memref.whole cc0_scratch0) (Memref.isWhole_whole _) (veT gs) (vmT gs) (sums gs) (totalT gs) (Y 0) (Y 1) (Y 2) (Y 3) (Y 4) (Y 5) (Y 6) (Y 7) (Y 8) (Y 9) (Y 10) d (Fin.ofNat 8 (ex gs (grid0.coords t 1))) (ve_at gs hp _) hlive hC Set.univ _)
      isplitl [T2]; · iexact T2
      isplitl [T3]; · iexact T3
      isplitl [T4]; · iexact T4
      isplitl [T5]; · iexact T5
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [Gs]; · iexact Gs
      iintro ⟨T2, T3, T4, T5, G0, G1, G2, G3, G4, G5, G6, G7, G8, G9, G10, Gs⟩
      isplitl [Gs Hp T2 T3 T4 T5]
      · isplitl [Gs]
        · iexists _; isplitr
          rotate_left
          · iexact Gs
          · ipureintro; exact hk
        isplitl [Hp]
        · iexact Hp
        iapply (tables gs c).2
        isplitl [T2]; · iexact T2
        isplitl [T3]; · iexact T3
        isplitl [T4]; · iexact T4
        iexact T5
      isplitl [Ho]; · iexact Ho
      isplitl [G0]
      · iexists _; isplitr; · ipureintro; exact rfl
        iexact G0
      isplitl [G1]
      · iexists _; isplitr; · ipureintro; exact rfl
        iexact G1
      isplitl [G2]
      · iexists _; isplitr; · ipureintro; exact rfl
        iexact G2
      isplitl [G3]
      · iexists _; isplitr; · ipureintro; exact rfl
        iexact G3
      isplitl [G4]
      · iexists _; isplitr; · ipureintro; exact rfl
        iexact G4
      isplitl [G5]
      · iexists _; isplitr; · ipureintro; exact rfl
        iexact G5
      isplitl [G6]
      · iexists _; isplitr; · ipureintro; exact rfl
        iexact G6
      isplitl [G7]
      · iexists _; isplitr; · ipureintro; exact rfl
        iexact G7
      isplitl [G8]
      · iexists _; isplitr; · ipureintro; exact rfl
        iexact G8
      isplitl [G9]
      · iexists _; isplitr; · ipureintro; exact rfl
        iexact G9
      iexists _; isplitr; · ipureintro; exact e10 _ eW
      iexact G10
  · have hdead : ¬ k0_cond1 (grid0.coords t) (at1 (totalT gs) 0) = 1#1 := fun h => hl ((live_iff gs hp (grid0.coords t)).1 h)
    have hpos := cumN_pos (sizes gs) hp
    have h0 : (grid0.coords t 1).val ≠ 0 := by omega
    have he : ex gs ((grid0.coords t 1).val - 1) = ex gs (grid0.coords t 1) := by
      have h := (next_dead (sizes gs) hp ((grid0.coords t 1).val - 1) (by omega)).2.1
      rw [show (grid0.coords t 1).val - 1 + 1 = (grid0.coords t 1).val by omega] at h
      exact h.symm
    have hk := scr_keep gs c B t d hd h0 he
    have e10 : Y 10 = step gs c B (grid0.coords t 1) (grid0.coords t 0).val (Y 10) := by
      unfold step
      rw [if_neg hl]
    iapply (skip_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (spec0_6.stage ((cfg0 (adm (F := F) gs hp)).slots t 6)) (hstage0_6 (((cfg0 (adm (F := F) gs hp)).slots t 6).cast nbuf0_6)) (spec0_7.stage ((cfg0 (adm (F := F) gs hp)).slots t 7)) (hstage0_7 (((cfg0 (adm (F := F) gs hp)).slots t 7).cast nbuf0_7)) (spec0_8.stage ((cfg0 (adm (F := F) gs hp)).slots t 8)) (hstage0_8 (((cfg0 (adm (F := F) gs hp)).slots t 8).cast nbuf0_8)) (spec0_9.stage ((cfg0 (adm (F := F) gs hp)).slots t 9)) (hstage0_9 (((cfg0 (adm (F := F) gs hp)).slots t 9).cast nbuf0_9)) (spec0_10.stage ((cfg0 (adm (F := F) gs hp)).slots t 10)) (hstage0_10 (((cfg0 (adm (F := F) gs hp)).slots t 10).cast nbuf0_10)) (Memref.whole cc0_scratch0) (Memref.isWhole_whole _) (totalT gs) hdead Set.univ _)
    isplitl [T5]; · iexact T5
    iintro T5
    isplitl [Gs Hp T2 T3 T4 T5]
    · isplitl [Gs]
      · iexists _; isplitr
        rotate_left
        · iexact Gs
        · ipureintro; exact hk
      isplitl [Hp]
      · iexact Hp
      iapply (tables gs c).2
      isplitl [T2]; · iexact T2
      isplitl [T3]; · iexact T3
      isplitl [T4]; · iexact T4
      iexact T5
    isplitl [Ho]; · iexact Ho
    isplitl [G0]
    · iexists _; isplitr; · ipureintro; exact rfl
      iexact G0
    isplitl [G1]
    · iexists _; isplitr; · ipureintro; exact rfl
      iexact G1
    isplitl [G2]
    · iexists _; isplitr; · ipureintro; exact rfl
      iexact G2
    isplitl [G3]
    · iexists _; isplitr; · ipureintro; exact rfl
      iexact G3
    isplitl [G4]
    · iexists _; isplitr; · ipureintro; exact rfl
      iexact G4
    isplitl [G5]
    · iexists _; isplitr; · ipureintro; exact rfl
      iexact G5
    isplitl [G6]
    · iexists _; isplitr; · ipureintro; exact rfl
      iexact G6
    isplitl [G7]
    · iexists _; isplitr; · ipureintro; exact rfl
      iexact G7
    isplitl [G8]
    · iexists _; isplitr; · ipureintro; exact rfl
      iexact G8
    isplitl [G9]
    · iexists _; isplitr; · ipureintro; exact rfl
      iexact G9
    iexists _; isplitr; · ipureintro; exact e10
    iexact G10

/-- The pipeline's body obligation. -/
theorem obligation : (rdat gs hp c B).BodyObligation (defs₀ (F := F)) Variants.none () Set.univ := fun t Y hY => by
  rw [bigSep_W0, bigSep_W0, defs₀_row]
  exact triple_restated (body_at gs hp c B t Y hY) rfl .rfl fun _ => .rfl

end Cert.KernelIdeal.Body

end
-- ==== Proof.KernelIdeal.Host.lean ====
/-
  What the host lines before the kernel leave: the four tables of the schedule, and the three rows of scales reshaped.
-/
module

public import proofs.«01_k».proof.Proof.Gen.KernelIdeal.Launch
public import proofs.«01_k».proof.Proof.Tables.Words
public import Idealize.ShloMosaic.Lib.StableHlo.RunClose

@[expose] public section

set_option maxRecDepth 16384

noncomputable section

namespace Cert.KernelIdeal.Body

open Idealize.ShloMosaic Idealize.SL.Sem Cert.KernelIdeal Cert.KernelIdeal.Gen
open Idealize.ShloMosaic.StableHlo
open Cert.Tables Idealize.ShloMosaic.Routing

variable {F : FTy → Type} [FloatOps F]

/-- The host lines before the kernel, in order. -/
def hostLines : List (List (HloOp τ sig (Elt F))) :=
  [hostOps0, hostOps0_1, hostOps0_2, hostOps0_3, hostOps0_4, hostOps0_5, hostOps0_6, hostOps0_7, hostOps0_8, hostOps0_9, hostOps0_10]

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons o l ih => exact ih _

/-! The lines one stretch at a time, over any contents before them. -/

set_option maxHeartbeats 1000000 in
theorem st0_v2 (X : Valuation τ sig (Elt F)) : StableHlo.after (hostOps0 ++ hostOps0_1 ++ hostOps0_2 : List (HloOp τ sig (Elt F))) X (Proc.devRef .tc main_v2) = sums (X (Proc.devRef .tc main_arg1) : IVec (shape1 8) 32) := by
  simp only [after_app]
  after_results_simp
  rfl

set_option maxHeartbeats 1000000 in
theorem st0_v3 (X : Valuation τ sig (Elt F)) : StableHlo.after (hostOps0 ++ hostOps0_1 ++ hostOps0_2 : List (HloOp τ sig (Elt F))) X (Proc.devRef .tc main_v3) = extractStridedSlice (shape1 8) ![0] (sums (X (Proc.devRef .tc main_arg1) : IVec (shape1 8) 32)) sl0 := by
  simp only [after_app]
  after_results_simp
  rfl

set_option maxHeartbeats 1000000 in
theorem st0_c (X : Valuation τ sig (Elt F)) : StableHlo.after (hostOps0 ++ hostOps0_1 ++ hostOps0_2 : List (HloOp τ sig (Elt F))) X (Proc.devRef .tc main_c_0) = constantI shape0 32 256#32 := by
  simp only [after_app]
  after_results_simp

set_option maxHeartbeats 1000000 in
theorem st0_main_arg1 (X : Valuation τ sig (Elt F)) : StableHlo.after (hostOps0 ++ hostOps0_1 ++ hostOps0_2 : List (HloOp τ sig (Elt F))) X (Proc.devRef .tc main_arg1) = X (Proc.devRef .tc main_arg1) := by
  simp only [after_app]
  after_results_simp

set_option maxHeartbeats 1000000 in
theorem st1_v4 (X : Valuation τ sig (Elt F)) : StableHlo.after (hostOps0_3 : List (HloOp τ sig (Elt F))) X (Proc.devRef .tc main_v4) = pyDiv bc_8 (X (Proc.devRef .tc main_v3) : IVec (shape1 8) 32) (X (Proc.devRef .tc main_c_0) : IVec (shape0) 32) := by
  after_results_simp
  rfl

set_option maxHeartbeats 1000000 in
theorem st1_main_arg1 (X : Valuation τ sig (Elt F)) : StableHlo.after (hostOps0_3 : List (HloOp τ sig (Elt F))) X (Proc.devRef .tc main_arg1) = X (Proc.devRef .tc main_arg1) := by
  after_results_simp

set_option maxHeartbeats 1000000 in
theorem st1_main_v2 (X : Valuation τ sig (Elt F)) : StableHlo.after (hostOps0_3 : List (HloOp τ sig (Elt F))) X (Proc.devRef .tc main_v2) = X (Proc.devRef .tc main_v2) := by
  after_results_simp

set_option maxHeartbeats 1000000 in
theorem st2_v6 (X : Valuation τ sig (Elt F)) : StableHlo.after (hostOps0_4 : List (HloOp τ sig (Elt F))) X (Proc.devRef .tc main_v6) = cmpi .sgt (X (Proc.devRef .tc main_arg1) : IVec (shape1 8) 32) (broadcastInDim (shape1 8) ![] bc_8 (constantI shape0 32 0#32)) := by
  after_results_simp

set_option maxHeartbeats 1000000 in
theorem st2_v9 (X : Valuation τ sig (Elt F)) : StableHlo.after (hostOps0_4 : List (HloOp τ sig (Elt F))) X (Proc.devRef .tc main_v9) = subi (extractStridedSlice (shape1 8) ![1] (X (Proc.devRef .tc main_v2) : IVec (shape1 9) 32) sl1) (broadcastInDim (shape1 8) ![] bc_8 (constantI shape0 32 1#32)) := by
  after_results_simp

set_option maxHeartbeats 1000000 in
theorem st2_c (X : Valuation τ sig (Elt F)) : StableHlo.after (hostOps0_4 : List (HloOp τ sig (Elt F))) X (Proc.devRef .tc main_c_3) = constantI shape0 32 256#32 := by
  after_results_simp

set_option maxHeartbeats 1000000 in
theorem st2_main_v4 (X : Valuation τ sig (Elt F)) : StableHlo.after (hostOps0_4 : List (HloOp τ sig (Elt F))) X (Proc.devRef .tc main_v4) = X (Proc.devRef .tc main_v4) := by
  after_results_simp

set_option maxHeartbeats 1000000 in
theorem st3_v10 (X : Valuation τ sig (Elt F)) : StableHlo.after (hostOps0_5 : List (HloOp τ sig (Elt F))) X (Proc.devRef .tc main_v10) = pyDiv bc_8 (X (Proc.devRef .tc main_v9) : IVec (shape1 8) 32) (X (Proc.devRef .tc main_c_3) : IVec (shape0) 32) := by
  after_results_simp
  rfl

set_option maxHeartbeats 1000000 in
theorem st3_main_v4 (X : Valuation τ sig (Elt F)) : StableHlo.after (hostOps0_5 : List (HloOp τ sig (Elt F))) X (Proc.devRef .tc main_v4) = X (Proc.devRef .tc main_v4) := by
  after_results_simp

set_option maxHeartbeats 1000000 in
theorem st3_main_v6 (X : Valuation τ sig (Elt F)) : StableHlo.after (hostOps0_5 : List (HloOp τ sig (Elt F))) X (Proc.devRef .tc main_v6) = X (Proc.devRef .tc main_v6) := by
  after_results_simp

set_option maxHeartbeats 1000000 in
theorem st4_v14 (X : Valuation τ sig (Elt F)) : StableHlo.after (hostOps0_6 ++ hostOps0_7 : List (HloOp τ sig (Elt F))) X (Proc.devRef .tc main_v14) = select (X (Proc.devRef .tc main_v6) : IVec (shape1 8) 1)
      (addi (subi (X (Proc.devRef .tc main_v10) : IVec (shape1 8) 32) (X (Proc.devRef .tc main_v4) : IVec (shape1 8) 32)) (broadcastInDim (shape1 8) ![] bc_8 (constantI shape0 32 1#32)))
      (broadcastInDim (shape1 8) ![] bc_8 (constantI shape0 32 0#32)) := by
  simp only [after_app]
  after_results_simp
  rfl

set_option maxHeartbeats 1000000 in
theorem st4_main_v4 (X : Valuation τ sig (Elt F)) : StableHlo.after (hostOps0_6 ++ hostOps0_7 : List (HloOp τ sig (Elt F))) X (Proc.devRef .tc main_v4) = X (Proc.devRef .tc main_v4) := by
  simp only [after_app]
  after_results_simp

/-- The first line of the last stretch: the visits before each expert. -/
def lineCum : List (HloOp τ sig (Elt F)) := [StableHlo.binary main_v15 main_v16 main_v17 ((fun a b => concatenate S9 0 [⟨S1, a⟩, ⟨S8, b⟩] concatenates_S1_S8_S9_d0) : (⟨S1, .i32⟩ : BufTy).Contents (Elt F) → (⟨S8, .i32⟩ : BufTy).Contents (Elt F) → (⟨S9, .i32⟩ : BufTy).Contents (Elt F))]

/-- The lines of the last stretch up to the table of experts. -/
def linesVe : List (HloOp τ sig (Elt F)) := (hostOps0_10.drop 1).take 16

/-- The rest of the last stretch. -/
def linesVm : List (HloOp τ sig (Elt F)) := hostOps0_10.drop 17

set_option maxHeartbeats 1000000 in
theorem st5_cum (X : Valuation τ sig (Elt F)) : StableHlo.after (hostOps0_8 ++ hostOps0_9 ++ lineCum : List (HloOp τ sig (Elt F))) X (Proc.devRef .tc main_v17) = sums (X (Proc.devRef .tc main_v14) : IVec (shape1 8) 32) := by
  unfold lineCum
  simp only [after_app]
  after_results_simp
  rfl

set_option maxHeartbeats 1000000 in
theorem st5_main_v4 (X : Valuation τ sig (Elt F)) : StableHlo.after (hostOps0_8 ++ hostOps0_9 ++ lineCum : List (HloOp τ sig (Elt F))) X (Proc.devRef .tc main_v4) = X (Proc.devRef .tc main_v4) := by
  unfold lineCum
  simp only [after_app]
  after_results_simp

set_option maxHeartbeats 1000000 in
theorem st6_total (X : Valuation τ sig (Elt F)) : StableHlo.after (linesVe : List (HloOp τ sig (Elt F))) X (Proc.devRef .tc main_v18) = totalOf (X (Proc.devRef .tc main_v17) : IVec (shape1 9) 32) := by
  simp only [linesVe, hostOps0_10, List.drop_succ_cons, List.drop_zero, List.take_succ_cons, List.take_zero]
  after_results_simp
  rfl

set_option maxHeartbeats 1000000 in
theorem st6_vis (X : Valuation τ sig (Elt F)) : StableHlo.after (linesVe : List (HloOp τ sig (Elt F))) X (Proc.devRef .tc main_v23) = visOf (totalOf (X (Proc.devRef .tc main_v17) : IVec (shape1 9) 32)) := by
  simp only [linesVe, hostOps0_10, List.drop_succ_cons, List.drop_zero, List.take_succ_cons, List.take_zero]
  after_results_simp
  rfl

set_option maxHeartbeats 1000000 in
theorem st6_ve (X : Valuation τ sig (Elt F)) : StableHlo.after (linesVe : List (HloOp τ sig (Elt F))) X (Proc.devRef .tc main_v31) = veOf (X (Proc.devRef .tc main_v17) : IVec (shape1 9) 32) (visOf (totalOf (X (Proc.devRef .tc main_v17) : IVec (shape1 9) 32))) := by
  simp only [linesVe, hostOps0_10, List.drop_succ_cons, List.drop_zero, List.take_succ_cons, List.take_zero]
  after_results_simp
  rfl

set_option maxHeartbeats 1000000 in
theorem st6_main_v4 (X : Valuation τ sig (Elt F)) : StableHlo.after (linesVe : List (HloOp τ sig (Elt F))) X (Proc.devRef .tc main_v4) = X (Proc.devRef .tc main_v4) := by
  simp only [linesVe, hostOps0_10, List.drop_succ_cons, List.drop_zero, List.take_succ_cons, List.take_zero]
  after_results_simp

set_option maxHeartbeats 1000000 in
theorem st6_main_v17 (X : Valuation τ sig (Elt F)) : StableHlo.after (linesVe : List (HloOp τ sig (Elt F))) X (Proc.devRef .tc main_v17) = X (Proc.devRef .tc main_v17) := by
  simp only [linesVe, hostOps0_10, List.drop_succ_cons, List.drop_zero, List.take_succ_cons, List.take_zero]
  after_results_simp

set_option maxHeartbeats 1000000 in
theorem st7_vm (X : Valuation τ sig (Elt F)) : StableHlo.after (linesVm : List (HloOp τ sig (Elt F))) X (Proc.devRef .tc main_v47) = vmOf (X (Proc.devRef .tc main_v4) : IVec (shape1 8) 32) (X (Proc.devRef .tc main_v17) : IVec (shape1 9) 32) (X (Proc.devRef .tc main_v23) : IVec (shape1 43) 32) (X (Proc.devRef .tc main_v31) : IVec (shape1 43) 32) := by
  simp only [linesVm, hostOps0_10, List.drop_succ_cons, List.drop_zero, List.take_succ_cons, List.take_zero]
  after_results_simp
  rfl

set_option maxHeartbeats 1000000 in
theorem st7_main_v31 (X : Valuation τ sig (Elt F)) : StableHlo.after (linesVm : List (HloOp τ sig (Elt F))) X (Proc.devRef .tc main_v31) = X (Proc.devRef .tc main_v31) := by
  simp only [linesVm, hostOps0_10, List.drop_succ_cons, List.drop_zero, List.take_succ_cons, List.take_zero]
  after_results_simp

set_option maxHeartbeats 1000000 in
theorem st7_main_v18 (X : Valuation τ sig (Elt F)) : StableHlo.after (linesVm : List (HloOp τ sig (Elt F))) X (Proc.devRef .tc main_v18) = X (Proc.devRef .tc main_v18) := by
  simp only [linesVm, hostOps0_10, List.drop_succ_cons, List.drop_zero, List.take_succ_cons, List.take_zero]
  after_results_simp

theorem lines_eq : (hostLines (F := F)).flatten = ((hostOps0 ++ hostOps0_1 ++ hostOps0_2) ++ (hostOps0_3 ++ (hostOps0_4 ++ (hostOps0_5 ++ ((hostOps0_6 ++ hostOps0_7) ++ ((hostOps0_8 ++ hostOps0_9 ++ lineCum) ++ (linesVe ++ linesVm))))))) := rfl

set_option maxHeartbeats 1000000 in
/-- Table `main_v2`: the rows before each expert. -/
theorem host_off (X : Valuation τ sig (Elt F)) : StableHlo.after (hostLines (F := F)).flatten X (Proc.devRef .tc main_v2) = Cert.Tables.sums (X (Proc.devRef .tc main_arg1)) := by
  simp only [hostLines, List.flatten_cons, List.flatten_nil, List.cons_append, List.nil_append, List.append_nil]
  after_results_simp
  rfl

/-- The contents after the stretches before the tables. -/
def upTo (X : Valuation τ sig (Elt F)) : Valuation τ sig (Elt F) :=
  StableHlo.after (hostOps0_8 ++ hostOps0_9 ++ lineCum) (StableHlo.after (hostOps0_6 ++ hostOps0_7) (StableHlo.after hostOps0_5 (StableHlo.after hostOps0_4
    (StableHlo.after hostOps0_3 (StableHlo.after (hostOps0 ++ hostOps0_1 ++ hostOps0_2) X)))))

theorem upTo_first (X : Valuation τ sig (Elt F)) : upTo X (Proc.devRef .tc main_v4) = firstT (X (Proc.devRef .tc main_arg1)) := by
  unfold upTo
  rw [st5_main_v4, st4_main_v4, st3_main_v4, st2_main_v4, st1_v4, st0_v3, st0_c]
  rfl

theorem upTo_cum (X : Valuation τ sig (Elt F)) : upTo X (Proc.devRef .tc main_v17) = sums (countT (X (Proc.devRef .tc main_arg1))) := by
  unfold upTo
  rw [st5_cum, st4_v14, st3_v10, st3_main_v4, st3_main_v6, st2_main_v4, st2_v9, st2_c, st2_v6, st1_v4, st1_main_v2, st1_main_arg1,
    st0_v3, st0_c, st0_v2, st0_main_arg1]
  rfl

theorem lines_upTo (X : Valuation τ sig (Elt F)) :
    StableHlo.after (hostLines (F := F)).flatten X = StableHlo.after linesVm (StableHlo.after linesVe (upTo X)) := by
  rw [lines_eq, after_app (hostOps0 ++ hostOps0_1 ++ hostOps0_2), after_app hostOps0_3, after_app hostOps0_4, after_app hostOps0_5, after_app (hostOps0_6 ++ hostOps0_7), after_app (hostOps0_8 ++ hostOps0_9 ++ lineCum), after_app linesVe]
  rfl

/-- Table `main_v18`: the number of visits. -/
theorem host_total (X : Valuation τ sig (Elt F)) : StableHlo.after (hostLines (F := F)).flatten X (Proc.devRef .tc main_v18) = Cert.Tables.totalT (X (Proc.devRef .tc main_arg1)) := by
  rw [lines_upTo, st7_main_v18, st6_total, upTo_cum]
  rfl

/-- Table `main_v31`: each visit's expert. -/
theorem host_ve (X : Valuation τ sig (Elt F)) : StableHlo.after (hostLines (F := F)).flatten X (Proc.devRef .tc main_v31) = Cert.Tables.veT (X (Proc.devRef .tc main_arg1)) := by
  rw [lines_upTo, st7_main_v31, st6_ve, upTo_cum]
  rfl

/-- Table `main_v47`: each visit's tile. -/
theorem host_vm (X : Valuation τ sig (Elt F)) : StableHlo.after (hostLines (F := F)).flatten X (Proc.devRef .tc main_v47) = Cert.Tables.vmT (X (Proc.devRef .tc main_arg1)) := by
  rw [lines_upTo, st7_vm, st6_main_v4, st6_main_v17, st6_vis, st6_ve, upTo_cum, upTo_first]
  rfl

set_option maxHeartbeats 2000000 in
theorem host_c1 (X : Valuation τ sig (Elt F)) : StableHlo.after (hostLines (F := F)).flatten X (Proc.devRef .tc main_v48)
    = (shapeCast S8x1x4096 (X (Proc.devRef .tc main_arg7) : Vec F S8x4096 .f32) shapeCasts_S8x4096_S8x1x4096 : Vec F S8x1x4096 .f32) := by
  simp only [hostLines, List.flatten_cons, List.flatten_nil, List.cons_append, List.nil_append, List.append_nil]
  after_results_simp
  rfl

set_option maxHeartbeats 2000000 in
theorem host_c3 (X : Valuation τ sig (Elt F)) : StableHlo.after (hostLines (F := F)).flatten X (Proc.devRef .tc main_v49)
    = (shapeCast S8x1x4096 (X (Proc.devRef .tc main_arg8) : Vec F S8x4096 .f32) shapeCasts_S8x4096_S8x1x4096 : Vec F S8x1x4096 .f32) := by
  simp only [hostLines, List.flatten_cons, List.flatten_nil, List.cons_append, List.nil_append, List.append_nil]
  after_results_simp
  rfl

set_option maxHeartbeats 2000000 in
theorem host_p2 (X : Valuation τ sig (Elt F)) : StableHlo.after (hostLines (F := F)).flatten X (Proc.devRef .tc main_v50)
    = (shapeCast S8x1x4096 (X (Proc.devRef .tc main_arg9) : Vec F S8x4096 .f32) shapeCasts_S8x4096_S8x1x4096 : Vec F S8x1x4096 .f32) := by
  simp only [hostLines, List.flatten_cons, List.flatten_nil, List.cons_append, List.nil_append, List.append_nil]
  after_results_simp
  rfl

set_option maxHeartbeats 2000000 in
theorem host_arg0 (X : Valuation τ sig (Elt F)) : StableHlo.after (hostLines (F := F)).flatten X (Proc.devRef .tc main_arg0) = X (Proc.devRef .tc main_arg0) := by
  simp only [hostLines, List.flatten_cons, List.flatten_nil, List.cons_append, List.nil_append, List.append_nil]
  after_results_simp

set_option maxHeartbeats 2000000 in
theorem host_arg1 (X : Valuation τ sig (Elt F)) : StableHlo.after (hostLines (F := F)).flatten X (Proc.devRef .tc main_arg1) = X (Proc.devRef .tc main_arg1) := by
  simp only [hostLines, List.flatten_cons, List.flatten_nil, List.cons_append, List.nil_append, List.append_nil]
  after_results_simp

set_option maxHeartbeats 2000000 in
theorem host_arg2 (X : Valuation τ sig (Elt F)) : StableHlo.after (hostLines (F := F)).flatten X (Proc.devRef .tc main_arg2) = X (Proc.devRef .tc main_arg2) := by
  simp only [hostLines, List.flatten_cons, List.flatten_nil, List.cons_append, List.nil_append, List.append_nil]
  after_results_simp

set_option maxHeartbeats 2000000 in
theorem host_arg3 (X : Valuation τ sig (Elt F)) : StableHlo.after (hostLines (F := F)).flatten X (Proc.devRef .tc main_arg3) = X (Proc.devRef .tc main_arg3) := by
  simp only [hostLines, List.flatten_cons, List.flatten_nil, List.cons_append, List.nil_append, List.append_nil]
  after_results_simp

set_option maxHeartbeats 2000000 in
theorem host_arg4 (X : Valuation τ sig (Elt F)) : StableHlo.after (hostLines (F := F)).flatten X (Proc.devRef .tc main_arg4) = X (Proc.devRef .tc main_arg4) := by
  simp only [hostLines, List.flatten_cons, List.flatten_nil, List.cons_append, List.nil_append, List.append_nil]
  after_results_simp

set_option maxHeartbeats 2000000 in
theorem host_arg5 (X : Valuation τ sig (Elt F)) : StableHlo.after (hostLines (F := F)).flatten X (Proc.devRef .tc main_arg5) = X (Proc.devRef .tc main_arg5) := by
  simp only [hostLines, List.flatten_cons, List.flatten_nil, List.cons_append, List.nil_append, List.append_nil]
  after_results_simp

set_option maxHeartbeats 2000000 in
theorem host_arg6 (X : Valuation τ sig (Elt F)) : StableHlo.after (hostLines (F := F)).flatten X (Proc.devRef .tc main_arg6) = X (Proc.devRef .tc main_arg6) := by
  simp only [hostLines, List.flatten_cons, List.flatten_nil, List.cons_append, List.nil_append, List.append_nil]
  after_results_simp

set_option maxHeartbeats 2000000 in
theorem host_arg7 (X : Valuation τ sig (Elt F)) : StableHlo.after (hostLines (F := F)).flatten X (Proc.devRef .tc main_arg7) = X (Proc.devRef .tc main_arg7) := by
  simp only [hostLines, List.flatten_cons, List.flatten_nil, List.cons_append, List.nil_append, List.append_nil]
  after_results_simp

set_option maxHeartbeats 2000000 in
theorem host_arg8 (X : Valuation τ sig (Elt F)) : StableHlo.after (hostLines (F := F)).flatten X (Proc.devRef .tc main_arg8) = X (Proc.devRef .tc main_arg8) := by
  simp only [hostLines, List.flatten_cons, List.flatten_nil, List.cons_append, List.nil_append, List.append_nil]
  after_results_simp

set_option maxHeartbeats 2000000 in
theorem host_arg9 (X : Valuation τ sig (Elt F)) : StableHlo.after (hostLines (F := F)).flatten X (Proc.devRef .tc main_arg9) = X (Proc.devRef .tc main_arg9) := by
  simp only [hostLines, List.flatten_cons, List.flatten_nil, List.cons_append, List.nil_append, List.append_nil]
  after_results_simp

set_option maxHeartbeats 2000000 in
theorem host_arg10 (X : Valuation τ sig (Elt F)) : StableHlo.after (hostLines (F := F)).flatten X (Proc.devRef .tc main_arg10) = X (Proc.devRef .tc main_arg10) := by
  simp only [hostLines, List.flatten_cons, List.flatten_nil, List.cons_append, List.nil_append, List.append_nil]
  after_results_simp

end Cert.KernelIdeal.Body

end
-- ==== Proof.KernelIdeal.Run.lean ====
/- The launch: every run of the program terminates, leaves its arguments and brings every counter back to zero. -/
module

public import proofs.«01_k».proof.Proof.KernelIdeal.Obligation
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

/-- The state a run starts from. -/
abbrev start (m : (ℓ : Loc nD τ sig) → Buf (Elt F) ℓ) (ρ : Dev nD → PrngReg) : MemSt nD τ sig (Elt F) := ⟨m, fun _ => 0, ρ⟩

/-- The group sizes in memory. -/
def gsOf (m : (ℓ : Loc nD τ sig) → Buf (Elt F) ℓ) : IVec (⟨1, ![8]⟩ : Shape) 32 := m (((0 : Dev nD).tc : Thread nD τ).loc main_arg1)

/-- The core's buffers after the host lines. -/
def V (m : (ℓ : Loc nD τ sig) → Buf (Elt F) ℓ) (c : Dev nD) : Bufs (F := F) c :=
  fun b => StableHlo.after (hostLines (F := F)).flatten (fun b => m (c, b)) (Proc.devRef .tc b)

variable (m : (ℓ : Loc nD τ sig) → Buf (Elt F) ℓ) (ρ : Dev nD → PrngReg)

theorem tables_at (c : Dev nD) (k : Fin 4) : V m c (pre0.ref k) = tab (F := F) (gsOf m) k := by
  obtain rfl : c = 0 := Subsingleton.elim _ _
  match k with
  | 0 => exact host_ve _
  | 1 => exact host_vm _
  | 2 => exact host_off _
  | 3 => exact host_total _

theorem lines_sub : (hostLines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

set_option maxHeartbeats 4000000 in
theorem lines_fresh : (hostLines (F := F)).Forall fun ops => ops.Forall fun op => op.fresh = ∅ := by
  simp only [hostLines, List.Forall]
  repeat' constructor

theorem main_lines (c : Dev nD) : main (F := F) c = Pipeline.chain ((hostLines (F := F)).map StableHlo.seq ++ [Prog.lift (.customCall (Pipeline.entry 0) ())]) :=
  main_chain c

variable (hp : offN (sizes (gsOf m)) 8 = 9216)

set_option backward.isDefEq.respectTransparency.types false in
/-- Every run of the program terminates; then every array holds what the proof data allow, every other buffer what the
    host lines left there, and every counter is at zero. -/
theorem run : θ_run defs (onTc (τ := τ) (main (F := F))) (start m ρ) (fun r =>
    RDat.FramePost (cfg0 (adm (F := F) (gsOf m) hp)) (fun c => rdat (gsOf m) hp c (V m c)) (V m) r ∧ r.2.sem = fun _ => 0) :=
  RDat.θ_run_frameP_track (Q' := _) pcfgs (fun _ => adm (F := F) (gsOf m) hp) (0 : Fin 1) launch0 defs₀ Variants.none
    (fun c => rdat (gsOf m) hp c (V m c)) m ρ main
    (hbody := fun c => obligation (gsOf m) hp c (V m c))
    (hshare := fun c w => (rdat (gsOf m) hp c (V m c)).share_full (fun _ => rfl) w)
    (howed := fun _ _ => rfl) (V := V m)
    (hmain := Pipeline.hmainP_prefixes pcfgs 0 defs₀ Variants.none m main hostLines lines_sub lines_fresh main_lines)
    (hA := fun _ _ => rfl) (hpf := fun c k => tables_at m c k)
    (hin := fun c => by
      rw [phi_eq]
      unfold Pipeline.ΦA
      rw [show (Pipeline.scopedRest spec0 c : sProp 𝕄) = _ from scopedRest0_eq c]
      simp only [owns_whole]
      iintro ⟨⟨⟨%f, Hs⟩, Hp⟩, HT⟩
      isplitl [Hs]
      · iexists f
        isplitr
        · ipureintro
          intro t ht
          exact absurd ht (by show ¬ t.val + 1 = 0; omega)
        iexact Hs
      isplitl [Hp]
      · iexact Hp
      iexact HT)
    (hout := fun c => by
      rw [phi_eq]
      unfold Pipeline.ΦA
      rw [show (Pipeline.scopedRest spec0 c : sProp 𝕄) = _ from scopedRest0_eq c]
      simp only [owns_whole]
      iintro ⟨⟨%f, -, Hs⟩, Hp, -⟩
      isplitl [Hs]
      · iexists f
        iexact Hs
      iexact Hp)

/-- What the result's array may hold at the end. -/
def OutAt (c : Dev nD) (G : Vec F S9216x4096 .fp8e4m3) : Prop := (rdat (gsOf m) hp c (V m c)).ArrAt (10 : Fin 11) (cfg0 (adm (F := F) (gsOf m) hp)).N G

section
variable {m hp} {r : PUnit × MemSt nD τ sig (Elt F)}
    (h : RDat.FramePost (cfg0 (adm (F := F) (gsOf m) hp)) (fun c => rdat (gsOf m) hp c (V m c)) (V m) r) (c : Dev nD)
include h

theorem out_of : OutAt m hp c (r.2.mem ((c.tc : Thread nD τ).loc main_v51)) := (h c).1 (10 : Fin 11)

/-- An input's array ends as the host lines left it. -/
theorem in_at (w : Fin 11) (hw : (spec0 w).isOut = false) :
    r.2.mem ((spec0 w).arr.view.loc (c.tc : Thread nD τ)) = V m c (Pipeline.arrRef spec0 w) := by
  have e := (h c).1 w
  rw [RDat.ArrAt_in (rdat (gsOf m) hp c (V m c)) w hw] at e
  exact e

theorem kept_0 : r.2.mem ((c.tc : Thread nD τ).loc main_arg0) = m ((c.tc : Thread nD τ).loc main_arg0) :=
  (in_at h c 2 rfl).trans (host_arg0 _)
theorem kept_1 : r.2.mem ((c.tc : Thread nD τ).loc main_arg1) = m ((c.tc : Thread nD τ).loc main_arg1) :=
  ((h c).2 main_arg1 (Pipeline.mem_restRefs_of main_arg1 (by decide) (show ∀ w : Fin 11, (spec0 w).arr.view.ref ≠ main_arg1 by decide))).trans (host_arg1 _)
theorem kept_2 : r.2.mem ((c.tc : Thread nD τ).loc main_arg2) = m ((c.tc : Thread nD τ).loc main_arg2) :=
  (in_at h c 0 rfl).trans (host_arg2 _)
theorem kept_3 : r.2.mem ((c.tc : Thread nD τ).loc main_arg3) = m ((c.tc : Thread nD τ).loc main_arg3) :=
  (in_at h c 3 rfl).trans (host_arg3 _)
theorem kept_4 : r.2.mem ((c.tc : Thread nD τ).loc main_arg4) = m ((c.tc : Thread nD τ).loc main_arg4) :=
  (in_at h c 4 rfl).trans (host_arg4 _)
theorem kept_5 : r.2.mem ((c.tc : Thread nD τ).loc main_arg5) = m ((c.tc : Thread nD τ).loc main_arg5) :=
  (in_at h c 5 rfl).trans (host_arg5 _)
theorem kept_6 : r.2.mem ((c.tc : Thread nD τ).loc main_arg6) = m ((c.tc : Thread nD τ).loc main_arg6) :=
  (in_at h c 6 rfl).trans (host_arg6 _)
theorem kept_7 : r.2.mem ((c.tc : Thread nD τ).loc main_arg7) = m ((c.tc : Thread nD τ).loc main_arg7) :=
  ((h c).2 main_arg7 (Pipeline.mem_restRefs_of main_arg7 (by decide) (show ∀ w : Fin 11, (spec0 w).arr.view.ref ≠ main_arg7 by decide))).trans (host_arg7 _)
theorem kept_8 : r.2.mem ((c.tc : Thread nD τ).loc main_arg8) = m ((c.tc : Thread nD τ).loc main_arg8) :=
  ((h c).2 main_arg8 (Pipeline.mem_restRefs_of main_arg8 (by decide) (show ∀ w : Fin 11, (spec0 w).arr.view.ref ≠ main_arg8 by decide))).trans (host_arg8 _)
theorem kept_9 : r.2.mem ((c.tc : Thread nD τ).loc main_arg9) = m ((c.tc : Thread nD τ).loc main_arg9) :=
  ((h c).2 main_arg9 (Pipeline.mem_restRefs_of main_arg9 (by decide) (show ∀ w : Fin 11, (spec0 w).arr.view.ref ≠ main_arg9 by decide))).trans (host_arg9 _)
theorem kept_10 : r.2.mem ((c.tc : Thread nD τ).loc main_arg10) = m ((c.tc : Thread nD τ).loc main_arg10) :=
  (in_at h c 1 rfl).trans (host_arg10 _)

end

/-- The result and the arguments at the end of every run. -/
theorem run_ends : θ_run defs (onTc (τ := τ) (main (F := F))) (start m ρ) (fun r => (∀ c : Dev nD,
      OutAt m hp c (r.2.mem ((c.tc : Thread nD τ).loc main_v51))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => ⟨out_of h.1 c, kept_0 h.1 c,
    kept_1 h.1 c,
    kept_2 h.1 c,
    kept_3 h.1 c,
    kept_4 h.1 c,
    kept_5 h.1 c,
    kept_6 h.1 c,
    kept_7 h.1 c,
    kept_8 h.1 c,
    kept_9 h.1 c,
    kept_10 h.1 c⟩, h.2⟩) (run m ρ hp)

end Cert.KernelIdeal.Body

end
-- ==== Proof.Value.Spec.lean ====
module

public import Idealize.ShloMosaic.Lib.Pipeline.ValueKit
public import Idealize.ShloMosaic.Lib.Pointwise
public import Idealize.ShloMosaic.Lib.MatmulPlain
public import Idealize.ShloMosaic.Lib.ValueIdx

/-!
The value both programs end with, over the extended reals, element by element.

* A byte of a packed weight holds two signed codes: `lo` its low four bits, `hi` its high four bits.
* `acc`: the row of `x` times the weight's column, each code times the scale of its group of 128 rows. The even entries of the row meet
  the low codes, the odd entries the high ones.
* `h`: the clipped, rescaled SwiGLU of the two products of one expert.
* `G`: in row `r`, the `h` of the expert to which `r` belongs. The experts' rows start at `off e` and end before `off (e + 1)`.
-/

@[expose] public section
set_option maxRecDepth 16384

noncomputable section

namespace Cert.Val

open Idealize.ShloMosaic

/-- The low four bits of a byte as a signed word. -/
def lo (b : BitVec 8) : BitVec 32 := IntOp.shrsi .vector (IntOp.shli .vector (b.signExtend 32) 28#32) 28#32

/-- The high four bits of a byte as a signed word. -/
def hi (b : BitVec 8) : BitVec 32 := IntOp.shrsi .vector (b.signExtend 32) 4#32

/-- Pushing out the high half of the widened byte to the left and coming back is `hi`. -/
theorem hi_eq (b : BitVec 8) : IntOp.shrsi .vector (IntOp.shli .vector (b.signExtend 32) 24#32) 28#32 = hi b := by
  revert b
  decide +kernel

/-- A code as a number. -/
def num (b : BitVec 32) : EReal := FloatOps.sitofp (F := Ideal) .bf16 b

/-- One entry of the product of a row of `x` with an expert's dequantised weight. -/
def acc (x : (⟨2, ![9216, 6144]⟩ : Shape).Idx → EReal) (w : (⟨3, ![8, 3072, 4096]⟩ : Shape).Idx → BitVec 8)
    (s : (⟨3, ![8, 48, 4096]⟩ : Shape).Idx → EReal) (e : Fin 8) (r : Fin 9216) (q : Fin 4096) : EReal :=
  (∑ j : Fin 3072, x (ix2 r ⟨2 * j.val, by omega⟩) * (num (lo (w (ix3 e j q))) * s (ix3 e ⟨j.val / 64, by omega⟩ q)))
    + ∑ j : Fin 3072, x (ix2 r ⟨2 * j.val + 1, by omega⟩) * (num (hi (w (ix3 e j q))) * s (ix3 e ⟨j.val / 64, by omega⟩ q))

/-- The clipped activation from the gate `g`, the up product `u`, the factor `p` and the divisor `a`. -/
def act (g u p a : EReal) : EReal :=
  min (FloatOps.ofBits (F := Ideal) .f32 0x43E00000#32 : EReal) (max (FloatOps.ofBits (F := Ideal) .f32 0xC3E00000#32 : EReal)
    (Ideal.div (g * (FloatOps.logistic (F := Ideal) (φ := .f32) g : EReal) * u * p) a))

/-- The arguments of the two programs, as numbers. -/
structure Args where
  x : (⟨2, ![9216, 6144]⟩ : Shape).Idx → EReal
  a1 : (⟨1, ![8]⟩ : Shape).Idx → EReal
  w1 : (⟨3, ![8, 3072, 4096]⟩ : Shape).Idx → BitVec 8
  w3 : (⟨3, ![8, 3072, 4096]⟩ : Shape).Idx → BitVec 8
  s1 : (⟨3, ![8, 48, 4096]⟩ : Shape).Idx → EReal
  s3 : (⟨3, ![8, 48, 4096]⟩ : Shape).Idx → EReal
  c1 : (⟨2, ![8, 4096]⟩ : Shape).Idx → EReal
  c3 : (⟨2, ![8, 4096]⟩ : Shape).Idx → EReal
  p2 : (⟨2, ![8, 4096]⟩ : Shape).Idx → EReal
  a2 : (⟨1, ![8]⟩ : Shape).Idx → EReal

variable (A : Args)

/-- One expert's activation of row `r`, column `q`. -/
def h (e : Fin 8) (r : Fin 9216) (q : Fin 4096) : EReal :=
  act (acc A.x A.w1 A.s1 e r q * A.c1 (ix2 e q) * A.a1 (ix1 e)) (acc A.x A.w3 A.s3 e r q * A.c3 (ix2 e q) * A.a1 (ix1 e))
    (A.p2 (ix2 e q)) (A.a2 (ix1 e))

/-- The value of row `r` after the experts below `k`: the last of them whose rows hold `r` decides. -/
def upto (off : Nat → Nat) (f : Nat → EReal) (r : Nat) : Nat → EReal
  | 0 => 0
  | e + 1 => if off e ≤ r ∧ r < off (e + 1) then f e else upto off f r e

/-- With the starts in order, the expert whose rows hold `r` decides. -/
theorem upto_eq {off : Nat → Nat} (hoff : ∀ a b, a ≤ b → off a ≤ off b) (f : Nat → EReal) {r e k : Nat} (hek : e < k)
    (h0 : off e ≤ r) (h1 : r < off (e + 1)) : upto off f r k = f e := by
  induction k with
  | zero => omega
  | succ k ih =>
    unfold upto
    rcases Nat.lt_succ_iff_lt_or_eq.mp hek with hlt | heq
    · rw [if_neg (fun c => by have := hoff (e + 1) k hlt; omega)]
      exact ih hlt
    · subst heq
      rw [if_pos ⟨h0, h1⟩]

/-- The whole result. -/
def G (off : Nat → Nat) (r : Fin 9216) (q : Fin 4096) : EReal := upto off (fun e => h A (Fin.ofNat 8 e) r q) r.val 8

/-- A sum over the 6144 rows of the unpacked weight, low codes first and high codes second. -/
theorem sum_halves (f : Fin 6144 → EReal) :
    ∑ k : Fin 6144, f k = (∑ j : Fin 3072, f ⟨2 * j.val, by omega⟩) + ∑ j : Fin 3072, f ⟨2 * j.val + 1, by omega⟩ := by
  rw [← Finset.sum_add_distrib, ← Equiv.sum_comp (finProdFinEquiv (m := 3072) (n := 2)) f, Fintype.sum_prod_type]
  refine Finset.sum_congr rfl fun j _ => ?_
  rw [Fin.sum_univ_two]
  refine congr (congrArg _ (congrArg f (Fin.ext ?_))) (congrArg f (Fin.ext ?_))
  · show (0 : Nat) + 2 * j.val = 2 * j.val
    omega
  · show (1 : Nat) + 2 * j.val = 2 * j.val + 1
    omega

theorem toInt_ofNat {a : Nat} (ha : a < 2 ^ 31) : (BitVec.ofNat 32 a).toInt = a := by
  rw [BitVec.toInt_eq_toNat_of_lt (by rw [BitVec.toNat_ofNat]; omega), BitVec.toNat_ofNat, Nat.mod_eq_of_lt (by omega)]

/-- Choosing by "row `r` is between the words `a` and `b`". -/
theorem select_rows {α : Type} {r a b : Nat} (hr : r < 2 ^ 31) (ha : a < 2 ^ 31) (hb : b < 2 ^ 31) (x y : α) :
    Scalar.select (IntOp.andi (IntOp.cmpi .sge (BitVec.ofNat 32 r) (BitVec.ofNat 32 a)) (IntOp.cmpi .slt (BitVec.ofNat 32 r) (BitVec.ofNat 32 b))) x y =
      if a ≤ r ∧ r < b then x else y := by
  have e1 : IntOp.cmpi .sge (BitVec.ofNat 32 r) (BitVec.ofNat 32 a) = BitVec.ofBool (decide (a ≤ r)) := by
    show BitVec.ofBool (decide ((BitVec.ofNat 32 a).toInt ≤ (BitVec.ofNat 32 r).toInt)) = _
    rw [toInt_ofNat hr, toInt_ofNat ha]
    simp
  have e2 : IntOp.cmpi .slt (BitVec.ofNat 32 r) (BitVec.ofNat 32 b) = BitVec.ofBool (decide (r < b)) := by
    show BitVec.ofBool (decide ((BitVec.ofNat 32 r).toInt < (BitVec.ofNat 32 b).toInt)) = _
    rw [toInt_ofNat hr, toInt_ofNat hb]
    simp
  rw [e1, e2]
  by_cases h1 : a ≤ r <;> by_cases h2 : r < b <;> simp [h1, h2] <;> rfl

end Cert.Val
end
-- ==== Proof.KernelIdeal.Block.lean ====
/- The block a visit computes, read at an index over the extended reals. -/
module

public import proofs.«01_k».proof.Proof.KernelIdeal.Obligation
public import proofs.«01_k».proof.Proof.Value.Spec

@[expose] public section

set_option maxRecDepth 16384

noncomputable section

namespace Cert.KernelIdeal.Body

open Cert.KernelIdeal Cert.KernelIdeal.Gen Idealize.ShloMosaic
open Cert.Tables

/-- The shift of row `i` of a slab: 28 in even rows, 24 in odd rows. -/
theorem shift_word : ∀ i : Fin 128, IntOp.subi 28#32 (IntOp.muli 4#32 (IntOp.andi (BitVec.ofNat 32 i.val) 1#32)) =
    if i.val % 2 = 0 then 28#32 else 24#32 := by decide +kernel

theorem nib_apply (g : Fin 48) (P : IVec S3072x256 8) (i : Fin 128) (c : Fin 256) :
    nib g P (ix2 i c) = if i.val % 2 = 0 then Val.lo (P (ix2 ⟨64 * g.val + i.val / 2, by omega⟩ c)) else Val.hi (P (ix2 ⟨64 * g.val + i.val / 2, by omega⟩ c)) := by
  have key : nib g P (ix2 i c) = IntOp.shrsi .vector (IntOp.shli .vector ((P (ix2 ⟨64 * g.val + i.val / 2, by omega⟩ c)).signExtend 32)
      (IntOp.subi 28#32 (IntOp.muli 4#32 (IntOp.andi (BitVec.ofNat 32 i.val) 1#32)))) 28#32 := by
    pointwise [nib]
  rw [key, shift_word]
  split
  · rfl
  · exact Val.hi_eq _

theorem slab_apply (g : Fin 48) (P : IVec S3072x256 8) (S : FVec Ideal S48x256 .fp8e4m3) (i : Fin 128) (c : Fin 256) :
    (slab g P S (ix2 i c) : EReal) = Val.num (nib g P (ix2 i c)) * (S (ix2 g c) : EReal) := by
  pointwise [slab, Val.num]

theorem wscr_left (P1 P3 : IVec S3072x256 8) (S1 S3 : FVec Ideal S48x256 .fp8e4m3) (k : Fin 6144) (c : Fin 256) :
    wscr P1 P3 S1 S3 (ix2 k (⟨c.val, by omega⟩ : Fin 512)) = slab ⟨k.val / 128, by omega⟩ P1 S1 (ix2 ⟨k.val % 128, by omega⟩ c) := by
  unfold wscr
  rw [if_pos (show ((ix2 k (⟨c.val, by omega⟩ : Fin 512) : S6144x512.Idx) 1).val < 256 from c.isLt)]
  refine congrArg (slab _ P1 S1) (funext fun a => ?_)
  match a with
  | ⟨0, _⟩ => rfl
  | ⟨1, _⟩ => exact Fin.ext (Nat.mod_eq_of_lt c.isLt)

theorem wscr_right (P1 P3 : IVec S3072x256 8) (S1 S3 : FVec Ideal S48x256 .fp8e4m3) (k : Fin 6144) (c : Fin 256) :
    wscr P1 P3 S1 S3 (ix2 k (⟨256 + c.val, by omega⟩ : Fin 512)) = slab ⟨k.val / 128, by omega⟩ P3 S3 (ix2 ⟨k.val % 128, by omega⟩ c) := by
  unfold wscr
  rw [if_neg (show ¬((ix2 k (⟨256 + c.val, by omega⟩ : Fin 512) : S6144x512.Idx) 1).val < 256 from by show ¬(256 + c.val < 256); omega)]
  refine congrArg (slab _ P3 S3) (funext fun a => ?_)
  match a with
  | ⟨0, _⟩ => rfl
  | ⟨1, _⟩ => exact Fin.ext (show (256 + c.val) % 256 = c.val by omega)

/-- The sum over the rows of a column of slabs, low codes first and high codes second. -/
theorem slab_sum (P : IVec S3072x256 8) (S : FVec Ideal S48x256 .fp8e4m3) (f : Fin 6144 → EReal) (c : Fin 256) :
    (∑ k : Fin 6144, f k * (slab ⟨k.val / 128, by omega⟩ P S (ix2 ⟨k.val % 128, by omega⟩ c) : EReal)) =
      (∑ j : Fin 3072, f ⟨2 * j.val, by omega⟩ * (Val.num (Val.lo (P (ix2 j c))) * (S (ix2 ⟨j.val / 64, by omega⟩ c) : EReal)))
        + ∑ j : Fin 3072, f ⟨2 * j.val + 1, by omega⟩ * (Val.num (Val.hi (P (ix2 j c))) * (S (ix2 ⟨j.val / 64, by omega⟩ c) : EReal)) := by
  rw [Val.sum_halves]
  refine congr (congrArg _ (Finset.sum_congr rfl fun j _ => ?_)) (Finset.sum_congr rfl fun j _ => ?_)
  · rw [slab_apply, nib_apply, if_pos (show (2 * j.val) % 128 % 2 = 0 by omega)]
    have e1 : (⟨64 * ((2 * j.val) / 128) + (2 * j.val) % 128 / 2, by omega⟩ : Fin 3072) = j := Fin.ext (by show 64 * ((2 * j.val) / 128) + (2 * j.val) % 128 / 2 = j.val; omega)
    have e2 : (⟨(2 * j.val) / 128, by omega⟩ : Fin 48) = ⟨j.val / 64, by omega⟩ := Fin.ext (by show (2 * j.val) / 128 = j.val / 64; omega)
    rw [e1, e2]
  · rw [slab_apply, nib_apply, if_neg (show ¬(2 * j.val + 1) % 128 % 2 = 0 by omega)]
    have e1 : (⟨64 * ((2 * j.val + 1) / 128) + (2 * j.val + 1) % 128 / 2, by omega⟩ : Fin 3072) = j := Fin.ext (by show 64 * ((2 * j.val + 1) / 128) + (2 * j.val + 1) % 128 / 2 = j.val; omega)
    have e2 : (⟨(2 * j.val + 1) / 128, by omega⟩ : Fin 48) = ⟨j.val / 64, by omega⟩ := Fin.ext (by show (2 * j.val + 1) / 128 = j.val / 64; omega)
    rw [e1, e2]

theorem pay177_apply (x : Vec Ideal S256x6144 .fp8e4m3) (W : Vec Ideal S6144x512 .bf16) (r : Fin 256) (c : Fin 512) :
    (k0_pay177 x W (ix2 r c) : EReal) = ∑ k : Fin 6144, (x (ix2 r k) : EReal) * (W (ix2 k c) : EReal) := by
  pointwise [k0_pay177]

theorem pay178_apply (x : Vec Ideal S256x6144 .fp8e4m3) (W : Vec Ideal S6144x512 .bf16) (c1 : Vec Ideal S1x1x256 .f32) (a : Elt Ideal .f32)
    (r c : Fin 256) :
    (k0_pay178 x W c1 a (ix2 r c) : EReal) = (k0_pay177 x W (ix2 r (⟨c.val, by omega⟩ : Fin 512)) : EReal) * (c1 (ix3 0 0 c) : EReal) * (a : EReal) := by
  pointwise [k0_pay178]

theorem pay179_apply (x : Vec Ideal S256x6144 .fp8e4m3) (W : Vec Ideal S6144x512 .bf16) (r c : Fin 256) :
    (k0_pay179 x W (ix2 r c) : EReal) = (k0_pay177 x W (ix2 r (⟨256 + c.val, by omega⟩ : Fin 512)) : EReal) := by
  pointwise [k0_pay179]

theorem pay1_apply (k : IVec S256x1 1) (g u : FVec Ideal S256x256 .f32) (c3 p2 : Vec Ideal S1x1x256 .f32) (a1 a2 : Elt Ideal .f32)
    (Y : Vec Ideal S256x256 .fp8e4m3) (r c : Fin 256) :
    (k0_pay1 k g u c3 a1 p2 a2 Y (ix2 r c) : EReal) = Scalar.select (k (ix2 r 0))
      (Val.act (g (ix2 r c)) ((u (ix2 r c) : EReal) * (c3 (ix3 0 0 c) : EReal) * (a1 : EReal)) (p2 (ix3 0 0 c)) a2) (Y (ix2 r c) : EReal) := by
  pointwise [k0_pay1, Val.act]

theorem mask_apply {m a b : ℕ} (hm : m < 36) (ha : a ≤ 9216) (hb : b ≤ 9216) (r : Fin 256) {α : Type} (x y : α) :
    Scalar.select (k0_pay174 (F := Ideal) (BitVec.ofNat 32 m) (BitVec.ofNat 32 a) (BitVec.ofNat 32 b) (ix2 r 0)) x y =
      if a ≤ 256 * m + r.val ∧ 256 * m + r.val < b then x else y := by
  have e : k0_pay174 (F := Ideal) (BitVec.ofNat 32 m) (BitVec.ofNat 32 a) (BitVec.ofNat 32 b) (ix2 r 0) =
      IntOp.andi (IntOp.cmpi .sge (BitVec.ofNat 32 (256 * m + r.val)) (BitVec.ofNat 32 a)) (IntOp.cmpi .slt (BitVec.ofNat 32 (256 * m + r.val)) (BitVec.ofNat 32 b)) := by
    have w : BitVec.ofNat 32 (256 * m + r.val) = IntOp.addi (BitVec.ofNat 32 r.val) (IntOp.muli (BitVec.ofNat 32 m) 256#32) := by
      show _ = BitVec.ofNat 32 r.val + BitVec.ofNat 32 m * BitVec.ofNat 32 256
      rw [← BitVec.ofNat_mul, ← BitVec.ofNat_add]
      congr 1
      omega
    rw [w]
    pointwise [k0_pay174]
    rfl
  rw [e]
  exact Val.select_rows (by omega) (by omega) (by omega) x y

/-- Row `r` of tile `m` and column `q` of column block `n`. -/
abbrev row (m r : ℕ) : Fin 9216 := Fin.ofNat 9216 (m * 256 + r)
abbrev col (n q : ℕ) : Fin 4096 := Fin.ofNat 4096 (n * 256 + q)

theorem xB_apply (x : Vec Ideal S9216x6144 .fp8e4m3) (m : ℕ) (r : Fin 256) (k : Fin 6144) : xB x m (ix2 r k) = x (ix2 (row m r.val) k) := by
  refine congrArg x (funext fun a => ?_)
  match a with
  | ⟨0, _⟩ => rfl
  | ⟨1, _⟩ => rfl

theorem wB_apply (w : Vec Ideal S8x3072x4096 .i8) (e n : ℕ) (j : Fin 3072) (q : Fin 256) :
    k0_pay2 (F := Ideal) (wB w e n) (ix2 j q) = w (ix3 (Fin.ofNat 8 e) j (col n q.val)) := by
  have e1 : k0_pay2 (F := Ideal) (wB w e n) (ix2 j q) = wB w e n (ix3 0 j q) := by pointwise [k0_pay2]
  rw [e1]
  refine congrArg w (funext fun a => ?_)
  match a with
  | ⟨0, _⟩ => rfl
  | ⟨1, _⟩ => rfl
  | ⟨2, _⟩ => rfl

theorem sB_apply (s : Vec Ideal S8x48x4096 .fp8e4m3) (e n : ℕ) (j : Fin 48) (q : Fin 256) :
    k0_pay3 (sB s e n) (ix2 j q) = s (ix3 (Fin.ofNat 8 e) j (col n q.val)) := by
  have e1 : k0_pay3 (sB s e n) (ix2 j q) = sB s e n (ix3 0 j q) := by pointwise [k0_pay3]
  rw [e1]
  refine congrArg s (funext fun a => ?_)
  match a with
  | ⟨0, _⟩ => rfl
  | ⟨1, _⟩ => rfl
  | ⟨2, _⟩ => rfl

theorem cB_apply (s : Vec Ideal S8x1x4096 .f32) (e n : ℕ) (q : Fin 256) : cB s e n (ix3 0 0 q) = s (ix3 (Fin.ofNat 8 e) 0 (col n q.val)) := by
  refine congrArg s (funext fun a => ?_)
  match a with
  | ⟨0, _⟩ => rfl
  | ⟨1, _⟩ => rfl
  | ⟨2, _⟩ => rfl

section
variable (gs : IVec (⟨1, ![8]⟩ : Shape) 32) (hp : offN (sizes gs) 8 = 9216) (c : Dev nD) (B : Bufs (F := Ideal) c)

/-- The arrays the kernel reads, as numbers. -/
def argsB : Val.Args where
  x := (B main_arg0 : Vec Ideal S9216x6144 .fp8e4m3)
  a1 := (B main_arg2 : Vec Ideal S8 .f32)
  w1 := (B main_arg3 : Vec Ideal S8x3072x4096 .i8)
  w3 := (B main_arg4 : Vec Ideal S8x3072x4096 .i8)
  s1 := (B main_arg5 : Vec Ideal S8x48x4096 .fp8e4m3)
  s3 := (B main_arg6 : Vec Ideal S8x48x4096 .fp8e4m3)
  c1 := fun j => (B main_v48 : Vec Ideal S8x1x4096 .f32) (ix3 (j 0) 0 (j 1))
  c3 := fun j => (B main_v49 : Vec Ideal S8x1x4096 .f32) (ix3 (j 0) 0 (j 1))
  p2 := fun j => (B main_v50 : Vec Ideal S8x1x4096 .f32) (ix3 (j 0) 0 (j 1))
  a2 := (B main_arg10 : Vec Ideal S8 .f32)

theorem gate_sum (m e n : ℕ) (r q : Fin 256) :
    (k0_pay177 (xB (B main_arg0) m) (scrW c B e n) (ix2 r (⟨q.val, by omega⟩ : Fin 512)) : EReal) =
      Val.acc (argsB c B).x (argsB c B).w1 (argsB c B).s1 (Fin.ofNat 8 e) (row m r.val) (col n q.val) := by
  rw [pay177_apply]
  unfold scrW
  simp only [wscr_left]
  rw [slab_sum _ _ (fun k => (xB (B main_arg0) m (ix2 r k) : EReal))]
  simp only [xB_apply, wB_apply, sB_apply]
  rfl

theorem up_sum (m e n : ℕ) (r q : Fin 256) :
    (k0_pay177 (xB (B main_arg0) m) (scrW c B e n) (ix2 r (⟨256 + q.val, by omega⟩ : Fin 512)) : EReal) =
      Val.acc (argsB c B).x (argsB c B).w3 (argsB c B).s3 (Fin.ofNat 8 e) (row m r.val) (col n q.val) := by
  rw [pay177_apply]
  unfold scrW
  simp only [wscr_right]
  rw [slab_sum _ _ (fun k => (xB (B main_arg0) m (ix2 r k) : EReal))]
  simp only [xB_apply, wB_apply, sB_apply]
  rfl

include hp in
theorem vm_at (v : Fin 43) : at1 (vmT gs) v = BitVec.ofNat 32 (tl gs v.val) := by
  rw [at1_eq]; exact vm_entry gs hp v

theorem off_at (k : Fin 9) : at1 (sums gs) k = BitVec.ofNat 32 (offN (sizes gs) k.val) := by
  rw [at1_eq]; exact off_ap gs (sizes gs) (sizes_ap gs) k

theorem word_at {α : Type} (x : S8.Idx → α) (k : Fin 8) : at1 x k = x (ix1 k) := by
  rw [at1_eq]
  refine congrArg x (funext fun a => ?_)
  match a with
  | ⟨0, _⟩ => rfl

include hp in
/-- A visit gives the rows of its expert their activation and leaves the others. -/
theorem step_apply (v : Fin 43) (n : ℕ) (Y : Vec Ideal S256x256 .fp8e4m3) (r q : Fin 256) :
    (step gs c B v n Y (ix2 r q) : EReal) =
      if v.val < cumN (sizes gs) 8 ∧ offN (sizes gs) (ex gs v.val) ≤ 256 * tl gs v.val + r.val ∧ 256 * tl gs v.val + r.val < offN (sizes gs) (ex gs v.val + 1) then
        Val.h (argsB c B) (Fin.ofNat 8 (ex gs v.val)) (row (tl gs v.val) r.val) (col n q.val)
      else (Y (ix2 r q) : EReal) := by
  have he := ex_lt gs hp v
  have hm := tl_lt gs hp v
  have hle : ∀ k, k ≤ 8 → offN (sizes gs) k ≤ 9216 := fun k hk => hp ▸ offN_mono (sizes gs) hk
  unfold step
  by_cases hv : v.val < cumN (sizes gs) 8
  · rw [if_pos hv]
    have e1 : (Fin.ofNat 8 (ex gs v.val)).castSucc.val = ex gs v.val := Nat.mod_eq_of_lt he
    have e2 : (Fin.ofNat 8 (ex gs v.val)).succ.val = ex gs v.val + 1 := congrArg (· + 1) (Nat.mod_eq_of_lt he)
    unfold outBlk
    rw [pay1_apply, vm_at gs hp, off_at, off_at, e1, e2, mask_apply hm (hle _ (by omega)) (hle _ (by omega)), pay178_apply, pay179_apply,
      gate_sum gs, up_sum gs, cB_apply, cB_apply, cB_apply, word_at, word_at]
    simp only [hv, true_and]
    rfl
  · rw [if_neg hv, if_neg (fun h => hv h.1)]
end

end Cert.KernelIdeal.Body
end
-- ==== Proof.KernelIdeal.Good.lean ====
/- The result's array over the reals. Within a tile the rows of the output block become right in the order of the
   experts: after a visit every row before the end of the visit's expert is right. The last visit of a tile ends with
   an expert that reaches the tile's end, so every block written back is right, and the blocks cover the array. -/
module

public import proofs.«01_k».proof.Proof.KernelIdeal.Block
public import proofs.«01_k».proof.Proof.KernelIdeal.Run
public import Idealize.ShloMosaic.Lib.Pipeline.ArrRel
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe
open Idealize.SL.Sem
open Idealize.ShloMosaic.Pipeline (RDat Cfg Window Dat)
open Cert.Tables

variable (gs : IVec (⟨1, ![8]⟩ : Shape) 32) (hp : offN (sizes gs) 8 = 9216) (c : Dev nD) (B : Bufs (F := Ideal) c)

/-- The output's window. -/
abbrev win10 := (cfg0 (adm (F := Ideal) gs hp)).win (10 : Fin 11)

theorem index10 (t : Fin grid0.N) : (win10 gs hp).index t = ![tl gs (grid0.coords t 1).val, (grid0.coords t 0).val] := ixO gs hp (grid0.coords t)

theorem flush10 (t : Fin grid0.N) : (win10 gs hp).flush t = true ↔
    t.val + 1 = grid0.N ∨ ∃ h : t.val + 1 < grid0.N, (win10 gs hp).index ⟨t.val + 1, h⟩ ≠ (win10 gs hp).index t := by
  unfold Window.flush
  rw [show (win10 gs hp).isOut = true from rfl]
  simp only [Bool.true_and, Bool.or_eq_true, decide_eq_true_eq]

/-- A block that the next point goes on with is not written back. -/
theorem noflush (p t : Fin grid0.N) (hpt : t.val = p.val + 1) (h1 : tl gs (grid0.coords t 1).val = tl gs (grid0.coords p 1).val)
    (h0 : (grid0.coords t 0).val = (grid0.coords p 0).val) : ¬ (win10 gs hp).flush p = true := by
  rw [flush10]
  have ht := t.isLt
  rintro (h | ⟨h, hne⟩)
  · omega
  · refine hne ?_
    have e : (⟨p.val + 1, h⟩ : Fin grid0.N) = t := Fin.ext hpt.symm
    rw [e, index10, index10, h1, h0]

/-- A point whose block is written back is the tile's last visit. -/
theorem last_of_flush (t : Fin grid0.N) (hf : (win10 gs hp).flush t = true) :
    (grid0.coords t 1).val = 42 ∨ tl gs ((grid0.coords t 1).val + 1) ≠ tl gs (grid0.coords t 1).val := by
  by_contra hc
  rw [not_or, not_not] at hc
  obtain ⟨h42, hsame⟩ := hc
  have hN := N_0
  have ht := t.isLt
  rw [coord_one] at h42
  have hlt : t.val + 1 < grid0.N := by omega
  have e1 : (grid0.coords ⟨t.val + 1, hlt⟩ 1).val = (grid0.coords t 1).val + 1 := by
    rw [coord_one, coord_one]
    show (t.val + 1) % 43 = _
    omega
  have e0 : (grid0.coords ⟨t.val + 1, hlt⟩ 0).val = (grid0.coords t 0).val := by
    rw [coord_zero, coord_zero]
    show (t.val + 1) / 43 = _
    omega
  exact noflush gs hp t ⟨t.val + 1, hlt⟩ rfl (by rw [e1]; exact hsame) e0 hf

/-- The last visit of a tile is written back. -/
theorem flush_of_last (t : Fin grid0.N)
    (hl : (grid0.coords t 1).val = 42 ∨ tl gs ((grid0.coords t 1).val + 1) ≠ tl gs (grid0.coords t 1).val) : (win10 gs hp).flush t = true := by
  rw [flush10]
  have hN := N_0
  have ht := t.isLt
  by_cases hlt : t.val + 1 < grid0.N
  · refine Or.inr ⟨hlt, fun he => ?_⟩
    rw [index10, index10] at he
    have h0 : tl gs (grid0.coords ⟨t.val + 1, hlt⟩ 1).val = tl gs (grid0.coords t 1).val := congrFun he 0
    have h1 : (grid0.coords ⟨t.val + 1, hlt⟩ 0).val = (grid0.coords t 0).val := congrFun he 1
    have e0 : (grid0.coords ⟨t.val + 1, hlt⟩ 0).val = (t.val + 1) / 43 := coord_zero _
    have e1 : (grid0.coords ⟨t.val + 1, hlt⟩ 1).val = (t.val + 1) % 43 := coord_one _
    rw [e0, coord_zero] at h1
    rw [e1] at h0
    rw [coord_one] at hl h0
    rcases hl with hl | hl
    · omega
    · refine hl ?_
      rw [show t.val % 43 + 1 = (t.val + 1) % 43 by omega]
      exact h0
  · exact Or.inl (by omega)

/-- The whole result. -/
abbrev res (r : Fin 9216) (q : Fin 4096) : EReal := Val.G (argsB c B) (offN (sizes gs)) r q

include hp in
/-- A row of an expert has that expert's activation. -/
theorem res_of {e m : ℕ} (he : e < 8) (hm : m < 36) (r : Fin 256) (q : Fin 4096) (h0 : offN (sizes gs) e ≤ 256 * m + r.val)
    (h1 : 256 * m + r.val < offN (sizes gs) (e + 1)) : res gs c B (row m r.val) q = Val.h (argsB c B) (Fin.ofNat 8 e) (row m r.val) q := by
  have er : (row m r.val).val = 256 * m + r.val := by
    have := r.isLt
    show (m * 256 + r.val) % 9216 = _
    omega
  unfold res Val.G
  exact Val.upto_eq (fun a b hab => offN_mono (sizes gs) hab) _ he (by rw [er]; exact h0) (by rw [er]; exact h1)

/-- Every row of the block before the end of the visit's expert is right. -/
def good (t : Fin grid0.N) (X : Vec Ideal S256x256 .fp8e4m3) : Prop := ∀ r q : Fin 256,
  256 * tl gs (grid0.coords t 1).val + r.val < offN (sizes gs) (ex gs (grid0.coords t 1).val + 1) →
    (X (ix2 r q) : EReal) = res gs c B (row (tl gs (grid0.coords t 1).val) r.val) (col (grid0.coords t 0).val q.val)

/-- What the output block may hold after a visit is right before the end of the visit's expert. -/
theorem leaves_good (k : ℕ) : ∀ (t : Fin grid0.N), t.val = k → ∀ X : Vec Ideal S256x256 .fp8e4m3,
    (rdat gs hp c B).Leaves (10 : Fin 11) t X → good gs c B t X := by
  induction k with
  | zero =>
    rintro t ht X ⟨Y, -, hX⟩ r q hr
    have hX' : X = step gs c B (grid0.coords t 1) (grid0.coords t 0).val Y := hX
    have hv : (grid0.coords t 1).val = 0 := by rw [coord_one, ht]
    have hf := (first_tile (sizes gs) hp).1
    have hc := cumN_pos (sizes gs) hp
    have h0 : offN (sizes gs) (ex gs (grid0.coords t 1).val) = 0 := by rw [hv]; exact hf
    rw [hX']
    refine (step_apply gs hp c B (grid0.coords t 1) (grid0.coords t 0).val Y r q).trans ?_
    rw [if_pos ⟨by omega, by omega, hr⟩]
    exact (res_of gs hp c B (ex_lt gs hp _) (tl_lt gs hp _) r _ (by omega) hr).symm
  | succ k ih =>
    rintro t ht X ⟨Y, hY, hX⟩ r q hr
    have hX' : X = step gs c B (grid0.coords t 1) (grid0.coords t 0).val Y := hX
    have hN := N_0
    have htN := t.isLt
    rw [hX']
    refine (step_apply gs hp c B (grid0.coords t 1) (grid0.coords t 0).val Y r q).trans ?_
    by_cases hcond : (grid0.coords t 1).val < cumN (sizes gs) 8 ∧ offN (sizes gs) (ex gs (grid0.coords t 1).val) ≤ 256 * tl gs (grid0.coords t 1).val + r.val
    · rw [if_pos ⟨hcond.1, hcond.2, hr⟩]
      exact (res_of gs hp c B (ex_lt gs hp _) (tl_lt gs hp _) r _ hcond.2 hr).symm
    · rw [if_neg (fun h => hcond ⟨h.1, h.2.1⟩)]
      by_cases hv : (grid0.coords t 1).val = 0
      · have hf := (first_tile (sizes gs) hp).1
        have hc := cumN_pos (sizes gs) hp
        have h0 : offN (sizes gs) (ex gs (grid0.coords t 1).val) = 0 := by rw [hv]; exact hf
        exact absurd ⟨by omega, by omega⟩ hcond
      · obtain ⟨u, hu⟩ : ∃ u, (grid0.coords t 1).val = u + 1 := ⟨(grid0.coords t 1).val - 1, by omega⟩
        have hp' : k < grid0.N := by omega
        have c1 : (grid0.coords ⟨k, hp'⟩ 1).val = u := by
          have a := coord_one ⟨k, hp'⟩
          have b := coord_one t
          have : (⟨k, hp'⟩ : Fin grid0.N).val = k := rfl
          omega
        have c0 : (grid0.coords t 0).val = (grid0.coords ⟨k, hp'⟩ 0).val := by
          have a := coord_zero ⟨k, hp'⟩
          have b := coord_zero t
          have d := coord_one t
          have : (⟨k, hp'⟩ : Fin grid0.N).val = k := rfl
          omega
        rw [hu] at hcond hr ⊢
        by_cases hm : tl gs (u + 1) = tl gs u
        · have hnf := noflush gs hp ⟨k, hp'⟩ t ht (by rw [hu, c1]; exact hm) c0
          have hpos := ((rdat gs hp c B).finds_of_pos (w := (10 : Fin 11)) (t := t) ((win10 gs hp).fetch_out rfl t) (by omega) Y).mp hY
          have ek : (⟨t.val - 1, Nat.lt_of_le_of_lt (Nat.sub_le _ _) t.isLt⟩ : Fin grid0.N) = ⟨k, hp'⟩ := Fin.ext (by show t.val - 1 = k; omega)
          have hL : (rdat gs hp c B).Leaves (10 : Fin 11) ⟨k, hp'⟩ Y := by
            rcases hpos with h | h
            · exact absurd (ek ▸ h) hnf
            · exact ek ▸ h
          have hg := ih ⟨k, hp'⟩ rfl Y hL r q
          rw [c1] at hg
          rw [c0, hm]
          refine hg ?_
          rw [hm] at hcond hr
          rcases Nat.lt_or_ge (u + 1) (cumN (sizes gs) 8) with hl | hd
          · have hs : offN (sizes gs) (ex gs (u + 1)) ≤ offN (sizes gs) (ex gs u + 1) := same_tile (sizes gs) hp u hm
            have : ¬ offN (sizes gs) (ex gs (u + 1)) ≤ 256 * tl gs u + r.val := fun h => hcond ⟨hl, h⟩
            omega
          · have he : ex gs (u + 1) = ex gs u := (next_dead (sizes gs) hp u hd).2.1
            rw [← he]; exact hr
        · have hn : offN (sizes gs) (ex gs (u + 1)) ≤ 256 * tl gs (u + 1) := new_tile (sizes gs) hp u hm
          refine absurd ⟨?_, by omega⟩ hcond
          by_contra hd
          exact hm (next_dead (sizes gs) hp u (by omega)).2.2

/-- A block written back is right throughout. -/
theorem flushed_good (t : Fin grid0.N) (hf : (win10 gs hp).flush t = true) (X : Vec Ideal S256x256 .fp8e4m3)
    (hX : (rdat gs hp c B).Leaves (10 : Fin 11) t X) (r q : Fin 256) :
    (X (ix2 r q) : EReal) = res gs c B (row (tl gs (grid0.coords t 1).val) r.val) (col (grid0.coords t 0).val q.val) := by
  refine leaves_good gs hp c B t.val t rfl X hX r q ?_
  have hr := r.isLt
  rcases last_of_flush gs hp t hf with h | h
  · have hl := last_visit (sizes gs) hp
    have h1 : offN (sizes gs) (ex gs (grid0.coords t 1).val + 1) = 9216 := by rw [h]; exact hl.1
    have h2 : tl gs (grid0.coords t 1).val = 35 := by rw [h]; exact hl.2
    omega
  · have he : 256 * (tl gs (grid0.coords t 1).val + 1) ≤ offN (sizes gs) (ex gs (grid0.coords t 1).val + 1) := end_tile (sizes gs) hp _ h
    omega

/-- The result as an array. -/
def resA : Vec Ideal S9216x4096 .fp8e4m3 := fun i => res gs c B (i 0) (i 1)

/-- Where an element of a block lies in the array. -/
theorem emb10 (t : Fin grid0.N) (y : S256x256.Idx) :
    ((win10 gs hp).blk t).view.emb y = (ix2 (row (tl gs (grid0.coords t 1).val) (y 0).val) (col (grid0.coords t 0).val (y 1).val) : S9216x4096.Idx) := by
  have e := ixO (F := Ideal) gs hp (grid0.coords t)
  have hm := tl_lt gs hp (grid0.coords t 1)
  funext a
  match a with
  | ⟨0, _⟩ =>
    apply Fin.ext
    have hy : (y 0).val < 256 := (y 0).isLt
    show cc0_transform_10 k0_off1_inb numel1_S1 (tab (F := Ideal) gs) (grid0.coords t) 0 * 256 + 1 * (y 0).val = (tl gs (grid0.coords t 1).val * 256 + (y 0).val) % 9216
    rw [e]
    show tl gs (grid0.coords t 1).val * 256 + 1 * (y 0).val = _
    omega
  | ⟨1, _⟩ =>
    apply Fin.ext
    have hy : (y 1).val < 256 := (y 1).isLt
    have hn : (grid0.coords t 0).val < 16 := (grid0.coords t 0).isLt
    show cc0_transform_10 k0_off1_inb numel1_S1 (tab (F := Ideal) gs) (grid0.coords t) 1 * 256 + 1 * (y 1).val = ((grid0.coords t 0).val * 256 + (y 1).val) % 4096
    rw [e]
    show (grid0.coords t 0).val * 256 + 1 * (y 1).val = _
    omega

/-- Every element of the array lies in a block that is written back. -/
theorem covered10 (i : S9216x4096.Idx) : ∃ t : Fin grid0.N, (win10 gs hp).flush t = true ∧ i ∈ ((win10 gs hp).blk t).view.set := by
  have hi0 : (i 0).val < 9216 := (i 0).isLt
  have hi1 : (i 1).val < 4096 := (i 1).isLt
  have hN := N_0
  obtain ⟨v, hv, hm, hl⟩ := exists_last (sizes gs) hp ((i 0).val / 256) (by omega)
  obtain ⟨t, ht⟩ : ∃ t : Fin grid0.N, t.val = (i 1).val / 256 * 43 + v := ⟨⟨(i 1).val / 256 * 43 + v, by omega⟩, rfl⟩
  have c1 : (grid0.coords t 1).val = v := by rw [coord_one, ht]; omega
  have c0 : (grid0.coords t 0).val = (i 1).val / 256 := by rw [coord_zero, ht]; omega
  refine ⟨t, flush_of_last gs hp t (by rw [c1]; exact hl), ?_⟩
  have e : (ix2 (row (tl gs v) ((i 0).val % 256)) (col ((i 1).val / 256) ((i 1).val % 256)) : S9216x4096.Idx) = i := by
    have hm' : tl gs v = (i 0).val / 256 := hm
    funext a
    match a with
    | ⟨0, _⟩ =>
      apply Fin.ext
      show (tl gs v * 256 + (i 0).val % 256) % 9216 = (i 0).val
      omega
    | ⟨1, _⟩ =>
      apply Fin.ext
      show ((i 1).val / 256 * 256 + (i 1).val % 256) % 4096 = (i 1).val
      omega
  have ey := emb10 gs hp t (ix2 (⟨(i 0).val % 256, Nat.mod_lt _ (by omega)⟩ : Fin 256) (⟨(i 1).val % 256, Nat.mod_lt _ (by omega)⟩ : Fin 256) : S256x256.Idx)
  rw [c1, c0] at ey
  have h := ((win10 gs hp).blk t).view.emb_mem_set
    (ix2 (⟨(i 0).val % 256, Nat.mod_lt _ (by omega)⟩ : Fin 256) (⟨(i 1).val % 256, Nat.mod_lt _ (by omega)⟩ : Fin 256) : S256x256.Idx)
  rw [ey.trans e] at h
  exact h

/-- Whatever the output's array may hold at the end is the result. -/
theorem arr_eq (X : Vec Ideal S9216x4096 .fp8e4m3) (h : (rdat gs hp c B).ArrAt (10 : Fin 11) grid0.N X) : X = resA gs c B := by
  obtain ⟨Z, hZ, hA⟩ := RDat.ArrAt.exists_exact h
  have e := hA (Function.update (fun _ _ _ => Classical.arbitrary _) (10 : Fin 11) Z) fun u _ _ => by rw [Function.update_self]
  rw [e]
  refine Dat.arrAt_eq_of_cover ((rdat gs hp c B).withAfter _) (10 : Fin 11) (resA gs c B) (fun t hf => ?_) (covered10 gs hp)
  refine funext fun (y : S256x256.Idx) => ?_
  rw [Dat.flushed_apply, RDat.withAfter_after, Function.update_self]
  have hg := flushed_good gs hp c B t hf (Z t) (hZ t t.isLt hf) (y 0) (y 1)
  have ey : (ix2 (y 0) (y 1) : S256x256.Idx) = y := by
    funext a
    match a with
    | ⟨0, _⟩ => rfl
    | ⟨1, _⟩ => rfl
  rw [ey] at hg
  refine Eq.trans hg ?_
  show _ = resA gs c B (((win10 gs hp).blk t).view.emb y)
  rw [emb10 gs hp]
  rfl

end Cert.KernelIdeal.Body
end
-- ==== Proof.Reference.Chain.lean ====
module

public import proofs.«01_k».proof.Proof.Gen.ReferenceIdeal.Value
public import Idealize.ShloMosaic.Lib.Pipeline.ValueKit
public import Idealize.ShloMosaic.Lib.Pointwise

/-!
The reference's body as a loop over the experts: what it stores is the last of eight masked updates, each of them the clipped activation
of one expert. The vectors are named here once; the body's own terms unfold to them.
-/

@[expose] public section
set_option maxRecDepth 65536

noncomputable section

namespace Cert.ReferenceIdeal.Body

open Cert.ReferenceIdeal Cert.ReferenceIdeal.Gen Cert.ReferenceIdeal.Value Idealize.ShloMosaic Idealize.ShloMosaic.TcCoe Idealize.SL.Sem

variable {F : FTy → Type} [FloatOps F]

/-- Expert `k`'s slice of a stack of packed weights. -/
def wE (x : Vec F S8x3072x4096 .i8) (k : Nat) : Vec F S1x3072x4096 .i8 := fun j => x (ix3 (Fin.ofNat 8 k) (j 1) (j 2))

/-- Expert `k`'s slice of a stack of scales. -/
def sE (x : Vec F S8x48x4096 .fp8e4m3) (k : Nat) : Vec F S1x48x4096 .fp8e4m3 := fun j => x (ix3 (Fin.ofNat 8 k) (j 1) (j 2))

/-- Expert `k`'s row of a stack of rows. -/
def cE (x : Vec F S8x4096 .f32) (k : Nat) : Vec F S1x4096 .f32 := fun j => x (ix2 (Fin.ofNat 8 k) (j 1))

theorem ofNat_eq {k : Nat} (h : k < 8) : (⟨k, h⟩ : Fin 8) = Fin.ofNat 8 k := Fin.ext (Nat.mod_eq_of_lt h).symm

theorem ld_w (x : Vec F S8x3072x4096 .i8) (k : Nat) (h : ∀ a, (![k, 0, 0] : Fin 3 → Nat) a + (![1, 3072, 4096] : Fin 3 → Nat) a ≤ S8x3072x4096.size a) :
    View.ld x (Rect.unit ![k, 0, 0] ![1, 3072, 4096] h) = wE x k := by
  refine funext fun (j : S1x3072x4096.Idx) => congrArg x ?_
  have hk : k < 8 := by have := h 0; change k + 1 ≤ 8 at this; omega
  have h0 : (j 0).val = 0 := by have : (j 0).val < 1 := (j 0).isLt; omega
  refine funext fun a => Fin.ext ?_
  match a with
  | ⟨0, _⟩ => show k + 1 * (j 0).val = k % 8; omega
  | ⟨1, _⟩ => show 0 + 1 * (j 1).val = (j 1).val; omega
  | ⟨2, _⟩ => show 0 + 1 * (j 2).val = (j 2).val; omega

theorem ld_s (x : Vec F S8x48x4096 .fp8e4m3) (k : Nat) (h : ∀ a, (![k, 0, 0] : Fin 3 → Nat) a + (![1, 48, 4096] : Fin 3 → Nat) a ≤ S8x48x4096.size a) :
    View.ld x (Rect.unit ![k, 0, 0] ![1, 48, 4096] h) = sE x k := by
  refine funext fun (j : S1x48x4096.Idx) => congrArg x ?_
  have hk : k < 8 := by have := h 0; change k + 1 ≤ 8 at this; omega
  have h0 : (j 0).val = 0 := by have : (j 0).val < 1 := (j 0).isLt; omega
  refine funext fun a => Fin.ext ?_
  match a with
  | ⟨0, _⟩ => show k + 1 * (j 0).val = k % 8; omega
  | ⟨1, _⟩ => show 0 + 1 * (j 1).val = (j 1).val; omega
  | ⟨2, _⟩ => show 0 + 1 * (j 2).val = (j 2).val; omega

theorem ld_c (x : Vec F S8x4096 .f32) (k : Nat) (h : ∀ a, (![k, 0] : Fin 2 → Nat) a + (![1, 4096] : Fin 2 → Nat) a ≤ S8x4096.size a) :
    View.ld x (Rect.unit ![k, 0] ![1, 4096] h) = cE x k := by
  refine funext fun (j : S1x4096.Idx) => congrArg x ?_
  have hk : k < 8 := by have := h 0; change k + 1 ≤ 8 at this; omega
  have h0 : (j 0).val = 0 := by have : (j 0).val < 1 := (j 0).isLt; omega
  refine funext fun a => Fin.ext ?_
  match a with
  | ⟨0, _⟩ => show k + 1 * (j 0).val = k % 8; omega
  | ⟨1, _⟩ => show 0 + 1 * (j 1).val = (j 1).val; omega

/-- The only index of a one-word load at word `k` is `k`. -/
theorem first_ix (k : Nat) (h : ∀ a, (![k] : Fin 1 → Nat) a + (![1] : Fin 1 → Nat) a ≤ S8.size a)
    (hn : 0 < (Rect.unit (s := S8) ![k] ![1] h).toLoadRect.shape.numel) :
    (Rect.unit (s := S8) ![k] ![1] h).toLoadRect.idx (Shape.Idx.first hn) = ix1 (Fin.ofNat 8 k) := by
  have hk : k < 8 := by have := h 0; change k + 1 ≤ 8 at this; omega
  refine funext fun a => Fin.ext ?_
  match a with
  | ⟨0, _⟩ => show k + 1 * 0 = k % 8; omega

/-- The scales of one expert, one row of 4096 for every row of packed weights. -/
def scl (s : Vec F S1x48x4096 .fp8e4m3) : FVec F S3072x4096 .bf16 :=
  shapeCast S3072x4096 (broadcastTo S48x64x4096 (shapeCast S48x1x4096 (shapeCast S48x1x4096
    (extf .bf16 (shapeCast S48x4096 s shapeCasts_S1x48x4096_S48x4096) bitsLt_fp8e4m3_bf16) shapeCasts_S48x4096_S48x1x4096)
    shapeCasts_S48x1x4096_S48x1x4096) broadcasts_S48x1x4096_S48x64x4096) shapeCasts_S48x64x4096_S3072x4096

/-- One expert's packed bytes, widened. -/
def wide (w : Vec F S1x3072x4096 .i8) : IVec S3072x4096 32 :=
  extsi 32 (shapeCast S3072x4096 w shapeCasts_S1x3072x4096_S3072x4096) natLt_8_32

/-- The low codes. -/
def low (w : Vec F S1x3072x4096 .i8) : IVec S3072x4096 32 :=
  shrsi (shli (wide w) (broadcast S3072x4096 28#32)) (broadcast S3072x4096 28#32)

/-- The high codes. -/
def high (w : Vec F S1x3072x4096 .i8) : IVec S3072x4096 32 := shrsi (wide w) (broadcast S3072x4096 4#32)

/-- The product with one expert's weight: the even columns with the low codes plus the odd columns with the high codes. -/
def prod (xe xo : Vec F S9216x3072 .fp8e4m3) (w : Vec F S1x3072x4096 .i8) (s : Vec F S1x48x4096 .fp8e4m3) : FVec F S9216x4096 .f32 :=
  addf
    (matmul dot_S9216x3072_S3072x4096_S9216x4096_1_0_0_1_n_n none (k0_pay2 xe) (mulf (sitofp .bf16 (low w)) (scl s)) (constant S9216x4096 .f32 0x00000000#32))
    (matmul dot_S9216x3072_S3072x4096_S9216x4096_1_0_0_1_n_n none (k0_pay3 xo) (mulf (sitofp .bf16 (high w)) (scl s)) (constant S9216x4096 .f32 0x00000000#32))

/-- The product rescaled by the columns' scales and the activation's scale. -/
def lin (xe xo : Vec F S9216x3072 .fp8e4m3) (w : Vec F S1x3072x4096 .i8) (s : Vec F S1x48x4096 .fp8e4m3) (c : Vec F S1x4096 .f32) (a : Elt F .f32) :
    FVec F S9216x4096 .f32 :=
  mulf (mulf (prod xe xo w s) (broadcastTo S9216x4096 c broadcasts_S1x4096_S9216x4096)) (broadcast S9216x4096 a)

/-- The clipped activation from the gate and the up product. -/
def actV (g u : FVec F S9216x4096 .f32) (p : Vec F S1x4096 .f32) (b : Elt F .f32) : FVec F S9216x4096 .f32 :=
  minimumf (broadcast S9216x4096 (Scalar.ofBits .f32 0x43E00000#32)) (maximumf (broadcast S9216x4096 (Scalar.ofBits .f32 0xC3E00000#32))
    (divf (mulf (mulf (mulf g (logistic g)) u) (broadcastTo S9216x4096 p broadcasts_S1x4096_S9216x4096)) (broadcast S9216x4096 b)))

/-- The rows from word `st` to word `en` take `h`, the others keep `old`. -/
def pick (st en : BitVec 32) (h old : FVec F S9216x4096 .f32) : FVec F S9216x4096 .f32 :=
  select (broadcastTo S9216x4096 (shapeCast S9216x1 (andi
    (cmpi .sge (iota .tc S9216x1 32 [0] iota_S9216x1_d0_w32) (broadcast S9216x1 st))
    (cmpi .slt (iota .tc S9216x1 32 [0] iota_S9216x1_d0_w32) (broadcast S9216x1 en))) shapeCasts_S9216x1_S9216x1) broadcasts_S9216x1_S9216x4096) h old

section
variable (x0 : Vec F S8 .i32) (x1 : Vec F S8 .f32) (x2 : Vec F S8 .f32) (x3 : Vec F S9216x3072 .fp8e4m3) (x4 : Vec F S9216x3072 .fp8e4m3)
  (x5 : Vec F S8x3072x4096 .i8) (x6 : Vec F S8x3072x4096 .i8) (x7 : Vec F S8x48x4096 .fp8e4m3) (x8 : Vec F S8x48x4096 .fp8e4m3)
  (x9 : Vec F S8x4096 .f32) (x10 : Vec F S8x4096 .f32) (x11 : Vec F S8x4096 .f32)

/-- The word at which expert `k`'s rows start. -/
def st : Nat → BitVec 32
  | 0 => 0#32
  | k + 1 => Scalar.addi (st k) (x0 (ix1 (Fin.ofNat 8 k)))

/-- Expert `k`'s activation. -/
def hV (k : Nat) : FVec F S9216x4096 .f32 :=
  actV (lin x3 x4 (wE x5 k) (sE x7 k) (cE x9 k) (x1 (ix1 (Fin.ofNat 8 k)))) (lin x3 x4 (wE x6 k) (sE x8 k) (cE x10 k) (x1 (ix1 (Fin.ofNat 8 k))))
    (cE x11 k) (x2 (ix1 (Fin.ofNat 8 k)))

/-- The result after the experts below `k`. -/
def after : Nat → FVec F S9216x4096 .f32
  | 0 => broadcast S9216x4096 (Scalar.ofBits .f32 0x00000000#32)
  | k + 1 => pick (st (F := F) x0 k) (st (F := F) x0 (k + 1)) (hV x1 x2 x3 x4 x5 x6 x7 x8 x9 x10 x11 k) (after k)
end

/-- What the body stores. -/
theorem out_eq (c : Dev nD) (arg0 : Memref sig .tc .smem S8 .i32) (harg0 : arg0.IsWhole) (arg1 : Memref sig .tc .smem S8 .f32) (harg1 : arg1.IsWhole) (arg2 : Memref sig .tc .smem S8 .f32) (harg2 : arg2.IsWhole) (arg3 : Memref sig .tc .vmem S9216x3072 .fp8e4m3) (harg3 : arg3.IsWhole) (arg4 : Memref sig .tc .vmem S9216x3072 .fp8e4m3) (harg4 : arg4.IsWhole) (arg5 : Memref sig .tc .vmem S8x3072x4096 .i8) (harg5 : arg5.IsWhole) (arg6 : Memref sig .tc .vmem S8x3072x4096 .i8) (harg6 : arg6.IsWhole) (arg7 : Memref sig .tc .vmem S8x48x4096 .fp8e4m3) (harg7 : arg7.IsWhole) (arg8 : Memref sig .tc .vmem S8x48x4096 .fp8e4m3) (harg8 : arg8.IsWhole) (arg9 : Memref sig .tc .vmem S8x4096 .f32) (harg9 : arg9.IsWhole) (arg10 : Memref sig .tc .vmem S8x4096 .f32) (harg10 : arg10.IsWhole) (arg11 : Memref sig .tc .vmem S8x4096 .f32) (harg11 : arg11.IsWhole) (arg12 : Memref sig .tc .vmem S9216x4096 .fp8e4m3) (harg12 : arg12.IsWhole)
    (x0 : Vec F S8 .i32) (x1 : Vec F S8 .f32) (x2 : Vec F S8 .f32) (x3 : Vec F S9216x3072 .fp8e4m3) (x4 : Vec F S9216x3072 .fp8e4m3) (x5 : Vec F S8x3072x4096 .i8) (x6 : Vec F S8x3072x4096 .i8) (x7 : Vec F S8x48x4096 .fp8e4m3) (x8 : Vec F S8x48x4096 .fp8e4m3) (x9 : Vec F S8x4096 .f32) (x10 : Vec F S8x4096 .f32) (x11 : Vec F S8x4096 .f32) :
    out0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 =
      truncf .fp8e4m3 (after x0 x1 x2 x3 x4 x5 x6 x7 x8 x9 x10 x11 8) bitsLt_fp8e4m3_f32 := by
  unfold out0_A_12
  rw [View.read_writes_junk_eq_canon]
  unfold kernelRun0_A
  dsimp only
  frame_out
  simp only [ld_w, ld_s, ld_c]
  simp only [View.ld, first_ix]
  simp only [after, st, hV]
  rfl

end Cert.ReferenceIdeal.Body
end
-- ==== Proof.Reference.Elem.lean ====
module

public import proofs.«01_k».proof.Proof.Reference.Chain
public import proofs.«01_k».proof.Proof.Value.Spec

/-!
The reference's vectors read at an index, over the extended reals.
-/

@[expose] public section
set_option maxRecDepth 16384

noncomputable section

namespace Cert.ReferenceIdeal.Body

open Cert.ReferenceIdeal Cert.ReferenceIdeal.Gen Idealize.ShloMosaic

theorem scl_apply (s : Vec Ideal S1x48x4096 .fp8e4m3) (j : Fin 3072) (q : Fin 4096) :
    scl s (ix2 j q) = s (ix3 0 ⟨j.val / 64, by omega⟩ q) := by
  pointwise [scl]

theorem low_apply (w : Vec Ideal S1x3072x4096 .i8) (j : Fin 3072) (q : Fin 4096) :
    low (F := Ideal) w (ix2 j q) = Val.lo (w (ix3 0 j q)) := by
  pointwise [low, wide, Val.lo]

theorem high_apply (w : Vec Ideal S1x3072x4096 .i8) (j : Fin 3072) (q : Fin 4096) :
    high (F := Ideal) w (ix2 j q) = Val.hi (w (ix3 0 j q)) := by
  pointwise [high, wide, Val.hi]

theorem prod_apply (xe xo : Vec Ideal S9216x3072 .fp8e4m3) (w : Vec Ideal S1x3072x4096 .i8) (s : Vec Ideal S1x48x4096 .fp8e4m3)
    (r : Fin 9216) (q : Fin 4096) :
    (prod xe xo w s (ix2 r q) : EReal) =
      (∑ j : Fin 3072, (xe (ix2 r j) : EReal) * (Val.num (Val.lo (w (ix3 0 j q))) * (s (ix3 0 ⟨j.val / 64, by omega⟩ q) : EReal)))
        + ∑ j : Fin 3072, (xo (ix2 r j) : EReal) * (Val.num (Val.hi (w (ix3 0 j q))) * (s (ix3 0 ⟨j.val / 64, by omega⟩ q) : EReal)) := by
  pointwise [prod, k0_pay2, k0_pay3, low_apply, high_apply, scl_apply, Val.num]

theorem lin_apply (xe xo : Vec Ideal S9216x3072 .fp8e4m3) (w : Vec Ideal S1x3072x4096 .i8) (s : Vec Ideal S1x48x4096 .fp8e4m3)
    (c : Vec Ideal S1x4096 .f32) (a : Elt Ideal .f32) (r : Fin 9216) (q : Fin 4096) :
    (lin xe xo w s c a (ix2 r q) : EReal) = (prod xe xo w s (ix2 r q) : EReal) * (c (ix2 0 q) : EReal) * (a : EReal) := by
  pointwise [lin]

theorem actV_apply (g u : FVec Ideal S9216x4096 .f32) (p : Vec Ideal S1x4096 .f32) (b : Elt Ideal .f32) (r : Fin 9216) (q : Fin 4096) :
    (actV g u p b (ix2 r q) : EReal) = Val.act (g (ix2 r q)) (u (ix2 r q)) (p (ix2 0 q)) b := by
  pointwise [actV, Val.act]

theorem pick_apply {a b : Nat} (ha : a < 2 ^ 31) (hb : b < 2 ^ 31) (h old : FVec Ideal S9216x4096 .f32) (r : Fin 9216) (q : Fin 4096) :
    (pick (BitVec.ofNat 32 a) (BitVec.ofNat 32 b) h old (ix2 r q) : EReal) =
      if a ≤ r.val ∧ r.val < b then (h (ix2 r q) : EReal) else (old (ix2 r q) : EReal) := by
  have key := Val.select_rows (α := EReal) (r := r.val) (by omega) ha hb (h (ix2 r q)) (old (ix2 r q))
  rw [← key]
  pointwise [pick]

section
variable (x0 : Vec Ideal S8 .i32) (x1 : Vec Ideal S8 .f32) (x2 : Vec Ideal S8 .f32) (x3 : Vec Ideal S9216x3072 .fp8e4m3)
  (x4 : Vec Ideal S9216x3072 .fp8e4m3) (x5 : Vec Ideal S8x3072x4096 .i8) (x6 : Vec Ideal S8x3072x4096 .i8)
  (x7 : Vec Ideal S8x48x4096 .fp8e4m3) (x8 : Vec Ideal S8x48x4096 .fp8e4m3)
  (x9 : Vec Ideal S8x4096 .f32) (x10 : Vec Ideal S8x4096 .f32) (x11 : Vec Ideal S8x4096 .f32)

/-- The arguments as numbers, from the array `x` whose even and odd columns the body reads. -/
abbrev args (x : (⟨2, ![9216, 6144]⟩ : Shape).Idx → EReal) : Val.Args :=
  ⟨x, x1, x5, x6, x7, x8, x9, x10, x11, x2⟩

theorem hV_apply (x : (⟨2, ![9216, 6144]⟩ : Shape).Idx → EReal)
    (he : ∀ (r : Fin 9216) (j : Fin 3072), (x3 (ix2 r j) : EReal) = x (ix2 r ⟨2 * j.val, by omega⟩))
    (ho : ∀ (r : Fin 9216) (j : Fin 3072), (x4 (ix2 r j) : EReal) = x (ix2 r ⟨2 * j.val + 1, by omega⟩))
    (k : Nat) (r : Fin 9216) (q : Fin 4096) :
    (hV x1 x2 x3 x4 x5 x6 x7 x8 x9 x10 x11 k (ix2 r q) : EReal) = Val.h (args x1 x2 x5 x6 x7 x8 x9 x10 x11 x) (Fin.ofNat 8 k) r q := by
  unfold hV
  rw [actV_apply, lin_apply, lin_apply, prod_apply, prod_apply]
  simp only [he, ho]
  rfl

/-- The result of the loop, when the words at which the experts' rows start are the numbers `off`. -/
theorem after_apply (x : (⟨2, ![9216, 6144]⟩ : Shape).Idx → EReal)
    (he : ∀ (r : Fin 9216) (j : Fin 3072), (x3 (ix2 r j) : EReal) = x (ix2 r ⟨2 * j.val, by omega⟩))
    (ho : ∀ (r : Fin 9216) (j : Fin 3072), (x4 (ix2 r j) : EReal) = x (ix2 r ⟨2 * j.val + 1, by omega⟩))
    (off : Nat → Nat) (hoff : ∀ k, k ≤ 8 → st (F := Ideal) x0 k = BitVec.ofNat 32 (off k) ∧ off k < 2 ^ 31) (r : Fin 9216) (q : Fin 4096) :
    (after x0 x1 x2 x3 x4 x5 x6 x7 x8 x9 x10 x11 8 (ix2 r q) : EReal) = Val.G (args x1 x2 x5 x6 x7 x8 x9 x10 x11 x) off r q := by
  have key : ∀ k, k ≤ 8 → (after x0 x1 x2 x3 x4 x5 x6 x7 x8 x9 x10 x11 k (ix2 r q) : EReal) =
      Val.upto off (fun e => Val.h (args x1 x2 x5 x6 x7 x8 x9 x10 x11 x) (Fin.ofNat 8 e) r q) r.val k := by
    intro k
    induction k with
    | zero => exact fun _ => Ideal.ofBits_zero_f32
    | succ k ih =>
      intro hk
      unfold after Val.upto
      rw [(hoff k (by omega)).1, (hoff (k + 1) hk).1, pick_apply (hoff k (by omega)).2 (hoff (k + 1) hk).2,
        hV_apply x1 x2 x3 x4 x5 x6 x7 x8 x9 x10 x11 x he ho, ih (by omega)]
  exact key 8 (Nat.le_refl 8)
end

end Cert.ReferenceIdeal.Body
end
-- ==== Proof.Reference.Run.lean ====
module

public import proofs.«01_k».proof.Proof.Reference.Elem
public import proofs.«01_k».proof.Proof.Tables.Pre

/-!
The reference's result array as a function of its arguments: the body runs at one point only, whose blocks are the whole arrays, so the array
it leaves is what the body stores.
-/

@[expose] public section
set_option maxRecDepth 16384

noncomputable section

namespace Cert.ReferenceIdeal.Body

open Cert.ReferenceIdeal Cert.ReferenceIdeal.Gen Cert.ReferenceIdeal.Value Idealize.ShloMosaic Idealize.ShloMosaic.TcCoe Idealize.SL.Sem
open Cert.Tables (offN sizes)

section
variable {F : FTy → Type} [FloatOps F] (m : (ℓ : Loc nD τ sig) → Buf (Elt F) ℓ)

theorem emb0 (t : Fin cfg0.N) (j : S8.Idx) : ((cfg0.win 0).blk t).view.emb j = j := by
  funext a; apply Fin.ext
  match a with
  | ⟨0, _⟩ => show 0 * 8 + 1 * (j 0).val = (j 0).val; omega

theorem emb1 (t : Fin cfg0.N) (j : S8.Idx) : ((cfg0.win 1).blk t).view.emb j = j := by
  funext a; apply Fin.ext
  match a with
  | ⟨0, _⟩ => show 0 * 8 + 1 * (j 0).val = (j 0).val; omega

theorem emb2 (t : Fin cfg0.N) (j : S8.Idx) : ((cfg0.win 2).blk t).view.emb j = j := by
  funext a; apply Fin.ext
  match a with
  | ⟨0, _⟩ => show 0 * 8 + 1 * (j 0).val = (j 0).val; omega

theorem emb3 (t : Fin cfg0.N) (j : S9216x3072.Idx) : ((cfg0.win 3).blk t).view.emb j = j := by
  funext a; apply Fin.ext
  match a with
  | ⟨0, _⟩ => show 0 * 9216 + 1 * (j 0).val = (j 0).val; omega
  | ⟨1, _⟩ => show 0 * 3072 + 1 * (j 1).val = (j 1).val; omega

theorem emb4 (t : Fin cfg0.N) (j : S9216x3072.Idx) : ((cfg0.win 4).blk t).view.emb j = j := by
  funext a; apply Fin.ext
  match a with
  | ⟨0, _⟩ => show 0 * 9216 + 1 * (j 0).val = (j 0).val; omega
  | ⟨1, _⟩ => show 0 * 3072 + 1 * (j 1).val = (j 1).val; omega

theorem emb5 (t : Fin cfg0.N) (j : S8x3072x4096.Idx) : ((cfg0.win 5).blk t).view.emb j = j := by
  funext a; apply Fin.ext
  match a with
  | ⟨0, _⟩ => show 0 * 8 + 1 * (j 0).val = (j 0).val; omega
  | ⟨1, _⟩ => show 0 * 3072 + 1 * (j 1).val = (j 1).val; omega
  | ⟨2, _⟩ => show 0 * 4096 + 1 * (j 2).val = (j 2).val; omega

theorem emb6 (t : Fin cfg0.N) (j : S8x3072x4096.Idx) : ((cfg0.win 6).blk t).view.emb j = j := by
  funext a; apply Fin.ext
  match a with
  | ⟨0, _⟩ => show 0 * 8 + 1 * (j 0).val = (j 0).val; omega
  | ⟨1, _⟩ => show 0 * 3072 + 1 * (j 1).val = (j 1).val; omega
  | ⟨2, _⟩ => show 0 * 4096 + 1 * (j 2).val = (j 2).val; omega

theorem emb7 (t : Fin cfg0.N) (j : S8x48x4096.Idx) : ((cfg0.win 7).blk t).view.emb j = j := by
  funext a; apply Fin.ext
  match a with
  | ⟨0, _⟩ => show 0 * 8 + 1 * (j 0).val = (j 0).val; omega
  | ⟨1, _⟩ => show 0 * 48 + 1 * (j 1).val = (j 1).val; omega
  | ⟨2, _⟩ => show 0 * 4096 + 1 * (j 2).val = (j 2).val; omega

theorem emb8 (t : Fin cfg0.N) (j : S8x48x4096.Idx) : ((cfg0.win 8).blk t).view.emb j = j := by
  funext a; apply Fin.ext
  match a with
  | ⟨0, _⟩ => show 0 * 8 + 1 * (j 0).val = (j 0).val; omega
  | ⟨1, _⟩ => show 0 * 48 + 1 * (j 1).val = (j 1).val; omega
  | ⟨2, _⟩ => show 0 * 4096 + 1 * (j 2).val = (j 2).val; omega

theorem emb9 (t : Fin cfg0.N) (j : S8x4096.Idx) : ((cfg0.win 9).blk t).view.emb j = j := by
  funext a; apply Fin.ext
  match a with
  | ⟨0, _⟩ => show 0 * 8 + 1 * (j 0).val = (j 0).val; omega
  | ⟨1, _⟩ => show 0 * 4096 + 1 * (j 1).val = (j 1).val; omega

theorem emb10 (t : Fin cfg0.N) (j : S8x4096.Idx) : ((cfg0.win 10).blk t).view.emb j = j := by
  funext a; apply Fin.ext
  match a with
  | ⟨0, _⟩ => show 0 * 8 + 1 * (j 0).val = (j 0).val; omega
  | ⟨1, _⟩ => show 0 * 4096 + 1 * (j 1).val = (j 1).val; omega

theorem emb11 (t : Fin cfg0.N) (j : S8x4096.Idx) : ((cfg0.win 11).blk t).view.emb j = j := by
  funext a; apply Fin.ext
  match a with
  | ⟨0, _⟩ => show 0 * 8 + 1 * (j 0).val = (j 0).val; omega
  | ⟨1, _⟩ => show 0 * 4096 + 1 * (j 1).val = (j 1).val; omega

theorem emb12 (t : Fin cfg0.N) (j : S9216x4096.Idx) : ((cfg0.win 12).blk t).view.emb j = j := by
  funext a; apply Fin.ext
  match a with
  | ⟨0, _⟩ => show 0 * 9216 + 1 * (j 0).val = (j 0).val; omega
  | ⟨1, _⟩ => show 0 * 4096 + 1 * (j 1).val = (j 1).val; omega

/-! An input window's block is its whole array. -/

theorem iblk0_eq (c : Dev nD) (t : Fin cfg0.N) : iblk m c 0 t = V m c main_arg1 := by
  funext j; show V m c main_arg1 (((cfg0.win 0).blk t).view.emb j) = V m c main_arg1 j; rw [emb0]

theorem iblk1_eq (c : Dev nD) (t : Fin cfg0.N) : iblk m c 1 t = V m c main_arg2 := by
  funext j; show V m c main_arg2 (((cfg0.win 1).blk t).view.emb j) = V m c main_arg2 j; rw [emb1]

theorem iblk2_eq (c : Dev nD) (t : Fin cfg0.N) : iblk m c 2 t = V m c main_arg10 := by
  funext j; show V m c main_arg10 (((cfg0.win 2).blk t).view.emb j) = V m c main_arg10 j; rw [emb2]

theorem iblk3_eq (c : Dev nD) (t : Fin cfg0.N) : iblk m c 3 t = V m c main_v0 := by
  funext j; show V m c main_v0 (((cfg0.win 3).blk t).view.emb j) = V m c main_v0 j; rw [emb3]

theorem iblk4_eq (c : Dev nD) (t : Fin cfg0.N) : iblk m c 4 t = V m c main_v1 := by
  funext j; show V m c main_v1 (((cfg0.win 4).blk t).view.emb j) = V m c main_v1 j; rw [emb4]

theorem iblk5_eq (c : Dev nD) (t : Fin cfg0.N) : iblk m c 5 t = V m c main_arg3 := by
  funext j; show V m c main_arg3 (((cfg0.win 5).blk t).view.emb j) = V m c main_arg3 j; rw [emb5]

theorem iblk6_eq (c : Dev nD) (t : Fin cfg0.N) : iblk m c 6 t = V m c main_arg4 := by
  funext j; show V m c main_arg4 (((cfg0.win 6).blk t).view.emb j) = V m c main_arg4 j; rw [emb6]

theorem iblk7_eq (c : Dev nD) (t : Fin cfg0.N) : iblk m c 7 t = V m c main_arg5 := by
  funext j; show V m c main_arg5 (((cfg0.win 7).blk t).view.emb j) = V m c main_arg5 j; rw [emb7]

theorem iblk8_eq (c : Dev nD) (t : Fin cfg0.N) : iblk m c 8 t = V m c main_arg6 := by
  funext j; show V m c main_arg6 (((cfg0.win 8).blk t).view.emb j) = V m c main_arg6 j; rw [emb8]

theorem iblk9_eq (c : Dev nD) (t : Fin cfg0.N) : iblk m c 9 t = V m c main_arg7 := by
  funext j; show V m c main_arg7 (((cfg0.win 9).blk t).view.emb j) = V m c main_arg7 j; rw [emb9]

theorem iblk10_eq (c : Dev nD) (t : Fin cfg0.N) : iblk m c 10 t = V m c main_arg8 := by
  funext j; show V m c main_arg8 (((cfg0.win 10).blk t).view.emb j) = V m c main_arg8 j; rw [emb10]

theorem iblk11_eq (c : Dev nD) (t : Fin cfg0.N) : iblk m c 11 t = V m c main_arg9 := by
  funext j; show V m c main_arg9 (((cfg0.win 11).blk t).view.emb j) = V m c main_arg9 j; rw [emb11]

/-- Cutting the point's block out of `X` and reading `X` through the block's view give the same. -/
theorem cut12_eq (t : Fin cfg0.N) (X : Vec F S9216x4096 .fp8e4m3) :
    (cfg0.win 12).cut (grid0.coords t) X = ((cfg0.win 12).blk t).view.read (Elt F) X := by
  funext j
  show X j = X (((cfg0.win 12).blk t).view.emb j)
  rw [emb12]

theorem covered12 (i : S9216x4096.Idx) :
    ∃ t : Fin cfg0.N, (cfg0.win 12).flush t = true ∧ i ∈ ((cfg0.win 12).blk t).view.set :=
  ⟨(⟨0, by decide⟩ : Fin cfg0.N), flush0_12 _, by
    have h := ((cfg0.win 12).blk (⟨0, by decide⟩ : Fin cfg0.N)).view.emb_mem_set i; rwa [emb12] at h⟩

/-- The array the body stores, from the arrays the region finds. -/
def stored (c : Dev nD) : Vec F S9216x4096 .fp8e4m3 :=
  truncf .fp8e4m3 (after (V m c main_arg1) (V m c main_arg2) (V m c main_arg10) (V m c main_v0) (V m c main_v1) (V m c main_arg3) (V m c main_arg4)
    (V m c main_arg5) (V m c main_arg6) (V m c main_arg7) (V m c main_arg8) (V m c main_arg9) 8) bitsLt_fp8e4m3_f32

theorem flushed12_eq (c : Dev nD) (t : Fin cfg0.N) :
    (dats m 0 c).flushed 12 t = ((cfg0.win 12).blk t).view.read (Elt F) (stored m c) := by
  rw [flushed12_A, out_eq, iblk0_eq, iblk1_eq, iblk2_eq, iblk3_eq, iblk4_eq, iblk5_eq, iblk6_eq, iblk7_eq, iblk8_eq, iblk9_eq, iblk10_eq, iblk11_eq]
  exact cut12_eq t _

theorem final12 (c : Dev nD) : (dats m 0 c).arrAt 12 cfg0.N = stored m c :=
  (dats m 0 c).arrAt_eq_of_cover 12 (stored m c) (fun t _ => flushed12_eq m c t) covered12

theorem V_even (c : Dev nD) : V m c main_v0 = Host.slice S9216x3072 ![0, 0] ![1, 2] (m ((c : Thread nD τ).loc main_arg0) : Vec F S9216x6144 .fp8e4m3)
    slicesBy_S9216x6144_S9216x3072_0s1_0s2 := by
  show StableHlo.after hostOps0 _ _ = _
  simp only [hostOps0, List.flatten_cons, List.flatten_nil, List.cons_append, List.nil_append, List.append_nil]
  after_results_simp

theorem V_odd (c : Dev nD) : V m c main_v1 = Host.slice S9216x3072 ![0, 1] ![1, 2] (m ((c : Thread nD τ).loc main_arg0) : Vec F S9216x6144 .fp8e4m3)
    slicesBy_S9216x6144_S9216x3072_0s1_1s2 := by
  show StableHlo.after hostOps0 _ _ = _
  simp only [hostOps0, List.flatten_cons, List.flatten_nil, List.cons_append, List.nil_append, List.append_nil]
  after_results_simp
end

section
variable (m : (ℓ : Loc nD τ sig) → Buf (Elt Ideal) ℓ) (ρ : Dev nD → PrngReg)

/-- The arguments of device `c` as numbers. -/
def argsOf (c : Dev nD) : Val.Args where
  x := (m ((c : Thread nD τ).loc main_arg0) : Vec Ideal S9216x6144 .fp8e4m3)
  a1 := (m ((c : Thread nD τ).loc main_arg2) : Vec Ideal S8 .f32)
  w1 := (m ((c : Thread nD τ).loc main_arg3) : Vec Ideal S8x3072x4096 .i8)
  w3 := (m ((c : Thread nD τ).loc main_arg4) : Vec Ideal S8x3072x4096 .i8)
  s1 := (m ((c : Thread nD τ).loc main_arg5) : Vec Ideal S8x48x4096 .fp8e4m3)
  s3 := (m ((c : Thread nD τ).loc main_arg6) : Vec Ideal S8x48x4096 .fp8e4m3)
  c1 := (m ((c : Thread nD τ).loc main_arg7) : Vec Ideal S8x4096 .f32)
  c3 := (m ((c : Thread nD τ).loc main_arg8) : Vec Ideal S8x4096 .f32)
  p2 := (m ((c : Thread nD τ).loc main_arg9) : Vec Ideal S8x4096 .f32)
  a2 := (m ((c : Thread nD τ).loc main_arg10) : Vec Ideal S8 .f32)

/-- The words that count the rows of each expert. -/
def gsOf (c : Dev nD) : IVec S8 32 := (m ((c : Thread nD τ).loc main_arg1) : Vec Ideal S8 .i32)

/-- The running word of the loop is the number of rows before expert `k`. -/
theorem st_eq (x0 : Vec Ideal S8 .i32) (k : Nat) (hk : k ≤ 8) : st (F := Ideal) x0 k = BitVec.ofNat 32 (offN (sizes x0) k) := by
  induction k with
  | zero => rfl
  | succ k ih =>
    have e : x0 (ix1 (Fin.ofNat 8 k)) = BitVec.ofNat 32 (sizes x0 k) := by
      have := Cert.Tables.sizes_ap x0 (Fin.ofNat 8 k)
      rw [show (Fin.ofNat 8 k).val = k from Nat.mod_eq_of_lt (by omega)] at this
      exact this
    show (st (F := Ideal) x0 k) + x0 (ix1 (Fin.ofNat 8 k)) = _
    rw [ih (by omega), e, ← BitVec.ofNat_add]
    rfl

/-- The reference ends with `G` of its arguments. -/
theorem stored_apply (c : Dev nD) (h8 : offN (sizes (gsOf m c)) 8 = 9216) (r : Fin 9216) (q : Fin 4096) :
    (stored m c (ix2 r q) : EReal) = Val.G (argsOf m c) (offN (sizes (gsOf m c))) r q := by
  unfold stored
  rw [V_main_arg1, V_main_arg2, V_main_arg3, V_main_arg4, V_main_arg5, V_main_arg6, V_main_arg7, V_main_arg8, V_main_arg9, V_main_arg10, V_even, V_odd]
  refine after_apply _ _ _ _ _ _ _ _ _ _ _ _ (argsOf m c).x ?_ ?_ (offN (sizes (gsOf m c))) ?_ r q
  · intro r j
    pointwise
    rfl
  · intro r j
    pointwise
    exact congrArg (argsOf m c).x (congrArg (ix2 r) (Fin.ext (Nat.add_comm 1 (2 * j.val))))
  · intro k hk
    exact ⟨st_eq _ k hk, Nat.lt_of_le_of_lt (Cert.Tables.offN_mono _ hk) (by rw [h8]; omega)⟩
end

end Cert.ReferenceIdeal.Body
end
-- ==== Proof.Value.Equal.lean ====
/- Kernel and reference have one result: from memories that agree on the arguments both read the same numbers, so the
   arrays they end with are equal. -/
module

public import proofs.«01_k».proof.Proof.KernelIdeal.Good
public import proofs.«01_k».proof.Proof.Reference.Run

@[expose] public section

set_option maxRecDepth 16384

noncomputable section

namespace Cert.Val

open Idealize.ShloMosaic Idealize.ShloMosaic.TcCoe Idealize.SL.Sem
open Cert.Tables

/-- A scale of the kernel, laid out anew by the host, read as the argument it comes from. -/
theorem relaid (x : Vec Ideal (⟨2, ![8, 4096]⟩ : Shape) .f32) (h : (⟨2, ![8, 4096]⟩ : Shape).ShapeCasts (⟨3, ![8, 1, 4096]⟩ : Shape)) :
    (fun j : (⟨2, ![8, 4096]⟩ : Shape).Idx => (shapeCast (⟨3, ![8, 1, 4096]⟩ : Shape) x h (ix3 (j 0) 0 (j 1)) : EReal)) = x := by
  funext j
  obtain ⟨a, b, rfl⟩ : ∃ (a : Fin 8) (b : Fin 4096), j = ix2 a b := ⟨j 0, j 1, by
    funext d
    match d with
    | ⟨0, _⟩ => rfl
    | ⟨1, _⟩ => rfl⟩
  show (shapeCast (⟨3, ![8, 1, 4096]⟩ : Shape) x h (ix3 a 0 b) : EReal) = x (ix2 a b)
  pointwise

section
open Cert.KernelIdeal in
/-- The kernel's reading of its arrays, from what each array holds. -/
theorem argsB_eq (A : Args) (c : Dev Cert.KernelIdeal.nD) (B : Cert.KernelIdeal.Body.Bufs (F := Ideal) c) (h : (⟨2, ![8, 4096]⟩ : Shape).ShapeCasts (⟨3, ![8, 1, 4096]⟩ : Shape))
    (e0 : (B main_arg0 : Vec Ideal S9216x6144 .fp8e4m3) = A.x) (e1 : (B main_arg2 : Vec Ideal S8 .f32) = A.a1)
    (e2 : (B main_arg3 : Vec Ideal S8x3072x4096 .i8) = A.w1) (e3 : (B main_arg4 : Vec Ideal S8x3072x4096 .i8) = A.w3)
    (e4 : (B main_arg5 : Vec Ideal S8x48x4096 .fp8e4m3) = A.s1) (e5 : (B main_arg6 : Vec Ideal S8x48x4096 .fp8e4m3) = A.s3)
    (e6 : (B main_v48 : Vec Ideal S8x1x4096 .f32) = shapeCast (⟨3, ![8, 1, 4096]⟩ : Shape) A.c1 h)
    (e7 : (B main_v49 : Vec Ideal S8x1x4096 .f32) = shapeCast (⟨3, ![8, 1, 4096]⟩ : Shape) A.c3 h)
    (e8 : (B main_v50 : Vec Ideal S8x1x4096 .f32) = shapeCast (⟨3, ![8, 1, 4096]⟩ : Shape) A.p2 h)
    (e9 : (B main_arg10 : Vec Ideal S8 .f32) = A.a2) : Cert.KernelIdeal.Body.argsB c B = A := by
  unfold Cert.KernelIdeal.Body.argsB
  rw [e0, e1, e2, e3, e4, e5, e6, e7, e8, e9, relaid, relaid, relaid]
end

section
variable (m : (ℓ : Loc Cert.KernelIdeal.nD Cert.KernelIdeal.τ Cert.KernelIdeal.sig) → Buf (Elt Ideal) ℓ) (c : Dev Cert.KernelIdeal.nD)

theorem V_arg0 : Cert.KernelIdeal.Body.V m c Cert.KernelIdeal.main_arg0 = m ((c.tc : Thread Cert.KernelIdeal.nD Cert.KernelIdeal.τ).loc Cert.KernelIdeal.main_arg0) := Cert.KernelIdeal.Body.host_arg0 _
theorem V_arg2 : Cert.KernelIdeal.Body.V m c Cert.KernelIdeal.main_arg2 = m ((c.tc : Thread Cert.KernelIdeal.nD Cert.KernelIdeal.τ).loc Cert.KernelIdeal.main_arg2) := Cert.KernelIdeal.Body.host_arg2 _
theorem V_arg3 : Cert.KernelIdeal.Body.V m c Cert.KernelIdeal.main_arg3 = m ((c.tc : Thread Cert.KernelIdeal.nD Cert.KernelIdeal.τ).loc Cert.KernelIdeal.main_arg3) := Cert.KernelIdeal.Body.host_arg3 _
theorem V_arg4 : Cert.KernelIdeal.Body.V m c Cert.KernelIdeal.main_arg4 = m ((c.tc : Thread Cert.KernelIdeal.nD Cert.KernelIdeal.τ).loc Cert.KernelIdeal.main_arg4) := Cert.KernelIdeal.Body.host_arg4 _
theorem V_arg5 : Cert.KernelIdeal.Body.V m c Cert.KernelIdeal.main_arg5 = m ((c.tc : Thread Cert.KernelIdeal.nD Cert.KernelIdeal.τ).loc Cert.KernelIdeal.main_arg5) := Cert.KernelIdeal.Body.host_arg5 _
theorem V_arg6 : Cert.KernelIdeal.Body.V m c Cert.KernelIdeal.main_arg6 = m ((c.tc : Thread Cert.KernelIdeal.nD Cert.KernelIdeal.τ).loc Cert.KernelIdeal.main_arg6) := Cert.KernelIdeal.Body.host_arg6 _
theorem V_arg10 : Cert.KernelIdeal.Body.V m c Cert.KernelIdeal.main_arg10 = m ((c.tc : Thread Cert.KernelIdeal.nD Cert.KernelIdeal.τ).loc Cert.KernelIdeal.main_arg10) := Cert.KernelIdeal.Body.host_arg10 _
theorem V_c1 : Cert.KernelIdeal.Body.V m c Cert.KernelIdeal.main_v48 = (shapeCast Cert.KernelIdeal.S8x1x4096 (m ((c.tc : Thread Cert.KernelIdeal.nD Cert.KernelIdeal.τ).loc Cert.KernelIdeal.main_arg7) : Vec Ideal Cert.KernelIdeal.S8x4096 .f32) Cert.KernelIdeal.Gen.facts.shapeCasts_S8x4096_S8x1x4096 : Vec Ideal Cert.KernelIdeal.S8x1x4096 .f32) := Cert.KernelIdeal.Body.host_c1 _
theorem V_c3 : Cert.KernelIdeal.Body.V m c Cert.KernelIdeal.main_v49 = (shapeCast Cert.KernelIdeal.S8x1x4096 (m ((c.tc : Thread Cert.KernelIdeal.nD Cert.KernelIdeal.τ).loc Cert.KernelIdeal.main_arg8) : Vec Ideal Cert.KernelIdeal.S8x4096 .f32) Cert.KernelIdeal.Gen.facts.shapeCasts_S8x4096_S8x1x4096 : Vec Ideal Cert.KernelIdeal.S8x1x4096 .f32) := Cert.KernelIdeal.Body.host_c3 _
theorem V_p2 : Cert.KernelIdeal.Body.V m c Cert.KernelIdeal.main_v50 = (shapeCast Cert.KernelIdeal.S8x1x4096 (m ((c.tc : Thread Cert.KernelIdeal.nD Cert.KernelIdeal.τ).loc Cert.KernelIdeal.main_arg9) : Vec Ideal Cert.KernelIdeal.S8x4096 .f32) Cert.KernelIdeal.Gen.facts.shapeCasts_S8x4096_S8x1x4096 : Vec Ideal Cert.KernelIdeal.S8x1x4096 .f32) := Cert.KernelIdeal.Body.host_p2 _

end

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))

include h0 h2 h3 h4 h5 h6 h7 h8 h9 h10 in
/-- The numbers the two programs read are the same. -/
theorem args_eq : Cert.ReferenceIdeal.Body.argsOf m' c = Cert.KernelIdeal.Body.argsB c (Cert.KernelIdeal.Body.V m c) := by
  refine (argsB_eq (Cert.ReferenceIdeal.Body.argsOf m' c) c (Cert.KernelIdeal.Body.V m c) Cert.KernelIdeal.Gen.facts.shapeCasts_S8x4096_S8x1x4096 ((V_arg0 m c).trans h0.symm) ((V_arg2 m c).trans h2.symm)
    ((V_arg3 m c).trans h3.symm) ((V_arg4 m c).trans h4.symm) ((V_arg5 m c).trans h5.symm) ((V_arg6 m c).trans h6.symm) ?_ ?_ ?_ ((V_arg10 m c).trans h10.symm)).symm
  · exact (V_c1 m c).trans (congrArg (fun x => shapeCast _ x Cert.KernelIdeal.Gen.facts.shapeCasts_S8x4096_S8x1x4096) h7.symm)
  · exact (V_c3 m c).trans (congrArg (fun x => shapeCast _ x Cert.KernelIdeal.Gen.facts.shapeCasts_S8x4096_S8x1x4096) h8.symm)
  · exact (V_p2 m c).trans (congrArg (fun x => shapeCast _ x Cert.KernelIdeal.Gen.facts.shapeCasts_S8x4096_S8x1x4096) h9.symm)

include h1 in
theorem sizes_eq : Cert.ReferenceIdeal.Body.gsOf m' c = Cert.KernelIdeal.Body.gsOf m := by
  obtain rfl : c = 0 := Subsingleton.elim _ _
  exact h1

include h0 h1 h2 h3 h4 h5 h6 h7 h8 h9 h10 in
/-- The reference ends with the kernel's result. -/
theorem stored_eq (hp : offN (sizes (Cert.KernelIdeal.Body.gsOf m)) 8 = 9216) :
    Cert.ReferenceIdeal.Body.stored m' c = Cert.KernelIdeal.Body.resA (Cert.KernelIdeal.Body.gsOf m) c (Cert.KernelIdeal.Body.V m c) := by
  have eg := sizes_eq m m' c h1
  have ea := args_eq m m' c h0 h2 h3 h4 h5 h6 h7 h8 h9 h10
  funext i
  obtain ⟨a, b, rfl⟩ : ∃ (a : Fin 9216) (b : Fin 4096), i = ix2 a b := ⟨i 0, i 1, by
    funext d
    match d with
    | ⟨0, _⟩ => rfl
    | ⟨1, _⟩ => rfl⟩
  refine (Cert.ReferenceIdeal.Body.stored_apply m' c (by rw [eg]; exact hp) a b).trans ?_
  rw [eg, ea]
  rfl

end Cert.Val
end
-- ==== Proof.Down.Runs.lean ====
/- The body of the kernel run once, in its three control cases: a visit past the live ones, a live visit
   that dequantises its expert's weights into the scratch, and a live visit that finds them there. -/
module

public import proofs.«01_k».proof.Proof.Gen.Down.Launch
public import proofs.«01_k».proof.Proof.Gen.Down.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Defs nD τ sig (Elt F) Λ₀) (q : PosShare TreeShare) (i : grid0.Coords) (c : Dev nD)
  (arg2 : Memref sig .tc .smem S43 .i32) (harg2 : arg2.IsWhole)
  (arg3 : Memref sig .tc .smem S43 .i32) (harg3 : arg3.IsWhole)
  (arg4 : Memref sig .tc .smem S9 .i32) (harg4 : arg4.IsWhole)
  (arg5 : Memref sig .tc .smem S1 .i32) (harg5 : arg5.IsWhole)
  (arg6 : Memref sig .tc .smem S8 .f32) (harg6 : arg6.IsWhole)
  (arg7 : Memref sig .tc .vmem S256x4096 .fp8e4m3) (harg7 : arg7.IsWhole)
  (arg8 : Memref sig .tc .vmem S1x2048x512 .i8) (harg8 : arg8.IsWhole)
  (arg9 : Memref sig .tc .vmem S1x32x512 .fp8e4m3) (harg9 : arg9.IsWhole)
  (arg10 : Memref sig .tc .vmem S1x1x512 .f32) (harg10 : arg10.IsWhole)
  (arg11 : Memref sig .tc .vmem S256x512 .f32) (harg11 : arg11.IsWhole)
  (arg12 : Memref sig .tc .vmem S4096x512 .bf16) (harg12 : arg12.IsWhole)
variable (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F))

set_option maxHeartbeats 4000000 in
/-- A visit past the live ones touches nothing. -/
theorem runSkip
  (h1 : ¬ (k0_cond1 i (View.readAt (Elt F) arg5.view (Rect.unit (s := S1) ![0] S1.size inb_S1_S1_0).toLoadRect f5 (Shape.Idx.first (numel1_S1.symm ▸ Nat.one_pos))) = 1#1)) (E : Set ℕ) (K : PUnit → sProp 𝕄) :
        iprop((arg5.view.loc (c : Thread nD τ) ↦[arg5.view.set]{q} f5) ∗ ((arg5.view.loc (c : Thread nD τ) ↦[arg5.view.set]{q} f5) -∗ K ⟨⟩))
          ⊢ wp frame (wpE D Variants.none c none) E (cc0_down i arg2 harg2 arg3 harg3 arg4 harg4 arg5 harg5 arg6 harg6 arg7 harg7 arg8 harg8 arg9 harg9 arg10 harg10 arg11 harg11 arg12 harg12) K := by
    iintro ⟨H5, Hk⟩
    rw [cc0_down_eq_skeleton]; unfold cc0_down_skel
    sl_exec
    sl_step
    iapply Hk
    iexact H5

set_option maxHeartbeats 4000000 in
/-- A live visit that keeps the scratch: the pieces written to the output block, with the proof. -/
noncomputable def runKeep
  (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : ¬ (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1)) :
  { L : List (View.Piece (Elt F) S256x512 .f32) //
    ∀ (E : Set ℕ) (K : PUnit → sProp 𝕄),
        iprop((arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
            ∗ (iprop((arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (arg11.view.writes (Elt F) f11 L)) ∗ (arg12.view.loc (c : Thread nD τ) ↦[arg12.view.set]{fullShare} f12)) -∗ K ⟨⟩))
          ⊢ wp frame (wpE D Variants.none c none) E (cc0_down i arg2 harg2 arg3 harg3 arg4 harg4 arg5 harg5 arg6 harg6 arg7 harg7 arg8 harg8 arg9 harg9 arg10 harg10 arg11 harg11 arg12 harg12) K } := by
  refine ⟨?_, fun E K => ?run⟩
  case run =>
    iintro ⟨H2, H3, H4, H5, H6, H7, H8, H9, H10, H11, H12, Hk⟩
    rw [cc0_down_eq_skeleton]; unfold cc0_down_skel
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

set_option maxHeartbeats 4000000 in
/-- A live visit that reloads the scratch: the pieces written to the output block and to the scratch, with the proof that the body writes them. -/
noncomputable def runReload
  (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1)) :
  { L : List (View.Piece (Elt F) S256x512 .f32) × List (View.Piece (Elt F) S4096x512 .bf16) //
    ∀ (E : Set ℕ) (K : PUnit → sProp 𝕄),
        iprop((arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
            ∗ (iprop((arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (arg11.view.writes (Elt F) f11 L.1)) ∗ (arg12.view.loc (c : Thread nD τ) ↦[arg12.view.set]{fullShare} (arg12.view.writes (Elt F) f12 L.2))) -∗ K ⟨⟩))
          ⊢ wp frame (wpE D Variants.none c none) E (cc0_down i arg2 harg2 arg3 harg3 arg4 harg4 arg5 harg5 arg6 harg6 arg7 harg7 arg8 harg8 arg9 harg9 arg10 harg10 arg11 harg11 arg12 harg12) K } := by
  refine ⟨⟨?_, ?_⟩, fun E K => ?run⟩
  case run =>
    iintro ⟨H2, H3, H4, H5, H6, H7, H8, H9, H10, H11, H12, Hk⟩
    rw [cc0_down_eq_skeleton]; unfold cc0_down_skel
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Down.Body

end
-- ==== Proof.Down.Slab.lean ====
/- What a reload leaves in the scratch: 96 slabs of 128 rows by 256 columns, each a function of 64 packed rows
   and of one scale row, which together tile the scratch. -/
module

public import proofs.«01_k».proof.Proof.Gen.Down.Launch
public import proofs.«01_k».proof.Proof.Gen.Down.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import proofs.«01_k».proof.Proof.Down.Runs

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem slab_slices (g : Fin 32) : S2048x512.Slices ![64 * g.val, 0] S64x512 :=
  ⟨rfl, fun a => by
    have := g.2
    match a with
    | ⟨0, _⟩ => show 64 * g.val + 64 ≤ 2048; omega
    | ⟨1, _⟩ => show 0 + 512 ≤ 512; omega⟩

theorem slab_scales (g : Fin 32) : S32x512.Slices ![g.val, 0] S1x512 :=
  ⟨rfl, fun a => by
    have := g.2
    match a with
    | ⟨0, _⟩ => show g.val + 1 ≤ 32; omega
    | ⟨1, _⟩ => show 0 + 512 ≤ 512; omega⟩

/-- The 4-bit codes of group `g`, one a word: rows 64 g … of the packed words, each row twice, shifted so that the row
    parity's half is sign-extended. -/
def nib (g : Fin 32) (P : IVec S2048x512 8) : IVec S128x512 32 :=
  shrsi (shli (shapeCast S128x512 (broadcastTo S64x2x512 (shapeCast S64x1x512 (shapeCast S64x1x512 (extsi 32
      (extractStridedSlice S64x512 ![64 * g.val, 0] P (slab_slices g)) natLt_8_32)
      shapeCasts_S64x512_S64x1x512) shapeCasts_S64x1x512_S64x1x512) broadcasts_S64x1x512_S64x2x512) shapeCasts_S64x2x512_S128x512)
    (subi (broadcast S128x512 28#32) (muli (broadcast S128x512 4#32) (andi (iota .tc S128x512 32 [0] iota_S128x512_d0_w32) (broadcast S128x512 1#32)))))
    (broadcast S128x512 28#32)

/-- The slab of group `g`: its codes times its scale row. -/
def slab (g : Fin 32) (P : IVec S2048x512 8) (S : FVec F S32x512 .fp8e4m3) : FVec F S128x512 .bf16 :=
  shapeCast S128x512 (mulf (sitofp .bf16 (nib g P))
    (broadcastTo S128x512 (extf .bf16 (extractStridedSlice S1x512 ![g.val, 0] S (slab_scales g)) bitsLt_fp8e4m3_bf16) broadcasts_S1x512_S128x512))
    shapeCasts_S128x512_S128x512

/-- Where the slab of group `g` goes: rows 128 g … of all columns. -/
theorem slab_inb (g : Fin 32) : ∀ a, (![128 * g.val, 0] : Fin 2 → Nat) a + S128x512.size a ≤ S4096x512.size a := fun a => by
  have := g.2
  match a with
  | ⟨0, _⟩ => show 128 * g.val + 128 ≤ 4096; omega
  | ⟨1, _⟩ => show 0 + 512 ≤ 512; omega

def slabAt (g : Fin 32) (P : IVec S2048x512 8) (S : FVec F S32x512 .fp8e4m3) : View.Piece (Elt F) S4096x512 .bf16 :=
  ⟨Rect.unit (s := S4096x512) ![128 * g.val, 0] S128x512.size (slab_inb g), slab g P S⟩

/-- All the slabs, the last stored first. -/
def slabs (P : IVec S2048x512 8) (S : FVec F S32x512 .fp8e4m3) : List (View.Piece (Elt F) S4096x512 .bf16) :=
  (List.finRange 32).reverse.map fun g => slabAt g P S

/-- The scratch after a reload, entry by entry. -/
def wscr (P : IVec S2048x512 8) (S : FVec F S32x512 .fp8e4m3) : Vec F S4096x512 .bf16 := fun y =>
  slab ⟨(y 0).val / 128, by have : (y 0).val < 4096 := (y 0).2; omega⟩ P S (fun a => match a with
    | ⟨0, _⟩ => (⟨(y 0).val % 128, Nat.mod_lt _ (by decide)⟩ : Fin 128)
    | ⟨1, _⟩ => (⟨(y 1).val, (y 1).2⟩ : Fin 512))

/-- The pieces the run found are the slabs. -/
theorem reload_pieces (D : Defs nD τ sig (Elt F) Λ₀) (q : PosShare TreeShare) (i : grid0.Coords) (c : Dev nD) (arg2 : Memref sig .tc .smem S43 .i32) (harg2 : arg2.IsWhole) (arg3 : Memref sig .tc .smem S43 .i32) (harg3 : arg3.IsWhole) (arg4 : Memref sig .tc .smem S9 .i32) (harg4 : arg4.IsWhole) (arg5 : Memref sig .tc .smem S1 .i32) (harg5 : arg5.IsWhole) (arg6 : Memref sig .tc .smem S8 .f32) (harg6 : arg6.IsWhole) (arg7 : Memref sig .tc .vmem S256x4096 .fp8e4m3) (harg7 : arg7.IsWhole) (arg8 : Memref sig .tc .vmem S1x2048x512 .i8) (harg8 : arg8.IsWhole) (arg9 : Memref sig .tc .vmem S1x32x512 .fp8e4m3) (harg9 : arg9.IsWhole) (arg10 : Memref sig .tc .vmem S1x1x512 .f32) (harg10 : arg10.IsWhole) (arg11 : Memref sig .tc .vmem S256x512 .f32) (harg11 : arg11.IsWhole) (arg12 : Memref sig .tc .vmem S4096x512 .bf16) (harg12 : arg12.IsWhole) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F))
  (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1) :
  (runReload D q i c arg2 harg2 arg3 harg3 arg4 harg4 arg5 harg5 arg6 harg6 arg7 harg7 arg8 harg8 arg9 harg9 arg10 harg10 arg11 harg11 arg12 harg12 f2 f3 f4 f5 f6 f7 f8 f9 f10 f11 f12 h1 hw hC).1.2 = slabs (k0_pay2 (View.readAt (Elt F) arg8.view (Rect.unit (s := S1x2048x512) ![0, 0, 0] S1x2048x512.size inb_S1x2048x512_S1x2048x512_0_0_0).toLoadRect f8)) (k0_pay3 (View.readAt (Elt F) arg9.view (Rect.unit (s := S1x32x512) ![0, 0, 0] S1x32x512.size inb_S1x32x512_S1x32x512_0_0_0).toLoadRect f9)) := by
  sl_kernel_rfl

/-- An entry of the scratch lies in a slab. -/
theorem slabs_cover (P : IVec S2048x512 8) (S : FVec F S32x512 .fp8e4m3) (y : S4096x512.Idx) :
    ∃ p ∈ slabs P S, y ∈ p.1.set := by
  have h0 : (y 0).val < 4096 := (y 0).2
  have h1 : (y 1).val < 512 := (y 1).2
  refine ⟨slabAt ⟨(y 0).val / 128, by omega⟩ P S, List.mem_map.2 ⟨_, List.mem_reverse.2 (List.mem_finRange _), rfl⟩, ?_⟩
  refine (Rect.mem_set_unit (inb := slab_inb _)).2 fun a => ?_
  match a with
  | ⟨0, _⟩ => show 128 * ((y 0).val / 128) ≤ (y 0).val ∧ (y 0).val < 128 * ((y 0).val / 128) + 128; omega
  | ⟨1, _⟩ => show 0 ≤ (y 1).val ∧ (y 1).val < 0 + 512; omega

/-- Each slab holds the scratch's entries. -/
theorem slabs_agree (P : IVec S2048x512 8) (S : FVec F S32x512 .fp8e4m3) :
    ∀ p ∈ slabs P S, ∀ x : p.1.shape.Idx, p.2 x = wscr P S (p.1.emb x) := by
  intro p hp x
  obtain ⟨g, -, rfl⟩ := List.mem_map.1 hp
  have hx0 : (x 0).val < 128 := (x 0).2
  have hx1 : (x 1).val < 512 := (x 1).2
  have e0 : (((slabAt g P S).1.emb x) 0).val = 128 * g.val + (x 0).val := by
    show 128 * g.val + 1 * (x 0).val = _; omega
  have e1 : (((slabAt g P S).1.emb x) 1).val = (x 1).val := by
    show 0 + 1 * (x 1).val = _; omega
  unfold wscr
  show slab g P S x = _
  congr 1
  · apply Fin.ext; show g.val = _ / 128; rw [e0]; omega
  · funext a
    match a with
    | ⟨0, _⟩ => apply Fin.ext; show (x 0).val = _ % 128; rw [e0]; omega
    | ⟨1, _⟩ => apply Fin.ext; exact e1.symm

/-- The slabs written over anything read as `wscr`. -/
theorem canon_slabs (P : IVec S2048x512 8) (S : FVec F S32x512 .fp8e4m3) :
    View.canon (slabs P S) = wscr P S :=
  funext fun y => View.canon_apply_of_pieces _ _ (slabs_agree P S) y (slabs_cover P S y)

theorem read_slabs {sp : Space} (v : View sig .tc sp S4096x512 .bf16) (f : v.ty.Contents (Elt F)) (P : IVec S2048x512 8) (S : FVec F S32x512 .fp8e4m3) :
    v.read (Elt F) (v.writes (Elt F) f (slabs P S)) = wscr P S :=
  funext fun y => (View.read_writes_apply_eq_canon v f y _ (slabs_cover P S y)).trans (congrFun (canon_slabs P S) y)

end Cert.Down.Body

end
-- ==== Proof.Down.Spec.lean ====
/- The body's triples over the values its buffers hold: what a live visit leaves in the output block and in the
   scratch. -/
module

public import proofs.«01_k».proof.Proof.Gen.Down.Launch
public import proofs.«01_k».proof.Proof.Gen.Down.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.Down.Slab

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one-coordinate index `k`. -/
def ix1 {n : ℕ} (k : Fin n) : (⟨1, ![n]⟩ : Shape).Idx := fun a => match a with
  | ⟨0, _⟩ => k

/-- Entry `k` of a vector of one axis. -/
def at1 {n : ℕ} {α : Type} (x : (⟨1, ![n]⟩ : Shape).Idx → α) (k : Fin n) : α := x (ix1 k)

/-- A one-word load at offset `k` reads entry `k`. -/
theorem readAt_word {n : ℕ} {sp : Space} {e : EltTy} (v : View sig .tc sp ⟨1, ![n]⟩ e) (f : v.ty.Contents (Elt F)) (off : Fin 1 → ℕ)
    (h : ∀ a, off a + S1.size a ≤ (⟨1, ![n]⟩ : Shape).size a) (k : Fin n) (hk : off 0 = k.val) :
    View.readAt (Elt F) v (Rect.unit (s := ⟨1, ![n]⟩) off S1.size h).toLoadRect f (Shape.Idx.first (numel1_S1.symm ▸ Nat.one_pos)) = at1 (v.read (Elt F) f) k := by
  rw [View.readAt_apply]
  unfold at1
  congr 1
  funext a
  match a with
  | ⟨0, _⟩ =>
    apply Fin.ext
    show off 0 + 1 * 0 = k.val
    omega

theorem readAt_zero2 {n m : ℕ} {sp : Space} {e : EltTy} (v : View sig .tc sp ⟨2, ![n, m]⟩ e) (f : v.ty.Contents (Elt F))
    (h : ∀ a, (![0, 0] : Fin 2 → ℕ) a + (⟨2, ![n, m]⟩ : Shape).size a ≤ (⟨2, ![n, m]⟩ : Shape).size a) :
    View.readAt (Elt F) v (Rect.unit (s := ⟨2, ![n, m]⟩) ![0, 0] (⟨2, ![n, m]⟩ : Shape).size h).toLoadRect f = v.read (Elt F) f :=
  View.readAt_full v f h

theorem readAt_zero3 {n m k : ℕ} {sp : Space} {e : EltTy} (v : View sig .tc sp ⟨3, ![n, m, k]⟩ e) (f : v.ty.Contents (Elt F))
    (h : ∀ a, (![0, 0, 0] : Fin 3 → ℕ) a + (⟨3, ![n, m, k]⟩ : Shape).size a ≤ (⟨3, ![n, m, k]⟩ : Shape).size a) :
    View.readAt (Elt F) v (Rect.unit (s := ⟨3, ![n, m, k]⟩) ![0, 0, 0] (⟨3, ![n, m, k]⟩ : Shape).size h).toLoadRect f = v.read (Elt F) f :=
  View.readAt_full v f h

theorem View.read_writes_one {sp : Space} {e : EltTy} (v : View sig .tc sp S256x512 e) (f : v.ty.Contents (Elt F)) (w : Vec F S256x512 e) :
    v.read (Elt F) (v.writes (Elt F) f [⟨Rect.unit (s := S256x512) ![0, 0] S256x512.size inb_S256x512_S256x512_0_0, w⟩]) = w :=
  View.read_writes_full v f inb_S256x512_S256x512_0_0 w []

attribute [local irreducible] slabs wscr in
theorem readCov_slabs {sp : Space} (v : View sig .tc sp S4096x512 .bf16) (P : IVec S2048x512 8) (S : FVec F S32x512 .fp8e4m3) :
    View.readCov v (slabs P S) (Rect.unit (s := S4096x512) ![0, 0] S4096x512.size inb_S4096x512_S4096x512_0_0).toLoadRect = wscr P S := by
  unfold View.readCov
  exact (readAt_zero2 v _ _).trans (read_slabs v _ P S)

theorem off2_eq (i : grid0.Coords) : k0_off2 i 0 = (i 1).val := by
  have h : (i 1).val < 43 := (i 1).2
  unfold k0_off2
  revert h; generalize (i 1).val = n; revert n; decide

theorem off5_eq (i : grid0.Coords) : k0_off5 i 0 = (i 1).val - 1 := by
  have h : (i 1).val < 43 := (i 1).2
  unfold k0_off5
  revert h; generalize (i 1).val = n; revert n; decide

theorem off3_eq (w : BitVec 32) (e : Fin 8) (h : w = BitVec.ofNat 32 e.val) : k0_off3 w 0 = e.castSucc.val := by
  subst h; revert e; decide

theorem off4_eq (w : BitVec 32) (e : Fin 8) (h : w = BitVec.ofNat 32 e.val) : k0_off4 w 0 = e.succ.val := by
  subst h; revert e; decide

theorem off6_eq (w : BitVec 32) (e : Fin 8) (h : w = BitVec.ofNat 32 e.val) : k0_off6 w 0 = e.val := by
  subst h; revert e; decide

/-- The body's assumption about its expert word holds at every expert. -/
theorem chk_of (i : grid0.Coords) (v0 w : BitVec 32) (e : Fin 8) (h : w = BitVec.ofNat 32 e.val) : k0_chk1 i v0 w := by
  have := e.2
  refine ⟨fun _ a => ?_, fun _ a => ?_, fun _ a => ?_⟩
  · match a with
    | ⟨0, _⟩ => have := off3_eq w e h; show k0_off3 w 0 + 1 ≤ 9; rw [this]; show e.val + 1 ≤ 9; omega
  · match a with
    | ⟨0, _⟩ => have := off4_eq w e h; show k0_off4 w 0 + 1 ≤ 9; rw [this]; show e.val + 1 + 1 ≤ 9; omega
  · match a with
    | ⟨0, _⟩ => have := off6_eq w e h; show k0_off6 w 0 + 1 ≤ 8; rw [this]; omega

/-- The reload's condition: the first visit, or another expert than the visit before. -/
theorem cond_iff (i : grid0.Coords) (a b : BitVec 32) :
    Scalar.cmpi .ne (Scalar.extui (Scalar.ori (Scalar.cmpi .eq (BitVec.ofNat 32 (i 1).val) 0#32) (Scalar.cmpi .ne a b)) : BitVec 32) 0#32 = 1#1
      ↔ ((i 1).val = 0 ∨ a ≠ b) := by
  have h : (i 1).val < 43 := (i 1).2
  have hz : Scalar.cmpi .eq (BitVec.ofNat 32 (i 1).val) 0#32 = 1#1 ↔ (i 1).val = 0 := by
    revert h; generalize (i 1).val = n; revert n; decide
  have hn : Scalar.cmpi .ne a b = 1#1 ↔ a ≠ b := by
    show BitVec.ofBool (a != b) = 1#1 ↔ a ≠ b
    by_cases hab : a = b
    · subst hab; simp
    · have : (a != b) = true := by simp [hab]
      rw [this]; exact ⟨fun _ => hab, fun _ => rfl⟩
  rw [← hz, ← hn]
  generalize Scalar.cmpi .eq (BitVec.ofNat 32 (i 1).val) 0#32 = p
  generalize Scalar.cmpi .ne a b = r
  revert p r; decide

/-- What a live visit leaves in the output block, from the tile `v8`, its expert's first row `v13` and past-the-end row
    `v18`, the expert's activation scale, the activation block, the scratch and the block of the scale row. -/
def outBlk (v8 v13 v18 : BitVec 32) (s2 : F .f32) (x7 : Vec F S256x4096 .fp8e4m3) (W : Vec F S4096x512 .bf16)
    (x10 : Vec F S1x1x512 .f32) (x11 : Vec F S256x512 .f32) : Vec F S256x512 .f32 :=
  k0_pay1 (k0_pay59 x7 W x10 s2) (k0_pay60 x11) (k0_pay61 (F := F) v8 v13 v18)

variable (D : Defs nD τ sig (Elt F) Λ₀) (q : PosShare TreeShare) (i : grid0.Coords) (c : Dev nD)
  (arg2 : Memref sig .tc .smem S43 .i32) (harg2 : arg2.IsWhole)
  (arg3 : Memref sig .tc .smem S43 .i32) (harg3 : arg3.IsWhole)
  (arg4 : Memref sig .tc .smem S9 .i32) (harg4 : arg4.IsWhole)
  (arg5 : Memref sig .tc .smem S1 .i32) (harg5 : arg5.IsWhole)
  (arg6 : Memref sig .tc .smem S8 .f32) (harg6 : arg6.IsWhole)
  (arg7 : Memref sig .tc .vmem S256x4096 .fp8e4m3) (harg7 : arg7.IsWhole)
  (arg8 : Memref sig .tc .vmem S1x2048x512 .i8) (harg8 : arg8.IsWhole)
  (arg9 : Memref sig .tc .vmem S1x32x512 .fp8e4m3) (harg9 : arg9.IsWhole)
  (arg10 : Memref sig .tc .vmem S1x1x512 .f32) (harg10 : arg10.IsWhole)
  (arg11 : Memref sig .tc .vmem S256x512 .f32) (harg11 : arg11.IsWhole)
  (arg12 : Memref sig .tc .vmem S4096x512 .bf16) (harg12 : arg12.IsWhole)
variable (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F))
variable (x2 : Vec F S43 .i32) (x3 : Vec F S43 .i32) (x4 : Vec F S9 .i32) (x5 : Vec F S1 .i32) (x6 : Vec F S8 .f32) (x7 : Vec F S256x4096 .fp8e4m3) (x8 : Vec F S1x2048x512 .i8) (x9 : Vec F S1x32x512 .fp8e4m3) (x10 : Vec F S1x1x512 .f32) (x11 : Vec F S256x512 .f32) (x12 : Vec F S4096x512 .bf16)

theorem runKeep_out
    (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : ¬ (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1)) :
    (runKeep D q i c arg2 harg2 arg3 harg3 arg4 harg4 arg5 harg5 arg6 harg6 arg7 harg7 arg8 harg8 arg9 harg9 arg10 harg10 arg11 harg11 arg12 harg12 f2 f3 f4 f5 f6 f7 f8 f9 f10 f11 f12 h1 hw hC).1 = [(⟨Rect.unit (s := S256x512) ![0, 0] S256x512.size inb_S256x512_S256x512_0_0,
      outBlk (View.readAt (Elt F) arg3.view (Rect.unit (s := S43) (k0_off2 i) S1.size (k0_off2_inb i)).toLoadRect f3 (Shape.Idx.first (numel1_S1.symm ▸ Nat.one_pos)))
        (View.readAt (Elt F) arg4.view (Rect.unit (s := S9) (k0_off3 (View.readAt (Elt F) arg2.view (Rect.unit (s := S43) (k0_off2 i) S1.size (k0_off2_inb i)).toLoadRect f2 (Shape.Idx.first (numel1_S1.symm ▸ Nat.one_pos)))) S1.size (k0_off3_inb i _ _ hw h1)).toLoadRect f4 (Shape.Idx.first (numel1_S1.symm ▸ Nat.one_pos)))
        (View.readAt (Elt F) arg4.view (Rect.unit (s := S9) (k0_off4 (View.readAt (Elt F) arg2.view (Rect.unit (s := S43) (k0_off2 i) S1.size (k0_off2_inb i)).toLoadRect f2 (Shape.Idx.first (numel1_S1.symm ▸ Nat.one_pos)))) S1.size (k0_off4_inb i _ _ hw h1)).toLoadRect f4 (Shape.Idx.first (numel1_S1.symm ▸ Nat.one_pos)))
        (View.readAt (Elt F) arg6.view (Rect.unit (s := S8) (k0_off6 (View.readAt (Elt F) arg2.view (Rect.unit (s := S43) (k0_off2 i) S1.size (k0_off2_inb i)).toLoadRect f2 (Shape.Idx.first (numel1_S1.symm ▸ Nat.one_pos)))) S1.size (k0_off6_inb i _ _ hw h1)).toLoadRect f6 (Shape.Idx.first (numel1_S1.symm ▸ Nat.one_pos)))
        (View.readAt (Elt F) arg7.view (Rect.unit (s := S256x4096) ![0, 0] S256x4096.size inb_S256x4096_S256x4096_0_0).toLoadRect f7) (View.readAt (Elt F) arg12.view (Rect.unit (s := S4096x512) ![0, 0] S4096x512.size inb_S4096x512_S4096x512_0_0).toLoadRect f12)
        (View.readAt (Elt F) arg10.view (Rect.unit (s := S1x1x512) ![0, 0, 0] S1x1x512.size inb_S1x1x512_S1x1x512_0_0_0).toLoadRect f10) (View.readAt (Elt F) arg11.view (Rect.unit (s := S256x512) ![0, 0] S256x512.size inb_S256x512_S256x512_0_0).toLoadRect f11)⟩ : View.Piece (Elt F) S256x512 .f32)] := by
  sl_kernel_rfl

theorem runReload_out
    (h1 : k0_cond1 i (View.readAt (Elt F) arg5.view (Rect.unit (s := S1) ![0] S1.size inb_S1_S1_0).toLoadRect f5 (Shape.Idx.first (numel1_S1.symm ▸ Nat.one_pos))) = 1#1) (hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos)))) (hC : Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1) :
    (runReload D q i c arg2 harg2 arg3 harg3 arg4 harg4 arg5 harg5 arg6 harg6 arg7 harg7 arg8 harg8 arg9 harg9 arg10 harg10 arg11 harg11 arg12 harg12 f2 f3 f4 f5 f6 f7 f8 f9 f10 f11 f12 h1 hw hC).1.1 = [(⟨Rect.unit (s := S256x512) ![0, 0] S256x512.size inb_S256x512_S256x512_0_0,
      outBlk (View.readAt (Elt F) arg3.view (Rect.unit (s := S43) (k0_off2 i) S1.size (k0_off2_inb i)).toLoadRect f3 (Shape.Idx.first (numel1_S1.symm ▸ Nat.one_pos)))
        (View.readAt (Elt F) arg4.view (Rect.unit (s := S9) (k0_off3 (View.readAt (Elt F) arg2.view (Rect.unit (s := S43) (k0_off2 i) S1.size (k0_off2_inb i)).toLoadRect f2 (Shape.Idx.first (numel1_S1.symm ▸ Nat.one_pos)))) S1.size (k0_off3_inb i _ _ hw h1)).toLoadRect f4 (Shape.Idx.first (numel1_S1.symm ▸ Nat.one_pos)))
        (View.readAt (Elt F) arg4.view (Rect.unit (s := S9) (k0_off4 (View.readAt (Elt F) arg2.view (Rect.unit (s := S43) (k0_off2 i) S1.size (k0_off2_inb i)).toLoadRect f2 (Shape.Idx.first (numel1_S1.symm ▸ Nat.one_pos)))) S1.size (k0_off4_inb i _ _ hw h1)).toLoadRect f4 (Shape.Idx.first (numel1_S1.symm ▸ Nat.one_pos)))
        (View.readAt (Elt F) arg6.view (Rect.unit (s := S8) (k0_off6 (View.readAt (Elt F) arg2.view (Rect.unit (s := S43) (k0_off2 i) S1.size (k0_off2_inb i)).toLoadRect f2 (Shape.Idx.first (numel1_S1.symm ▸ Nat.one_pos)))) S1.size (k0_off6_inb i _ _ hw h1)).toLoadRect f6 (Shape.Idx.first (numel1_S1.symm ▸ Nat.one_pos)))
        (View.readAt (Elt F) arg7.view (Rect.unit (s := S256x4096) ![0, 0] S256x4096.size inb_S256x4096_S256x4096_0_0).toLoadRect f7) (View.readCov arg12.view (slabs (k0_pay2 (View.readAt (Elt F) arg8.view (Rect.unit (s := S1x2048x512) ![0, 0, 0] S1x2048x512.size inb_S1x2048x512_S1x2048x512_0_0_0).toLoadRect f8)) (k0_pay3 (View.readAt (Elt F) arg9.view (Rect.unit (s := S1x32x512) ![0, 0, 0] S1x32x512.size inb_S1x32x512_S1x32x512_0_0_0).toLoadRect f9))) (Rect.unit (s := S4096x512) ![0, 0] S4096x512.size inb_S4096x512_S4096x512_0_0).toLoadRect)
        (View.readAt (Elt F) arg10.view (Rect.unit (s := S1x1x512) ![0, 0, 0] S1x1x512.size inb_S1x1x512_S1x1x512_0_0_0).toLoadRect f10) (View.readAt (Elt F) arg11.view (Rect.unit (s := S256x512) ![0, 0] S256x512.size inb_S256x512_S256x512_0_0).toLoadRect f11)⟩ : View.Piece (Elt F) S256x512 .f32)] := by
  sl_kernel_rfl

set_option maxHeartbeats 1000000 in
/-- A live visit that finds its expert's weights in the scratch: it writes the output block and keeps the rest. The triple
    holds for any table `D` of definitions, since the body calls none. -/
theorem keep_spec
    (e : Fin 8) (he : at1 x2 (i 1) = BitVec.ofNat 32 e.val) (hlive : k0_cond1 i (at1 x5 0) = 1#1) (hC : ¬ ((i 1).val = 0 ∨ at1 x2 (Fin.mk ((i 1).val - 1) (by have := (i 1).2; exact Nat.lt_of_le_of_lt (Nat.sub_le _ _) this)) ≠ at1 x2 (i 1))) (E : Set ℕ) (K : PUnit → sProp 𝕄) :
    iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ (iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outBlk (at1 x3 (i 1)) (at1 x4 e.castSucc) (at1 x4 e.succ) (at1 x6 e) x7 x12 x10 x11) ∗ owns (c : Thread nD τ) arg12 fullShare x12) -∗ K ⟨⟩))
      ⊢ wp frame (wpE D Variants.none c none) E (cc0_down i arg2 harg2 arg3 harg3 arg4 harg4 arg5 harg5 arg6 harg6 arg7 harg7 arg8 harg8 arg9 harg9 arg10 harg10 arg11 harg11 arg12 harg12) K := by
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    have e0 : (View.readAt (Elt F) arg5.view (Rect.unit (s := S1) ![0] S1.size inb_S1_S1_0).toLoadRect f5 (Shape.Idx.first (numel1_S1.symm ▸ Nat.one_pos))) = at1 x5 0 := (readAt_word arg5.view f5 ![0] inb_S1_S1_0 0 rfl).trans (by rw [hf5])
    have e5 : (View.readAt (Elt F) arg2.view (Rect.unit (s := S43) (k0_off2 i) S1.size (k0_off2_inb i)).toLoadRect f2 (Shape.Idx.first (numel1_S1.symm ▸ Nat.one_pos))) = at1 x2 (i 1) := by rw [readAt_word arg2.view f2 _ _ (i 1) (off2_eq i), hf2]
    have e26 : (View.readAt (Elt F) arg2.view (Rect.unit (s := S43) (k0_off5 i) S1.size (k0_off5_inb i)).toLoadRect f2 (Shape.Idx.first (numel1_S1.symm ▸ Nat.one_pos))) = at1 x2 (Fin.mk ((i 1).val - 1) (by have := (i 1).2; exact Nat.lt_of_le_of_lt (Nat.sub_le _ _) this)) := by rw [readAt_word arg2.view f2 _ _ (Fin.mk ((i 1).val - 1) (by have := (i 1).2; exact Nat.lt_of_le_of_lt (Nat.sub_le _ _) this)) (off5_eq i), hf2]
    have h1 : k0_cond1 i (View.readAt (Elt F) arg5.view (Rect.unit (s := S1) ![0] S1.size inb_S1_S1_0).toLoadRect f5 (Shape.Idx.first (numel1_S1.symm ▸ Nat.one_pos))) = 1#1 := by rw [e0]; exact hlive
    have he5 : (View.readAt (Elt F) arg2.view (Rect.unit (s := S43) (k0_off2 i) S1.size (k0_off2_inb i)).toLoadRect f2 (Shape.Idx.first (numel1_S1.symm ▸ Nat.one_pos))) = BitVec.ofNat 32 e.val := e5.trans he
    have hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))) := chk_of i _ _ e he5
    have hc : ¬ (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1) := by rw [e5, e26]; exact fun h => hC ((cond_iff i _ _).1 h)
    have r7 : (View.readAt (Elt F) arg7.view (Rect.unit (s := S256x4096) ![0, 0] S256x4096.size inb_S256x4096_S256x4096_0_0).toLoadRect f7) = x7 := (readAt_zero2 arg7.view f7 _).trans hf7
    have r10 : (View.readAt (Elt F) arg10.view (Rect.unit (s := S1x1x512) ![0, 0, 0] S1x1x512.size inb_S1x1x512_S1x1x512_0_0_0).toLoadRect f10) = x10 := (readAt_zero3 arg10.view f10 _).trans hf10
    have r11 : (View.readAt (Elt F) arg11.view (Rect.unit (s := S256x512) ![0, 0] S256x512.size inb_S256x512_S256x512_0_0).toLoadRect f11) = x11 := (readAt_zero2 arg11.view f11 _).trans hf11
    have r12 : (View.readAt (Elt F) arg12.view (Rect.unit (s := S4096x512) ![0, 0] S4096x512.size inb_S4096x512_S4096x512_0_0).toLoadRect f12) = x12 := (readAt_zero2 arg12.view f12 _).trans hf12
    iapply (((runKeep D q i c arg2 harg2 arg3 harg3 arg4 harg4 arg5 harg5 arg6 harg6 arg7 harg7 arg8 harg8 arg9 harg9 arg10 harg10 arg11 harg11 arg12 harg12 f2 f3 f4 f5 f6 f7 f8 f9 f10 f11 f12 h1 hw hc)).2 E K)
    rw [runKeep_out]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; swap; · iexact H11
      ipureintro
      rw [View.read_writes_one, readAt_word arg3.view f3 _ _ (i 1) (off2_eq i), readAt_word arg4.view f4 _ _ e.castSucc (off3_eq _ e he5),
        readAt_word arg4.view f4 _ _ e.succ (off4_eq _ e he5), readAt_word arg6.view f6 _ _ e (off6_eq _ e he5),
        hf3, hf4, hf6]
      rw [r12, r7, r10, r11]
    iexists _; isplitr; swap; · iexact H12
    ipureintro; exact hf12

set_option maxHeartbeats 1000000 in
/-- A live visit that dequantises its expert's weights into the scratch, and writes the output block from them. -/
theorem reload_spec
    (e : Fin 8) (he : at1 x2 (i 1) = BitVec.ofNat 32 e.val) (hlive : k0_cond1 i (at1 x5 0) = 1#1) (hC : (i 1).val = 0 ∨ at1 x2 (Fin.mk ((i 1).val - 1) (by have := (i 1).2; exact Nat.lt_of_le_of_lt (Nat.sub_le _ _) this)) ≠ at1 x2 (i 1)) (E : Set ℕ) (K : PUnit → sProp 𝕄) :
    iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outBlk (at1 x3 (i 1)) (at1 x4 e.castSucc) (at1 x4 e.succ) (at1 x6 e) x7 (wscr (k0_pay2 x8) (k0_pay3 x9)) x10 x11) ∗ owns (c : Thread nD τ) arg12 fullShare (wscr (k0_pay2 x8) (k0_pay3 x9))) -∗ K ⟨⟩))
      ⊢ wp frame (wpE D Variants.none c none) E (cc0_down i arg2 harg2 arg3 harg3 arg4 harg4 arg5 harg5 arg6 harg6 arg7 harg7 arg8 harg8 arg9 harg9 arg10 harg10 arg11 harg11 arg12 harg12) K := by
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d17, %f12, -, H12⟩, Hk⟩
    have e0 : (View.readAt (Elt F) arg5.view (Rect.unit (s := S1) ![0] S1.size inb_S1_S1_0).toLoadRect f5 (Shape.Idx.first (numel1_S1.symm ▸ Nat.one_pos))) = at1 x5 0 := (readAt_word arg5.view f5 ![0] inb_S1_S1_0 0 rfl).trans (by rw [hf5])
    have e5 : (View.readAt (Elt F) arg2.view (Rect.unit (s := S43) (k0_off2 i) S1.size (k0_off2_inb i)).toLoadRect f2 (Shape.Idx.first (numel1_S1.symm ▸ Nat.one_pos))) = at1 x2 (i 1) := by rw [readAt_word arg2.view f2 _ _ (i 1) (off2_eq i), hf2]
    have e26 : (View.readAt (Elt F) arg2.view (Rect.unit (s := S43) (k0_off5 i) S1.size (k0_off5_inb i)).toLoadRect f2 (Shape.Idx.first (numel1_S1.symm ▸ Nat.one_pos))) = at1 x2 (Fin.mk ((i 1).val - 1) (by have := (i 1).2; exact Nat.lt_of_le_of_lt (Nat.sub_le _ _) this)) := by rw [readAt_word arg2.view f2 _ _ (Fin.mk ((i 1).val - 1) (by have := (i 1).2; exact Nat.lt_of_le_of_lt (Nat.sub_le _ _) this)) (off5_eq i), hf2]
    have h1 : k0_cond1 i (View.readAt (Elt F) arg5.view (Rect.unit (s := S1) ![0] S1.size inb_S1_S1_0).toLoadRect f5 (Shape.Idx.first (numel1_S1.symm ▸ Nat.one_pos))) = 1#1 := by rw [e0]; exact hlive
    have he5 : (View.readAt (Elt F) arg2.view (Rect.unit (s := S43) (k0_off2 i) S1.size (k0_off2_inb i)).toLoadRect f2 (Shape.Idx.first (numel1_S1.symm ▸ Nat.one_pos))) = BitVec.ofNat 32 e.val := e5.trans he
    have hw : k0_chk1 i (View.readAt (Elt F) arg5.view (Rect.unit (s := S1) ![0] S1.size inb_S1_S1_0).toLoadRect f5 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))) := chk_of i _ _ e he5
    have hc : (Scalar.cmpi .ne (Scalar.extui (Scalar.ori (Scalar.cmpi .eq (BitVec.ofNat 32 (i 1).val) 0#32) (Scalar.cmpi .ne (View.readAt (Elt F) arg2.view (Rect.unit (s := S43) (k0_off5 i) S1.size (k0_off5_inb i)).toLoadRect f2 (Shape.Idx.first (numel1_S1.symm ▸ Nat.one_pos))) (View.readAt (Elt F) arg2.view (Rect.unit (s := S43) (k0_off2 i) S1.size (k0_off2_inb i)).toLoadRect f2 (Shape.Idx.first (numel1_S1.symm ▸ Nat.one_pos))))) : BitVec 32) 0#32 = 1#1) := by rw [e5, e26]; exact (cond_iff i _ _).2 hC
    have r7 : (View.readAt (Elt F) arg7.view (Rect.unit (s := S256x4096) ![0, 0] S256x4096.size inb_S256x4096_S256x4096_0_0).toLoadRect f7) = x7 := (readAt_zero2 arg7.view f7 _).trans hf7
    have r10 : (View.readAt (Elt F) arg10.view (Rect.unit (s := S1x1x512) ![0, 0, 0] S1x1x512.size inb_S1x1x512_S1x1x512_0_0_0).toLoadRect f10) = x10 := (readAt_zero3 arg10.view f10 _).trans hf10
    have r11 : (View.readAt (Elt F) arg11.view (Rect.unit (s := S256x512) ![0, 0] S256x512.size inb_S256x512_S256x512_0_0).toLoadRect f11) = x11 := (readAt_zero2 arg11.view f11 _).trans hf11
    have r8 : (View.readAt (Elt F) arg8.view (Rect.unit (s := S1x2048x512) ![0, 0, 0] S1x2048x512.size inb_S1x2048x512_S1x2048x512_0_0_0).toLoadRect f8) = x8 := (readAt_zero3 arg8.view f8 _).trans hf8
    have r9 : (View.readAt (Elt F) arg9.view (Rect.unit (s := S1x32x512) ![0, 0, 0] S1x32x512.size inb_S1x32x512_S1x32x512_0_0_0).toLoadRect f9) = x9 := (readAt_zero3 arg9.view f9 _).trans hf9
    iapply (((runReload D q i c arg2 harg2 arg3 harg3 arg4 harg4 arg5 harg5 arg6 harg6 arg7 harg7 arg8 harg8 arg9 harg9 arg10 harg10 arg11 harg11 arg12 harg12 f2 f3 f4 f5 f6 f7 f8 f9 f10 f11 f12 h1 hw hc)).2 E K)
    rw [reload_pieces, runReload_out]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; swap; · iexact H11
      ipureintro
      rw [View.read_writes_one, readAt_word arg3.view f3 _ _ (i 1) (off2_eq i), readAt_word arg4.view f4 _ _ e.castSucc (off3_eq _ e he5),
        readAt_word arg4.view f4 _ _ e.succ (off4_eq _ e he5), readAt_word arg6.view f6 _ _ e (off6_eq _ e he5),
        hf3, hf4, hf6]
      rw [readCov_slabs, r7, r10, r11, r8, r9]
    iexists _; isplitr; swap; · iexact H12
    ipureintro; rw [read_slabs, r8, r9]

/-- A dead visit only looks at the number of visits. -/
theorem skip_spec
    (hdead : ¬ k0_cond1 i (at1 x5 0) = 1#1) (E : Set ℕ) (K : PUnit → sProp 𝕄) :
    iprop(owns (c : Thread nD τ) arg5 q x5 ∗ (owns (c : Thread nD τ) arg5 q x5 -∗ K ⟨⟩))
      ⊢ wp frame (wpE D Variants.none c none) E (cc0_down i arg2 harg2 arg3 harg3 arg4 harg4 arg5 harg5 arg6 harg6 arg7 harg7 arg8 harg8 arg9 harg9 arg10 harg10 arg11 harg11 arg12 harg12) K := by
  unfold owns
  iintro ⟨⟨%f5, %hf5, H5⟩, Hk⟩
  have h1 : ¬ k0_cond1 i (View.readAt (Elt F) arg5.view (Rect.unit (s := S1) ![0] S1.size inb_S1_S1_0).toLoadRect f5 (Shape.Idx.first (numel1_S1.symm ▸ Nat.one_pos))) = 1#1 := by
    rw [readAt_word arg5.view f5 ![0] inb_S1_S1_0 0 rfl, hf5]; exact hdead
  iapply (runSkip D q i c arg2 harg2 arg3 harg3 arg4 harg4 arg5 harg5 arg6 harg6 arg7 harg7 arg8 harg8 arg9 harg9 arg10 harg10 arg11 harg11 arg12 harg12 f5 h1 E K)
  isplitl [H5]; · iexact H5
  iintro H5
  iapply Hk
  iexists _; isplitr; · ipureintro; exact hf5
  iexact H5

end Cert.Down.Body

end
-- ==== Proof.Down.Geom.lean ====
module

public import proofs.«01_k».proof.Proof.Down.Spec
public import proofs.«01_k».proof.Proof.Tables.Words
public import proofs.«01_k».proof.Proof.Tables.Pre
set_option maxRecDepth 16384

/-!
# Which block every window reads at a grid point

The four prefetched tables are functions of the group sizes `gs`. With them the index maps have closed
forms: at the point of column block `i 0` and visit `i 1` the activations and the output are at row tile
`mN (i 1)`, the weights and scales at expert `eN (i 1)`. Every block is inside its array.
-/

@[expose] public section

namespace Cert.Down.Body
open Cert.Down Cert.Down.Gen
open Idealize.ShloMosaic Idealize.ShloMosaic.TcCoe
open Cert.Tables

variable {F : FTy → Type} [FloatOps F]

/-- The contents of the prefetched tables: expert per visit, tile per visit, group offsets, number of visits. -/
noncomputable def tab (gs : IVec (⟨1, ![8]⟩ : Shape) 32) : pre0.Contents (Elt F) := fun
  | 0 => veT gs | 1 => vmT gs | 2 => sums gs | 3 => totalT gs
  | ⟨_ + 4, h⟩ => absurd h (Nat.not_lt.2 (Nat.le_add_left _ _))

/-- Coordinate `k` of the one-word rectangle a table is read at. -/
theorem emb_word (i : grid0.Coords) (h1 : S1.numel = 1)
    (h : ∀ a, (![(Scalar.indexCast (BitVec.ofNat 32 (i 1).val) : Index).toNat] : Fin 1 → ℕ) a + S1.size a ≤ S43.size a) :
    (Rect.unit (s := S43) ![(Scalar.indexCast (BitVec.ofNat 32 (i 1).val) : Index).toNat] S1.size h).emb
      (Shape.Idx.first (h1.symm ▸ Nat.one_pos)) = (ix1 (i 1) : (⟨1, ![43]⟩ : Shape).Idx) := by
  funext a
  match a with
  | ⟨0, _⟩ =>
    apply Fin.ext
    have h43 : (i 1).val < 43 := (i 1).isLt
    show (BitVec.ofNat 32 (i 1).val).toNat + 1 * 0 = (i 1).val
    rw [BitVec.toNat_ofNat]
    omega

theorem fits2 {m n : ℕ} (hm : m < 36) {b : ℕ} (k : ℕ) (hn : (n + 1) * b ≤ k) :
    ∀ a, (![m, n] a + 1) * (⟨2, ![256, b]⟩ : Shape).size a ≤ (⟨2, ![9216, k]⟩ : Shape).size a := by
  intro a
  match a with
  | ⟨0, _⟩ => show (m + 1) * 256 ≤ 9216; omega
  | ⟨1, _⟩ => exact hn

theorem fits3 {e n : ℕ} (he : e < 8) (hn : n < 12) (k : ℕ) :
    ∀ a, (![e, 0, n] a + 1) * (⟨3, ![1, k, 512]⟩ : Shape).size a ≤ (⟨3, ![8, k, 6144]⟩ : Shape).size a := by
  intro a
  match a with
  | ⟨0, _⟩ => show (e + 1) * 1 ≤ 8; omega
  | ⟨1, _⟩ => show (0 + 1) * k ≤ k; omega
  | ⟨2, _⟩ => show (n + 1) * 512 ≤ 6144; omega

theorem words2 {m n b k p : ℕ} (hd : p ∣ 256)
    (h : ∀ a, (![m, n] a + 1) * (⟨2, ![256, b]⟩ : Shape).size a ≤ (⟨2, ![9216, k]⟩ : Shape).size a) :
    (Rect.block (s := ⟨2, ![9216, k]⟩) (⟨2, ![256, b]⟩ : Shape).size ![m, n] h).WholeWords p := by
  refine .inl (.inr ⟨le_refl _, rfl, .inl ⟨?_, ?_⟩⟩)
  · show p ∣ m * 256
    exact hd.mul_left m
  · exact hd

theorem words3 {e n k p : ℕ}
    (h : ∀ a, (![e, 0, n] a + 1) * (⟨3, ![1, k, 512]⟩ : Shape).size a ≤ (⟨3, ![8, k, 6144]⟩ : Shape).size a) :
    (Rect.block (s := ⟨3, ![8, k, 6144]⟩) (⟨3, ![1, k, 512]⟩ : Shape).size ![e, 0, n] h).WholeWords p := by
  refine .inr ⟨by show 2 ≤ 3; omega, rfl, ?_, rfl⟩
  show 0 * k = 0
  omega

theorem col_word (i : grid0.Coords) : (BitVec.ofNat 32 (i 0).val).toNat = (i 0).val := by
  have h : (i 0).val < 12 := (i 0).isLt
  rw [BitVec.toNat_ofNat]; omega

variable (gs : IVec (⟨1, ![8]⟩ : Shape) 32) (hp : offN (sizes gs) 8 = 9216)

/-- Expert of visit `v`. -/
abbrev ex (v : ℕ) : ℕ := eN (sizes gs) v
/-- Row tile of visit `v`. -/
abbrev tl (v : ℕ) : ℕ := mN (sizes gs) v

include hp
theorem ve_entry (v : Fin 43) : veT gs (ix1 v) = BitVec.ofNat 32 (ex gs v.val) :=
  veT_ap gs (sizes gs) (sizes_ap gs) hp v
theorem vm_entry (v : Fin 43) : vmT gs (ix1 v) = BitVec.ofNat 32 (tl gs v.val) :=
  vmT_ap gs (sizes gs) (sizes_ap gs) hp v
theorem ex_lt (v : Fin 43) : ex gs v.val < 8 := eN_lt (sizes gs) hp v
theorem tl_lt (v : Fin 43) : tl gs v.val < 36 := mN_lt (sizes gs) hp v

theorem ve_word (i : grid0.Coords) (h1 : S1.numel = 1)
    (h : ∀ a, (![(Scalar.indexCast (BitVec.ofNat 32 (i 1).val) : Index).toNat] : Fin 1 → ℕ) a + S1.size a ≤ S43.size a) :
    ((tab (F := F) gs).at 0 (Rect.unit (s := S43) ![(Scalar.indexCast (BitVec.ofNat 32 (i 1).val) : Index).toNat] S1.size h) h1 : BitVec 32).toNat
      = ex gs (i 1).val := by
  have e := congrArg (veT gs) (emb_word i h1 h)
  have e2 := (e.trans (ve_entry gs hp (i 1)))
  refine (congrArg BitVec.toNat e2).trans ?_
  have := ex_lt gs hp (i 1)
  rw [BitVec.toNat_ofNat]; omega

theorem vm_word (i : grid0.Coords) (h1 : S1.numel = 1)
    (h : ∀ a, (![(Scalar.indexCast (BitVec.ofNat 32 (i 1).val) : Index).toNat] : Fin 1 → ℕ) a + S1.size a ≤ S43.size a) :
    ((tab (F := F) gs).at 1 (Rect.unit (s := S43) ![(Scalar.indexCast (BitVec.ofNat 32 (i 1).val) : Index).toNat] S1.size h) h1 : BitVec 32).toNat
      = tl gs (i 1).val := by
  have e := congrArg (vmT gs) (emb_word i h1 h)
  have e2 := (e.trans (vm_entry gs hp (i 1)))
  refine (congrArg BitVec.toNat e2).trans ?_
  have := tl_lt gs hp (i 1)
  rw [BitVec.toNat_ofNat]; omega

/-- The activations' block index, -/
theorem ixX (i : grid0.Coords) : cc0_transform_1 k0_off1_inb numel1_S1 (tab (F := F) gs) i = ![tl gs (i 1).val, 0] := by
  have e := vm_word (F := F) gs hp i numel1_S1 (k0_off1_inb i)
  exact congrArg (fun x => (![x, 0] : Fin 2 → ℕ)) e
/-- the output's, -/
theorem ixO (i : grid0.Coords) : cc0_transform_5 k0_off1_inb numel1_S1 (tab (F := F) gs) i = ![tl gs (i 1).val, (i 0).val] := by
  have e := vm_word (F := F) gs hp i numel1_S1 (k0_off1_inb i)
  exact congrArg₂ (fun x y => (![x, y] : Fin 2 → ℕ)) e (col_word i)
/-- and those of the weights and scales. -/
theorem ix2w (i : grid0.Coords) : cc0_transform_2 k0_off1_inb numel1_S1 (tab (F := F) gs) i = ![ex gs (i 1).val, 0, (i 0).val] := by
  have e := ve_word (F := F) gs hp i numel1_S1 (k0_off1_inb i)
  exact congrArg₂ (fun x y => (![x, 0, y] : Fin 3 → ℕ)) e (col_word i)
theorem ix3w (i : grid0.Coords) : cc0_transform_3 k0_off1_inb numel1_S1 (tab (F := F) gs) i = ![ex gs (i 1).val, 0, (i 0).val] := ix2w gs hp i
theorem ix4w (i : grid0.Coords) : cc0_transform_4 k0_off1_inb numel1_S1 (tab (F := F) gs) i = ![ex gs (i 1).val, 0, (i 0).val] := ix2w gs hp i

/-- Every block the tables name is inside its array and made of whole words. -/
theorem tab_ok : ok0 (tab (F := F) gs) := by
  have he := fun i : grid0.Coords => ex_lt gs hp (i 1)
  have hm := fun i : grid0.Coords => tl_lt gs hp (i 1)
  have hn : ∀ i : grid0.Coords, (i 0).val < 12 := fun i => (i 0).isLt
  refine ⟨fun i => ?_, fun i => ?_, fun i => ?_, fun i => ?_, fun i => ?_⟩
  · rw [ixX gs hp i]; exact ⟨fits2 (hm i) 4096 (by omega), .inr (words2 (by decide) _)⟩
  · rw [ix2w gs hp i]; exact ⟨fits3 (he i) (hn i) 2048, .inr (words3 _)⟩
  · rw [ix3w gs hp i]; exact ⟨fits3 (he i) (hn i) 32, .inr (words3 _)⟩
  · rw [ix4w gs hp i]; exact ⟨fits3 (he i) (hn i) 1, .inl rfl⟩
  · rw [ixO gs hp i]; exact ⟨fits2 (hm i) 6144 (by have := hn i; omega), .inl rfl⟩

/-- The pipeline's tables, as admissible contents. -/
noncomputable def adm : (pcfg0 (F := F)).Adm := ⟨tab gs, tab_ok gs hp⟩

end Cert.Down.Body
-- ==== Proof.Down.Data.lean ====
/- The pipeline of the kernel: the blocks its windows hold and the data its loop is proved with. -/
module

public import proofs.«01_k».proof.Proof.Down.Geom

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

open Idealize.ShloMosaic.ValueIdx (ix2 ix3)

/-- Contents of the core's buffers when the kernel starts. -/
abbrev Bufs (c : Dev nD) := (b : Ref sig .tc) → Buf (Elt F) ((c.tc : Thread nD τ).loc b)

/-- The block of rows `256 m …` of the activations. -/
def xB (x : Vec F S9216x4096 .fp8e4m3) (m : ℕ) : Vec F S256x4096 .fp8e4m3 := fun j => x (ix2 (Fin.ofNat 9216 (m * 256 + (j 0).val)) (j 1))
/-- The block of expert `e`, columns `512 n …`, of a weight array, -/
def wB (w : Vec F S8x2048x6144 .i8) (e n : ℕ) : Vec F S1x2048x512 .i8 := fun j => w (ix3 (Fin.ofNat 8 e) (j 1) (Fin.ofNat 6144 (n * 512 + (j 2).val)))
/-- of an array of block scales -/
def sB (s : Vec F S8x32x6144 .fp8e4m3) (e n : ℕ) : Vec F S1x32x512 .fp8e4m3 := fun j => s (ix3 (Fin.ofNat 8 e) (j 1) (Fin.ofNat 6144 (n * 512 + (j 2).val)))
/-- and of an array of column scales. -/
def cB (s : Vec F S8x1x6144 .f32) (e n : ℕ) : Vec F S1x1x512 .f32 := fun j => s (ix3 (Fin.ofNat 8 e) (j 1) (Fin.ofNat 6144 (n * 512 + (j 2).val)))

section
variable (gs : IVec (⟨1, ![8]⟩ : Shape) 32) (hp : offN (sizes gs) 8 = 9216) (c : Dev nD) (B : Bufs (F := F) c)

/-- The unpacked weights of expert `e`, column block `n`, as the scratch holds them. -/
def scrW (e n : ℕ) : Vec F S4096x512 .bf16 :=
  wscr (k0_pay2 (F := F) (wB (B main_arg3) e n)) (k0_pay3 (sB (B main_arg4) e n))

/-- What visit `v` of column block `n` makes of the output block. -/
def step (v : Fin 43) (n : ℕ) (Y : Vec F S256x512 .f32) : Vec F S256x512 .f32 :=
  if v.val < cumN (sizes gs) 8 then
    outBlk (at1 (vmT gs) v) (at1 (sums gs) (Fin.ofNat 8 (ex gs v)).castSucc) (at1 (sums gs) (Fin.ofNat 8 (ex gs v)).succ)
      (at1 (B main_arg2) (Fin.ofNat 8 (ex gs v))) (xB (B main_arg0) (tl gs v)) (scrW c B (ex gs v) n)
      (cB (B main_v48) (ex gs v) n) Y
  else Y

/-- The proof data of the pipeline: inputs stay, the output block takes the visit's step, and after every visit the
    scratch holds the weights of the visit's expert. -/
def rdat : RDat τ (Elt F) Unit ℕ (UR sig nD τ) ℕ (cfg0 (adm (F := F) gs hp)) c where
  A := fun w => B (Pipeline.arrRef spec0 w)
  after := fun
    | 5 => fun t Y X => X = step gs c B (grid0.coords t 1) (grid0.coords t 0).val Y
    | 0 => fun _ Y X => X = Y | 1 => fun _ Y X => X = Y | 2 => fun _ Y X => X = Y | 3 => fun _ Y X => X = Y
    | 4 => fun _ Y X => X = Y
    | ⟨_ + 6, h⟩ => absurd h (Nat.not_lt.2 (Nat.le_add_left _ _))
  Φ := fun s => iprop((∃ d : Vec F S4096x512 .bf16, ⌜∀ t : Fin grid0.N, t.val + 1 = s.val → d = scrW c B (ex gs (grid0.coords t 1)) (grid0.coords t 0).val⌝
    ∗ owns (c : Thread nD τ) (Memref.whole cc0_scratch0) fullShare d) ∗ (∃ r, prngReg c r) ∗ Pipeline.ΦT pre0 (tab (F := F) gs) c)
  q := fun _ => fullShare
  owed := fun _ => 0

theorem blk_1 (t : Fin grid0.N) : (rdat gs hp c B).blockOf 1 t = xB (B main_arg0) (tl gs (grid0.coords t 1)) := by
  refine funext fun (y : S256x4096.Idx) => ?_
  refine congrArg (B main_arg0) ?_
  have e := ixX (F := F) gs hp (grid0.coords t)
  have hm := tl_lt gs hp (grid0.coords t 1)
  funext a
  match a with
  | ⟨0, _⟩ =>
    apply Fin.ext
    have hy : (y 0).val < 256 := (y 0).isLt
    show cc0_transform_1 k0_off1_inb numel1_S1 (tab (F := F) gs) (grid0.coords t) 0 * 256 + 1 * (y 0).val = (tl gs (grid0.coords t 1).val * 256 + (y 0).val) % 9216
    rw [e]
    show tl gs (grid0.coords t 1).val * 256 + 1 * (y 0).val = _
    omega
  | ⟨1, _⟩ =>
    apply Fin.ext
    show cc0_transform_1 k0_off1_inb numel1_S1 (tab (F := F) gs) (grid0.coords t) 1 * 4096 + 1 * (y 1).val = (y 1).val
    rw [e]
    show 0 * 4096 + 1 * (y 1).val = _
    omega

theorem blk_2 (t : Fin grid0.N) : (rdat gs hp c B).blockOf 2 t = wB (B main_arg3) (ex gs (grid0.coords t 1)) (grid0.coords t 0).val := by
  refine funext fun (y : (⟨3, ![1, 2048, 512]⟩ : Shape).Idx) => ?_
  refine congrArg (B main_arg3) ?_
  have e := ix2w (F := F) gs hp (grid0.coords t)
  have hm := ex_lt gs hp (grid0.coords t 1)
  have hn : (grid0.coords t 0).val < 12 := (grid0.coords t 0).isLt
  funext a
  match a with
  | ⟨0, _⟩ =>
    apply Fin.ext
    have hy : (y 0).val < 1 := (y 0).isLt
    show cc0_transform_2 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_2 k0_off1_inb numel1_S1 (tab (F := F) gs) (grid0.coords t) 1 * 2048 + 1 * (y 1).val = (y 1).val
    rw [e]
    show 0 * 2048 + 1 * (y 1).val = _
    omega
  | ⟨2, _⟩ =>
    apply Fin.ext
    have hy : (y 2).val < 512 := (y 2).isLt
    show cc0_transform_2 k0_off1_inb numel1_S1 (tab (F := F) gs) (grid0.coords t) 2 * 512 + 1 * (y 2).val = ((grid0.coords t 0).val * 512 + (y 2).val) % 6144
    rw [e]
    show (grid0.coords t 0).val * 512 + 1 * (y 2).val = _
    omega

theorem blk_3 (t : Fin grid0.N) : (rdat gs hp c B).blockOf 3 t = sB (B main_arg4) (ex gs (grid0.coords t 1)) (grid0.coords t 0).val := by
  refine funext fun (y : (⟨3, ![1, 32, 512]⟩ : Shape).Idx) => ?_
  refine congrArg (B main_arg4) ?_
  have e := ix3w (F := F) gs hp (grid0.coords t)
  have hm := ex_lt gs hp (grid0.coords t 1)
  have hn : (grid0.coords t 0).val < 12 := (grid0.coords t 0).isLt
  funext a
  match a with
  | ⟨0, _⟩ =>
    apply Fin.ext
    have hy : (y 0).val < 1 := (y 0).isLt
    show cc0_transform_3 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_3 k0_off1_inb numel1_S1 (tab (F := F) gs) (grid0.coords t) 1 * 32 + 1 * (y 1).val = (y 1).val
    rw [e]
    show 0 * 32 + 1 * (y 1).val = _
    omega
  | ⟨2, _⟩ =>
    apply Fin.ext
    have hy : (y 2).val < 512 := (y 2).isLt
    show cc0_transform_3 k0_off1_inb numel1_S1 (tab (F := F) gs) (grid0.coords t) 2 * 512 + 1 * (y 2).val = ((grid0.coords t 0).val * 512 + (y 2).val) % 6144
    rw [e]
    show (grid0.coords t 0).val * 512 + 1 * (y 2).val = _
    omega

theorem blk_4 (t : Fin grid0.N) : (rdat gs hp c B).blockOf 4 t = cB (B main_v48) (ex gs (grid0.coords t 1)) (grid0.coords t 0).val := by
  refine funext fun (y : (⟨3, ![1, 1, 512]⟩ : Shape).Idx) => ?_
  refine congrArg (B main_v48) ?_
  have e := ix4w (F := F) gs hp (grid0.coords t)
  have hm := ex_lt gs hp (grid0.coords t 1)
  have hn : (grid0.coords t 0).val < 12 := (grid0.coords t 0).isLt
  funext a
  match a with
  | ⟨0, _⟩ =>
    apply Fin.ext
    have hy : (y 0).val < 1 := (y 0).isLt
    show cc0_transform_4 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_4 k0_off1_inb numel1_S1 (tab (F := F) gs) (grid0.coords t) 1 * 1 + 1 * (y 1).val = (y 1).val
    rw [e]
    show 0 * 1 + 1 * (y 1).val = _
    omega
  | ⟨2, _⟩ =>
    apply Fin.ext
    have hy : (y 2).val < 512 := (y 2).isLt
    show cc0_transform_4 k0_off1_inb numel1_S1 (tab (F := F) gs) (grid0.coords t) 2 * 512 + 1 * (y 2).val = ((grid0.coords t 0).val * 512 + (y 2).val) % 6144
    rw [e]
    show (grid0.coords t 0).val * 512 + 1 * (y 2).val = _
    omega

/-- What the body finds in an input window is the block the point names. -/
theorem found (w : Fin 6) (hw : (spec0 w).isOut = false)
    (hk : ∀ (t : Fin grid0.N) (Y X : (spec0 w).block.Idx → Elt F (spec0 w).elt), (rdat gs hp c B).after w t Y X → X = Y)
    (t : Fin grid0.N) (Y : (spec0 w).block.Idx → Elt F (spec0 w).elt)
    (h : (rdat gs hp c B).Finds w t Y) : Y = (rdat gs hp c B).blockOf w t := by
  obtain ⟨d, hd⟩ := RDat.finds_in_eq_fetched (rdat gs hp c B) w hw (fun _ _ _ => rfl) hk t Y h
  rw [hd]
  funext j
  exact Window.fill_xinj ((cfg0 (adm (F := F) gs hp)).win w) (grid0.coords t) d _ j

end

end Cert.Down.Body

end
-- ==== Proof.Down.Obligation.lean ====
/- The body at every grid point: the loop of the kernel keeps its invariant. -/
module

public import proofs.«01_k».proof.Proof.Down.Data

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

variable (gs : IVec (⟨1, ![8]⟩ : Shape) 32) (hp : offN (sizes gs) 8 = 9216) (c : Dev nD) (B : Bufs (F := F) c)

theorem blk_0 (t : Fin grid0.N) : (rdat gs hp c B).blockOf 0 t = B main_arg2 := by
  refine funext fun (y : S8.Idx) => ?_
  refine congrArg (B main_arg2) ?_
  funext a
  match a with
  | ⟨0, _⟩ =>
    apply Fin.ext
    show 0 * 8 + 1 * (y 0).val = (y 0).val
    omega

/-- Coordinates of a grid point: column block `t / 43`, visit `t % 43`. -/
theorem coord_one : ∀ t : Fin grid0.N, (grid0.coords t 1).val = t.val % 43 := by decide +kernel
theorem coord_zero : ∀ t : Fin grid0.N, (grid0.coords t 0).val = t.val / 43 := by decide +kernel

/-- The tables, one by one. -/
theorem tables : (Pipeline.ΦT pre0 (tab (F := F) gs) c : sProp 𝕄) ⊣⊢ iprop(owns (c : Thread nD τ) (Memref.whole main_v31) fullShare.right (veT gs) ∗ owns (c : Thread nD τ) (Memref.whole main_v47) fullShare.right (vmT gs) ∗ owns (c : Thread nD τ) (Memref.whole main_v2) fullShare.right (sums gs) ∗ owns (c : Thread nD τ) (Memref.whole main_v18) fullShare.right (totalT gs)) := by
  rw [show (Pipeline.ΦT pre0 (tab (F := F) gs) c : sProp 𝕄) = _ from bigSep_univ_eq_bigSepL [(0 : Fin 4), (1 : Fin 4), (2 : Fin 4), (3 : Fin 4)] (by decide) (by decide) _]
  rw [owns_whole, owns_whole, owns_whole, owns_whole]
  exact .rfl

/-- Entry `k` of a table, through either spelling of a one-coordinate index. -/
theorem at1_eq {n : ℕ} {α : Type} (x : (⟨1, ![n]⟩ : Shape).Idx → α) (k : Fin n) : at1 x k = x (Idealize.ShloMosaic.ValueIdx.ix1 k) := by
  unfold at1
  refine congrArg x ?_
  funext a
  match a with
  | ⟨0, _⟩ => rfl

include hp in
/-- A visit is live when it is below the number of visits. -/
theorem live_iff (i : grid0.Coords) : k0_cond1 i (at1 (totalT gs) 0) = 1#1 ↔ (i 1).val < cumN (sizes gs) 8 := by
  have h : (i 1).val < 43 := (i 1).2
  have hc := cumN_bound (sizes gs) hp
  rw [at1_eq, totalT_ap gs (sizes gs) (sizes_ap gs) hp]
  unfold k0_cond1
  generalize hk : cumN (sizes gs) 8 = k at *
  generalize hv : (i 1).val = v at *
  have key : ∀ v < 43, ∀ k ≤ 43, (Scalar.cmpi .ne (Scalar.extui (Scalar.cmpi .slt (BitVec.ofNat 32 v) (BitVec.ofNat 32 k)) : BitVec 32) 0#32 = 1#1 ↔ v < k) := by decide +kernel
  exact key v h k hc

include hp in
theorem ve_at (v : Fin 43) : at1 (veT gs) v = BitVec.ofNat 32 (Fin.ofNat 8 (ex gs v.val)).val := by
  rw [at1_eq, veT_ap gs (sizes gs) (sizes_ap gs) hp]
  refine congrArg _ ?_
  have := ex_lt gs hp v
  show ex gs v.val = ex gs v.val % 8
  omega

include hp in
/-- Two visits with one table entry are of one expert. -/
theorem ex_of_entry {v w : Fin 43} (h : at1 (veT gs) v = at1 (veT gs) w) : ex gs v.val = ex gs w.val := by
  rw [ve_at gs hp, ve_at gs hp] at h
  have h1 := ex_lt gs hp v
  have h2 := ex_lt gs hp w
  have := congrArg BitVec.toNat h
  rw [BitVec.toNat_ofNat, BitVec.toNat_ofNat] at this
  have e1 : (Fin.ofNat 8 (ex gs v.val)).val = ex gs v.val % 8 := rfl
  have e2 : (Fin.ofNat 8 (ex gs w.val)).val = ex gs w.val % 8 := rfl
  omega

/-- The scratch after a visit that does not reload is the visit's expert's. -/
theorem scr_keep (t : Fin grid0.N) (d : Vec F S4096x512 .bf16)
    (hd : ∀ u : Fin grid0.N, u.val + 1 = t.castSucc.val → d = scrW c B (ex gs (grid0.coords u 1)) (grid0.coords u 0).val)
    (h0 : (grid0.coords t 1).val ≠ 0)
    (he : ex gs ((grid0.coords t 1).val - 1) = ex gs (grid0.coords t 1)) :
    ∀ u : Fin grid0.N, u.val + 1 = t.succ.val → d = scrW c B (ex gs (grid0.coords u 1)) (grid0.coords u 0).val := by
  intro u hu
  have hut : u = t := Fin.ext (by have := Fin.val_succ t; omega)
  subst hut
  have hN := N_0
  have ht := u.isLt
  rw [coord_one] at h0
  obtain ⟨p, hpv⟩ : ∃ p : Fin grid0.N, p.val + 1 = u.val := ⟨⟨u.val - 1, by omega⟩, by show u.val - 1 + 1 = u.val; omega⟩
  have h1 := hd p (by rw [Fin.val_castSucc]; exact hpv)
  have e1 : (grid0.coords p 1).val = (grid0.coords u 1).val - 1 := by rw [coord_one, coord_one]; omega
  have e0 : (grid0.coords p 0).val = (grid0.coords u 0).val := by rw [coord_zero, coord_zero]; omega
  rw [h1, e1, e0, he]

theorem scr_new (t : Fin grid0.N) :
    ∀ u : Fin grid0.N, u.val + 1 = t.succ.val → scrW c B (ex gs (grid0.coords t 1)) (grid0.coords t 0).val = scrW c B (ex gs (grid0.coords u 1)) (grid0.coords u 0).val := by
  intro u hu
  have : u = t := Fin.ext (by have := Fin.val_succ t; omega)
  rw [this]

/-- The invariant, spelled out. -/
theorem phi_eq (s : Fin (grid0.N + 1)) : (rdat gs hp c B).Φ s = iprop((∃ d : Vec F S4096x512 .bf16, ⌜∀ t : Fin grid0.N, t.val + 1 = s.val → d = scrW c B (ex gs (grid0.coords t 1)) (grid0.coords t 0).val⌝
    ∗ owns (c : Thread nD τ) (Memref.whole cc0_scratch0) fullShare d) ∗ (∃ r, prngReg c r) ∗ Pipeline.ΦT pre0 (tab (F := F) gs) c) := rfl

/-- The body as the loop calls it at point `t`. -/
def bodyAt (t : Fin grid0.N) : Prog (TpuEff nD τ sig (Elt F) Λ₀ .tc) PUnit := cc0_down (grid0.coords t) (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (Memref.whole cc0_scratch0) (Memref.isWhole_whole _)

theorem defs₀_row (t : Fin grid0.N) : defs₀ (F := F) .tc (cfg0 (adm (F := F) gs hp)).body ((cfg0 (adm (F := F) gs hp)).bodyArgs t ((cfg0 (adm (F := F) gs hp)).slots t)) = bodyAt gs hp t := by
  unfold defs₀; rw [Defs.onTc_tc]; rfl

set_option maxHeartbeats 4000000 in
/-- The body at every point, from what its windows may hold. -/
theorem body_at (t : Fin grid0.N) (Y : (w : Fin 6) → (spec0 w).block.Idx → Elt F (spec0 w).elt) (hY : ∀ w, (rdat gs hp c B).Finds w t (Y w)) :
    iprop((rdat gs hp c B).Φ t.castSucc ∗ (rdat gs hp c B).owesAt () t.castSucc ∗ owns (c : Thread nD τ) (spec0_0.stage ((cfg0 (adm (F := F) gs hp)).slots t 0)) fullShare (Y 0) ∗ owns (c : Thread nD τ) (spec0_1.stage ((cfg0 (adm (F := F) gs hp)).slots t 1)) fullShare (Y 1) ∗ owns (c : Thread nD τ) (spec0_2.stage ((cfg0 (adm (F := F) gs hp)).slots t 2)) fullShare (Y 2) ∗ owns (c : Thread nD τ) (spec0_3.stage ((cfg0 (adm (F := F) gs hp)).slots t 3)) fullShare (Y 3) ∗ owns (c : Thread nD τ) (spec0_4.stage ((cfg0 (adm (F := F) gs hp)).slots t 4)) fullShare (Y 4) ∗ owns (c : Thread nD τ) (spec0_5.stage ((cfg0 (adm (F := F) gs hp)).slots t 5)) fullShare (Y 5))
      ⊢ wp frame (wpE (defs₀ (F := F)) Variants.none c none) Set.univ (bodyAt gs hp t) fun _ =>
        iprop((rdat gs hp c B).Φ t.succ ∗ (rdat gs hp c B).owesAt () t.succ ∗ (∃ X, ⌜(rdat gs hp c B).after 0 t (Y 0) X⌝ ∗ owns (c : Thread nD τ) (spec0_0.stage ((cfg0 (adm (F := F) gs hp)).slots t 0)) fullShare X) ∗ (∃ X, ⌜(rdat gs hp c B).after 1 t (Y 1) X⌝ ∗ owns (c : Thread nD τ) (spec0_1.stage ((cfg0 (adm (F := F) gs hp)).slots t 1)) fullShare X) ∗ (∃ X, ⌜(rdat gs hp c B).after 2 t (Y 2) X⌝ ∗ owns (c : Thread nD τ) (spec0_2.stage ((cfg0 (adm (F := F) gs hp)).slots t 2)) fullShare X) ∗ (∃ X, ⌜(rdat gs hp c B).after 3 t (Y 3) X⌝ ∗ owns (c : Thread nD τ) (spec0_3.stage ((cfg0 (adm (F := F) gs hp)).slots t 3)) fullShare X) ∗ (∃ X, ⌜(rdat gs hp c B).after 4 t (Y 4) X⌝ ∗ owns (c : Thread nD τ) (spec0_4.stage ((cfg0 (adm (F := F) gs hp)).slots t 4)) fullShare X) ∗ (∃ X, ⌜(rdat gs hp c B).after 5 t (Y 5) X⌝ ∗ owns (c : Thread nD τ) (spec0_5.stage ((cfg0 (adm (F := F) gs hp)).slots t 5)) fullShare X)) := by
  have y0 : Y 0 = B main_arg2 := (found gs hp c B 0 rfl (fun _ _ _ h => h) t (Y 0) (hY 0)).trans (blk_0 gs hp c B t)
  have y1 : Y 1 = xB (B main_arg0) (tl gs (grid0.coords t 1)) := (found gs hp c B 1 rfl (fun _ _ _ h => h) t (Y 1) (hY 1)).trans (blk_1 gs hp c B t)
  have y2 : Y 2 = wB (B main_arg3) (ex gs (grid0.coords t 1)) (grid0.coords t 0).val := (found gs hp c B 2 rfl (fun _ _ _ h => h) t (Y 2) (hY 2)).trans (blk_2 gs hp c B t)
  have y3 : Y 3 = sB (B main_arg4) (ex gs (grid0.coords t 1)) (grid0.coords t 0).val := (found gs hp c B 3 rfl (fun _ _ _ h => h) t (Y 3) (hY 3)).trans (blk_3 gs hp c B t)
  have y4 : Y 4 = cB (B main_v48) (ex gs (grid0.coords t 1)) (grid0.coords t 0).val := (found gs hp c B 4 rfl (fun _ _ _ h => h) t (Y 4) (hY 4)).trans (blk_4 gs hp c B t)
  unfold bodyAt
  rw [phi_eq, phi_eq]
  iintro ⟨⟨⟨%d, %hd, Gs⟩, Hp, HT⟩, Ho, G0, G1, G2, G3, G4, G5⟩
  ihave HT' := (tables gs c).1 $$ HT
  icases HT' with ⟨T2, T3, T4, T5⟩
  by_cases hl : (grid0.coords t 1).val < cumN (sizes gs) 8
  · have hlive := (live_iff gs hp (grid0.coords t)).2 hl
    have e10 : ∀ W, W = scrW c B (ex gs (grid0.coords t 1)) (grid0.coords t 0).val →
        outBlk (at1 (vmT gs) (grid0.coords t 1)) (at1 (sums gs) (Fin.ofNat 8 (ex gs (grid0.coords t 1))).castSucc) (at1 (sums gs) (Fin.ofNat 8 (ex gs (grid0.coords t 1))).succ)
          (at1 (Y 0) (Fin.ofNat 8 (ex gs (grid0.coords t 1)))) (Y 1) W (Y 4) (Y 5)
          = step gs c B (grid0.coords t 1) (grid0.coords t 0).val (Y 5) := by
      intro W hW
      unfold step
      rw [if_pos hl, hW, y0, y1, y4]
    by_cases hC : (grid0.coords t 1).val = 0 ∨ at1 (veT gs) (Fin.mk ((grid0.coords t 1).val - 1) (by have := (grid0.coords t 1).2; exact Nat.lt_of_le_of_lt (Nat.sub_le _ _) this)) ≠ at1 (veT gs) (grid0.coords t 1)
    · have eW : wscr (k0_pay2 (F := F) (Y 2)) (k0_pay3 (Y 3)) = scrW c B (ex gs (grid0.coords t 1)) (grid0.coords t 0).val := by
        rw [y2, y3]; rfl
      iapply (reload_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (Memref.whole cc0_scratch0) (Memref.isWhole_whole _) (veT gs) (vmT gs) (sums gs) (totalT gs) (Y 0) (Y 1) (Y 2) (Y 3) (Y 4) (Y 5) (Fin.ofNat 8 (ex gs (grid0.coords t 1))) (ve_at gs hp _) hlive hC Set.univ _)
      isplitl [T2]; · iexact T2
      isplitl [T3]; · iexact T3
      isplitl [T4]; · iexact T4
      isplitl [T5]; · iexact T5
      isplitl [G0]; · iexact G0
      isplitl [G1]; · iexact G1
      isplitl [G2]; · iexact G2
      isplitl [G3]; · iexact G3
      isplitl [G4]; · iexact G4
      isplitl [G5]; · iexact G5
      isplitl [Gs]; · iexists _; iexact Gs
      iintro ⟨T2, T3, T4, T5, G0, G1, G2, G3, G4, G5, Gs⟩
      isplitl [Gs Hp T2 T3 T4 T5]
      · isplitl [Gs]
        · iexists _; isplitr
          rotate_left
          · iexact Gs
          · ipureintro; exact (fun u hu => eW.trans (scr_new gs c B t u hu))
        isplitl [Hp]
        · iexact Hp
        iapply (tables gs c).2
        isplitl [T2]; · iexact T2
        isplitl [T3]; · iexact T3
        isplitl [T4]; · iexact T4
        iexact T5
      isplitl [Ho]; · iexact Ho
      isplitl [G0]
      · iexists _; isplitr; · ipureintro; exact rfl
        iexact G0
      isplitl [G1]
      · iexists _; isplitr; · ipureintro; exact rfl
        iexact G1
      isplitl [G2]
      · iexists _; isplitr; · ipureintro; exact rfl
        iexact G2
      isplitl [G3]
      · iexists _; isplitr; · ipureintro; exact rfl
        iexact G3
      isplitl [G4]
      · iexists _; isplitr; · ipureintro; exact rfl
        iexact G4
      iexists _; isplitr; · ipureintro; exact e10 _ eW
      iexact G5
    · have h0 : (grid0.coords t 1).val ≠ 0 := fun h => hC (.inl h)
      have he : ex gs ((grid0.coords t 1).val - 1) = ex gs (grid0.coords t 1) :=
        ex_of_entry gs hp (v := Fin.mk ((grid0.coords t 1).val - 1) (by have := (grid0.coords t 1).2; exact Nat.lt_of_le_of_lt (Nat.sub_le _ _) this)) (not_ne_iff.1 fun h => hC (.inr h))
      have hk := scr_keep gs c B t d hd h0 he
      have eW := hk t rfl
      iapply (keep_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (Memref.whole cc0_scratch0) (Memref.isWhole_whole _) (veT gs) (vmT gs) (sums gs) (totalT gs) (Y 0) (Y 1) (Y 2) (Y 3) (Y 4) (Y 5) d (Fin.ofNat 8 (ex gs (grid0.coords t 1))) (ve_at gs hp _) hlive hC Set.univ _)
      isplitl [T2]; · iexact T2
      isplitl [T3]; · iexact T3
      isplitl [T4]; · iexact T4
      isplitl [T5]; · iexact T5
      isplitl [G0]; · iexact G0
      isplitl [G1]; · iexact G1
      isplitl [G2]; · iexact G2
      isplitl [G3]; · iexact G3
      isplitl [G4]; · iexact G4
      isplitl [G5]; · iexact G5
      isplitl [Gs]; · iexact Gs
      iintro ⟨T2, T3, T4, T5, G0, G1, G2, G3, G4, G5, Gs⟩
      isplitl [Gs Hp T2 T3 T4 T5]
      · isplitl [Gs]
        · iexists _; isplitr
          rotate_left
          · iexact Gs
          · ipureintro; exact hk
        isplitl [Hp]
        · iexact Hp
        iapply (tables gs c).2
        isplitl [T2]; · iexact T2
        isplitl [T3]; · iexact T3
        isplitl [T4]; · iexact T4
        iexact T5
      isplitl [Ho]; · iexact Ho
      isplitl [G0]
      · iexists _; isplitr; · ipureintro; exact rfl
        iexact G0
      isplitl [G1]
      · iexists _; isplitr; · ipureintro; exact rfl
        iexact G1
      isplitl [G2]
      · iexists _; isplitr; · ipureintro; exact rfl
        iexact G2
      isplitl [G3]
      · iexists _; isplitr; · ipureintro; exact rfl
        iexact G3
      isplitl [G4]
      · iexists _; isplitr; · ipureintro; exact rfl
        iexact G4
      iexists _; isplitr; · ipureintro; exact e10 _ eW
      iexact G5
  · have hdead : ¬ k0_cond1 (grid0.coords t) (at1 (totalT gs) 0) = 1#1 := fun h => hl ((live_iff gs hp (grid0.coords t)).1 h)
    have hpos := cumN_pos (sizes gs) hp
    have h0 : (grid0.coords t 1).val ≠ 0 := by omega
    have he : ex gs ((grid0.coords t 1).val - 1) = ex gs (grid0.coords t 1) := by
      have h := (next_dead (sizes gs) hp ((grid0.coords t 1).val - 1) (by omega)).2.1
      rw [show (grid0.coords t 1).val - 1 + 1 = (grid0.coords t 1).val by omega] at h
      exact h.symm
    have hk := scr_keep gs c B t d hd h0 he
    have e10 : Y 5 = step gs c B (grid0.coords t 1) (grid0.coords t 0).val (Y 5) := by
      unfold step
      rw [if_neg hl]
    iapply (skip_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (Memref.whole cc0_scratch0) (Memref.isWhole_whole _) (totalT gs) hdead Set.univ _)
    isplitl [T5]; · iexact T5
    iintro T5
    isplitl [Gs Hp T2 T3 T4 T5]
    · isplitl [Gs]
      · iexists _; isplitr
        rotate_left
        · iexact Gs
        · ipureintro; exact hk
      isplitl [Hp]
      · iexact Hp
      iapply (tables gs c).2
      isplitl [T2]; · iexact T2
      isplitl [T3]; · iexact T3
      isplitl [T4]; · iexact T4
      iexact T5
    isplitl [Ho]; · iexact Ho
    isplitl [G0]
    · iexists _; isplitr; · ipureintro; exact rfl
      iexact G0
    isplitl [G1]
    · iexists _; isplitr; · ipureintro; exact rfl
      iexact G1
    isplitl [G2]
    · iexists _; isplitr; · ipureintro; exact rfl
      iexact G2
    isplitl [G3]
    · iexists _; isplitr; · ipureintro; exact rfl
      iexact G3
    isplitl [G4]
    · iexists _; isplitr; · ipureintro; exact rfl
      iexact G4
    iexists _; isplitr; · ipureintro; exact e10
    iexact G5

/-- The pipeline's body obligation. -/
theorem obligation : (rdat gs hp c B).BodyObligation (defs₀ (F := F)) Variants.none () Set.univ := fun t Y hY => by
  rw [bigSep_W0, bigSep_W0, defs₀_row]
  exact triple_restated (body_at gs hp c B t Y hY) rfl .rfl fun _ => .rfl

end Cert.Down.Body

end
-- ==== Proof.Down.Host.lean ====
/-
  What the host lines before the kernel leave: the four tables of the schedule, and the scales of the columns reshaped.
-/
module

public import proofs.«01_k».proof.Proof.Gen.Down.Launch
public import proofs.«01_k».proof.Proof.Tables.Words
public import Idealize.ShloMosaic.Lib.StableHlo.RunClose

@[expose] public section

set_option maxRecDepth 16384

noncomputable section

namespace Cert.Down.Body

open Idealize.ShloMosaic Idealize.SL.Sem Cert.Down Cert.Down.Gen
open Idealize.ShloMosaic.StableHlo
open Cert.Tables Idealize.ShloMosaic.Routing

variable {F : FTy → Type} [FloatOps F]

/-- The host lines before the kernel, in order. -/
def hostLines : List (List (HloOp τ sig (Elt F))) :=
  [hostOps0, hostOps0_1, hostOps0_2, hostOps0_3, hostOps0_4, hostOps0_5, hostOps0_6, hostOps0_7, hostOps0_8, hostOps0_9, hostOps0_10]

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons o l ih => exact ih _

/-! The lines one stretch at a time, over any contents before them. -/

set_option maxHeartbeats 1000000 in
theorem st0_v2 (X : Valuation τ sig (Elt F)) : StableHlo.after (hostOps0 ++ hostOps0_1 ++ hostOps0_2 : List (HloOp τ sig (Elt F))) X (Proc.devRef .tc main_v2) = sums (X (Proc.devRef .tc main_arg1) : IVec (shape1 8) 32) := by
  simp only [after_app]
  after_results_simp
  rfl

set_option maxHeartbeats 1000000 in
theorem st0_v3 (X : Valuation τ sig (Elt F)) : StableHlo.after (hostOps0 ++ hostOps0_1 ++ hostOps0_2 : List (HloOp τ sig (Elt F))) X (Proc.devRef .tc main_v3) = extractStridedSlice (shape1 8) ![0] (sums (X (Proc.devRef .tc main_arg1) : IVec (shape1 8) 32)) sl0 := by
  simp only [after_app]
  after_results_simp
  rfl

set_option maxHeartbeats 1000000 in
theorem st0_c (X : Valuation τ sig (Elt F)) : StableHlo.after (hostOps0 ++ hostOps0_1 ++ hostOps0_2 : List (HloOp τ sig (Elt F))) X (Proc.devRef .tc main_c_0) = constantI shape0 32 256#32 := by
  simp only [after_app]
  after_results_simp

set_option maxHeartbeats 1000000 in
theorem st0_main_arg1 (X : Valuation τ sig (Elt F)) : StableHlo.after (hostOps0 ++ hostOps0_1 ++ hostOps0_2 : List (HloOp τ sig (Elt F))) X (Proc.devRef .tc main_arg1) = X (Proc.devRef .tc main_arg1) := by
  simp only [after_app]
  after_results_simp

set_option maxHeartbeats 1000000 in
theorem st1_v4 (X : Valuation τ sig (Elt F)) : StableHlo.after (hostOps0_3 : List (HloOp τ sig (Elt F))) X (Proc.devRef .tc main_v4) = pyDiv bc_8 (X (Proc.devRef .tc main_v3) : IVec (shape1 8) 32) (X (Proc.devRef .tc main_c_0) : IVec (shape0) 32) := by
  after_results_simp
  rfl

set_option maxHeartbeats 1000000 in
theorem st1_main_arg1 (X : Valuation τ sig (Elt F)) : StableHlo.after (hostOps0_3 : List (HloOp τ sig (Elt F))) X (Proc.devRef .tc main_arg1) = X (Proc.devRef .tc main_arg1) := by
  after_results_simp

set_option maxHeartbeats 1000000 in
theorem st1_main_v2 (X : Valuation τ sig (Elt F)) : StableHlo.after (hostOps0_3 : List (HloOp τ sig (Elt F))) X (Proc.devRef .tc main_v2) = X (Proc.devRef .tc main_v2) := by
  after_results_simp

set_option maxHeartbeats 1000000 in
theorem st2_v6 (X : Valuation τ sig (Elt F)) : StableHlo.after (hostOps0_4 : List (HloOp τ sig (Elt F))) X (Proc.devRef .tc main_v6) = cmpi .sgt (X (Proc.devRef .tc main_arg1) : IVec (shape1 8) 32) (broadcastInDim (shape1 8) ![] bc_8 (constantI shape0 32 0#32)) := by
  after_results_simp

set_option maxHeartbeats 1000000 in
theorem st2_v9 (X : Valuation τ sig (Elt F)) : StableHlo.after (hostOps0_4 : List (HloOp τ sig (Elt F))) X (Proc.devRef .tc main_v9) = subi (extractStridedSlice (shape1 8) ![1] (X (Proc.devRef .tc main_v2) : IVec (shape1 9) 32) sl1) (broadcastInDim (shape1 8) ![] bc_8 (constantI shape0 32 1#32)) := by
  after_results_simp

set_option maxHeartbeats 1000000 in
theorem st2_c (X : Valuation τ sig (Elt F)) : StableHlo.after (hostOps0_4 : List (HloOp τ sig (Elt F))) X (Proc.devRef .tc main_c_3) = constantI shape0 32 256#32 := by
  after_results_simp

set_option maxHeartbeats 1000000 in
theorem st2_main_v4 (X : Valuation τ sig (Elt F)) : StableHlo.after (hostOps0_4 : List (HloOp τ sig (Elt F))) X (Proc.devRef .tc main_v4) = X (Proc.devRef .tc main_v4) := by
  after_results_simp

set_option maxHeartbeats 1000000 in
theorem st3_v10 (X : Valuation τ sig (Elt F)) : StableHlo.after (hostOps0_5 : List (HloOp τ sig (Elt F))) X (Proc.devRef .tc main_v10) = pyDiv bc_8 (X (Proc.devRef .tc main_v9) : IVec (shape1 8) 32) (X (Proc.devRef .tc main_c_3) : IVec (shape0) 32) := by
  after_results_simp
  rfl

set_option maxHeartbeats 1000000 in
theorem st3_main_v4 (X : Valuation τ sig (Elt F)) : StableHlo.after (hostOps0_5 : List (HloOp τ sig (Elt F))) X (Proc.devRef .tc main_v4) = X (Proc.devRef .tc main_v4) := by
  after_results_simp

set_option maxHeartbeats 1000000 in
theorem st3_main_v6 (X : Valuation τ sig (Elt F)) : StableHlo.after (hostOps0_5 : List (HloOp τ sig (Elt F))) X (Proc.devRef .tc main_v6) = X (Proc.devRef .tc main_v6) := by
  after_results_simp

set_option maxHeartbeats 1000000 in
theorem st4_v14 (X : Valuation τ sig (Elt F)) : StableHlo.after (hostOps0_6 ++ hostOps0_7 : List (HloOp τ sig (Elt F))) X (Proc.devRef .tc main_v14) = select (X (Proc.devRef .tc main_v6) : IVec (shape1 8) 1)
      (addi (subi (X (Proc.devRef .tc main_v10) : IVec (shape1 8) 32) (X (Proc.devRef .tc main_v4) : IVec (shape1 8) 32)) (broadcastInDim (shape1 8) ![] bc_8 (constantI shape0 32 1#32)))
      (broadcastInDim (shape1 8) ![] bc_8 (constantI shape0 32 0#32)) := by
  simp only [after_app]
  after_results_simp
  rfl

set_option maxHeartbeats 1000000 in
theorem st4_main_v4 (X : Valuation τ sig (Elt F)) : StableHlo.after (hostOps0_6 ++ hostOps0_7 : List (HloOp τ sig (Elt F))) X (Proc.devRef .tc main_v4) = X (Proc.devRef .tc main_v4) := by
  simp only [after_app]
  after_results_simp

/-- The first line of the last stretch: the visits before each expert. -/
def lineCum : List (HloOp τ sig (Elt F)) := [StableHlo.binary main_v15 main_v16 main_v17 ((fun a b => concatenate S9 0 [⟨S1, a⟩, ⟨S8, b⟩] concatenates_S1_S8_S9_d0) : (⟨S1, .i32⟩ : BufTy).Contents (Elt F) → (⟨S8, .i32⟩ : BufTy).Contents (Elt F) → (⟨S9, .i32⟩ : BufTy).Contents (Elt F))]

/-- The lines of the last stretch up to the table of experts. -/
def linesVe : List (HloOp τ sig (Elt F)) := (hostOps0_10.drop 1).take 16

/-- The rest of the last stretch. -/
def linesVm : List (HloOp τ sig (Elt F)) := hostOps0_10.drop 17

set_option maxHeartbeats 1000000 in
theorem st5_cum (X : Valuation τ sig (Elt F)) : StableHlo.after (hostOps0_8 ++ hostOps0_9 ++ lineCum : List (HloOp τ sig (Elt F))) X (Proc.devRef .tc main_v17) = sums (X (Proc.devRef .tc main_v14) : IVec (shape1 8) 32) := by
  unfold lineCum
  simp only [after_app]
  after_results_simp
  rfl

set_option maxHeartbeats 1000000 in
theorem st5_main_v4 (X : Valuation τ sig (Elt F)) : StableHlo.after (hostOps0_8 ++ hostOps0_9 ++ lineCum : List (HloOp τ sig (Elt F))) X (Proc.devRef .tc main_v4) = X (Proc.devRef .tc main_v4) := by
  unfold lineCum
  simp only [after_app]
  after_results_simp

set_option maxHeartbeats 1000000 in
theorem st6_total (X : Valuation τ sig (Elt F)) : StableHlo.after (linesVe : List (HloOp τ sig (Elt F))) X (Proc.devRef .tc main_v18) = totalOf (X (Proc.devRef .tc main_v17) : IVec (shape1 9) 32) := by
  simp only [linesVe, hostOps0_10, List.drop_succ_cons, List.drop_zero, List.take_succ_cons, List.take_zero]
  after_results_simp
  rfl

set_option maxHeartbeats 1000000 in
theorem st6_vis (X : Valuation τ sig (Elt F)) : StableHlo.after (linesVe : List (HloOp τ sig (Elt F))) X (Proc.devRef .tc main_v23) = visOf (totalOf (X (Proc.devRef .tc main_v17) : IVec (shape1 9) 32)) := by
  simp only [linesVe, hostOps0_10, List.drop_succ_cons, List.drop_zero, List.take_succ_cons, List.take_zero]
  after_results_simp
  rfl

set_option maxHeartbeats 1000000 in
theorem st6_ve (X : Valuation τ sig (Elt F)) : StableHlo.after (linesVe : List (HloOp τ sig (Elt F))) X (Proc.devRef .tc main_v31) = veOf (X (Proc.devRef .tc main_v17) : IVec (shape1 9) 32) (visOf (totalOf (X (Proc.devRef .tc main_v17) : IVec (shape1 9) 32))) := by
  simp only [linesVe, hostOps0_10, List.drop_succ_cons, List.drop_zero, List.take_succ_cons, List.take_zero]
  after_results_simp
  rfl

set_option maxHeartbeats 1000000 in
theorem st6_main_v4 (X : Valuation τ sig (Elt F)) : StableHlo.after (linesVe : List (HloOp τ sig (Elt F))) X (Proc.devRef .tc main_v4) = X (Proc.devRef .tc main_v4) := by
  simp only [linesVe, hostOps0_10, List.drop_succ_cons, List.drop_zero, List.take_succ_cons, List.take_zero]
  after_results_simp

set_option maxHeartbeats 1000000 in
theorem st6_main_v17 (X : Valuation τ sig (Elt F)) : StableHlo.after (linesVe : List (HloOp τ sig (Elt F))) X (Proc.devRef .tc main_v17) = X (Proc.devRef .tc main_v17) := by
  simp only [linesVe, hostOps0_10, List.drop_succ_cons, List.drop_zero, List.take_succ_cons, List.take_zero]
  after_results_simp

set_option maxHeartbeats 1000000 in
theorem st7_vm (X : Valuation τ sig (Elt F)) : StableHlo.after (linesVm : List (HloOp τ sig (Elt F))) X (Proc.devRef .tc main_v47) = vmOf (X (Proc.devRef .tc main_v4) : IVec (shape1 8) 32) (X (Proc.devRef .tc main_v17) : IVec (shape1 9) 32) (X (Proc.devRef .tc main_v23) : IVec (shape1 43) 32) (X (Proc.devRef .tc main_v31) : IVec (shape1 43) 32) := by
  simp only [linesVm, hostOps0_10, List.drop_succ_cons, List.drop_zero, List.take_succ_cons, List.take_zero]
  after_results_simp
  rfl

set_option maxHeartbeats 1000000 in
theorem st7_main_v31 (X : Valuation τ sig (Elt F)) : StableHlo.after (linesVm : List (HloOp τ sig (Elt F))) X (Proc.devRef .tc main_v31) = X (Proc.devRef .tc main_v31) := by
  simp only [linesVm, hostOps0_10, List.drop_succ_cons, List.drop_zero, List.take_succ_cons, List.take_zero]
  after_results_simp

set_option maxHeartbeats 1000000 in
theorem st7_main_v18 (X : Valuation τ sig (Elt F)) : StableHlo.after (linesVm : List (HloOp τ sig (Elt F))) X (Proc.devRef .tc main_v18) = X (Proc.devRef .tc main_v18) := by
  simp only [linesVm, hostOps0_10, List.drop_succ_cons, List.drop_zero, List.take_succ_cons, List.take_zero]
  after_results_simp

theorem lines_eq : (hostLines (F := F)).flatten = ((hostOps0 ++ hostOps0_1 ++ hostOps0_2) ++ (hostOps0_3 ++ (hostOps0_4 ++ (hostOps0_5 ++ ((hostOps0_6 ++ hostOps0_7) ++ ((hostOps0_8 ++ hostOps0_9 ++ lineCum) ++ (linesVe ++ linesVm))))))) := rfl

set_option maxHeartbeats 1000000 in
/-- Table `main_v2`: the rows before each expert. -/
theorem host_off (X : Valuation τ sig (Elt F)) : StableHlo.after (hostLines (F := F)).flatten X (Proc.devRef .tc main_v2) = Cert.Tables.sums (X (Proc.devRef .tc main_arg1)) := by
  simp only [hostLines, List.flatten_cons, List.flatten_nil, List.cons_append, List.nil_append, List.append_nil]
  after_results_simp
  rfl

/-- The contents after the stretches before the tables. -/
def upTo (X : Valuation τ sig (Elt F)) : Valuation τ sig (Elt F) :=
  StableHlo.after (hostOps0_8 ++ hostOps0_9 ++ lineCum) (StableHlo.after (hostOps0_6 ++ hostOps0_7) (StableHlo.after hostOps0_5 (StableHlo.after hostOps0_4
    (StableHlo.after hostOps0_3 (StableHlo.after (hostOps0 ++ hostOps0_1 ++ hostOps0_2) X)))))

theorem upTo_first (X : Valuation τ sig (Elt F)) : upTo X (Proc.devRef .tc main_v4) = firstT (X (Proc.devRef .tc main_arg1)) := by
  unfold upTo
  rw [st5_main_v4, st4_main_v4, st3_main_v4, st2_main_v4, st1_v4, st0_v3, st0_c]
  rfl

theorem upTo_cum (X : Valuation τ sig (Elt F)) : upTo X (Proc.devRef .tc main_v17) = sums (countT (X (Proc.devRef .tc main_arg1))) := by
  unfold upTo
  rw [st5_cum, st4_v14, st3_v10, st3_main_v4, st3_main_v6, st2_main_v4, st2_v9, st2_c, st2_v6, st1_v4, st1_main_v2, st1_main_arg1,
    st0_v3, st0_c, st0_v2, st0_main_arg1]
  rfl

theorem lines_upTo (X : Valuation τ sig (Elt F)) :
    StableHlo.after (hostLines (F := F)).flatten X = StableHlo.after linesVm (StableHlo.after linesVe (upTo X)) := by
  rw [lines_eq, after_app (hostOps0 ++ hostOps0_1 ++ hostOps0_2), after_app hostOps0_3, after_app hostOps0_4, after_app hostOps0_5, after_app (hostOps0_6 ++ hostOps0_7), after_app (hostOps0_8 ++ hostOps0_9 ++ lineCum), after_app linesVe]
  rfl

/-- Table `main_v18`: the number of visits. -/
theorem host_total (X : Valuation τ sig (Elt F)) : StableHlo.after (hostLines (F := F)).flatten X (Proc.devRef .tc main_v18) = Cert.Tables.totalT (X (Proc.devRef .tc main_arg1)) := by
  rw [lines_upTo, st7_main_v18, st6_total, upTo_cum]
  rfl

/-- Table `main_v31`: each visit's expert. -/
theorem host_ve (X : Valuation τ sig (Elt F)) : StableHlo.after (hostLines (F := F)).flatten X (Proc.devRef .tc main_v31) = Cert.Tables.veT (X (Proc.devRef .tc main_arg1)) := by
  rw [lines_upTo, st7_main_v31, st6_ve, upTo_cum]
  rfl

/-- Table `main_v47`: each visit's tile. -/
theorem host_vm (X : Valuation τ sig (Elt F)) : StableHlo.after (hostLines (F := F)).flatten X (Proc.devRef .tc main_v47) = Cert.Tables.vmT (X (Proc.devRef .tc main_arg1)) := by
  rw [lines_upTo, st7_vm, st6_main_v4, st6_main_v17, st6_vis, st6_ve, upTo_cum, upTo_first]
  rfl

set_option maxHeartbeats 2000000 in
theorem host_c2 (X : Valuation τ sig (Elt F)) : StableHlo.after (hostLines (F := F)).flatten X (Proc.devRef .tc main_v48)
    = (shapeCast S8x1x6144 (X (Proc.devRef .tc main_arg5) : Vec F S8x6144 .f32) shapeCasts_S8x6144_S8x1x6144 : Vec F S8x1x6144 .f32) := by
  simp only [hostLines, List.flatten_cons, List.flatten_nil, List.cons_append, List.nil_append, List.append_nil]
  after_results_simp
  rfl

set_option maxHeartbeats 2000000 in
theorem host_arg0 (X : Valuation τ sig (Elt F)) : StableHlo.after (hostLines (F := F)).flatten X (Proc.devRef .tc main_arg0) = X (Proc.devRef .tc main_arg0) := by
  simp only [hostLines, List.flatten_cons, List.flatten_nil, List.cons_append, List.nil_append, List.append_nil]
  after_results_simp

set_option maxHeartbeats 2000000 in
theorem host_arg1 (X : Valuation τ sig (Elt F)) : StableHlo.after (hostLines (F := F)).flatten X (Proc.devRef .tc main_arg1) = X (Proc.devRef .tc main_arg1) := by
  simp only [hostLines, List.flatten_cons, List.flatten_nil, List.cons_append, List.nil_append, List.append_nil]
  after_results_simp

set_option maxHeartbeats 2000000 in
theorem host_arg2 (X : Valuation τ sig (Elt F)) : StableHlo.after (hostLines (F := F)).flatten X (Proc.devRef .tc main_arg2) = X (Proc.devRef .tc main_arg2) := by
  simp only [hostLines, List.flatten_cons, List.flatten_nil, List.cons_append, List.nil_append, List.append_nil]
  after_results_simp

set_option maxHeartbeats 2000000 in
theorem host_arg3 (X : Valuation τ sig (Elt F)) : StableHlo.after (hostLines (F := F)).flatten X (Proc.devRef .tc main_arg3) = X (Proc.devRef .tc main_arg3) := by
  simp only [hostLines, List.flatten_cons, List.flatten_nil, List.cons_append, List.nil_append, List.append_nil]
  after_results_simp

set_option maxHeartbeats 2000000 in
theorem host_arg4 (X : Valuation τ sig (Elt F)) : StableHlo.after (hostLines (F := F)).flatten X (Proc.devRef .tc main_arg4) = X (Proc.devRef .tc main_arg4) := by
  simp only [hostLines, List.flatten_cons, List.flatten_nil, List.cons_append, List.nil_append, List.append_nil]
  after_results_simp

set_option maxHeartbeats 2000000 in
theorem host_arg5 (X : Valuation τ sig (Elt F)) : StableHlo.after (hostLines (F := F)).flatten X (Proc.devRef .tc main_arg5) = X (Proc.devRef .tc main_arg5) := by
  simp only [hostLines, List.flatten_cons, List.flatten_nil, List.cons_append, List.nil_append, List.append_nil]
  after_results_simp

end Cert.Down.Body

end
-- ==== Proof.Down.Run.lean ====
/- The launch: every run of the program terminates, leaves its arguments and brings every counter back to zero. -/
module

public import proofs.«01_k».proof.Proof.Down.Obligation
public import proofs.«01_k».proof.Proof.Down.Host

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

/-- The state a run starts from. -/
abbrev start (m : (ℓ : Loc nD τ sig) → Buf (Elt F) ℓ) (ρ : Dev nD → PrngReg) : MemSt nD τ sig (Elt F) := ⟨m, fun _ => 0, ρ⟩

/-- The group sizes in memory. -/
def gsOf (m : (ℓ : Loc nD τ sig) → Buf (Elt F) ℓ) : IVec (⟨1, ![8]⟩ : Shape) 32 := m (((0 : Dev nD).tc : Thread nD τ).loc main_arg1)

/-- The core's buffers after the host lines. -/
def V (m : (ℓ : Loc nD τ sig) → Buf (Elt F) ℓ) (c : Dev nD) : Bufs (F := F) c :=
  fun b => StableHlo.after (hostLines (F := F)).flatten (fun b => m (c, b)) (Proc.devRef .tc b)

variable (m : (ℓ : Loc nD τ sig) → Buf (Elt F) ℓ) (ρ : Dev nD → PrngReg)

theorem tables_at (c : Dev nD) (k : Fin 4) : V m c (pre0.ref k) = tab (F := F) (gsOf m) k := by
  obtain rfl : c = 0 := Subsingleton.elim _ _
  match k with
  | 0 => exact host_ve _
  | 1 => exact host_vm _
  | 2 => exact host_off _
  | 3 => exact host_total _

theorem lines_sub : (hostLines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

set_option maxHeartbeats 4000000 in
theorem lines_fresh : (hostLines (F := F)).Forall fun ops => ops.Forall fun op => op.fresh = ∅ := by
  simp only [hostLines, List.Forall]
  repeat' constructor

theorem main_lines (c : Dev nD) : main (F := F) c = Pipeline.chain ((hostLines (F := F)).map StableHlo.seq ++ [Prog.lift (.customCall (Pipeline.entry 0) ())]) :=
  main_chain c

variable (hp : offN (sizes (gsOf m)) 8 = 9216)

set_option backward.isDefEq.respectTransparency.types false in
/-- Every run of the program terminates; then every array holds what the proof data allow, every other buffer what the
    host lines left there, and every counter is at zero. -/
theorem run : θ_run defs (onTc (τ := τ) (main (F := F))) (start m ρ) (fun r =>
    RDat.FramePost (cfg0 (adm (F := F) (gsOf m) hp)) (fun c => rdat (gsOf m) hp c (V m c)) (V m) r ∧ r.2.sem = fun _ => 0) :=
  RDat.θ_run_frameP_track (Q' := _) pcfgs (fun _ => adm (F := F) (gsOf m) hp) (0 : Fin 1) launch0 defs₀ Variants.none
    (fun c => rdat (gsOf m) hp c (V m c)) m ρ main
    (hbody := fun c => obligation (gsOf m) hp c (V m c))
    (hshare := fun c w => (rdat (gsOf m) hp c (V m c)).share_full (fun _ => rfl) w)
    (howed := fun _ _ => rfl) (V := V m)
    (hmain := Pipeline.hmainP_prefixes pcfgs 0 defs₀ Variants.none m main hostLines lines_sub lines_fresh main_lines)
    (hA := fun _ _ => rfl) (hpf := fun c k => tables_at m c k)
    (hin := fun c => by
      rw [phi_eq]
      unfold Pipeline.ΦA
      rw [show (Pipeline.scopedRest spec0 c : sProp 𝕄) = _ from scopedRest0_eq c]
      simp only [owns_whole]
      iintro ⟨⟨⟨%f, Hs⟩, Hp⟩, HT⟩
      isplitl [Hs]
      · iexists f
        isplitr
        · ipureintro
          intro t ht
          exact absurd ht (by show ¬ t.val + 1 = 0; omega)
        iexact Hs
      isplitl [Hp]
      · iexact Hp
      iexact HT)
    (hout := fun c => by
      rw [phi_eq]
      unfold Pipeline.ΦA
      rw [show (Pipeline.scopedRest spec0 c : sProp 𝕄) = _ from scopedRest0_eq c]
      simp only [owns_whole]
      iintro ⟨⟨%f, -, Hs⟩, Hp, -⟩
      isplitl [Hs]
      · iexists f
        iexact Hs
      iexact Hp)

/-- What the result's array may hold at the end. -/
def OutAt (c : Dev nD) (G : Vec F S9216x6144 .f32) : Prop := (rdat (gsOf m) hp c (V m c)).ArrAt (5 : Fin 6) (cfg0 (adm (F := F) (gsOf m) hp)).N G

section
variable {m hp} {r : PUnit × MemSt nD τ sig (Elt F)}
    (h : RDat.FramePost (cfg0 (adm (F := F) (gsOf m) hp)) (fun c => rdat (gsOf m) hp c (V m c)) (V m) r) (c : Dev nD)
include h

theorem out_of : OutAt m hp c (r.2.mem ((c.tc : Thread nD τ).loc main_v49)) := (h c).1 (5 : Fin 6)

/-- An input's array ends as the host lines left it. -/
theorem in_at (w : Fin 6) (hw : (spec0 w).isOut = false) :
    r.2.mem ((spec0 w).arr.view.loc (c.tc : Thread nD τ)) = V m c (Pipeline.arrRef spec0 w) := by
  have e := (h c).1 w
  rw [RDat.ArrAt_in (rdat (gsOf m) hp c (V m c)) w hw] at e
  exact e

theorem kept_0 : r.2.mem ((c.tc : Thread nD τ).loc main_arg0) = m ((c.tc : Thread nD τ).loc main_arg0) :=
  (in_at h c 1 rfl).trans (host_arg0 _)
theorem kept_1 : r.2.mem ((c.tc : Thread nD τ).loc main_arg1) = m ((c.tc : Thread nD τ).loc main_arg1) :=
  ((h c).2 main_arg1 (Pipeline.mem_restRefs_of main_arg1 (by decide) (show ∀ w : Fin 6, (spec0 w).arr.view.ref ≠ main_arg1 by decide))).trans (host_arg1 _)
theorem kept_2 : r.2.mem ((c.tc : Thread nD τ).loc main_arg2) = m ((c.tc : Thread nD τ).loc main_arg2) :=
  (in_at h c 0 rfl).trans (host_arg2 _)
theorem kept_3 : r.2.mem ((c.tc : Thread nD τ).loc main_arg3) = m ((c.tc : Thread nD τ).loc main_arg3) :=
  (in_at h c 2 rfl).trans (host_arg3 _)
theorem kept_4 : r.2.mem ((c.tc : Thread nD τ).loc main_arg4) = m ((c.tc : Thread nD τ).loc main_arg4) :=
  (in_at h c 3 rfl).trans (host_arg4 _)
theorem kept_5 : r.2.mem ((c.tc : Thread nD τ).loc main_arg5) = m ((c.tc : Thread nD τ).loc main_arg5) :=
  ((h c).2 main_arg5 (Pipeline.mem_restRefs_of main_arg5 (by decide) (show ∀ w : Fin 6, (spec0 w).arr.view.ref ≠ main_arg5 by decide))).trans (host_arg5 _)

end

/-- The result and the arguments at the end of every run. -/
theorem run_ends : θ_run defs (onTc (τ := τ) (main (F := F))) (start m ρ) (fun r => (∀ c : Dev nD,
      OutAt m hp c (r.2.mem ((c.tc : Thread nD τ).loc main_v49))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨out_of h.1 c, kept_0 h.1 c,
    kept_1 h.1 c,
    kept_2 h.1 c,
    kept_3 h.1 c,
    kept_4 h.1 c,
    kept_5 h.1 c⟩, h.2⟩) (run m ρ hp)

end Cert.Down.Body

end
-- ==== Proof.DownIdeal.Spec.lean ====
/- The body's triples for the program over the extended reals. Its body is that of the program over the words, term for
   term, so each triple is the one already proved. -/
module

public import proofs.«01_k».proof.Proof.Gen.DownIdeal.Launch
public import proofs.«01_k».proof.Proof.Gen.DownIdeal.Skeleton
public import proofs.«01_k».proof.Proof.Down.Spec

@[expose] public section

set_option maxRecDepth 65536
set_option maxHeartbeats 8000000

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

export Cert.Down.Body (ix1 at1 nib slab wscr)

variable {F : FTy → Type} [FloatOps F]

local notation "𝕄" => MT nD τ sig Unit (Elt F) ℕ (UR sig nD τ) ℕ

/-- What a live visit leaves in the output block, from the tile `v8`, its expert's first row `v13` and past-the-end row
    `v18`, the expert's activation scale, the activation block, the scratch and the block of the scale row. -/
def outBlk (v8 v13 v18 : BitVec 32) (s2 : F .f32) (x7 : Vec F S256x4096 .fp8e4m3) (W : Vec F S4096x512 .bf16)
    (x10 : Vec F S1x1x512 .f32) (x11 : Vec F S256x512 .f32) : Vec F S256x512 .f32 :=
  k0_pay1 (k0_pay59 x7 W x10 s2) (k0_pay60 x11) (k0_pay61 (F := F) v8 v13 v18)

/-- The two programs have the same body. -/
theorem bodyEq : @Cert.DownIdeal.cc0_down F _ Cert.DownIdeal.Gen.facts = @Cert.Down.cc0_down F _ Cert.Down.Gen.facts := rfl

variable (D : Defs nD τ sig (Elt F) Λ₀) (q : PosShare TreeShare) (i : grid0.Coords) (c : Dev nD)
  (arg2 : Memref sig .tc .smem S43 .i32) (harg2 : arg2.IsWhole)
  (arg3 : Memref sig .tc .smem S43 .i32) (harg3 : arg3.IsWhole)
  (arg4 : Memref sig .tc .smem S9 .i32) (harg4 : arg4.IsWhole)
  (arg5 : Memref sig .tc .smem S1 .i32) (harg5 : arg5.IsWhole)
  (arg6 : Memref sig .tc .smem S8 .f32) (harg6 : arg6.IsWhole)
  (arg7 : Memref sig .tc .vmem S256x4096 .fp8e4m3) (harg7 : arg7.IsWhole)
  (arg8 : Memref sig .tc .vmem S1x2048x512 .i8) (harg8 : arg8.IsWhole)
  (arg9 : Memref sig .tc .vmem S1x32x512 .fp8e4m3) (harg9 : arg9.IsWhole)
  (arg10 : Memref sig .tc .vmem S1x1x512 .f32) (harg10 : arg10.IsWhole)
  (arg11 : Memref sig .tc .vmem S256x512 .f32) (harg11 : arg11.IsWhole)
  (arg12 : Memref sig .tc .vmem S4096x512 .bf16) (harg12 : arg12.IsWhole)
variable (x2 : Vec F S43 .i32) (x3 : Vec F S43 .i32) (x4 : Vec F S9 .i32) (x5 : Vec F S1 .i32) (x6 : Vec F S8 .f32) (x7 : Vec F S256x4096 .fp8e4m3) (x8 : Vec F S1x2048x512 .i8) (x9 : Vec F S1x32x512 .fp8e4m3) (x10 : Vec F S1x1x512 .f32) (x11 : Vec F S256x512 .f32) (x12 : Vec F S4096x512 .bf16)

/-- A live visit that finds its expert's weights in the scratch: it writes the output block and keeps the rest. The triple
    holds for any table `D` of definitions, since the body calls none. -/
theorem keep_spec
    (e : Fin 8) (he : at1 x2 (i 1) = BitVec.ofNat 32 e.val) (hlive : k0_cond1 i (at1 x5 0) = 1#1) (hC : ¬ ((i 1).val = 0 ∨ at1 x2 (Fin.mk ((i 1).val - 1) (by have := (i 1).2; exact Nat.lt_of_le_of_lt (Nat.sub_le _ _) this)) ≠ at1 x2 (i 1))) (E : Set ℕ) (K : PUnit → sProp 𝕄) :
    iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ (iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outBlk (at1 x3 (i 1)) (at1 x4 e.castSucc) (at1 x4 e.succ) (at1 x6 e) x7 x12 x10 x11) ∗ owns (c : Thread nD τ) arg12 fullShare x12) -∗ K ⟨⟩))
      ⊢ wp frame (wpE D Variants.none c none) E (cc0_down i arg2 harg2 arg3 harg3 arg4 harg4 arg5 harg5 arg6 harg6 arg7 harg7 arg8 harg8 arg9 harg9 arg10 harg10 arg11 harg11 arg12 harg12) K := by
  rw [show @cc0_down F _ _ = _ from bodyEq]
  exact Cert.Down.Body.keep_spec D q i c arg2 harg2 arg3 harg3 arg4 harg4 arg5 harg5 arg6 harg6 arg7 harg7 arg8 harg8 arg9 harg9 arg10 harg10 arg11 harg11 arg12 harg12 x2 x3 x4 x5 x6 x7 x8 x9 x10 x11 x12 e he hlive hC E K

/-- A live visit that dequantises its expert's weights into the scratch, and writes the output block from them. -/
theorem reload_spec
    (e : Fin 8) (he : at1 x2 (i 1) = BitVec.ofNat 32 e.val) (hlive : k0_cond1 i (at1 x5 0) = 1#1) (hC : (i 1).val = 0 ∨ at1 x2 (Fin.mk ((i 1).val - 1) (by have := (i 1).2; exact Nat.lt_of_le_of_lt (Nat.sub_le _ _) this)) ≠ at1 x2 (i 1)) (E : Set ℕ) (K : PUnit → sProp 𝕄) :
    iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg2 q x2 ∗ owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outBlk (at1 x3 (i 1)) (at1 x4 e.castSucc) (at1 x4 e.succ) (at1 x6 e) x7 (wscr (k0_pay2 x8) (k0_pay3 x9)) x10 x11) ∗ owns (c : Thread nD τ) arg12 fullShare (wscr (k0_pay2 x8) (k0_pay3 x9))) -∗ K ⟨⟩))
      ⊢ wp frame (wpE D Variants.none c none) E (cc0_down i arg2 harg2 arg3 harg3 arg4 harg4 arg5 harg5 arg6 harg6 arg7 harg7 arg8 harg8 arg9 harg9 arg10 harg10 arg11 harg11 arg12 harg12) K := by
  rw [show @cc0_down F _ _ = _ from bodyEq]
  exact Cert.Down.Body.reload_spec D q i c arg2 harg2 arg3 harg3 arg4 harg4 arg5 harg5 arg6 harg6 arg7 harg7 arg8 harg8 arg9 harg9 arg10 harg10 arg11 harg11 arg12 harg12 x2 x3 x4 x5 x6 x7 x8 x9 x10 x11 e he hlive hC E K

/-- A dead visit only looks at the number of visits. -/
theorem skip_spec
    (hdead : ¬ k0_cond1 i (at1 x5 0) = 1#1) (E : Set ℕ) (K : PUnit → sProp 𝕄) :
    iprop(owns (c : Thread nD τ) arg5 q x5 ∗ (owns (c : Thread nD τ) arg5 q x5 -∗ K ⟨⟩))
      ⊢ wp frame (wpE D Variants.none c none) E (cc0_down i arg2 harg2 arg3 harg3 arg4 harg4 arg5 harg5 arg6 harg6 arg7 harg7 arg8 harg8 arg9 harg9 arg10 harg10 arg11 harg11 arg12 harg12) K := by
  rw [show @cc0_down F _ _ = _ from bodyEq]
  exact Cert.Down.Body.skip_spec D q i c arg2 harg2 arg3 harg3 arg4 harg4 arg5 harg5 arg6 harg6 arg7 harg7 arg8 harg8 arg9 harg9 arg10 harg10 arg11 harg11 arg12 harg12 x5 hdead E K

end Cert.DownIdeal.Body

end
-- ==== Proof.DownIdeal.Geom.lean ====
module

public import proofs.«01_k».proof.Proof.DownIdeal.Spec
public import proofs.«01_k».proof.Proof.Tables.Words
public import proofs.«01_k».proof.Proof.Tables.Pre
set_option maxRecDepth 16384

/-!
# Which block every window reads at a grid point

The four prefetched tables are functions of the group sizes `gs`. With them the index maps have closed
forms: at the point of column block `i 0` and visit `i 1` the activations and the output are at row tile
`mN (i 1)`, the weights and scales at expert `eN (i 1)`. Every block is inside its array.
-/

@[expose] public section

namespace Cert.DownIdeal.Body
open Cert.DownIdeal Cert.DownIdeal.Gen
open Idealize.ShloMosaic Idealize.ShloMosaic.TcCoe
open Cert.Tables

variable {F : FTy → Type} [FloatOps F]

/-- The contents of the prefetched tables: expert per visit, tile per visit, group offsets, number of visits. -/
noncomputable def tab (gs : IVec (⟨1, ![8]⟩ : Shape) 32) : pre0.Contents (Elt F) := fun
  | 0 => veT gs | 1 => vmT gs | 2 => sums gs | 3 => totalT gs
  | ⟨_ + 4, h⟩ => absurd h (Nat.not_lt.2 (Nat.le_add_left _ _))

/-- Coordinate `k` of the one-word rectangle a table is read at. -/
theorem emb_word (i : grid0.Coords) (h1 : S1.numel = 1)
    (h : ∀ a, (![(Scalar.indexCast (BitVec.ofNat 32 (i 1).val) : Index).toNat] : Fin 1 → ℕ) a + S1.size a ≤ S43.size a) :
    (Rect.unit (s := S43) ![(Scalar.indexCast (BitVec.ofNat 32 (i 1).val) : Index).toNat] S1.size h).emb
      (Shape.Idx.first (h1.symm ▸ Nat.one_pos)) = (ix1 (i 1) : (⟨1, ![43]⟩ : Shape).Idx) := by
  funext a
  match a with
  | ⟨0, _⟩ =>
    apply Fin.ext
    have h43 : (i 1).val < 43 := (i 1).isLt
    show (BitVec.ofNat 32 (i 1).val).toNat + 1 * 0 = (i 1).val
    rw [BitVec.toNat_ofNat]
    omega

theorem fits2 {m n : ℕ} (hm : m < 36) {b : ℕ} (k : ℕ) (hn : (n + 1) * b ≤ k) :
    ∀ a, (![m, n] a + 1) * (⟨2, ![256, b]⟩ : Shape).size a ≤ (⟨2, ![9216, k]⟩ : Shape).size a := by
  intro a
  match a with
  | ⟨0, _⟩ => show (m + 1) * 256 ≤ 9216; omega
  | ⟨1, _⟩ => exact hn

theorem fits3 {e n : ℕ} (he : e < 8) (hn : n < 12) (k : ℕ) :
    ∀ a, (![e, 0, n] a + 1) * (⟨3, ![1, k, 512]⟩ : Shape).size a ≤ (⟨3, ![8, k, 6144]⟩ : Shape).size a := by
  intro a
  match a with
  | ⟨0, _⟩ => show (e + 1) * 1 ≤ 8; omega
  | ⟨1, _⟩ => show (0 + 1) * k ≤ k; omega
  | ⟨2, _⟩ => show (n + 1) * 512 ≤ 6144; omega

theorem words2 {m n b k p : ℕ} (hd : p ∣ 256)
    (h : ∀ a, (![m, n] a + 1) * (⟨2, ![256, b]⟩ : Shape).size a ≤ (⟨2, ![9216, k]⟩ : Shape).size a) :
    (Rect.block (s := ⟨2, ![9216, k]⟩) (⟨2, ![256, b]⟩ : Shape).size ![m, n] h).WholeWords p := by
  refine .inl (.inr ⟨le_refl _, rfl, .inl ⟨?_, ?_⟩⟩)
  · show p ∣ m * 256
    exact hd.mul_left m
  · exact hd

theorem words3 {e n k p : ℕ}
    (h : ∀ a, (![e, 0, n] a + 1) * (⟨3, ![1, k, 512]⟩ : Shape).size a ≤ (⟨3, ![8, k, 6144]⟩ : Shape).size a) :
    (Rect.block (s := ⟨3, ![8, k, 6144]⟩) (⟨3, ![1, k, 512]⟩ : Shape).size ![e, 0, n] h).WholeWords p := by
  refine .inr ⟨by show 2 ≤ 3; omega, rfl, ?_, rfl⟩
  show 0 * k = 0
  omega

theorem col_word (i : grid0.Coords) : (BitVec.ofNat 32 (i 0).val).toNat = (i 0).val := by
  have h : (i 0).val < 12 := (i 0).isLt
  rw [BitVec.toNat_ofNat]; omega

variable (gs : IVec (⟨1, ![8]⟩ : Shape) 32) (hp : offN (sizes gs) 8 = 9216)

/-- Expert of visit `v`. -/
abbrev ex (v : ℕ) : ℕ := eN (sizes gs) v
/-- Row tile of visit `v`. -/
abbrev tl (v : ℕ) : ℕ := mN (sizes gs) v

include hp
theorem ve_entry (v : Fin 43) : veT gs (ix1 v) = BitVec.ofNat 32 (ex gs v.val) :=
  veT_ap gs (sizes gs) (sizes_ap gs) hp v
theorem vm_entry (v : Fin 43) : vmT gs (ix1 v) = BitVec.ofNat 32 (tl gs v.val) :=
  vmT_ap gs (sizes gs) (sizes_ap gs) hp v
theorem ex_lt (v : Fin 43) : ex gs v.val < 8 := eN_lt (sizes gs) hp v
theorem tl_lt (v : Fin 43) : tl gs v.val < 36 := mN_lt (sizes gs) hp v

theorem ve_word (i : grid0.Coords) (h1 : S1.numel = 1)
    (h : ∀ a, (![(Scalar.indexCast (BitVec.ofNat 32 (i 1).val) : Index).toNat] : Fin 1 → ℕ) a + S1.size a ≤ S43.size a) :
    ((tab (F := F) gs).at 0 (Rect.unit (s := S43) ![(Scalar.indexCast (BitVec.ofNat 32 (i 1).val) : Index).toNat] S1.size h) h1 : BitVec 32).toNat
      = ex gs (i 1).val := by
  have e := congrArg (veT gs) (emb_word i h1 h)
  have e2 := (e.trans (ve_entry gs hp (i 1)))
  refine (congrArg BitVec.toNat e2).trans ?_
  have := ex_lt gs hp (i 1)
  rw [BitVec.toNat_ofNat]; omega

theorem vm_word (i : grid0.Coords) (h1 : S1.numel = 1)
    (h : ∀ a, (![(Scalar.indexCast (BitVec.ofNat 32 (i 1).val) : Index).toNat] : Fin 1 → ℕ) a + S1.size a ≤ S43.size a) :
    ((tab (F := F) gs).at 1 (Rect.unit (s := S43) ![(Scalar.indexCast (BitVec.ofNat 32 (i 1).val) : Index).toNat] S1.size h) h1 : BitVec 32).toNat
      = tl gs (i 1).val := by
  have e := congrArg (vmT gs) (emb_word i h1 h)
  have e2 := (e.trans (vm_entry gs hp (i 1)))
  refine (congrArg BitVec.toNat e2).trans ?_
  have := tl_lt gs hp (i 1)
  rw [BitVec.toNat_ofNat]; omega

/-- The activations' block index, -/
theorem ixX (i : grid0.Coords) : cc0_transform_1 k0_off1_inb numel1_S1 (tab (F := F) gs) i = ![tl gs (i 1).val, 0] := by
  have e := vm_word (F := F) gs hp i numel1_S1 (k0_off1_inb i)
  exact congrArg (fun x => (![x, 0] : Fin 2 → ℕ)) e
/-- the output's, -/
theorem ixO (i : grid0.Coords) : cc0_transform_5 k0_off1_inb numel1_S1 (tab (F := F) gs) i = ![tl gs (i 1).val, (i 0).val] := by
  have e := vm_word (F := F) gs hp i numel1_S1 (k0_off1_inb i)
  exact congrArg₂ (fun x y => (![x, y] : Fin 2 → ℕ)) e (col_word i)
/-- and those of the weights and scales. -/
theorem ix2w (i : grid0.Coords) : cc0_transform_2 k0_off1_inb numel1_S1 (tab (F := F) gs) i = ![ex gs (i 1).val, 0, (i 0).val] := by
  have e := ve_word (F := F) gs hp i numel1_S1 (k0_off1_inb i)
  exact congrArg₂ (fun x y => (![x, 0, y] : Fin 3 → ℕ)) e (col_word i)
theorem ix3w (i : grid0.Coords) : cc0_transform_3 k0_off1_inb numel1_S1 (tab (F := F) gs) i = ![ex gs (i 1).val, 0, (i 0).val] := ix2w gs hp i
theorem ix4w (i : grid0.Coords) : cc0_transform_4 k0_off1_inb numel1_S1 (tab (F := F) gs) i = ![ex gs (i 1).val, 0, (i 0).val] := ix2w gs hp i

/-- Every block the tables name is inside its array and made of whole words. -/
theorem tab_ok : ok0 (tab (F := F) gs) := by
  have he := fun i : grid0.Coords => ex_lt gs hp (i 1)
  have hm := fun i : grid0.Coords => tl_lt gs hp (i 1)
  have hn : ∀ i : grid0.Coords, (i 0).val < 12 := fun i => (i 0).isLt
  refine ⟨fun i => ?_, fun i => ?_, fun i => ?_, fun i => ?_, fun i => ?_⟩
  · rw [ixX gs hp i]; exact ⟨fits2 (hm i) 4096 (by omega), .inr (words2 (by decide) _)⟩
  · rw [ix2w gs hp i]; exact ⟨fits3 (he i) (hn i) 2048, .inr (words3 _)⟩
  · rw [ix3w gs hp i]; exact ⟨fits3 (he i) (hn i) 32, .inr (words3 _)⟩
  · rw [ix4w gs hp i]; exact ⟨fits3 (he i) (hn i) 1, .inl rfl⟩
  · rw [ixO gs hp i]; exact ⟨fits2 (hm i) 6144 (by have := hn i; omega), .inl rfl⟩

/-- The pipeline's tables, as admissible contents. -/
noncomputable def adm : (pcfg0 (F := F)).Adm := ⟨tab gs, tab_ok gs hp⟩

end Cert.DownIdeal.Body
-- ==== Proof.DownIdeal.Data.lean ====
/- The pipeline of the kernel: the blocks its windows hold and the data its loop is proved with. -/
module

public import proofs.«01_k».proof.Proof.DownIdeal.Geom

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

open Idealize.ShloMosaic.ValueIdx (ix2 ix3)

/-- Contents of the core's buffers when the kernel starts. -/
abbrev Bufs (c : Dev nD) := (b : Ref sig .tc) → Buf (Elt F) ((c.tc : Thread nD τ).loc b)

/-- The block of rows `256 m …` of the activations. -/
def xB (x : Vec F S9216x4096 .fp8e4m3) (m : ℕ) : Vec F S256x4096 .fp8e4m3 := fun j => x (ix2 (Fin.ofNat 9216 (m * 256 + (j 0).val)) (j 1))
/-- The block of expert `e`, columns `512 n …`, of a weight array, -/
def wB (w : Vec F S8x2048x6144 .i8) (e n : ℕ) : Vec F S1x2048x512 .i8 := fun j => w (ix3 (Fin.ofNat 8 e) (j 1) (Fin.ofNat 6144 (n * 512 + (j 2).val)))
/-- of an array of block scales -/
def sB (s : Vec F S8x32x6144 .fp8e4m3) (e n : ℕ) : Vec F S1x32x512 .fp8e4m3 := fun j => s (ix3 (Fin.ofNat 8 e) (j 1) (Fin.ofNat 6144 (n * 512 + (j 2).val)))
/-- and of an array of column scales. -/
def cB (s : Vec F S8x1x6144 .f32) (e n : ℕ) : Vec F S1x1x512 .f32 := fun j => s (ix3 (Fin.ofNat 8 e) (j 1) (Fin.ofNat 6144 (n * 512 + (j 2).val)))

section
variable (gs : IVec (⟨1, ![8]⟩ : Shape) 32) (hp : offN (sizes gs) 8 = 9216) (c : Dev nD) (B : Bufs (F := F) c)

/-- The unpacked weights of expert `e`, column block `n`, as the scratch holds them. -/
def scrW (e n : ℕ) : Vec F S4096x512 .bf16 :=
  wscr (k0_pay2 (F := F) (wB (B main_arg3) e n)) (k0_pay3 (sB (B main_arg4) e n))

/-- What visit `v` of column block `n` makes of the output block. -/
def step (v : Fin 43) (n : ℕ) (Y : Vec F S256x512 .f32) : Vec F S256x512 .f32 :=
  if v.val < cumN (sizes gs) 8 then
    outBlk (at1 (vmT gs) v) (at1 (sums gs) (Fin.ofNat 8 (ex gs v)).castSucc) (at1 (sums gs) (Fin.ofNat 8 (ex gs v)).succ)
      (at1 (B main_arg2) (Fin.ofNat 8 (ex gs v))) (xB (B main_arg0) (tl gs v)) (scrW c B (ex gs v) n)
      (cB (B main_v48) (ex gs v) n) Y
  else Y

/-- The proof data of the pipeline: inputs stay, the output block takes the visit's step, and after every visit the
    scratch holds the weights of the visit's expert. -/
def rdat : RDat τ (Elt F) Unit ℕ (UR sig nD τ) ℕ (cfg0 (adm (F := F) gs hp)) c where
  A := fun w => B (Pipeline.arrRef spec0 w)
  after := fun
    | 5 => fun t Y X => X = step gs c B (grid0.coords t 1) (grid0.coords t 0).val Y
    | 0 => fun _ Y X => X = Y | 1 => fun _ Y X => X = Y | 2 => fun _ Y X => X = Y | 3 => fun _ Y X => X = Y
    | 4 => fun _ Y X => X = Y
    | ⟨_ + 6, h⟩ => absurd h (Nat.not_lt.2 (Nat.le_add_left _ _))
  Φ := fun s => iprop((∃ d : Vec F S4096x512 .bf16, ⌜∀ t : Fin grid0.N, t.val + 1 = s.val → d = scrW c B (ex gs (grid0.coords t 1)) (grid0.coords t 0).val⌝
    ∗ owns (c : Thread nD τ) (Memref.whole cc0_scratch0) fullShare d) ∗ (∃ r, prngReg c r) ∗ Pipeline.ΦT pre0 (tab (F := F) gs) c)
  q := fun _ => fullShare
  owed := fun _ => 0

theorem blk_1 (t : Fin grid0.N) : (rdat gs hp c B).blockOf 1 t = xB (B main_arg0) (tl gs (grid0.coords t 1)) := by
  refine funext fun (y : S256x4096.Idx) => ?_
  refine congrArg (B main_arg0) ?_
  have e := ixX (F := F) gs hp (grid0.coords t)
  have hm := tl_lt gs hp (grid0.coords t 1)
  funext a
  match a with
  | ⟨0, _⟩ =>
    apply Fin.ext
    have hy : (y 0).val < 256 := (y 0).isLt
    show cc0_transform_1 k0_off1_inb numel1_S1 (tab (F := F) gs) (grid0.coords t) 0 * 256 + 1 * (y 0).val = (tl gs (grid0.coords t 1).val * 256 + (y 0).val) % 9216
    rw [e]
    show tl gs (grid0.coords t 1).val * 256 + 1 * (y 0).val = _
    omega
  | ⟨1, _⟩ =>
    apply Fin.ext
    show cc0_transform_1 k0_off1_inb numel1_S1 (tab (F := F) gs) (grid0.coords t) 1 * 4096 + 1 * (y 1).val = (y 1).val
    rw [e]
    show 0 * 4096 + 1 * (y 1).val = _
    omega

theorem blk_2 (t : Fin grid0.N) : (rdat gs hp c B).blockOf 2 t = wB (B main_arg3) (ex gs (grid0.coords t 1)) (grid0.coords t 0).val := by
  refine funext fun (y : (⟨3, ![1, 2048, 512]⟩ : Shape).Idx) => ?_
  refine congrArg (B main_arg3) ?_
  have e := ix2w (F := F) gs hp (grid0.coords t)
  have hm := ex_lt gs hp (grid0.coords t 1)
  have hn : (grid0.coords t 0).val < 12 := (grid0.coords t 0).isLt
  funext a
  match a with
  | ⟨0, _⟩ =>
    apply Fin.ext
    have hy : (y 0).val < 1 := (y 0).isLt
    show cc0_transform_2 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_2 k0_off1_inb numel1_S1 (tab (F := F) gs) (grid0.coords t) 1 * 2048 + 1 * (y 1).val = (y 1).val
    rw [e]
    show 0 * 2048 + 1 * (y 1).val = _
    omega
  | ⟨2, _⟩ =>
    apply Fin.ext
    have hy : (y 2).val < 512 := (y 2).isLt
    show cc0_transform_2 k0_off1_inb numel1_S1 (tab (F := F) gs) (grid0.coords t) 2 * 512 + 1 * (y 2).val = ((grid0.coords t 0).val * 512 + (y 2).val) % 6144
    rw [e]
    show (grid0.coords t 0).val * 512 + 1 * (y 2).val = _
    omega

theorem blk_3 (t : Fin grid0.N) : (rdat gs hp c B).blockOf 3 t = sB (B main_arg4) (ex gs (grid0.coords t 1)) (grid0.coords t 0).val := by
  refine funext fun (y : (⟨3, ![1, 32, 512]⟩ : Shape).Idx) => ?_
  refine congrArg (B main_arg4) ?_
  have e := ix3w (F := F) gs hp (grid0.coords t)
  have hm := ex_lt gs hp (grid0.coords t 1)
  have hn : (grid0.coords t 0).val < 12 := (grid0.coords t 0).isLt
  funext a
  match a with
  | ⟨0, _⟩ =>
    apply Fin.ext
    have hy : (y 0).val < 1 := (y 0).isLt
    show cc0_transform_3 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_3 k0_off1_inb numel1_S1 (tab (F := F) gs) (grid0.coords t) 1 * 32 + 1 * (y 1).val = (y 1).val
    rw [e]
    show 0 * 32 + 1 * (y 1).val = _
    omega
  | ⟨2, _⟩ =>
    apply Fin.ext
    have hy : (y 2).val < 512 := (y 2).isLt
    show cc0_transform_3 k0_off1_inb numel1_S1 (tab (F := F) gs) (grid0.coords t) 2 * 512 + 1 * (y 2).val = ((grid0.coords t 0).val * 512 + (y 2).val) % 6144
    rw [e]
    show (grid0.coords t 0).val * 512 + 1 * (y 2).val = _
    omega

theorem blk_4 (t : Fin grid0.N) : (rdat gs hp c B).blockOf 4 t = cB (B main_v48) (ex gs (grid0.coords t 1)) (grid0.coords t 0).val := by
  refine funext fun (y : (⟨3, ![1, 1, 512]⟩ : Shape).Idx) => ?_
  refine congrArg (B main_v48) ?_
  have e := ix4w (F := F) gs hp (grid0.coords t)
  have hm := ex_lt gs hp (grid0.coords t 1)
  have hn : (grid0.coords t 0).val < 12 := (grid0.coords t 0).isLt
  funext a
  match a with
  | ⟨0, _⟩ =>
    apply Fin.ext
    have hy : (y 0).val < 1 := (y 0).isLt
    show cc0_transform_4 k0_off1_inb numel1_S1 (tab (F := F) gs) (grid0.coords t) 0 * 1 + 1 * (y 0).val = ex gs (grid0.coords t 1).val % 8
    rw [e]
    show ex gs (grid0.coords t 1).val * 1 + 1 * (y 0).val = _
    omega
  | ⟨1, _⟩ =>
    apply Fin.ext
    show cc0_transform_4 k0_off1_inb numel1_S1 (tab (F := F) gs) (grid0.coords t) 1 * 1 + 1 * (y 1).val = (y 1).val
    rw [e]
    show 0 * 1 + 1 * (y 1).val = _
    omega
  | ⟨2, _⟩ =>
    apply Fin.ext
    have hy : (y 2).val < 512 := (y 2).isLt
    show cc0_transform_4 k0_off1_inb numel1_S1 (tab (F := F) gs) (grid0.coords t) 2 * 512 + 1 * (y 2).val = ((grid0.coords t 0).val * 512 + (y 2).val) % 6144
    rw [e]
    show (grid0.coords t 0).val * 512 + 1 * (y 2).val = _
    omega

/-- What the body finds in an input window is the block the point names. -/
theorem found (w : Fin 6) (hw : (spec0 w).isOut = false)
    (hk : ∀ (t : Fin grid0.N) (Y X : (spec0 w).block.Idx → Elt F (spec0 w).elt), (rdat gs hp c B).after w t Y X → X = Y)
    (t : Fin grid0.N) (Y : (spec0 w).block.Idx → Elt F (spec0 w).elt)
    (h : (rdat gs hp c B).Finds w t Y) : Y = (rdat gs hp c B).blockOf w t := by
  obtain ⟨d, hd⟩ := RDat.finds_in_eq_fetched (rdat gs hp c B) w hw (fun _ _ _ => rfl) hk t Y h
  rw [hd]
  funext j
  exact Window.fill_xinj ((cfg0 (adm (F := F) gs hp)).win w) (grid0.coords t) d _ j

end

end Cert.DownIdeal.Body

end
-- ==== Proof.DownIdeal.Obligation.lean ====
/- The body at every grid point: the loop of the kernel keeps its invariant. -/
module

public import proofs.«01_k».proof.Proof.DownIdeal.Data

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

variable (gs : IVec (⟨1, ![8]⟩ : Shape) 32) (hp : offN (sizes gs) 8 = 9216) (c : Dev nD) (B : Bufs (F := F) c)

theorem blk_0 (t : Fin grid0.N) : (rdat gs hp c B).blockOf 0 t = B main_arg2 := by
  refine funext fun (y : S8.Idx) => ?_
  refine congrArg (B main_arg2) ?_
  funext a
  match a with
  | ⟨0, _⟩ =>
    apply Fin.ext
    show 0 * 8 + 1 * (y 0).val = (y 0).val
    omega

/-- Coordinates of a grid point: column block `t / 43`, visit `t % 43`. -/
theorem coord_one : ∀ t : Fin grid0.N, (grid0.coords t 1).val = t.val % 43 := by decide +kernel
theorem coord_zero : ∀ t : Fin grid0.N, (grid0.coords t 0).val = t.val / 43 := by decide +kernel

/-- The tables, one by one. -/
theorem tables : (Pipeline.ΦT pre0 (tab (F := F) gs) c : sProp 𝕄) ⊣⊢ iprop(owns (c : Thread nD τ) (Memref.whole main_v31) fullShare.right (veT gs) ∗ owns (c : Thread nD τ) (Memref.whole main_v47) fullShare.right (vmT gs) ∗ owns (c : Thread nD τ) (Memref.whole main_v2) fullShare.right (sums gs) ∗ owns (c : Thread nD τ) (Memref.whole main_v18) fullShare.right (totalT gs)) := by
  rw [show (Pipeline.ΦT pre0 (tab (F := F) gs) c : sProp 𝕄) = _ from bigSep_univ_eq_bigSepL [(0 : Fin 4), (1 : Fin 4), (2 : Fin 4), (3 : Fin 4)] (by decide) (by decide) _]
  rw [owns_whole, owns_whole, owns_whole, owns_whole]
  exact .rfl

/-- Entry `k` of a table, through either spelling of a one-coordinate index. -/
theorem at1_eq {n : ℕ} {α : Type} (x : (⟨1, ![n]⟩ : Shape).Idx → α) (k : Fin n) : at1 x k = x (Idealize.ShloMosaic.ValueIdx.ix1 k) := by
  unfold at1
  refine congrArg x ?_
  funext a
  match a with
  | ⟨0, _⟩ => rfl

include hp in
/-- A visit is live when it is below the number of visits. -/
theorem live_iff (i : grid0.Coords) : k0_cond1 i (at1 (totalT gs) 0) = 1#1 ↔ (i 1).val < cumN (sizes gs) 8 := by
  have h : (i 1).val < 43 := (i 1).2
  have hc := cumN_bound (sizes gs) hp
  rw [at1_eq, totalT_ap gs (sizes gs) (sizes_ap gs) hp]
  unfold k0_cond1
  generalize hk : cumN (sizes gs) 8 = k at *
  generalize hv : (i 1).val = v at *
  have key : ∀ v < 43, ∀ k ≤ 43, (Scalar.cmpi .ne (Scalar.extui (Scalar.cmpi .slt (BitVec.ofNat 32 v) (BitVec.ofNat 32 k)) : BitVec 32) 0#32 = 1#1 ↔ v < k) := by decide +kernel
  exact key v h k hc

include hp in
theorem ve_at (v : Fin 43) : at1 (veT gs) v = BitVec.ofNat 32 (Fin.ofNat 8 (ex gs v.val)).val := by
  rw [at1_eq, veT_ap gs (sizes gs) (sizes_ap gs) hp]
  refine congrArg _ ?_
  have := ex_lt gs hp v
  show ex gs v.val = ex gs v.val % 8
  omega

include hp in
/-- Two visits with one table entry are of one expert. -/
theorem ex_of_entry {v w : Fin 43} (h : at1 (veT gs) v = at1 (veT gs) w) : ex gs v.val = ex gs w.val := by
  rw [ve_at gs hp, ve_at gs hp] at h
  have h1 := ex_lt gs hp v
  have h2 := ex_lt gs hp w
  have := congrArg BitVec.toNat h
  rw [BitVec.toNat_ofNat, BitVec.toNat_ofNat] at this
  have e1 : (Fin.ofNat 8 (ex gs v.val)).val = ex gs v.val % 8 := rfl
  have e2 : (Fin.ofNat 8 (ex gs w.val)).val = ex gs w.val % 8 := rfl
  omega

/-- The scratch after a visit that does not reload is the visit's expert's. -/
theorem scr_keep (t : Fin grid0.N) (d : Vec F S4096x512 .bf16)
    (hd : ∀ u : Fin grid0.N, u.val + 1 = t.castSucc.val → d = scrW c B (ex gs (grid0.coords u 1)) (grid0.coords u 0).val)
    (h0 : (grid0.coords t 1).val ≠ 0)
    (he : ex gs ((grid0.coords t 1).val - 1) = ex gs (grid0.coords t 1)) :
    ∀ u : Fin grid0.N, u.val + 1 = t.succ.val → d = scrW c B (ex gs (grid0.coords u 1)) (grid0.coords u 0).val := by
  intro u hu
  have hut : u = t := Fin.ext (by have := Fin.val_succ t; omega)
  subst hut
  have hN := N_0
  have ht := u.isLt
  rw [coord_one] at h0
  obtain ⟨p, hpv⟩ : ∃ p : Fin grid0.N, p.val + 1 = u.val := ⟨⟨u.val - 1, by omega⟩, by show u.val - 1 + 1 = u.val; omega⟩
  have h1 := hd p (by rw [Fin.val_castSucc]; exact hpv)
  have e1 : (grid0.coords p 1).val = (grid0.coords u 1).val - 1 := by rw [coord_one, coord_one]; omega
  have e0 : (grid0.coords p 0).val = (grid0.coords u 0).val := by rw [coord_zero, coord_zero]; omega
  rw [h1, e1, e0, he]

theorem scr_new (t : Fin grid0.N) :
    ∀ u : Fin grid0.N, u.val + 1 = t.succ.val → scrW c B (ex gs (grid0.coords t 1)) (grid0.coords t 0).val = scrW c B (ex gs (grid0.coords u 1)) (grid0.coords u 0).val := by
  intro u hu
  have : u = t := Fin.ext (by have := Fin.val_succ t; omega)
  rw [this]

/-- The invariant, spelled out. -/
theorem phi_eq (s : Fin (grid0.N + 1)) : (rdat gs hp c B).Φ s = iprop((∃ d : Vec F S4096x512 .bf16, ⌜∀ t : Fin grid0.N, t.val + 1 = s.val → d = scrW c B (ex gs (grid0.coords t 1)) (grid0.coords t 0).val⌝
    ∗ owns (c : Thread nD τ) (Memref.whole cc0_scratch0) fullShare d) ∗ (∃ r, prngReg c r) ∗ Pipeline.ΦT pre0 (tab (F := F) gs) c) := rfl

/-- The body as the loop calls it at point `t`. -/
def bodyAt (t : Fin grid0.N) : Prog (TpuEff nD τ sig (Elt F) Λ₀ .tc) PUnit := cc0_down (grid0.coords t) (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (Memref.whole cc0_scratch0) (Memref.isWhole_whole _)

theorem defs₀_row (t : Fin grid0.N) : defs₀ (F := F) .tc (cfg0 (adm (F := F) gs hp)).body ((cfg0 (adm (F := F) gs hp)).bodyArgs t ((cfg0 (adm (F := F) gs hp)).slots t)) = bodyAt gs hp t := by
  unfold defs₀; rw [Defs.onTc_tc]; rfl

set_option maxHeartbeats 4000000 in
/-- The body at every point, from what its windows may hold. -/
theorem body_at (t : Fin grid0.N) (Y : (w : Fin 6) → (spec0 w).block.Idx → Elt F (spec0 w).elt) (hY : ∀ w, (rdat gs hp c B).Finds w t (Y w)) :
    iprop((rdat gs hp c B).Φ t.castSucc ∗ (rdat gs hp c B).owesAt () t.castSucc ∗ owns (c : Thread nD τ) (spec0_0.stage ((cfg0 (adm (F := F) gs hp)).slots t 0)) fullShare (Y 0) ∗ owns (c : Thread nD τ) (spec0_1.stage ((cfg0 (adm (F := F) gs hp)).slots t 1)) fullShare (Y 1) ∗ owns (c : Thread nD τ) (spec0_2.stage ((cfg0 (adm (F := F) gs hp)).slots t 2)) fullShare (Y 2) ∗ owns (c : Thread nD τ) (spec0_3.stage ((cfg0 (adm (F := F) gs hp)).slots t 3)) fullShare (Y 3) ∗ owns (c : Thread nD τ) (spec0_4.stage ((cfg0 (adm (F := F) gs hp)).slots t 4)) fullShare (Y 4) ∗ owns (c : Thread nD τ) (spec0_5.stage ((cfg0 (adm (F := F) gs hp)).slots t 5)) fullShare (Y 5))
      ⊢ wp frame (wpE (defs₀ (F := F)) Variants.none c none) Set.univ (bodyAt gs hp t) fun _ =>
        iprop((rdat gs hp c B).Φ t.succ ∗ (rdat gs hp c B).owesAt () t.succ ∗ (∃ X, ⌜(rdat gs hp c B).after 0 t (Y 0) X⌝ ∗ owns (c : Thread nD τ) (spec0_0.stage ((cfg0 (adm (F := F) gs hp)).slots t 0)) fullShare X) ∗ (∃ X, ⌜(rdat gs hp c B).after 1 t (Y 1) X⌝ ∗ owns (c : Thread nD τ) (spec0_1.stage ((cfg0 (adm (F := F) gs hp)).slots t 1)) fullShare X) ∗ (∃ X, ⌜(rdat gs hp c B).after 2 t (Y 2) X⌝ ∗ owns (c : Thread nD τ) (spec0_2.stage ((cfg0 (adm (F := F) gs hp)).slots t 2)) fullShare X) ∗ (∃ X, ⌜(rdat gs hp c B).after 3 t (Y 3) X⌝ ∗ owns (c : Thread nD τ) (spec0_3.stage ((cfg0 (adm (F := F) gs hp)).slots t 3)) fullShare X) ∗ (∃ X, ⌜(rdat gs hp c B).after 4 t (Y 4) X⌝ ∗ owns (c : Thread nD τ) (spec0_4.stage ((cfg0 (adm (F := F) gs hp)).slots t 4)) fullShare X) ∗ (∃ X, ⌜(rdat gs hp c B).after 5 t (Y 5) X⌝ ∗ owns (c : Thread nD τ) (spec0_5.stage ((cfg0 (adm (F := F) gs hp)).slots t 5)) fullShare X)) := by
  have y0 : Y 0 = B main_arg2 := (found gs hp c B 0 rfl (fun _ _ _ h => h) t (Y 0) (hY 0)).trans (blk_0 gs hp c B t)
  have y1 : Y 1 = xB (B main_arg0) (tl gs (grid0.coords t 1)) := (found gs hp c B 1 rfl (fun _ _ _ h => h) t (Y 1) (hY 1)).trans (blk_1 gs hp c B t)
  have y2 : Y 2 = wB (B main_arg3) (ex gs (grid0.coords t 1)) (grid0.coords t 0).val := (found gs hp c B 2 rfl (fun _ _ _ h => h) t (Y 2) (hY 2)).trans (blk_2 gs hp c B t)
  have y3 : Y 3 = sB (B main_arg4) (ex gs (grid0.coords t 1)) (grid0.coords t 0).val := (found gs hp c B 3 rfl (fun _ _ _ h => h) t (Y 3) (hY 3)).trans (blk_3 gs hp c B t)
  have y4 : Y 4 = cB (B main_v48) (ex gs (grid0.coords t 1)) (grid0.coords t 0).val := (found gs hp c B 4 rfl (fun _ _ _ h => h) t (Y 4) (hY 4)).trans (blk_4 gs hp c B t)
  unfold bodyAt
  rw [phi_eq, phi_eq]
  iintro ⟨⟨⟨%d, %hd, Gs⟩, Hp, HT⟩, Ho, G0, G1, G2, G3, G4, G5⟩
  ihave HT' := (tables gs c).1 $$ HT
  icases HT' with ⟨T2, T3, T4, T5⟩
  by_cases hl : (grid0.coords t 1).val < cumN (sizes gs) 8
  · have hlive := (live_iff gs hp (grid0.coords t)).2 hl
    have e10 : ∀ W, W = scrW c B (ex gs (grid0.coords t 1)) (grid0.coords t 0).val →
        outBlk (at1 (vmT gs) (grid0.coords t 1)) (at1 (sums gs) (Fin.ofNat 8 (ex gs (grid0.coords t 1))).castSucc) (at1 (sums gs) (Fin.ofNat 8 (ex gs (grid0.coords t 1))).succ)
          (at1 (Y 0) (Fin.ofNat 8 (ex gs (grid0.coords t 1)))) (Y 1) W (Y 4) (Y 5)
          = step gs c B (grid0.coords t 1) (grid0.coords t 0).val (Y 5) := by
      intro W hW
      unfold step
      rw [if_pos hl, hW, y0, y1, y4]
    by_cases hC : (grid0.coords t 1).val = 0 ∨ at1 (veT gs) (Fin.mk ((grid0.coords t 1).val - 1) (by have := (grid0.coords t 1).2; exact Nat.lt_of_le_of_lt (Nat.sub_le _ _) this)) ≠ at1 (veT gs) (grid0.coords t 1)
    · have eW : wscr (k0_pay2 (F := F) (Y 2)) (k0_pay3 (Y 3)) = scrW c B (ex gs (grid0.coords t 1)) (grid0.coords t 0).val := by
        rw [y2, y3]; rfl
      iapply (reload_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (Memref.whole cc0_scratch0) (Memref.isWhole_whole _) (veT gs) (vmT gs) (sums gs) (totalT gs) (Y 0) (Y 1) (Y 2) (Y 3) (Y 4) (Y 5) (Fin.ofNat 8 (ex gs (grid0.coords t 1))) (ve_at gs hp _) hlive hC Set.univ _)
      isplitl [T2]; · iexact T2
      isplitl [T3]; · iexact T3
      isplitl [T4]; · iexact T4
      isplitl [T5]; · iexact T5
      isplitl [G0]; · iexact G0
      isplitl [G1]; · iexact G1
      isplitl [G2]; · iexact G2
      isplitl [G3]; · iexact G3
      isplitl [G4]; · iexact G4
      isplitl [G5]; · iexact G5
      isplitl [Gs]; · iexists _; iexact Gs
      iintro ⟨T2, T3, T4, T5, G0, G1, G2, G3, G4, G5, Gs⟩
      isplitl [Gs Hp T2 T3 T4 T5]
      · isplitl [Gs]
        · iexists _; isplitr
          rotate_left
          · iexact Gs
          · ipureintro; exact (fun u hu => eW.trans (scr_new gs c B t u hu))
        isplitl [Hp]
        · iexact Hp
        iapply (tables gs c).2
        isplitl [T2]; · iexact T2
        isplitl [T3]; · iexact T3
        isplitl [T4]; · iexact T4
        iexact T5
      isplitl [Ho]; · iexact Ho
      isplitl [G0]
      · iexists _; isplitr; · ipureintro; exact rfl
        iexact G0
      isplitl [G1]
      · iexists _; isplitr; · ipureintro; exact rfl
        iexact G1
      isplitl [G2]
      · iexists _; isplitr; · ipureintro; exact rfl
        iexact G2
      isplitl [G3]
      · iexists _; isplitr; · ipureintro; exact rfl
        iexact G3
      isplitl [G4]
      · iexists _; isplitr; · ipureintro; exact rfl
        iexact G4
      iexists _; isplitr; · ipureintro; exact e10 _ eW
      iexact G5
    · have h0 : (grid0.coords t 1).val ≠ 0 := fun h => hC (.inl h)
      have he : ex gs ((grid0.coords t 1).val - 1) = ex gs (grid0.coords t 1) :=
        ex_of_entry gs hp (v := Fin.mk ((grid0.coords t 1).val - 1) (by have := (grid0.coords t 1).2; exact Nat.lt_of_le_of_lt (Nat.sub_le _ _) this)) (not_ne_iff.1 fun h => hC (.inr h))
      have hk := scr_keep gs c B t d hd h0 he
      have eW := hk t rfl
      iapply (keep_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (Memref.whole cc0_scratch0) (Memref.isWhole_whole _) (veT gs) (vmT gs) (sums gs) (totalT gs) (Y 0) (Y 1) (Y 2) (Y 3) (Y 4) (Y 5) d (Fin.ofNat 8 (ex gs (grid0.coords t 1))) (ve_at gs hp _) hlive hC Set.univ _)
      isplitl [T2]; · iexact T2
      isplitl [T3]; · iexact T3
      isplitl [T4]; · iexact T4
      isplitl [T5]; · iexact T5
      isplitl [G0]; · iexact G0
      isplitl [G1]; · iexact G1
      isplitl [G2]; · iexact G2
      isplitl [G3]; · iexact G3
      isplitl [G4]; · iexact G4
      isplitl [G5]; · iexact G5
      isplitl [Gs]; · iexact Gs
      iintro ⟨T2, T3, T4, T5, G0, G1, G2, G3, G4, G5, Gs⟩
      isplitl [Gs Hp T2 T3 T4 T5]
      · isplitl [Gs]
        · iexists _; isplitr
          rotate_left
          · iexact Gs
          · ipureintro; exact hk
        isplitl [Hp]
        · iexact Hp
        iapply (tables gs c).2
        isplitl [T2]; · iexact T2
        isplitl [T3]; · iexact T3
        isplitl [T4]; · iexact T4
        iexact T5
      isplitl [Ho]; · iexact Ho
      isplitl [G0]
      · iexists _; isplitr; · ipureintro; exact rfl
        iexact G0
      isplitl [G1]
      · iexists _; isplitr; · ipureintro; exact rfl
        iexact G1
      isplitl [G2]
      · iexists _; isplitr; · ipureintro; exact rfl
        iexact G2
      isplitl [G3]
      · iexists _; isplitr; · ipureintro; exact rfl
        iexact G3
      isplitl [G4]
      · iexists _; isplitr; · ipureintro; exact rfl
        iexact G4
      iexists _; isplitr; · ipureintro; exact e10 _ eW
      iexact G5
  · have hdead : ¬ k0_cond1 (grid0.coords t) (at1 (totalT gs) 0) = 1#1 := fun h => hl ((live_iff gs hp (grid0.coords t)).1 h)
    have hpos := cumN_pos (sizes gs) hp
    have h0 : (grid0.coords t 1).val ≠ 0 := by omega
    have he : ex gs ((grid0.coords t 1).val - 1) = ex gs (grid0.coords t 1) := by
      have h := (next_dead (sizes gs) hp ((grid0.coords t 1).val - 1) (by omega)).2.1
      rw [show (grid0.coords t 1).val - 1 + 1 = (grid0.coords t 1).val by omega] at h
      exact h.symm
    have hk := scr_keep gs c B t d hd h0 he
    have e10 : Y 5 = step gs c B (grid0.coords t 1) (grid0.coords t 0).val (Y 5) := by
      unfold step
      rw [if_neg hl]
    iapply (skip_spec (defs₀ (F := F)) fullShare.right (grid0.coords t) c (Memref.whole main_v31) (Memref.isWhole_whole _) (Memref.whole main_v47) (Memref.isWhole_whole _) (Memref.whole main_v2) (Memref.isWhole_whole _) (Memref.whole main_v18) (Memref.isWhole_whole _) (spec0_0.stage ((cfg0 (adm (F := F) gs hp)).slots t 0)) (hstage0_0 (((cfg0 (adm (F := F) gs hp)).slots t 0).cast nbuf0_0)) (spec0_1.stage ((cfg0 (adm (F := F) gs hp)).slots t 1)) (hstage0_1 (((cfg0 (adm (F := F) gs hp)).slots t 1).cast nbuf0_1)) (spec0_2.stage ((cfg0 (adm (F := F) gs hp)).slots t 2)) (hstage0_2 (((cfg0 (adm (F := F) gs hp)).slots t 2).cast nbuf0_2)) (spec0_3.stage ((cfg0 (adm (F := F) gs hp)).slots t 3)) (hstage0_3 (((cfg0 (adm (F := F) gs hp)).slots t 3).cast nbuf0_3)) (spec0_4.stage ((cfg0 (adm (F := F) gs hp)).slots t 4)) (hstage0_4 (((cfg0 (adm (F := F) gs hp)).slots t 4).cast nbuf0_4)) (spec0_5.stage ((cfg0 (adm (F := F) gs hp)).slots t 5)) (hstage0_5 (((cfg0 (adm (F := F) gs hp)).slots t 5).cast nbuf0_5)) (Memref.whole cc0_scratch0) (Memref.isWhole_whole _) (totalT gs) hdead Set.univ _)
    isplitl [T5]; · iexact T5
    iintro T5
    isplitl [Gs Hp T2 T3 T4 T5]
    · isplitl [Gs]
      · iexists _; isplitr
        rotate_left
        · iexact Gs
        · ipureintro; exact hk
      isplitl [Hp]
      · iexact Hp
      iapply (tables gs c).2
      isplitl [T2]; · iexact T2
      isplitl [T3]; · iexact T3
      isplitl [T4]; · iexact T4
      iexact T5
    isplitl [Ho]; · iexact Ho
    isplitl [G0]
    · iexists _; isplitr; · ipureintro; exact rfl
      iexact G0
    isplitl [G1]
    · iexists _; isplitr; · ipureintro; exact rfl
      iexact G1
    isplitl [G2]
    · iexists _; isplitr; · ipureintro; exact rfl
      iexact G2
    isplitl [G3]
    · iexists _; isplitr; · ipureintro; exact rfl
      iexact G3
    isplitl [G4]
    · iexists _; isplitr; · ipureintro; exact rfl
      iexact G4
    iexists _; isplitr; · ipureintro; exact e10
    iexact G5

/-- The pipeline's body obligation. -/
theorem obligation : (rdat gs hp c B).BodyObligation (defs₀ (F := F)) Variants.none () Set.univ := fun t Y hY => by
  rw [bigSep_W0, bigSep_W0, defs₀_row]
  exact triple_restated (body_at gs hp c B t Y hY) rfl .rfl fun _ => .rfl

end Cert.DownIdeal.Body

end
-- ==== Proof.DownIdeal.Host.lean ====
/-
  What the host lines before the kernel leave: the four tables of the schedule, and the scales of the columns reshaped.
-/
module

public import proofs.«01_k».proof.Proof.Gen.DownIdeal.Launch
public import proofs.«01_k».proof.Proof.Tables.Words
public import Idealize.ShloMosaic.Lib.StableHlo.RunClose

@[expose] public section

set_option maxRecDepth 16384

noncomputable section

namespace Cert.DownIdeal.Body

open Idealize.ShloMosaic Idealize.SL.Sem Cert.DownIdeal Cert.DownIdeal.Gen
open Idealize.ShloMosaic.StableHlo
open Cert.Tables Idealize.ShloMosaic.Routing

variable {F : FTy → Type} [FloatOps F]

/-- The host lines before the kernel, in order. -/
def hostLines : List (List (HloOp τ sig (Elt F))) :=
  [hostOps0, hostOps0_1, hostOps0_2, hostOps0_3, hostOps0_4, hostOps0_5, hostOps0_6, hostOps0_7, hostOps0_8, hostOps0_9, hostOps0_10]

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons o l ih => exact ih _

/-! The lines one stretch at a time, over any contents before them. -/

set_option maxHeartbeats 1000000 in
theorem st0_v2 (X : Valuation τ sig (Elt F)) : StableHlo.after (hostOps0 ++ hostOps0_1 ++ hostOps0_2 : List (HloOp τ sig (Elt F))) X (Proc.devRef .tc main_v2) = sums (X (Proc.devRef .tc main_arg1) : IVec (shape1 8) 32) := by
  simp only [after_app]
  after_results_simp
  rfl

set_option maxHeartbeats 1000000 in
theorem st0_v3 (X : Valuation τ sig (Elt F)) : StableHlo.after (hostOps0 ++ hostOps0_1 ++ hostOps0_2 : List (HloOp τ sig (Elt F))) X (Proc.devRef .tc main_v3) = extractStridedSlice (shape1 8) ![0] (sums (X (Proc.devRef .tc main_arg1) : IVec (shape1 8) 32)) sl0 := by
  simp only [after_app]
  after_results_simp
  rfl

set_option maxHeartbeats 1000000 in
theorem st0_c (X : Valuation τ sig (Elt F)) : StableHlo.after (hostOps0 ++ hostOps0_1 ++ hostOps0_2 : List (HloOp τ sig (Elt F))) X (Proc.devRef .tc main_c_0) = constantI shape0 32 256#32 := by
  simp only [after_app]
  after_results_simp

set_option maxHeartbeats 1000000 in
theorem st0_main_arg1 (X : Valuation τ sig (Elt F)) : StableHlo.after (hostOps0 ++ hostOps0_1 ++ hostOps0_2 : List (HloOp τ sig (Elt F))) X (Proc.devRef .tc main_arg1) = X (Proc.devRef .tc main_arg1) := by
  simp only [after_app]
  after_results_simp

set_option maxHeartbeats 1000000 in
theorem st1_v4 (X : Valuation τ sig (Elt F)) : StableHlo.after (hostOps0_3 : List (HloOp τ sig (Elt F))) X (Proc.devRef .tc main_v4) = pyDiv bc_8 (X (Proc.devRef .tc main_v3) : IVec (shape1 8) 32) (X (Proc.devRef .tc main_c_0) : IVec (shape0) 32) := by
  after_results_simp
  rfl

set_option maxHeartbeats 1000000 in
theorem st1_main_arg1 (X : Valuation τ sig (Elt F)) : StableHlo.after (hostOps0_3 : List (HloOp τ sig (Elt F))) X (Proc.devRef .tc main_arg1) = X (Proc.devRef .tc main_arg1) := by
  after_results_simp

set_option maxHeartbeats 1000000 in
theorem st1_main_v2 (X : Valuation τ sig (Elt F)) : StableHlo.after (hostOps0_3 : List (HloOp τ sig (Elt F))) X (Proc.devRef .tc main_v2) = X (Proc.devRef .tc main_v2) := by
  after_results_simp

set_option maxHeartbeats 1000000 in
theorem st2_v6 (X : Valuation τ sig (Elt F)) : StableHlo.after (hostOps0_4 : List (HloOp τ sig (Elt F))) X (Proc.devRef .tc main_v6) = cmpi .sgt (X (Proc.devRef .tc main_arg1) : IVec (shape1 8) 32) (broadcastInDim (shape1 8) ![] bc_8 (constantI shape0 32 0#32)) := by
  after_results_simp

set_option maxHeartbeats 1000000 in
theorem st2_v9 (X : Valuation τ sig (Elt F)) : StableHlo.after (hostOps0_4 : List (HloOp τ sig (Elt F))) X (Proc.devRef .tc main_v9) = subi (extractStridedSlice (shape1 8) ![1] (X (Proc.devRef .tc main_v2) : IVec (shape1 9) 32) sl1) (broadcastInDim (shape1 8) ![] bc_8 (constantI shape0 32 1#32)) := by
  after_results_simp

set_option maxHeartbeats 1000000 in
theorem st2_c (X : Valuation τ sig (Elt F)) : StableHlo.after (hostOps0_4 : List (HloOp τ sig (Elt F))) X (Proc.devRef .tc main_c_3) = constantI shape0 32 256#32 := by
  after_results_simp

set_option maxHeartbeats 1000000 in
theorem st2_main_v4 (X : Valuation τ sig (Elt F)) : StableHlo.after (hostOps0_4 : List (HloOp τ sig (Elt F))) X (Proc.devRef .tc main_v4) = X (Proc.devRef .tc main_v4) := by
  after_results_simp

set_option maxHeartbeats 1000000 in
theorem st3_v10 (X : Valuation τ sig (Elt F)) : StableHlo.after (hostOps0_5 : List (HloOp τ sig (Elt F))) X (Proc.devRef .tc main_v10) = pyDiv bc_8 (X (Proc.devRef .tc main_v9) : IVec (shape1 8) 32) (X (Proc.devRef .tc main_c_3) : IVec (shape0) 32) := by
  after_results_simp
  rfl

set_option maxHeartbeats 1000000 in
theorem st3_main_v4 (X : Valuation τ sig (Elt F)) : StableHlo.after (hostOps0_5 : List (HloOp τ sig (Elt F))) X (Proc.devRef .tc main_v4) = X (Proc.devRef .tc main_v4) := by
  after_results_simp

set_option maxHeartbeats 1000000 in
theorem st3_main_v6 (X : Valuation τ sig (Elt F)) : StableHlo.after (hostOps0_5 : List (HloOp τ sig (Elt F))) X (Proc.devRef .tc main_v6) = X (Proc.devRef .tc main_v6) := by
  after_results_simp

set_option maxHeartbeats 1000000 in
theorem st4_v14 (X : Valuation τ sig (Elt F)) : StableHlo.after (hostOps0_6 ++ hostOps0_7 : List (HloOp τ sig (Elt F))) X (Proc.devRef .tc main_v14) = select (X (Proc.devRef .tc main_v6) : IVec (shape1 8) 1)
      (addi (subi (X (Proc.devRef .tc main_v10) : IVec (shape1 8) 32) (X (Proc.devRef .tc main_v4) : IVec (shape1 8) 32)) (broadcastInDim (shape1 8) ![] bc_8 (constantI shape0 32 1#32)))
      (broadcastInDim (shape1 8) ![] bc_8 (constantI shape0 32 0#32)) := by
  simp only [after_app]
  after_results_simp
  rfl

set_option maxHeartbeats 1000000 in
theorem st4_main_v4 (X : Valuation τ sig (Elt F)) : StableHlo.after (hostOps0_6 ++ hostOps0_7 : List (HloOp τ sig (Elt F))) X (Proc.devRef .tc main_v4) = X (Proc.devRef .tc main_v4) := by
  simp only [after_app]
  after_results_simp

/-- The first line of the last stretch: the visits before each expert. -/
def lineCum : List (HloOp τ sig (Elt F)) := [StableHlo.binary main_v15 main_v16 main_v17 ((fun a b => concatenate S9 0 [⟨S1, a⟩, ⟨S8, b⟩] concatenates_S1_S8_S9_d0) : (⟨S1, .i32⟩ : BufTy).Contents (Elt F) → (⟨S8, .i32⟩ : BufTy).Contents (Elt F) → (⟨S9, .i32⟩ : BufTy).Contents (Elt F))]

/-- The lines of the last stretch up to the table of experts. -/
def linesVe : List (HloOp τ sig (Elt F)) := (hostOps0_10.drop 1).take 16

/-- The rest of the last stretch. -/
def linesVm : List (HloOp τ sig (Elt F)) := hostOps0_10.drop 17

set_option maxHeartbeats 1000000 in
theorem st5_cum (X : Valuation τ sig (Elt F)) : StableHlo.after (hostOps0_8 ++ hostOps0_9 ++ lineCum : List (HloOp τ sig (Elt F))) X (Proc.devRef .tc main_v17) = sums (X (Proc.devRef .tc main_v14) : IVec (shape1 8) 32) := by
  unfold lineCum
  simp only [after_app]
  after_results_simp
  rfl

set_option maxHeartbeats 1000000 in
theorem st5_main_v4 (X : Valuation τ sig (Elt F)) : StableHlo.after (hostOps0_8 ++ hostOps0_9 ++ lineCum : List (HloOp τ sig (Elt F))) X (Proc.devRef .tc main_v4) = X (Proc.devRef .tc main_v4) := by
  unfold lineCum
  simp only [after_app]
  after_results_simp

set_option maxHeartbeats 1000000 in
theorem st6_total (X : Valuation τ sig (Elt F)) : StableHlo.after (linesVe : List (HloOp τ sig (Elt F))) X (Proc.devRef .tc main_v18) = totalOf (X (Proc.devRef .tc main_v17) : IVec (shape1 9) 32) := by
  simp only [linesVe, hostOps0_10, List.drop_succ_cons, List.drop_zero, List.take_succ_cons, List.take_zero]
  after_results_simp
  rfl

set_option maxHeartbeats 1000000 in
theorem st6_vis (X : Valuation τ sig (Elt F)) : StableHlo.after (linesVe : List (HloOp τ sig (Elt F))) X (Proc.devRef .tc main_v23) = visOf (totalOf (X (Proc.devRef .tc main_v17) : IVec (shape1 9) 32)) := by
  simp only [linesVe, hostOps0_10, List.drop_succ_cons, List.drop_zero, List.take_succ_cons, List.take_zero]
  after_results_simp
  rfl

set_option maxHeartbeats 1000000 in
theorem st6_ve (X : Valuation τ sig (Elt F)) : StableHlo.after (linesVe : List (HloOp τ sig (Elt F))) X (Proc.devRef .tc main_v31) = veOf (X (Proc.devRef .tc main_v17) : IVec (shape1 9) 32) (visOf (totalOf (X (Proc.devRef .tc main_v17) : IVec (shape1 9) 32))) := by
  simp only [linesVe, hostOps0_10, List.drop_succ_cons, List.drop_zero, List.take_succ_cons, List.take_zero]
  after_results_simp
  rfl

set_option maxHeartbeats 1000000 in
theorem st6_main_v4 (X : Valuation τ sig (Elt F)) : StableHlo.after (linesVe : List (HloOp τ sig (Elt F))) X (Proc.devRef .tc main_v4) = X (Proc.devRef .tc main_v4) := by
  simp only [linesVe, hostOps0_10, List.drop_succ_cons, List.drop_zero, List.take_succ_cons, List.take_zero]
  after_results_simp

set_option maxHeartbeats 1000000 in
theorem st6_main_v17 (X : Valuation τ sig (Elt F)) : StableHlo.after (linesVe : List (HloOp τ sig (Elt F))) X (Proc.devRef .tc main_v17) = X (Proc.devRef .tc main_v17) := by
  simp only [linesVe, hostOps0_10, List.drop_succ_cons, List.drop_zero, List.take_succ_cons, List.take_zero]
  after_results_simp

set_option maxHeartbeats 1000000 in
theorem st7_vm (X : Valuation τ sig (Elt F)) : StableHlo.after (linesVm : List (HloOp τ sig (Elt F))) X (Proc.devRef .tc main_v47) = vmOf (X (Proc.devRef .tc main_v4) : IVec (shape1 8) 32) (X (Proc.devRef .tc main_v17) : IVec (shape1 9) 32) (X (Proc.devRef .tc main_v23) : IVec (shape1 43) 32) (X (Proc.devRef .tc main_v31) : IVec (shape1 43) 32) := by
  simp only [linesVm, hostOps0_10, List.drop_succ_cons, List.drop_zero, List.take_succ_cons, List.take_zero]
  after_results_simp
  rfl

set_option maxHeartbeats 1000000 in
theorem st7_main_v31 (X : Valuation τ sig (Elt F)) : StableHlo.after (linesVm : List (HloOp τ sig (Elt F))) X (Proc.devRef .tc main_v31) = X (Proc.devRef .tc main_v31) := by
  simp only [linesVm, hostOps0_10, List.drop_succ_cons, List.drop_zero, List.take_succ_cons, List.take_zero]
  after_results_simp

set_option maxHeartbeats 1000000 in
theorem st7_main_v18 (X : Valuation τ sig (Elt F)) : StableHlo.after (linesVm : List (HloOp τ sig (Elt F))) X (Proc.devRef .tc main_v18) = X (Proc.devRef .tc main_v18) := by
  simp only [linesVm, hostOps0_10, List.drop_succ_cons, List.drop_zero, List.take_succ_cons, List.take_zero]
  after_results_simp

theorem lines_eq : (hostLines (F := F)).flatten = ((hostOps0 ++ hostOps0_1 ++ hostOps0_2) ++ (hostOps0_3 ++ (hostOps0_4 ++ (hostOps0_5 ++ ((hostOps0_6 ++ hostOps0_7) ++ ((hostOps0_8 ++ hostOps0_9 ++ lineCum) ++ (linesVe ++ linesVm))))))) := rfl

set_option maxHeartbeats 1000000 in
/-- Table `main_v2`: the rows before each expert. -/
theorem host_off (X : Valuation τ sig (Elt F)) : StableHlo.after (hostLines (F := F)).flatten X (Proc.devRef .tc main_v2) = Cert.Tables.sums (X (Proc.devRef .tc main_arg1)) := by
  simp only [hostLines, List.flatten_cons, List.flatten_nil, List.cons_append, List.nil_append, List.append_nil]
  after_results_simp
  rfl

/-- The contents after the stretches before the tables. -/
def upTo (X : Valuation τ sig (Elt F)) : Valuation τ sig (Elt F) :=
  StableHlo.after (hostOps0_8 ++ hostOps0_9 ++ lineCum) (StableHlo.after (hostOps0_6 ++ hostOps0_7) (StableHlo.after hostOps0_5 (StableHlo.after hostOps0_4
    (StableHlo.after hostOps0_3 (StableHlo.after (hostOps0 ++ hostOps0_1 ++ hostOps0_2) X)))))

theorem upTo_first (X : Valuation τ sig (Elt F)) : upTo X (Proc.devRef .tc main_v4) = firstT (X (Proc.devRef .tc main_arg1)) := by
  unfold upTo
  rw [st5_main_v4, st4_main_v4, st3_main_v4, st2_main_v4, st1_v4, st0_v3, st0_c]
  rfl

theorem upTo_cum (X : Valuation τ sig (Elt F)) : upTo X (Proc.devRef .tc main_v17) = sums (countT (X (Proc.devRef .tc main_arg1))) := by
  unfold upTo
  rw [st5_cum, st4_v14, st3_v10, st3_main_v4, st3_main_v6, st2_main_v4, st2_v9, st2_c, st2_v6, st1_v4, st1_main_v2, st1_main_arg1,
    st0_v3, st0_c, st0_v2, st0_main_arg1]
  rfl

theorem lines_upTo (X : Valuation τ sig (Elt F)) :
    StableHlo.after (hostLines (F := F)).flatten X = StableHlo.after linesVm (StableHlo.after linesVe (upTo X)) := by
  rw [lines_eq, after_app (hostOps0 ++ hostOps0_1 ++ hostOps0_2), after_app hostOps0_3, after_app hostOps0_4, after_app hostOps0_5, after_app (hostOps0_6 ++ hostOps0_7), after_app (hostOps0_8 ++ hostOps0_9 ++ lineCum), after_app linesVe]
  rfl

/-- Table `main_v18`: the number of visits. -/
theorem host_total (X : Valuation τ sig (Elt F)) : StableHlo.after (hostLines (F := F)).flatten X (Proc.devRef .tc main_v18) = Cert.Tables.totalT (X (Proc.devRef .tc main_arg1)) := by
  rw [lines_upTo, st7_main_v18, st6_total, upTo_cum]
  rfl

/-- Table `main_v31`: each visit's expert. -/
theorem host_ve (X : Valuation τ sig (Elt F)) : StableHlo.after (hostLines (F := F)).flatten X (Proc.devRef .tc main_v31) = Cert.Tables.veT (X (Proc.devRef .tc main_arg1)) := by
  rw [lines_upTo, st7_main_v31, st6_ve, upTo_cum]
  rfl

/-- Table `main_v47`: each visit's tile. -/
theorem host_vm (X : Valuation τ sig (Elt F)) : StableHlo.after (hostLines (F := F)).flatten X (Proc.devRef .tc main_v47) = Cert.Tables.vmT (X (Proc.devRef .tc main_arg1)) := by
  rw [lines_upTo, st7_vm, st6_main_v4, st6_main_v17, st6_vis, st6_ve, upTo_cum, upTo_first]
  rfl

set_option maxHeartbeats 2000000 in
theorem host_c2 (X : Valuation τ sig (Elt F)) : StableHlo.after (hostLines (F := F)).flatten X (Proc.devRef .tc main_v48)
    = (shapeCast S8x1x6144 (X (Proc.devRef .tc main_arg5) : Vec F S8x6144 .f32) shapeCasts_S8x6144_S8x1x6144 : Vec F S8x1x6144 .f32) := by
  simp only [hostLines, List.flatten_cons, List.flatten_nil, List.cons_append, List.nil_append, List.append_nil]
  after_results_simp
  rfl

set_option maxHeartbeats 2000000 in
theorem host_arg0 (X : Valuation τ sig (Elt F)) : StableHlo.after (hostLines (F := F)).flatten X (Proc.devRef .tc main_arg0) = X (Proc.devRef .tc main_arg0) := by
  simp only [hostLines, List.flatten_cons, List.flatten_nil, List.cons_append, List.nil_append, List.append_nil]
  after_results_simp

set_option maxHeartbeats 2000000 in
theorem host_arg1 (X : Valuation τ sig (Elt F)) : StableHlo.after (hostLines (F := F)).flatten X (Proc.devRef .tc main_arg1) = X (Proc.devRef .tc main_arg1) := by
  simp only [hostLines, List.flatten_cons, List.flatten_nil, List.cons_append, List.nil_append, List.append_nil]
  after_results_simp

set_option maxHeartbeats 2000000 in
theorem host_arg2 (X : Valuation τ sig (Elt F)) : StableHlo.after (hostLines (F := F)).flatten X (Proc.devRef .tc main_arg2) = X (Proc.devRef .tc main_arg2) := by
  simp only [hostLines, List.flatten_cons, List.flatten_nil, List.cons_append, List.nil_append, List.append_nil]
  after_results_simp

set_option maxHeartbeats 2000000 in
theorem host_arg3 (X : Valuation τ sig (Elt F)) : StableHlo.after (hostLines (F := F)).flatten X (Proc.devRef .tc main_arg3) = X (Proc.devRef .tc main_arg3) := by
  simp only [hostLines, List.flatten_cons, List.flatten_nil, List.cons_append, List.nil_append, List.append_nil]
  after_results_simp

set_option maxHeartbeats 2000000 in
theorem host_arg4 (X : Valuation τ sig (Elt F)) : StableHlo.after (hostLines (F := F)).flatten X (Proc.devRef .tc main_arg4) = X (Proc.devRef .tc main_arg4) := by
  simp only [hostLines, List.flatten_cons, List.flatten_nil, List.cons_append, List.nil_append, List.append_nil]
  after_results_simp

set_option maxHeartbeats 2000000 in
theorem host_arg5 (X : Valuation τ sig (Elt F)) : StableHlo.after (hostLines (F := F)).flatten X (Proc.devRef .tc main_arg5) = X (Proc.devRef .tc main_arg5) := by
  simp only [hostLines, List.flatten_cons, List.flatten_nil, List.cons_append, List.nil_append, List.append_nil]
  after_results_simp

end Cert.DownIdeal.Body

end
-- ==== Proof.DownIdeal.Run.lean ====
/- The launch: every run of the program terminates, leaves its arguments and brings every counter back to zero. -/
module

public import proofs.«01_k».proof.Proof.DownIdeal.Obligation
public import proofs.«01_k».proof.Proof.DownIdeal.Host

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Tables

variable {F : FTy → Type} [FloatOps F]

local notation "𝕄" => MT nD τ sig Unit (Elt F) ℕ (UR sig nD τ) ℕ

/-- The state a run starts from. -/
abbrev start (m : (ℓ : Loc nD τ sig) → Buf (Elt F) ℓ) (ρ : Dev nD → PrngReg) : MemSt nD τ sig (Elt F) := ⟨m, fun _ => 0, ρ⟩

/-- The group sizes in memory. -/
def gsOf (m : (ℓ : Loc nD τ sig) → Buf (Elt F) ℓ) : IVec (⟨1, ![8]⟩ : Shape) 32 := m (((0 : Dev nD).tc : Thread nD τ).loc main_arg1)

/-- The core's buffers after the host lines. -/
def V (m : (ℓ : Loc nD τ sig) → Buf (Elt F) ℓ) (c : Dev nD) : Bufs (F := F) c :=
  fun b => StableHlo.after (hostLines (F := F)).flatten (fun b => m (c, b)) (Proc.devRef .tc b)

variable (m : (ℓ : Loc nD τ sig) → Buf (Elt F) ℓ) (ρ : Dev nD → PrngReg)

theorem tables_at (c : Dev nD) (k : Fin 4) : V m c (pre0.ref k) = tab (F := F) (gsOf m) k := by
  obtain rfl : c = 0 := Subsingleton.elim _ _
  match k with
  | 0 => exact host_ve _
  | 1 => exact host_vm _
  | 2 => exact host_off _
  | 3 => exact host_total _

theorem lines_sub : (hostLines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

set_option maxHeartbeats 4000000 in
theorem lines_fresh : (hostLines (F := F)).Forall fun ops => ops.Forall fun op => op.fresh = ∅ := by
  simp only [hostLines, List.Forall]
  repeat' constructor

theorem main_lines (c : Dev nD) : main (F := F) c = Pipeline.chain ((hostLines (F := F)).map StableHlo.seq ++ [Prog.lift (.customCall (Pipeline.entry 0) ())]) :=
  main_chain c

variable (hp : offN (sizes (gsOf m)) 8 = 9216)

set_option backward.isDefEq.respectTransparency.types false in
/-- Every run of the program terminates; then every array holds what the proof data allow, every other buffer what the
    host lines left there, and every counter is at zero. -/
theorem run : θ_run defs (onTc (τ := τ) (main (F := F))) (start m ρ) (fun r =>
    RDat.FramePost (cfg0 (adm (F := F) (gsOf m) hp)) (fun c => rdat (gsOf m) hp c (V m c)) (V m) r ∧ r.2.sem = fun _ => 0) :=
  RDat.θ_run_frameP_track (Q' := _) pcfgs (fun _ => adm (F := F) (gsOf m) hp) (0 : Fin 1) launch0 defs₀ Variants.none
    (fun c => rdat (gsOf m) hp c (V m c)) m ρ main
    (hbody := fun c => obligation (gsOf m) hp c (V m c))
    (hshare := fun c w => (rdat (gsOf m) hp c (V m c)).share_full (fun _ => rfl) w)
    (howed := fun _ _ => rfl) (V := V m)
    (hmain := Pipeline.hmainP_prefixes pcfgs 0 defs₀ Variants.none m main hostLines lines_sub lines_fresh main_lines)
    (hA := fun _ _ => rfl) (hpf := fun c k => tables_at m c k)
    (hin := fun c => by
      rw [phi_eq]
      unfold Pipeline.ΦA
      rw [show (Pipeline.scopedRest spec0 c : sProp 𝕄) = _ from scopedRest0_eq c]
      simp only [owns_whole]
      iintro ⟨⟨⟨%f, Hs⟩, Hp⟩, HT⟩
      isplitl [Hs]
      · iexists f
        isplitr
        · ipureintro
          intro t ht
          exact absurd ht (by show ¬ t.val + 1 = 0; omega)
        iexact Hs
      isplitl [Hp]
      · iexact Hp
      iexact HT)
    (hout := fun c => by
      rw [phi_eq]
      unfold Pipeline.ΦA
      rw [show (Pipeline.scopedRest spec0 c : sProp 𝕄) = _ from scopedRest0_eq c]
      simp only [owns_whole]
      iintro ⟨⟨%f, -, Hs⟩, Hp, -⟩
      isplitl [Hs]
      · iexists f
        iexact Hs
      iexact Hp)

/-- What the result's array may hold at the end. -/
def OutAt (c : Dev nD) (G : Vec F S9216x6144 .f32) : Prop := (rdat (gsOf m) hp c (V m c)).ArrAt (5 : Fin 6) (cfg0 (adm (F := F) (gsOf m) hp)).N G

section
variable {m hp} {r : PUnit × MemSt nD τ sig (Elt F)}
    (h : RDat.FramePost (cfg0 (adm (F := F) (gsOf m) hp)) (fun c => rdat (gsOf m) hp c (V m c)) (V m) r) (c : Dev nD)
include h

theorem out_of : OutAt m hp c (r.2.mem ((c.tc : Thread nD τ).loc main_v49)) := (h c).1 (5 : Fin 6)

/-- An input's array ends as the host lines left it. -/
theorem in_at (w : Fin 6) (hw : (spec0 w).isOut = false) :
    r.2.mem ((spec0 w).arr.view.loc (c.tc : Thread nD τ)) = V m c (Pipeline.arrRef spec0 w) := by
  have e := (h c).1 w
  rw [RDat.ArrAt_in (rdat (gsOf m) hp c (V m c)) w hw] at e
  exact e

theorem kept_0 : r.2.mem ((c.tc : Thread nD τ).loc main_arg0) = m ((c.tc : Thread nD τ).loc main_arg0) :=
  (in_at h c 1 rfl).trans (host_arg0 _)
theorem kept_1 : r.2.mem ((c.tc : Thread nD τ).loc main_arg1) = m ((c.tc : Thread nD τ).loc main_arg1) :=
  ((h c).2 main_arg1 (Pipeline.mem_restRefs_of main_arg1 (by decide) (show ∀ w : Fin 6, (spec0 w).arr.view.ref ≠ main_arg1 by decide))).trans (host_arg1 _)
theorem kept_2 : r.2.mem ((c.tc : Thread nD τ).loc main_arg2) = m ((c.tc : Thread nD τ).loc main_arg2) :=
  (in_at h c 0 rfl).trans (host_arg2 _)
theorem kept_3 : r.2.mem ((c.tc : Thread nD τ).loc main_arg3) = m ((c.tc : Thread nD τ).loc main_arg3) :=
  (in_at h c 2 rfl).trans (host_arg3 _)
theorem kept_4 : r.2.mem ((c.tc : Thread nD τ).loc main_arg4) = m ((c.tc : Thread nD τ).loc main_arg4) :=
  (in_at h c 3 rfl).trans (host_arg4 _)
theorem kept_5 : r.2.mem ((c.tc : Thread nD τ).loc main_arg5) = m ((c.tc : Thread nD τ).loc main_arg5) :=
  ((h c).2 main_arg5 (Pipeline.mem_restRefs_of main_arg5 (by decide) (show ∀ w : Fin 6, (spec0 w).arr.view.ref ≠ main_arg5 by decide))).trans (host_arg5 _)

end

/-- The result and the arguments at the end of every run. -/
theorem run_ends : θ_run defs (onTc (τ := τ) (main (F := F))) (start m ρ) (fun r => (∀ c : Dev nD,
      OutAt m hp c (r.2.mem ((c.tc : Thread nD τ).loc main_v49))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨out_of h.1 c, kept_0 h.1 c,
    kept_1 h.1 c,
    kept_2 h.1 c,
    kept_3 h.1 c,
    kept_4 h.1 c,
    kept_5 h.1 c⟩, h.2⟩) (run m ρ hp)

end Cert.DownIdeal.Body

end
-- ==== Proof.Value.DownSpec.lean ====
module

public import proofs.«01_k».proof.Proof.Value.Spec

/-!
The result of the second call over the extended reals: in row `r`, the rescaled product of the expert to which `r` belongs. The codes, the
choice by rows and the order of the experts are those of Value/Spec.lean.
-/

@[expose] public section
set_option maxRecDepth 16384

noncomputable section

namespace Cert.Val.Down

open Idealize.ShloMosaic

/-- One entry of the product of a row of `x` with an expert's dequantised weight. -/
def acc (x : (⟨2, ![9216, 4096]⟩ : Shape).Idx → EReal) (w : (⟨3, ![8, 2048, 6144]⟩ : Shape).Idx → BitVec 8)
    (s : (⟨3, ![8, 32, 6144]⟩ : Shape).Idx → EReal) (e : Fin 8) (r : Fin 9216) (q : Fin 6144) : EReal :=
  (∑ j : Fin 2048, x (ix2 r ⟨2 * j.val, by omega⟩) * (num (lo (w (ix3 e j q))) * s (ix3 e ⟨j.val / 64, by omega⟩ q)))
    + ∑ j : Fin 2048, x (ix2 r ⟨2 * j.val + 1, by omega⟩) * (num (hi (w (ix3 e j q))) * s (ix3 e ⟨j.val / 64, by omega⟩ q))

/-- The arguments of the two programs, as numbers. -/
structure Args where
  x : (⟨2, ![9216, 4096]⟩ : Shape).Idx → EReal
  a : (⟨1, ![8]⟩ : Shape).Idx → EReal
  w : (⟨3, ![8, 2048, 6144]⟩ : Shape).Idx → BitVec 8
  s : (⟨3, ![8, 32, 6144]⟩ : Shape).Idx → EReal
  c : (⟨2, ![8, 6144]⟩ : Shape).Idx → EReal

variable (A : Args)

/-- One expert's output in row `r`, column `q`. -/
def h (e : Fin 8) (r : Fin 9216) (q : Fin 6144) : EReal := acc A.x A.w A.s e r q * A.c (ix2 e q) * A.a (ix1 e)

/-- The whole result. -/
def G (off : Nat → Nat) (r : Fin 9216) (q : Fin 6144) : EReal := upto off (fun e => h A (Fin.ofNat 8 e) r q) r.val 8

/-- A sum over the 4096 rows of the unpacked weight, low codes first and high codes second. -/
theorem sum_halves (f : Fin 4096 → EReal) :
    ∑ k : Fin 4096, f k = (∑ j : Fin 2048, f ⟨2 * j.val, by omega⟩) + ∑ j : Fin 2048, f ⟨2 * j.val + 1, by omega⟩ := by
  rw [← Finset.sum_add_distrib, ← Equiv.sum_comp (finProdFinEquiv (m := 2048) (n := 2)) f, Fintype.sum_prod_type]
  refine Finset.sum_congr rfl fun j _ => ?_
  rw [Fin.sum_univ_two]
  refine congr (congrArg _ (congrArg f (Fin.ext ?_))) (congrArg f (Fin.ext ?_))
  · show (0 : Nat) + 2 * j.val = 2 * j.val
    omega
  · show (1 : Nat) + 2 * j.val = 2 * j.val + 1
    omega

end Cert.Val.Down
end
-- ==== Proof.DownIdeal.Block.lean ====
/- The block a visit computes, read at an index over the extended reals. -/
module

public import proofs.«01_k».proof.Proof.DownIdeal.Obligation
public import proofs.«01_k».proof.Proof.Value.DownSpec

@[expose] public section

set_option maxRecDepth 16384

noncomputable section

namespace Cert.DownIdeal.Body

open Cert.DownIdeal Cert.DownIdeal.Gen Idealize.ShloMosaic
open Cert.Tables

/-- The shift of row `i` of a slab: 28 in even rows, 24 in odd rows. -/
theorem shift_word : ∀ i : Fin 128, IntOp.subi 28#32 (IntOp.muli 4#32 (IntOp.andi (BitVec.ofNat 32 i.val) 1#32)) =
    if i.val % 2 = 0 then 28#32 else 24#32 := by decide +kernel

theorem nib_apply (g : Fin 32) (P : IVec S2048x512 8) (i : Fin 128) (c : Fin 512) :
    nib g P (ix2 i c) = if i.val % 2 = 0 then Val.lo (P (ix2 ⟨64 * g.val + i.val / 2, by omega⟩ c)) else Val.hi (P (ix2 ⟨64 * g.val + i.val / 2, by omega⟩ c)) := by
  have key : nib g P (ix2 i c) = IntOp.shrsi .vector (IntOp.shli .vector ((P (ix2 ⟨64 * g.val + i.val / 2, by omega⟩ c)).signExtend 32)
      (IntOp.subi 28#32 (IntOp.muli 4#32 (IntOp.andi (BitVec.ofNat 32 i.val) 1#32)))) 28#32 := by
    pointwise [nib]
  rw [key, shift_word]
  split
  · rfl
  · exact Val.hi_eq _

theorem slab_apply (g : Fin 32) (P : IVec S2048x512 8) (S : FVec Ideal S32x512 .fp8e4m3) (i : Fin 128) (c : Fin 512) :
    (slab g P S (ix2 i c) : EReal) = Val.num (nib g P (ix2 i c)) * (S (ix2 g c) : EReal) := by
  pointwise [slab, Val.num]

theorem wscr_apply (P : IVec S2048x512 8) (S : FVec Ideal S32x512 .fp8e4m3) (k : Fin 4096) (c : Fin 512) :
    wscr P S (ix2 k c) = slab ⟨k.val / 128, by omega⟩ P S (ix2 ⟨k.val % 128, by omega⟩ c) := by
  unfold wscr
  refine congrArg (slab _ P S) (funext fun a => ?_)
  match a with
  | ⟨0, _⟩ => rfl
  | ⟨1, _⟩ => rfl

/-- The sum over the rows of a column of slabs, low codes first and high codes second. -/
theorem slab_sum (P : IVec S2048x512 8) (S : FVec Ideal S32x512 .fp8e4m3) (f : Fin 4096 → EReal) (c : Fin 512) :
    (∑ k : Fin 4096, f k * (slab ⟨k.val / 128, by omega⟩ P S (ix2 ⟨k.val % 128, by omega⟩ c) : EReal)) =
      (∑ j : Fin 2048, f ⟨2 * j.val, by omega⟩ * (Val.num (Val.lo (P (ix2 j c))) * (S (ix2 ⟨j.val / 64, by omega⟩ c) : EReal)))
        + ∑ j : Fin 2048, f ⟨2 * j.val + 1, by omega⟩ * (Val.num (Val.hi (P (ix2 j c))) * (S (ix2 ⟨j.val / 64, by omega⟩ c) : EReal)) := by
  rw [Val.Down.sum_halves]
  refine congr (congrArg _ (Finset.sum_congr rfl fun j _ => ?_)) (Finset.sum_congr rfl fun j _ => ?_)
  · rw [slab_apply, nib_apply, if_pos (show (2 * j.val) % 128 % 2 = 0 by omega)]
    have e1 : (⟨64 * ((2 * j.val) / 128) + (2 * j.val) % 128 / 2, by omega⟩ : Fin 2048) = j := Fin.ext (by show 64 * ((2 * j.val) / 128) + (2 * j.val) % 128 / 2 = j.val; omega)
    have e2 : (⟨(2 * j.val) / 128, by omega⟩ : Fin 32) = ⟨j.val / 64, by omega⟩ := Fin.ext (by show (2 * j.val) / 128 = j.val / 64; omega)
    rw [e1, e2]
  · rw [slab_apply, nib_apply, if_neg (show ¬(2 * j.val + 1) % 128 % 2 = 0 by omega)]
    have e1 : (⟨64 * ((2 * j.val + 1) / 128) + (2 * j.val + 1) % 128 / 2, by omega⟩ : Fin 2048) = j := Fin.ext (by show 64 * ((2 * j.val + 1) / 128) + (2 * j.val + 1) % 128 / 2 = j.val; omega)
    have e2 : (⟨(2 * j.val + 1) / 128, by omega⟩ : Fin 32) = ⟨j.val / 64, by omega⟩ := Fin.ext (by show (2 * j.val + 1) / 128 = j.val / 64; omega)
    rw [e1, e2]

theorem pay59_apply (x : Vec Ideal S256x4096 .fp8e4m3) (W : Vec Ideal S4096x512 .bf16) (c2 : Vec Ideal S1x1x512 .f32) (a : Elt Ideal .f32)
    (r : Fin 256) (c : Fin 512) :
    (k0_pay59 x W c2 a (ix2 r c) : EReal) = (∑ k : Fin 4096, (x (ix2 r k) : EReal) * (W (ix2 k c) : EReal)) * (c2 (ix3 0 0 c) : EReal) * (a : EReal) := by
  pointwise [k0_pay59]

theorem pay1_apply (k : IVec S256x1 1) (g : FVec Ideal S256x512 .f32) (Y : Vec Ideal S256x512 .f32) (r : Fin 256) (c : Fin 512) :
    (k0_pay1 g (k0_pay60 Y) k (ix2 r c) : EReal) = Scalar.select (k (ix2 r 0)) (g (ix2 r c) : EReal) (Y (ix2 r c) : EReal) := by
  pointwise [k0_pay1, k0_pay60]

theorem mask_apply {m a b : ℕ} (hm : m < 36) (ha : a ≤ 9216) (hb : b ≤ 9216) (r : Fin 256) {α : Type} (x y : α) :
    Scalar.select (k0_pay61 (F := Ideal) (BitVec.ofNat 32 m) (BitVec.ofNat 32 a) (BitVec.ofNat 32 b) (ix2 r 0)) x y =
      if a ≤ 256 * m + r.val ∧ 256 * m + r.val < b then x else y := by
  have e : k0_pay61 (F := Ideal) (BitVec.ofNat 32 m) (BitVec.ofNat 32 a) (BitVec.ofNat 32 b) (ix2 r 0) =
      IntOp.andi (IntOp.cmpi .sge (BitVec.ofNat 32 (256 * m + r.val)) (BitVec.ofNat 32 a)) (IntOp.cmpi .slt (BitVec.ofNat 32 (256 * m + r.val)) (BitVec.ofNat 32 b)) := by
    have w : BitVec.ofNat 32 (256 * m + r.val) = IntOp.addi (BitVec.ofNat 32 r.val) (IntOp.muli (BitVec.ofNat 32 m) 256#32) := by
      show _ = BitVec.ofNat 32 r.val + BitVec.ofNat 32 m * BitVec.ofNat 32 256
      rw [← BitVec.ofNat_mul, ← BitVec.ofNat_add]
      congr 1
      omega
    rw [w]
    pointwise [k0_pay61]
    rfl
  rw [e]
  exact Val.select_rows (by omega) (by omega) (by omega) x y

/-- Row `r` of tile `m` and column `q` of column block `n`. -/
abbrev row (m r : ℕ) : Fin 9216 := Fin.ofNat 9216 (m * 256 + r)
abbrev col (n q : ℕ) : Fin 6144 := Fin.ofNat 6144 (n * 512 + q)

theorem xB_apply (x : Vec Ideal S9216x4096 .fp8e4m3) (m : ℕ) (r : Fin 256) (k : Fin 4096) : xB x m (ix2 r k) = x (ix2 (row m r.val) k) := by
  refine congrArg x (funext fun a => ?_)
  match a with
  | ⟨0, _⟩ => rfl
  | ⟨1, _⟩ => rfl

theorem wB_apply (w : Vec Ideal S8x2048x6144 .i8) (e n : ℕ) (j : Fin 2048) (q : Fin 512) :
    k0_pay2 (F := Ideal) (wB w e n) (ix2 j q) = w (ix3 (Fin.ofNat 8 e) j (col n q.val)) := by
  have e1 : k0_pay2 (F := Ideal) (wB w e n) (ix2 j q) = wB w e n (ix3 0 j q) := by pointwise [k0_pay2]
  rw [e1]
  refine congrArg w (funext fun a => ?_)
  match a with
  | ⟨0, _⟩ => rfl
  | ⟨1, _⟩ => rfl
  | ⟨2, _⟩ => rfl

theorem sB_apply (s : Vec Ideal S8x32x6144 .fp8e4m3) (e n : ℕ) (j : Fin 32) (q : Fin 512) :
    k0_pay3 (sB s e n) (ix2 j q) = s (ix3 (Fin.ofNat 8 e) j (col n q.val)) := by
  have e1 : k0_pay3 (sB s e n) (ix2 j q) = sB s e n (ix3 0 j q) := by pointwise [k0_pay3]
  rw [e1]
  refine congrArg s (funext fun a => ?_)
  match a with
  | ⟨0, _⟩ => rfl
  | ⟨1, _⟩ => rfl
  | ⟨2, _⟩ => rfl

theorem cB_apply (s : Vec Ideal S8x1x6144 .f32) (e n : ℕ) (q : Fin 512) : cB s e n (ix3 0 0 q) = s (ix3 (Fin.ofNat 8 e) 0 (col n q.val)) := by
  refine congrArg s (funext fun a => ?_)
  match a with
  | ⟨0, _⟩ => rfl
  | ⟨1, _⟩ => rfl
  | ⟨2, _⟩ => rfl

section
variable (gs : IVec (⟨1, ![8]⟩ : Shape) 32) (hp : offN (sizes gs) 8 = 9216) (c : Dev nD) (B : Bufs (F := Ideal) c)

/-- The arrays the kernel reads, as numbers. -/
def argsB : Val.Down.Args where
  x := (B main_arg0 : Vec Ideal S9216x4096 .fp8e4m3)
  a := (B main_arg2 : Vec Ideal S8 .f32)
  w := (B main_arg3 : Vec Ideal S8x2048x6144 .i8)
  s := (B main_arg4 : Vec Ideal S8x32x6144 .fp8e4m3)
  c := fun j => (B main_v48 : Vec Ideal S8x1x6144 .f32) (ix3 (j 0) 0 (j 1))

theorem acc_sum (m e n : ℕ) (r : Fin 256) (q : Fin 512) :
    (∑ k : Fin 4096, (xB (B main_arg0) m (ix2 r k) : EReal) * (scrW c B e n (ix2 k q) : EReal)) =
      Val.Down.acc (argsB c B).x (argsB c B).w (argsB c B).s (Fin.ofNat 8 e) (row m r.val) (col n q.val) := by
  unfold scrW
  simp only [wscr_apply]
  rw [slab_sum _ _ (fun k => (xB (B main_arg0) m (ix2 r k) : EReal))]
  simp only [xB_apply, wB_apply, sB_apply]
  rfl

include hp in
theorem vm_at (v : Fin 43) : at1 (vmT gs) v = BitVec.ofNat 32 (tl gs v.val) := by
  rw [at1_eq]; exact vm_entry gs hp v

theorem off_at (k : Fin 9) : at1 (sums gs) k = BitVec.ofNat 32 (offN (sizes gs) k.val) := by
  rw [at1_eq]; exact off_ap gs (sizes gs) (sizes_ap gs) k

theorem word_at {α : Type} (x : S8.Idx → α) (k : Fin 8) : at1 x k = x (ix1 k) := by
  rw [at1_eq]
  refine congrArg x (funext fun a => ?_)
  match a with
  | ⟨0, _⟩ => rfl

include hp in
/-- A visit gives the rows of its expert their activation and leaves the others. -/
theorem step_apply (v : Fin 43) (n : ℕ) (Y : Vec Ideal S256x512 .f32) (r : Fin 256) (q : Fin 512) :
    (step gs c B v n Y (ix2 r q) : EReal) =
      if v.val < cumN (sizes gs) 8 ∧ offN (sizes gs) (ex gs v.val) ≤ 256 * tl gs v.val + r.val ∧ 256 * tl gs v.val + r.val < offN (sizes gs) (ex gs v.val + 1) then
        Val.Down.h (argsB c B) (Fin.ofNat 8 (ex gs v.val)) (row (tl gs v.val) r.val) (col n q.val)
      else (Y (ix2 r q) : EReal) := by
  have he := ex_lt gs hp v
  have hm := tl_lt gs hp v
  have hle : ∀ k, k ≤ 8 → offN (sizes gs) k ≤ 9216 := fun k hk => hp ▸ offN_mono (sizes gs) hk
  unfold step
  by_cases hv : v.val < cumN (sizes gs) 8
  · rw [if_pos hv]
    have e1 : (Fin.ofNat 8 (ex gs v.val)).castSucc.val = ex gs v.val := Nat.mod_eq_of_lt he
    have e2 : (Fin.ofNat 8 (ex gs v.val)).succ.val = ex gs v.val + 1 := congrArg (· + 1) (Nat.mod_eq_of_lt he)
    unfold outBlk
    rw [pay1_apply, vm_at gs hp, off_at, off_at, e1, e2, mask_apply hm (hle _ (by omega)) (hle _ (by omega)), pay59_apply, acc_sum, cB_apply, word_at]
    simp only [hv, true_and]
    rfl
  · rw [if_neg hv, if_neg (fun h => hv h.1)]
end

end Cert.DownIdeal.Body
end
-- ==== Proof.DownIdeal.Good.lean ====
/- The result's array over the reals. Within a tile the rows of the output block become right in the order of the
   experts: after a visit every row before the end of the visit's expert is right. The last visit of a tile ends with
   an expert that reaches the tile's end, so every block written back is right, and the blocks cover the array. -/
module

public import proofs.«01_k».proof.Proof.DownIdeal.Block
public import proofs.«01_k».proof.Proof.DownIdeal.Run
public import Idealize.ShloMosaic.Lib.Pipeline.ArrRel
public import Idealize.ShloMosaic.Lib.Pipeline.ValueKit

@[expose] public section

set_option maxRecDepth 16384

noncomputable section

namespace Cert.DownIdeal.Body

open Cert.DownIdeal Cert.DownIdeal.Gen
open Idealize.ShloMosaic Idealize.ShloMosaic.TcCoe
open Idealize.SL.Sem
open Idealize.ShloMosaic.Pipeline (RDat Cfg Window Dat)
open Cert.Tables

variable (gs : IVec (⟨1, ![8]⟩ : Shape) 32) (hp : offN (sizes gs) 8 = 9216) (c : Dev nD) (B : Bufs (F := Ideal) c)

/-- The output's window. -/
abbrev win5 := (cfg0 (adm (F := Ideal) gs hp)).win (5 : Fin 6)

theorem index5 (t : Fin grid0.N) : (win5 gs hp).index t = ![tl gs (grid0.coords t 1).val, (grid0.coords t 0).val] := ixO gs hp (grid0.coords t)

theorem flush5 (t : Fin grid0.N) : (win5 gs hp).flush t = true ↔
    t.val + 1 = grid0.N ∨ ∃ h : t.val + 1 < grid0.N, (win5 gs hp).index ⟨t.val + 1, h⟩ ≠ (win5 gs hp).index t := by
  unfold Window.flush
  rw [show (win5 gs hp).isOut = true from rfl]
  simp only [Bool.true_and, Bool.or_eq_true, decide_eq_true_eq]

/-- A block that the next point goes on with is not written back. -/
theorem noflush (p t : Fin grid0.N) (hpt : t.val = p.val + 1) (h1 : tl gs (grid0.coords t 1).val = tl gs (grid0.coords p 1).val)
    (h0 : (grid0.coords t 0).val = (grid0.coords p 0).val) : ¬ (win5 gs hp).flush p = true := by
  rw [flush5]
  have ht := t.isLt
  rintro (h | ⟨h, hne⟩)
  · omega
  · refine hne ?_
    have e : (⟨p.val + 1, h⟩ : Fin grid0.N) = t := Fin.ext hpt.symm
    rw [e, index5, index5, h1, h0]

/-- A point whose block is written back is the tile's last visit. -/
theorem last_of_flush (t : Fin grid0.N) (hf : (win5 gs hp).flush t = true) :
    (grid0.coords t 1).val = 42 ∨ tl gs ((grid0.coords t 1).val + 1) ≠ tl gs (grid0.coords t 1).val := by
  by_contra hc
  rw [not_or, not_not] at hc
  obtain ⟨h42, hsame⟩ := hc
  have hN := N_0
  have ht := t.isLt
  rw [coord_one] at h42
  have hlt : t.val + 1 < grid0.N := by omega
  have e1 : (grid0.coords ⟨t.val + 1, hlt⟩ 1).val = (grid0.coords t 1).val + 1 := by
    rw [coord_one, coord_one]
    show (t.val + 1) % 43 = _
    omega
  have e0 : (grid0.coords ⟨t.val + 1, hlt⟩ 0).val = (grid0.coords t 0).val := by
    rw [coord_zero, coord_zero]
    show (t.val + 1) / 43 = _
    omega
  exact noflush gs hp t ⟨t.val + 1, hlt⟩ rfl (by rw [e1]; exact hsame) e0 hf

/-- The last visit of a tile is written back. -/
theorem flush_of_last (t : Fin grid0.N)
    (hl : (grid0.coords t 1).val = 42 ∨ tl gs ((grid0.coords t 1).val + 1) ≠ tl gs (grid0.coords t 1).val) : (win5 gs hp).flush t = true := by
  rw [flush5]
  have hN := N_0
  have ht := t.isLt
  by_cases hlt : t.val + 1 < grid0.N
  · refine Or.inr ⟨hlt, fun he => ?_⟩
    rw [index5, index5] at he
    have h0 : tl gs (grid0.coords ⟨t.val + 1, hlt⟩ 1).val = tl gs (grid0.coords t 1).val := congrFun he 0
    have h1 : (grid0.coords ⟨t.val + 1, hlt⟩ 0).val = (grid0.coords t 0).val := congrFun he 1
    have e0 : (grid0.coords ⟨t.val + 1, hlt⟩ 0).val = (t.val + 1) / 43 := coord_zero _
    have e1 : (grid0.coords ⟨t.val + 1, hlt⟩ 1).val = (t.val + 1) % 43 := coord_one _
    rw [e0, coord_zero] at h1
    rw [e1] at h0
    rw [coord_one] at hl h0
    rcases hl with hl | hl
    · omega
    · refine hl ?_
      rw [show t.val % 43 + 1 = (t.val + 1) % 43 by omega]
      exact h0
  · exact Or.inl (by omega)

/-- The whole result. -/
abbrev res (r : Fin 9216) (q : Fin 6144) : EReal := Val.Down.G (argsB c B) (offN (sizes gs)) r q

include hp in
/-- A row of an expert has that expert's activation. -/
theorem res_of {e m : ℕ} (he : e < 8) (hm : m < 36) (r : Fin 256) (q : Fin 6144) (h0 : offN (sizes gs) e ≤ 256 * m + r.val)
    (h1 : 256 * m + r.val < offN (sizes gs) (e + 1)) : res gs c B (row m r.val) q = Val.Down.h (argsB c B) (Fin.ofNat 8 e) (row m r.val) q := by
  have er : (row m r.val).val = 256 * m + r.val := by
    have := r.isLt
    show (m * 256 + r.val) % 9216 = _
    omega
  unfold res Val.Down.G
  exact Val.upto_eq (fun a b hab => offN_mono (sizes gs) hab) _ he (by rw [er]; exact h0) (by rw [er]; exact h1)

/-- Every row of the block before the end of the visit's expert is right. -/
def good (t : Fin grid0.N) (X : Vec Ideal S256x512 .f32) : Prop := ∀ (r : Fin 256) (q : Fin 512),
  256 * tl gs (grid0.coords t 1).val + r.val < offN (sizes gs) (ex gs (grid0.coords t 1).val + 1) →
    (X (ix2 r q) : EReal) = res gs c B (row (tl gs (grid0.coords t 1).val) r.val) (col (grid0.coords t 0).val q.val)

/-- What the output block may hold after a visit is right before the end of the visit's expert. -/
theorem leaves_good (k : ℕ) : ∀ (t : Fin grid0.N), t.val = k → ∀ X : Vec Ideal S256x512 .f32,
    (rdat gs hp c B).Leaves (5 : Fin 6) t X → good gs c B t X := by
  induction k with
  | zero =>
    rintro t ht X ⟨Y, -, hX⟩ r q hr
    have hX' : X = step gs c B (grid0.coords t 1) (grid0.coords t 0).val Y := hX
    have hv : (grid0.coords t 1).val = 0 := by rw [coord_one, ht]
    have hf := (first_tile (sizes gs) hp).1
    have hc := cumN_pos (sizes gs) hp
    have h0 : offN (sizes gs) (ex gs (grid0.coords t 1).val) = 0 := by rw [hv]; exact hf
    rw [hX']
    refine (step_apply gs hp c B (grid0.coords t 1) (grid0.coords t 0).val Y r q).trans ?_
    rw [if_pos ⟨by omega, by omega, hr⟩]
    exact (res_of gs hp c B (ex_lt gs hp _) (tl_lt gs hp _) r _ (by omega) hr).symm
  | succ k ih =>
    rintro t ht X ⟨Y, hY, hX⟩ r q hr
    have hX' : X = step gs c B (grid0.coords t 1) (grid0.coords t 0).val Y := hX
    have hN := N_0
    have htN := t.isLt
    rw [hX']
    refine (step_apply gs hp c B (grid0.coords t 1) (grid0.coords t 0).val Y r q).trans ?_
    by_cases hcond : (grid0.coords t 1).val < cumN (sizes gs) 8 ∧ offN (sizes gs) (ex gs (grid0.coords t 1).val) ≤ 256 * tl gs (grid0.coords t 1).val + r.val
    · rw [if_pos ⟨hcond.1, hcond.2, hr⟩]
      exact (res_of gs hp c B (ex_lt gs hp _) (tl_lt gs hp _) r _ hcond.2 hr).symm
    · rw [if_neg (fun h => hcond ⟨h.1, h.2.1⟩)]
      by_cases hv : (grid0.coords t 1).val = 0
      · have hf := (first_tile (sizes gs) hp).1
        have hc := cumN_pos (sizes gs) hp
        have h0 : offN (sizes gs) (ex gs (grid0.coords t 1).val) = 0 := by rw [hv]; exact hf
        exact absurd ⟨by omega, by omega⟩ hcond
      · obtain ⟨u, hu⟩ : ∃ u, (grid0.coords t 1).val = u + 1 := ⟨(grid0.coords t 1).val - 1, by omega⟩
        have hp' : k < grid0.N := by omega
        have c1 : (grid0.coords ⟨k, hp'⟩ 1).val = u := by
          have a := coord_one ⟨k, hp'⟩
          have b := coord_one t
          have : (⟨k, hp'⟩ : Fin grid0.N).val = k := rfl
          omega
        have c0 : (grid0.coords t 0).val = (grid0.coords ⟨k, hp'⟩ 0).val := by
          have a := coord_zero ⟨k, hp'⟩
          have b := coord_zero t
          have d := coord_one t
          have : (⟨k, hp'⟩ : Fin grid0.N).val = k := rfl
          omega
        rw [hu] at hcond hr ⊢
        by_cases hm : tl gs (u + 1) = tl gs u
        · have hnf := noflush gs hp ⟨k, hp'⟩ t ht (by rw [hu, c1]; exact hm) c0
          have hpos := ((rdat gs hp c B).finds_of_pos (w := (5 : Fin 6)) (t := t) ((win5 gs hp).fetch_out rfl t) (by omega) Y).mp hY
          have ek : (⟨t.val - 1, Nat.lt_of_le_of_lt (Nat.sub_le _ _) t.isLt⟩ : Fin grid0.N) = ⟨k, hp'⟩ := Fin.ext (by show t.val - 1 = k; omega)
          have hL : (rdat gs hp c B).Leaves (5 : Fin 6) ⟨k, hp'⟩ Y := by
            rcases hpos with h | h
            · exact absurd (ek ▸ h) hnf
            · exact ek ▸ h
          have hg := ih ⟨k, hp'⟩ rfl Y hL r q
          rw [c1] at hg
          rw [c0, hm]
          refine hg ?_
          rw [hm] at hcond hr
          rcases Nat.lt_or_ge (u + 1) (cumN (sizes gs) 8) with hl | hd
          · have hs : offN (sizes gs) (ex gs (u + 1)) ≤ offN (sizes gs) (ex gs u + 1) := same_tile (sizes gs) hp u hm
            have : ¬ offN (sizes gs) (ex gs (u + 1)) ≤ 256 * tl gs u + r.val := fun h => hcond ⟨hl, h⟩
            omega
          · have he : ex gs (u + 1) = ex gs u := (next_dead (sizes gs) hp u hd).2.1
            rw [← he]; exact hr
        · have hn : offN (sizes gs) (ex gs (u + 1)) ≤ 256 * tl gs (u + 1) := new_tile (sizes gs) hp u hm
          refine absurd ⟨?_, by omega⟩ hcond
          by_contra hd
          exact hm (next_dead (sizes gs) hp u (by omega)).2.2

/-- A block written back is right throughout. -/
theorem flushed_good (t : Fin grid0.N) (hf : (win5 gs hp).flush t = true) (X : Vec Ideal S256x512 .f32)
    (hX : (rdat gs hp c B).Leaves (5 : Fin 6) t X) (r : Fin 256) (q : Fin 512) :
    (X (ix2 r q) : EReal) = res gs c B (row (tl gs (grid0.coords t 1).val) r.val) (col (grid0.coords t 0).val q.val) := by
  refine leaves_good gs hp c B t.val t rfl X hX r q ?_
  have hr := r.isLt
  rcases last_of_flush gs hp t hf with h | h
  · have hl := last_visit (sizes gs) hp
    have h1 : offN (sizes gs) (ex gs (grid0.coords t 1).val + 1) = 9216 := by rw [h]; exact hl.1
    have h2 : tl gs (grid0.coords t 1).val = 35 := by rw [h]; exact hl.2
    omega
  · have he : 256 * (tl gs (grid0.coords t 1).val + 1) ≤ offN (sizes gs) (ex gs (grid0.coords t 1).val + 1) := end_tile (sizes gs) hp _ h
    omega

/-- The result as an array. -/
def resA : Vec Ideal S9216x6144 .f32 := fun i => res gs c B (i 0) (i 1)

/-- Where an element of a block lies in the array. -/
theorem emb5 (t : Fin grid0.N) (y : S256x512.Idx) :
    ((win5 gs hp).blk t).view.emb y = (ix2 (row (tl gs (grid0.coords t 1).val) (y 0).val) (col (grid0.coords t 0).val (y 1).val) : S9216x6144.Idx) := by
  have e := ixO (F := Ideal) gs hp (grid0.coords t)
  have hm := tl_lt gs hp (grid0.coords t 1)
  funext a
  match a with
  | ⟨0, _⟩ =>
    apply Fin.ext
    have hy : (y 0).val < 256 := (y 0).isLt
    show cc0_transform_5 k0_off1_inb numel1_S1 (tab (F := Ideal) gs) (grid0.coords t) 0 * 256 + 1 * (y 0).val = (tl gs (grid0.coords t 1).val * 256 + (y 0).val) % 9216
    rw [e]
    show tl gs (grid0.coords t 1).val * 256 + 1 * (y 0).val = _
    omega
  | ⟨1, _⟩ =>
    apply Fin.ext
    have hy : (y 1).val < 512 := (y 1).isLt
    have hn : (grid0.coords t 0).val < 12 := (grid0.coords t 0).isLt
    show cc0_transform_5 k0_off1_inb numel1_S1 (tab (F := Ideal) gs) (grid0.coords t) 1 * 512 + 1 * (y 1).val = ((grid0.coords t 0).val * 512 + (y 1).val) % 6144
    rw [e]
    show (grid0.coords t 0).val * 512 + 1 * (y 1).val = _
    omega

/-- Every element of the array lies in a block that is written back. -/
theorem covered5 (i : S9216x6144.Idx) : ∃ t : Fin grid0.N, (win5 gs hp).flush t = true ∧ i ∈ ((win5 gs hp).blk t).view.set := by
  have hi0 : (i 0).val < 9216 := (i 0).isLt
  have hi1 : (i 1).val < 6144 := (i 1).isLt
  have hN := N_0
  obtain ⟨v, hv, hm, hl⟩ := exists_last (sizes gs) hp ((i 0).val / 256) (by omega)
  obtain ⟨t, ht⟩ : ∃ t : Fin grid0.N, t.val = (i 1).val / 512 * 43 + v := ⟨⟨(i 1).val / 512 * 43 + v, by omega⟩, rfl⟩
  have c1 : (grid0.coords t 1).val = v := by rw [coord_one, ht]; omega
  have c0 : (grid0.coords t 0).val = (i 1).val / 512 := by rw [coord_zero, ht]; omega
  refine ⟨t, flush_of_last gs hp t (by rw [c1]; exact hl), ?_⟩
  have e : (ix2 (row (tl gs v) ((i 0).val % 256)) (col ((i 1).val / 512) ((i 1).val % 512)) : S9216x6144.Idx) = i := by
    have hm' : tl gs v = (i 0).val / 256 := hm
    funext a
    match a with
    | ⟨0, _⟩ =>
      apply Fin.ext
      show (tl gs v * 256 + (i 0).val % 256) % 9216 = (i 0).val
      omega
    | ⟨1, _⟩ =>
      apply Fin.ext
      show ((i 1).val / 512 * 512 + (i 1).val % 512) % 6144 = (i 1).val
      omega
  have ey := emb5 gs hp t (ix2 (⟨(i 0).val % 256, Nat.mod_lt _ (by omega)⟩ : Fin 256) (⟨(i 1).val % 512, Nat.mod_lt _ (by omega)⟩ : Fin 512) : S256x512.Idx)
  rw [c1, c0] at ey
  have h := ((win5 gs hp).blk t).view.emb_mem_set
    (ix2 (⟨(i 0).val % 256, Nat.mod_lt _ (by omega)⟩ : Fin 256) (⟨(i 1).val % 512, Nat.mod_lt _ (by omega)⟩ : Fin 512) : S256x512.Idx)
  rw [ey.trans e] at h
  exact h

/-- Whatever the output's array may hold at the end is the result. -/
theorem arr_eq (X : Vec Ideal S9216x6144 .f32) (h : (rdat gs hp c B).ArrAt (5 : Fin 6) grid0.N X) : X = resA gs c B := by
  obtain ⟨Z, hZ, hA⟩ := RDat.ArrAt.exists_exact h
  have e := hA (Function.update (fun _ _ _ => Classical.arbitrary _) (5 : Fin 6) Z) fun u _ _ => by rw [Function.update_self]
  rw [e]
  refine Dat.arrAt_eq_of_cover ((rdat gs hp c B).withAfter _) (5 : Fin 6) (resA gs c B) (fun t hf => ?_) (covered5 gs hp)
  refine funext fun (y : S256x512.Idx) => ?_
  rw [Dat.flushed_apply, RDat.withAfter_after, Function.update_self]
  have hg := flushed_good gs hp c B t hf (Z t) (hZ t t.isLt hf) (y 0) (y 1)
  have ey : (ix2 (y 0) (y 1) : S256x512.Idx) = y := by
    funext a
    match a with
    | ⟨0, _⟩ => rfl
    | ⟨1, _⟩ => rfl
  rw [ey] at hg
  refine Eq.trans hg ?_
  show _ = resA gs c B (((win5 gs hp).blk t).view.emb y)
  rw [emb5 gs hp]
  rfl

end Cert.DownIdeal.Body
end
-- ==== Proof.DownReference.Chain.lean ====
module

public import proofs.«01_k».proof.Proof.Gen.DownReferenceIdeal.Value
public import Idealize.ShloMosaic.Lib.Pipeline.ValueKit
public import Idealize.ShloMosaic.Lib.Pointwise

/-!
The reference's body as a loop over the experts: what it stores is the last of eight masked updates, each of them the output
of one expert. The vectors are named here once; the body's own terms unfold to them.
-/

@[expose] public section
set_option maxRecDepth 65536

noncomputable section

namespace Cert.DownReferenceIdeal.Body

open Cert.DownReferenceIdeal Cert.DownReferenceIdeal.Gen Cert.DownReferenceIdeal.Value Idealize.ShloMosaic Idealize.ShloMosaic.TcCoe Idealize.SL.Sem

variable {F : FTy → Type} [FloatOps F]

/-- Expert `k`'s slice of a stack of packed weights. -/
def wE (x : Vec F S8x2048x6144 .i8) (k : Nat) : Vec F S1x2048x6144 .i8 := fun j => x (ix3 (Fin.ofNat 8 k) (j 1) (j 2))

/-- Expert `k`'s slice of a stack of scales. -/
def sE (x : Vec F S8x32x6144 .fp8e4m3) (k : Nat) : Vec F S1x32x6144 .fp8e4m3 := fun j => x (ix3 (Fin.ofNat 8 k) (j 1) (j 2))

/-- Expert `k`'s row of a stack of rows. -/
def cE (x : Vec F S8x6144 .f32) (k : Nat) : Vec F S1x6144 .f32 := fun j => x (ix2 (Fin.ofNat 8 k) (j 1))

theorem ofNat_eq {k : Nat} (h : k < 8) : (⟨k, h⟩ : Fin 8) = Fin.ofNat 8 k := Fin.ext (Nat.mod_eq_of_lt h).symm

theorem ld_w (x : Vec F S8x2048x6144 .i8) (k : Nat) (h : ∀ a, (![k, 0, 0] : Fin 3 → Nat) a + (![1, 2048, 6144] : Fin 3 → Nat) a ≤ S8x2048x6144.size a) :
    View.ld x (Rect.unit ![k, 0, 0] ![1, 2048, 6144] h) = wE x k := by
  refine funext fun (j : S1x2048x6144.Idx) => congrArg x ?_
  have hk : k < 8 := by have := h 0; change k + 1 ≤ 8 at this; omega
  have h0 : (j 0).val = 0 := by have : (j 0).val < 1 := (j 0).isLt; omega
  refine funext fun a => Fin.ext ?_
  match a with
  | ⟨0, _⟩ => show k + 1 * (j 0).val = k % 8; omega
  | ⟨1, _⟩ => show 0 + 1 * (j 1).val = (j 1).val; omega
  | ⟨2, _⟩ => show 0 + 1 * (j 2).val = (j 2).val; omega

theorem ld_s (x : Vec F S8x32x6144 .fp8e4m3) (k : Nat) (h : ∀ a, (![k, 0, 0] : Fin 3 → Nat) a + (![1, 32, 6144] : Fin 3 → Nat) a ≤ S8x32x6144.size a) :
    View.ld x (Rect.unit ![k, 0, 0] ![1, 32, 6144] h) = sE x k := by
  refine funext fun (j : S1x32x6144.Idx) => congrArg x ?_
  have hk : k < 8 := by have := h 0; change k + 1 ≤ 8 at this; omega
  have h0 : (j 0).val = 0 := by have : (j 0).val < 1 := (j 0).isLt; omega
  refine funext fun a => Fin.ext ?_
  match a with
  | ⟨0, _⟩ => show k + 1 * (j 0).val = k % 8; omega
  | ⟨1, _⟩ => show 0 + 1 * (j 1).val = (j 1).val; omega
  | ⟨2, _⟩ => show 0 + 1 * (j 2).val = (j 2).val; omega

theorem ld_c (x : Vec F S8x6144 .f32) (k : Nat) (h : ∀ a, (![k, 0] : Fin 2 → Nat) a + (![1, 6144] : Fin 2 → Nat) a ≤ S8x6144.size a) :
    View.ld x (Rect.unit ![k, 0] ![1, 6144] h) = cE x k := by
  refine funext fun (j : S1x6144.Idx) => congrArg x ?_
  have hk : k < 8 := by have := h 0; change k + 1 ≤ 8 at this; omega
  have h0 : (j 0).val = 0 := by have : (j 0).val < 1 := (j 0).isLt; omega
  refine funext fun a => Fin.ext ?_
  match a with
  | ⟨0, _⟩ => show k + 1 * (j 0).val = k % 8; omega
  | ⟨1, _⟩ => show 0 + 1 * (j 1).val = (j 1).val; omega

/-- The only index of a one-word load at word `k` is `k`. -/
theorem first_ix (k : Nat) (h : ∀ a, (![k] : Fin 1 → Nat) a + (![1] : Fin 1 → Nat) a ≤ S8.size a)
    (hn : 0 < (Rect.unit (s := S8) ![k] ![1] h).toLoadRect.shape.numel) :
    (Rect.unit (s := S8) ![k] ![1] h).toLoadRect.idx (Shape.Idx.first hn) = ix1 (Fin.ofNat 8 k) := by
  have hk : k < 8 := by have := h 0; change k + 1 ≤ 8 at this; omega
  refine funext fun a => Fin.ext ?_
  match a with
  | ⟨0, _⟩ => show k + 1 * 0 = k % 8; omega

/-- The scales of one expert, one row of 6144 for every row of packed weights. -/
def scl (s : Vec F S1x32x6144 .fp8e4m3) : FVec F S2048x6144 .bf16 :=
  shapeCast S2048x6144 (broadcastTo S32x64x6144 (shapeCast S32x1x6144 (shapeCast S32x1x6144
    (extf .bf16 (shapeCast S32x6144 s shapeCasts_S1x32x6144_S32x6144) bitsLt_fp8e4m3_bf16) shapeCasts_S32x6144_S32x1x6144)
    shapeCasts_S32x1x6144_S32x1x6144) broadcasts_S32x1x6144_S32x64x6144) shapeCasts_S32x64x6144_S2048x6144

/-- One expert's packed bytes, widened. -/
def wide (w : Vec F S1x2048x6144 .i8) : IVec S2048x6144 32 :=
  extsi 32 (shapeCast S2048x6144 w shapeCasts_S1x2048x6144_S2048x6144) natLt_8_32

/-- The low codes. -/
def low (w : Vec F S1x2048x6144 .i8) : IVec S2048x6144 32 :=
  shrsi (shli (wide w) (broadcast S2048x6144 28#32)) (broadcast S2048x6144 28#32)

/-- The high codes. -/
def high (w : Vec F S1x2048x6144 .i8) : IVec S2048x6144 32 := shrsi (wide w) (broadcast S2048x6144 4#32)

/-- The product with one expert's weight: the even columns with the low codes plus the odd columns with the high codes. -/
def prod (xe xo : Vec F S9216x2048 .fp8e4m3) (w : Vec F S1x2048x6144 .i8) (s : Vec F S1x32x6144 .fp8e4m3) : FVec F S9216x6144 .f32 :=
  addf
    (matmul dot_S9216x2048_S2048x6144_S9216x6144_1_0_0_1_n_n none (k0_pay2 xe) (mulf (sitofp .bf16 (low w)) (scl s)) (constant S9216x6144 .f32 0x00000000#32))
    (matmul dot_S9216x2048_S2048x6144_S9216x6144_1_0_0_1_n_n none (k0_pay3 xo) (mulf (sitofp .bf16 (high w)) (scl s)) (constant S9216x6144 .f32 0x00000000#32))

/-- The product rescaled by the columns' scales and the activation's scale. -/
def lin (xe xo : Vec F S9216x2048 .fp8e4m3) (w : Vec F S1x2048x6144 .i8) (s : Vec F S1x32x6144 .fp8e4m3) (c : Vec F S1x6144 .f32) (a : Elt F .f32) :
    FVec F S9216x6144 .f32 :=
  mulf (mulf (prod xe xo w s) (broadcastTo S9216x6144 c broadcasts_S1x6144_S9216x6144)) (broadcast S9216x6144 a)

/-- The rows from word `st` to word `en` take `h`, the others keep `old`. -/
def pick (st en : BitVec 32) (h old : FVec F S9216x6144 .f32) : FVec F S9216x6144 .f32 :=
  select (broadcastTo S9216x6144 (shapeCast S9216x1 (andi
    (cmpi .sge (iota .tc S9216x1 32 [0] iota_S9216x1_d0_w32) (broadcast S9216x1 st))
    (cmpi .slt (iota .tc S9216x1 32 [0] iota_S9216x1_d0_w32) (broadcast S9216x1 en))) shapeCasts_S9216x1_S9216x1) broadcasts_S9216x1_S9216x6144) h old

section
variable (x0 : Vec F S8 .i32) (x1 : Vec F S8 .f32) (x2 : Vec F S9216x2048 .fp8e4m3) (x3 : Vec F S9216x2048 .fp8e4m3)
  (x4 : Vec F S8x2048x6144 .i8) (x5 : Vec F S8x32x6144 .fp8e4m3) (x6 : Vec F S8x6144 .f32)

/-- The word at which expert `k`'s rows start. -/
def st : Nat → BitVec 32
  | 0 => 0#32
  | k + 1 => Scalar.addi (st k) (x0 (ix1 (Fin.ofNat 8 k)))

/-- Expert `k`'s output. -/
def hV (k : Nat) : FVec F S9216x6144 .f32 := lin x2 x3 (wE x4 k) (sE x5 k) (cE x6 k) (x1 (ix1 (Fin.ofNat 8 k)))

/-- The result after the experts below `k`. -/
def after : Nat → FVec F S9216x6144 .f32
  | 0 => broadcast S9216x6144 (Scalar.ofBits .f32 0x00000000#32)
  | k + 1 => pick (st (F := F) x0 k) (st (F := F) x0 (k + 1)) (hV x1 x2 x3 x4 x5 x6 k) (after k)
end

/-- What the body stores. -/
theorem out_eq (c : Dev nD) (arg0 : Memref sig .tc .smem S8 .i32) (harg0 : arg0.IsWhole) (arg1 : Memref sig .tc .smem S8 .f32) (harg1 : arg1.IsWhole) (arg2 : Memref sig .tc .vmem S9216x2048 .fp8e4m3) (harg2 : arg2.IsWhole) (arg3 : Memref sig .tc .vmem S9216x2048 .fp8e4m3) (harg3 : arg3.IsWhole) (arg4 : Memref sig .tc .vmem S8x2048x6144 .i8) (harg4 : arg4.IsWhole) (arg5 : Memref sig .tc .vmem S8x32x6144 .fp8e4m3) (harg5 : arg5.IsWhole) (arg6 : Memref sig .tc .vmem S8x6144 .f32) (harg6 : arg6.IsWhole) (arg7 : Memref sig .tc .vmem S9216x6144 .f32) (harg7 : arg7.IsWhole)
    (x0 : Vec F S8 .i32) (x1 : Vec F S8 .f32) (x2 : Vec F S9216x2048 .fp8e4m3) (x3 : Vec F S9216x2048 .fp8e4m3) (x4 : Vec F S8x2048x6144 .i8) (x5 : Vec F S8x32x6144 .fp8e4m3) (x6 : Vec F S8x6144 .f32) :
    out0_A_7 c arg0 harg0 arg1 harg1 arg2 harg2 arg3 harg3 arg4 harg4 arg5 harg5 arg6 harg6 arg7 harg7 x0 x1 x2 x3 x4 x5 x6 =
      after x0 x1 x2 x3 x4 x5 x6 8 := by
  unfold out0_A_7
  rw [View.read_writes_junk_eq_canon]
  unfold kernelRun0_A
  dsimp only
  frame_out
  simp only [ld_w, ld_s, ld_c]
  simp only [View.ld, first_ix]
  simp only [after, st, hV]
  rfl

end Cert.DownReferenceIdeal.Body
end
-- ==== Proof.DownReference.Elem.lean ====
module

public import proofs.«01_k».proof.Proof.DownReference.Chain
public import proofs.«01_k».proof.Proof.Value.DownSpec

/-!
The reference's vectors read at an index, over the extended reals.
-/

@[expose] public section
set_option maxRecDepth 16384

noncomputable section

namespace Cert.DownReferenceIdeal.Body

open Cert.DownReferenceIdeal Cert.DownReferenceIdeal.Gen Idealize.ShloMosaic

theorem scl_apply (s : Vec Ideal S1x32x6144 .fp8e4m3) (j : Fin 2048) (q : Fin 6144) :
    scl s (ix2 j q) = s (ix3 0 ⟨j.val / 64, by omega⟩ q) := by
  pointwise [scl]

theorem low_apply (w : Vec Ideal S1x2048x6144 .i8) (j : Fin 2048) (q : Fin 6144) :
    low (F := Ideal) w (ix2 j q) = Val.lo (w (ix3 0 j q)) := by
  pointwise [low, wide, Val.lo]

theorem high_apply (w : Vec Ideal S1x2048x6144 .i8) (j : Fin 2048) (q : Fin 6144) :
    high (F := Ideal) w (ix2 j q) = Val.hi (w (ix3 0 j q)) := by
  pointwise [high, wide, Val.hi]

theorem prod_apply (xe xo : Vec Ideal S9216x2048 .fp8e4m3) (w : Vec Ideal S1x2048x6144 .i8) (s : Vec Ideal S1x32x6144 .fp8e4m3)
    (r : Fin 9216) (q : Fin 6144) :
    (prod xe xo w s (ix2 r q) : EReal) =
      (∑ j : Fin 2048, (xe (ix2 r j) : EReal) * (Val.num (Val.lo (w (ix3 0 j q))) * (s (ix3 0 ⟨j.val / 64, by omega⟩ q) : EReal)))
        + ∑ j : Fin 2048, (xo (ix2 r j) : EReal) * (Val.num (Val.hi (w (ix3 0 j q))) * (s (ix3 0 ⟨j.val / 64, by omega⟩ q) : EReal)) := by
  pointwise [prod, k0_pay2, k0_pay3, low_apply, high_apply, scl_apply, Val.num]

theorem lin_apply (xe xo : Vec Ideal S9216x2048 .fp8e4m3) (w : Vec Ideal S1x2048x6144 .i8) (s : Vec Ideal S1x32x6144 .fp8e4m3)
    (c : Vec Ideal S1x6144 .f32) (a : Elt Ideal .f32) (r : Fin 9216) (q : Fin 6144) :
    (lin xe xo w s c a (ix2 r q) : EReal) = (prod xe xo w s (ix2 r q) : EReal) * (c (ix2 0 q) : EReal) * (a : EReal) := by
  pointwise [lin]

theorem pick_apply {a b : Nat} (ha : a < 2 ^ 31) (hb : b < 2 ^ 31) (h old : FVec Ideal S9216x6144 .f32) (r : Fin 9216) (q : Fin 6144) :
    (pick (BitVec.ofNat 32 a) (BitVec.ofNat 32 b) h old (ix2 r q) : EReal) =
      if a ≤ r.val ∧ r.val < b then (h (ix2 r q) : EReal) else (old (ix2 r q) : EReal) := by
  have key := Val.select_rows (α := EReal) (r := r.val) (by omega) ha hb (h (ix2 r q)) (old (ix2 r q))
  rw [← key]
  pointwise [pick]

section
variable (x0 : Vec Ideal S8 .i32) (x1 : Vec Ideal S8 .f32) (x2 : Vec Ideal S9216x2048 .fp8e4m3) (x3 : Vec Ideal S9216x2048 .fp8e4m3)
  (x4 : Vec Ideal S8x2048x6144 .i8) (x5 : Vec Ideal S8x32x6144 .fp8e4m3) (x6 : Vec Ideal S8x6144 .f32)

/-- The arguments as numbers, from the array `x` whose even and odd columns the body reads. -/
abbrev args (x : (⟨2, ![9216, 4096]⟩ : Shape).Idx → EReal) : Val.Down.Args :=
  ⟨x, x1, x4, x5, x6⟩

theorem hV_apply (x : (⟨2, ![9216, 4096]⟩ : Shape).Idx → EReal)
    (he : ∀ (r : Fin 9216) (j : Fin 2048), (x2 (ix2 r j) : EReal) = x (ix2 r ⟨2 * j.val, by omega⟩))
    (ho : ∀ (r : Fin 9216) (j : Fin 2048), (x3 (ix2 r j) : EReal) = x (ix2 r ⟨2 * j.val + 1, by omega⟩))
    (k : Nat) (r : Fin 9216) (q : Fin 6144) :
    (hV x1 x2 x3 x4 x5 x6 k (ix2 r q) : EReal) = Val.Down.h (args x1 x4 x5 x6 x) (Fin.ofNat 8 k) r q := by
  unfold hV
  rw [lin_apply, prod_apply]
  simp only [he, ho]
  rfl

/-- The result of the loop, when the words at which the experts' rows start are the numbers `off`. -/
theorem after_apply (x : (⟨2, ![9216, 4096]⟩ : Shape).Idx → EReal)
    (he : ∀ (r : Fin 9216) (j : Fin 2048), (x2 (ix2 r j) : EReal) = x (ix2 r ⟨2 * j.val, by omega⟩))
    (ho : ∀ (r : Fin 9216) (j : Fin 2048), (x3 (ix2 r j) : EReal) = x (ix2 r ⟨2 * j.val + 1, by omega⟩))
    (off : Nat → Nat) (hoff : ∀ k, k ≤ 8 → st (F := Ideal) x0 k = BitVec.ofNat 32 (off k) ∧ off k < 2 ^ 31) (r : Fin 9216) (q : Fin 6144) :
    (after x0 x1 x2 x3 x4 x5 x6 8 (ix2 r q) : EReal) = Val.Down.G (args x1 x4 x5 x6 x) off r q := by
  have key : ∀ k, k ≤ 8 → (after x0 x1 x2 x3 x4 x5 x6 k (ix2 r q) : EReal) =
      Val.upto off (fun e => Val.Down.h (args x1 x4 x5 x6 x) (Fin.ofNat 8 e) r q) r.val k := by
    intro k
    induction k with
    | zero => exact fun _ => Ideal.ofBits_zero_f32
    | succ k ih =>
      intro hk
      unfold after Val.upto
      rw [(hoff k (by omega)).1, (hoff (k + 1) hk).1, pick_apply (hoff k (by omega)).2 (hoff (k + 1) hk).2,
        hV_apply x1 x2 x3 x4 x5 x6 x he ho, ih (by omega)]
  exact key 8 (Nat.le_refl 8)
end

end Cert.DownReferenceIdeal.Body
end
-- ==== Proof.DownReference.Run.lean ====
module

public import proofs.«01_k».proof.Proof.DownReference.Elem
public import proofs.«01_k».proof.Proof.Tables.Pre

/-!
The reference's result array as a function of its arguments: the body runs at one point only, whose blocks are the whole arrays, so the array
it leaves is what the body stores.
-/

@[expose] public section
set_option maxRecDepth 16384

noncomputable section

namespace Cert.DownReferenceIdeal.Body

open Cert.DownReferenceIdeal Cert.DownReferenceIdeal.Gen Cert.DownReferenceIdeal.Value Idealize.ShloMosaic Idealize.ShloMosaic.TcCoe Idealize.SL.Sem
open Cert.Tables (offN sizes)

section
variable {F : FTy → Type} [FloatOps F] (m : (ℓ : Loc nD τ sig) → Buf (Elt F) ℓ)

theorem emb0 (t : Fin cfg0.N) (j : S8.Idx) : ((cfg0.win 0).blk t).view.emb j = j := by
  funext a; apply Fin.ext
  match a with
  | ⟨0, _⟩ => show 0 * 8 + 1 * (j 0).val = (j 0).val; omega

theorem emb1 (t : Fin cfg0.N) (j : S8.Idx) : ((cfg0.win 1).blk t).view.emb j = j := by
  funext a; apply Fin.ext
  match a with
  | ⟨0, _⟩ => show 0 * 8 + 1 * (j 0).val = (j 0).val; omega

theorem emb2 (t : Fin cfg0.N) (j : S9216x2048.Idx) : ((cfg0.win 2).blk t).view.emb j = j := by
  funext a; apply Fin.ext
  match a with
  | ⟨0, _⟩ => show 0 * 9216 + 1 * (j 0).val = (j 0).val; omega
  | ⟨1, _⟩ => show 0 * 2048 + 1 * (j 1).val = (j 1).val; omega

theorem emb3 (t : Fin cfg0.N) (j : S9216x2048.Idx) : ((cfg0.win 3).blk t).view.emb j = j := by
  funext a; apply Fin.ext
  match a with
  | ⟨0, _⟩ => show 0 * 9216 + 1 * (j 0).val = (j 0).val; omega
  | ⟨1, _⟩ => show 0 * 2048 + 1 * (j 1).val = (j 1).val; omega

theorem emb4 (t : Fin cfg0.N) (j : S8x2048x6144.Idx) : ((cfg0.win 4).blk t).view.emb j = j := by
  funext a; apply Fin.ext
  match a with
  | ⟨0, _⟩ => show 0 * 8 + 1 * (j 0).val = (j 0).val; omega
  | ⟨1, _⟩ => show 0 * 2048 + 1 * (j 1).val = (j 1).val; omega
  | ⟨2, _⟩ => show 0 * 6144 + 1 * (j 2).val = (j 2).val; omega

theorem emb5 (t : Fin cfg0.N) (j : S8x32x6144.Idx) : ((cfg0.win 5).blk t).view.emb j = j := by
  funext a; apply Fin.ext
  match a with
  | ⟨0, _⟩ => show 0 * 8 + 1 * (j 0).val = (j 0).val; omega
  | ⟨1, _⟩ => show 0 * 32 + 1 * (j 1).val = (j 1).val; omega
  | ⟨2, _⟩ => show 0 * 6144 + 1 * (j 2).val = (j 2).val; omega

theorem emb6 (t : Fin cfg0.N) (j : S8x6144.Idx) : ((cfg0.win 6).blk t).view.emb j = j := by
  funext a; apply Fin.ext
  match a with
  | ⟨0, _⟩ => show 0 * 8 + 1 * (j 0).val = (j 0).val; omega
  | ⟨1, _⟩ => show 0 * 6144 + 1 * (j 1).val = (j 1).val; omega

theorem emb7 (t : Fin cfg0.N) (j : S9216x6144.Idx) : ((cfg0.win 7).blk t).view.emb j = j := by
  funext a; apply Fin.ext
  match a with
  | ⟨0, _⟩ => show 0 * 9216 + 1 * (j 0).val = (j 0).val; omega
  | ⟨1, _⟩ => show 0 * 6144 + 1 * (j 1).val = (j 1).val; omega

/-! An input window's block is its whole array. -/

theorem iblk0_eq (c : Dev nD) (t : Fin cfg0.N) : iblk m c 0 t = V m c main_arg1 := by
  funext j; show V m c main_arg1 (((cfg0.win 0).blk t).view.emb j) = V m c main_arg1 j; rw [emb0]

theorem iblk1_eq (c : Dev nD) (t : Fin cfg0.N) : iblk m c 1 t = V m c main_arg2 := by
  funext j; show V m c main_arg2 (((cfg0.win 1).blk t).view.emb j) = V m c main_arg2 j; rw [emb1]

theorem iblk2_eq (c : Dev nD) (t : Fin cfg0.N) : iblk m c 2 t = V m c main_v0 := by
  funext j; show V m c main_v0 (((cfg0.win 2).blk t).view.emb j) = V m c main_v0 j; rw [emb2]

theorem iblk3_eq (c : Dev nD) (t : Fin cfg0.N) : iblk m c 3 t = V m c main_v1 := by
  funext j; show V m c main_v1 (((cfg0.win 3).blk t).view.emb j) = V m c main_v1 j; rw [emb3]

theorem iblk4_eq (c : Dev nD) (t : Fin cfg0.N) : iblk m c 4 t = V m c main_arg3 := by
  funext j; show V m c main_arg3 (((cfg0.win 4).blk t).view.emb j) = V m c main_arg3 j; rw [emb4]

theorem iblk5_eq (c : Dev nD) (t : Fin cfg0.N) : iblk m c 5 t = V m c main_arg4 := by
  funext j; show V m c main_arg4 (((cfg0.win 5).blk t).view.emb j) = V m c main_arg4 j; rw [emb5]

theorem iblk6_eq (c : Dev nD) (t : Fin cfg0.N) : iblk m c 6 t = V m c main_arg5 := by
  funext j; show V m c main_arg5 (((cfg0.win 6).blk t).view.emb j) = V m c main_arg5 j; rw [emb6]

/-- Cutting the point's block out of `X` and reading `X` through the block's view give the same. -/
theorem cut7_eq (t : Fin cfg0.N) (X : Vec F S9216x6144 .f32) :
    (cfg0.win 7).cut (grid0.coords t) X = ((cfg0.win 7).blk t).view.read (Elt F) X := by
  funext j
  show X j = X (((cfg0.win 7).blk t).view.emb j)
  rw [emb7]

theorem covered7 (i : S9216x6144.Idx) :
    ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

/-- The array the body stores, from the arrays the region finds. -/
def stored (c : Dev nD) : Vec F S9216x6144 .f32 :=
  after (V m c main_arg1) (V m c main_arg2) (V m c main_v0) (V m c main_v1) (V m c main_arg3) (V m c main_arg4) (V m c main_arg5) 8

theorem flushed7_eq (c : Dev nD) (t : Fin cfg0.N) :
    (dats m 0 c).flushed 7 t = ((cfg0.win 7).blk t).view.read (Elt F) (stored m c) := by
  rw [flushed7_A, out_eq, iblk0_eq, iblk1_eq, iblk2_eq, iblk3_eq, iblk4_eq, iblk5_eq, iblk6_eq]
  exact cut7_eq t _

theorem final7 (c : Dev nD) : (dats m 0 c).arrAt 7 cfg0.N = stored m c :=
  (dats m 0 c).arrAt_eq_of_cover 7 (stored m c) (fun t _ => flushed7_eq m c t) covered7

theorem V_even (c : Dev nD) : V m c main_v0 = Host.slice S9216x2048 ![0, 0] ![1, 2] (m ((c : Thread nD τ).loc main_arg0) : Vec F S9216x4096 .fp8e4m3)
    slicesBy_S9216x4096_S9216x2048_0s1_0s2 := by
  show StableHlo.after hostOps0 _ _ = _
  simp only [hostOps0, List.flatten_cons, List.flatten_nil, List.cons_append, List.nil_append, List.append_nil]
  after_results_simp

theorem V_odd (c : Dev nD) : V m c main_v1 = Host.slice S9216x2048 ![0, 1] ![1, 2] (m ((c : Thread nD τ).loc main_arg0) : Vec F S9216x4096 .fp8e4m3)
    slicesBy_S9216x4096_S9216x2048_0s1_1s2 := by
  show StableHlo.after hostOps0 _ _ = _
  simp only [hostOps0, List.flatten_cons, List.flatten_nil, List.cons_append, List.nil_append, List.append_nil]
  after_results_simp
end

section
variable (m : (ℓ : Loc nD τ sig) → Buf (Elt Ideal) ℓ) (ρ : Dev nD → PrngReg)

/-- The arguments of device `c` as numbers. -/
def argsOf (c : Dev nD) : Val.Down.Args where
  x := (m ((c : Thread nD τ).loc main_arg0) : Vec Ideal S9216x4096 .fp8e4m3)
  a := (m ((c : Thread nD τ).loc main_arg2) : Vec Ideal S8 .f32)
  w := (m ((c : Thread nD τ).loc main_arg3) : Vec Ideal S8x2048x6144 .i8)
  s := (m ((c : Thread nD τ).loc main_arg4) : Vec Ideal S8x32x6144 .fp8e4m3)
  c := (m ((c : Thread nD τ).loc main_arg5) : Vec Ideal S8x6144 .f32)

/-- The words that count the rows of each expert. -/
def gsOf (c : Dev nD) : IVec S8 32 := (m ((c : Thread nD τ).loc main_arg1) : Vec Ideal S8 .i32)

/-- The running word of the loop is the number of rows before expert `k`. -/
theorem st_eq (x0 : Vec Ideal S8 .i32) (k : Nat) (hk : k ≤ 8) : st (F := Ideal) x0 k = BitVec.ofNat 32 (offN (sizes x0) k) := by
  induction k with
  | zero => rfl
  | succ k ih =>
    have e : x0 (ix1 (Fin.ofNat 8 k)) = BitVec.ofNat 32 (sizes x0 k) := by
      have := Cert.Tables.sizes_ap x0 (Fin.ofNat 8 k)
      rw [show (Fin.ofNat 8 k).val = k from Nat.mod_eq_of_lt (by omega)] at this
      exact this
    show (st (F := Ideal) x0 k) + x0 (ix1 (Fin.ofNat 8 k)) = _
    rw [ih (by omega), e, ← BitVec.ofNat_add]
    rfl

/-- The reference ends with `G` of its arguments. -/
theorem stored_apply (c : Dev nD) (h8 : offN (sizes (gsOf m c)) 8 = 9216) (r : Fin 9216) (q : Fin 6144) :
    (stored m c (ix2 r q) : EReal) = Val.Down.G (argsOf m c) (offN (sizes (gsOf m c))) r q := by
  unfold stored
  rw [V_main_arg1, V_main_arg2, V_main_arg3, V_main_arg4, V_main_arg5, V_even, V_odd]
  refine after_apply _ _ _ _ _ _ _ (argsOf m c).x ?_ ?_ (offN (sizes (gsOf m c))) ?_ r q
  · intro r j
    pointwise
    rfl
  · intro r j
    pointwise
    exact congrArg (argsOf m c).x (congrArg (ix2 r) (Fin.ext (Nat.add_comm 1 (2 * j.val))))
  · intro k hk
    exact ⟨st_eq _ k hk, Nat.lt_of_le_of_lt (Cert.Tables.offN_mono _ hk) (by rw [h8]; omega)⟩
end

end Cert.DownReferenceIdeal.Body
end
-- ==== Proof.Value.DownEqual.lean ====
/- Kernel and reference of the second call have one result: from memories that agree on the arguments both read the same
   numbers, so the arrays they end with are equal. -/
module

public import proofs.«01_k».proof.Proof.DownIdeal.Good
public import proofs.«01_k».proof.Proof.DownReference.Run

@[expose] public section

set_option maxRecDepth 16384

noncomputable section

namespace Cert.Val.Down

open Idealize.ShloMosaic Idealize.ShloMosaic.TcCoe Idealize.SL.Sem
open Cert.Tables

/-- A scale of the kernel, laid out anew by the host, read as the argument it comes from. -/
theorem relaid (x : Vec Ideal (⟨2, ![8, 6144]⟩ : Shape) .f32) (h : (⟨2, ![8, 6144]⟩ : Shape).ShapeCasts (⟨3, ![8, 1, 6144]⟩ : Shape)) :
    (fun j : (⟨2, ![8, 6144]⟩ : Shape).Idx => (shapeCast (⟨3, ![8, 1, 6144]⟩ : Shape) x h (ix3 (j 0) 0 (j 1)) : EReal)) = x := by
  funext j
  obtain ⟨a, b, rfl⟩ : ∃ (a : Fin 8) (b : Fin 6144), j = ix2 a b := ⟨j 0, j 1, by
    funext d
    match d with
    | ⟨0, _⟩ => rfl
    | ⟨1, _⟩ => rfl⟩
  show (shapeCast (⟨3, ![8, 1, 6144]⟩ : Shape) x h (ix3 a 0 b) : EReal) = x (ix2 a b)
  pointwise

open Cert.DownIdeal in
/-- The kernel's reading of its arrays, from what each array holds. -/
theorem argsB_eq (A : Args) (c : Dev nD) (B : Body.Bufs (F := Ideal) c) (h : (⟨2, ![8, 6144]⟩ : Shape).ShapeCasts (⟨3, ![8, 1, 6144]⟩ : Shape))
    (e0 : (B main_arg0 : Vec Ideal S9216x4096 .fp8e4m3) = A.x) (e1 : (B main_arg2 : Vec Ideal S8 .f32) = A.a)
    (e2 : (B main_arg3 : Vec Ideal S8x2048x6144 .i8) = A.w) (e3 : (B main_arg4 : Vec Ideal S8x32x6144 .fp8e4m3) = A.s)
    (e4 : (B main_v48 : Vec Ideal S8x1x6144 .f32) = shapeCast (⟨3, ![8, 1, 6144]⟩ : Shape) A.c h) : Body.argsB c B = A := by
  unfold Body.argsB
  rw [e0, e1, e2, e3, e4, relaid]

section
open Cert.DownIdeal
variable (m : (ℓ : Loc nD τ sig) → Buf (Elt Ideal) ℓ) (c : Dev nD)

theorem V_arg0 : Body.V m c main_arg0 = m ((c.tc : Thread nD τ).loc main_arg0) := Body.host_arg0 _
theorem V_arg2 : Body.V m c main_arg2 = m ((c.tc : Thread nD τ).loc main_arg2) := Body.host_arg2 _
theorem V_arg3 : Body.V m c main_arg3 = m ((c.tc : Thread nD τ).loc main_arg3) := Body.host_arg3 _
theorem V_arg4 : Body.V m c main_arg4 = m ((c.tc : Thread nD τ).loc main_arg4) := Body.host_arg4 _
theorem V_c2 : Body.V m c main_v48 = (shapeCast S8x1x6144 (m ((c.tc : Thread nD τ).loc main_arg5) : Vec Ideal S8x6144 .f32)
    Gen.facts.shapeCasts_S8x6144_S8x1x6144 : Vec Ideal S8x1x6144 .f32) := Body.host_c2 _
end

variable (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ)
    (c : Dev Cert.DownIdeal.nD)
    (h0 : m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0))
    (h1 : m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1))
    (h2 : m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2))
    (h3 : m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3))
    (h4 : m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4))
    (h5 : m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5))

include h0 h2 h3 h4 h5 in
/-- The numbers the two programs read are the same. -/
theorem args_eq : Cert.DownReferenceIdeal.Body.argsOf m' c = Cert.DownIdeal.Body.argsB c (Cert.DownIdeal.Body.V m c) := by
  refine (argsB_eq (Cert.DownReferenceIdeal.Body.argsOf m' c) c (Cert.DownIdeal.Body.V m c) Cert.DownIdeal.Gen.facts.shapeCasts_S8x6144_S8x1x6144
    ((V_arg0 m c).trans h0.symm) ((V_arg2 m c).trans h2.symm) ((V_arg3 m c).trans h3.symm) ((V_arg4 m c).trans h4.symm) ?_).symm
  exact (V_c2 m c).trans (congrArg (fun x => shapeCast _ x Cert.DownIdeal.Gen.facts.shapeCasts_S8x6144_S8x1x6144) h5.symm)

include h1 in
theorem sizes_eq : Cert.DownReferenceIdeal.Body.gsOf m' c = Cert.DownIdeal.Body.gsOf m := by
  obtain rfl : c = 0 := Subsingleton.elim _ _
  exact h1

include h0 h1 h2 h3 h4 h5 in
/-- The reference ends with the kernel's result. -/
theorem stored_eq (hp : offN (sizes (Cert.DownIdeal.Body.gsOf m)) 8 = 9216) :
    Cert.DownReferenceIdeal.Body.stored m' c = Cert.DownIdeal.Body.resA (Cert.DownIdeal.Body.gsOf m) c (Cert.DownIdeal.Body.V m c) := by
  have eg := sizes_eq m m' c h1
  have ea := args_eq m m' c h0 h2 h3 h4 h5
  funext i
  obtain ⟨a, b, rfl⟩ : ∃ (a : Fin 9216) (b : Fin 6144), i = ix2 a b := ⟨i 0, i 1, by
    funext d
    match d with
    | ⟨0, _⟩ => rfl
    | ⟨1, _⟩ => rfl⟩
  refine (Cert.DownReferenceIdeal.Body.stored_apply m' c (by rw [eg]; exact hp) a b).trans ?_
  rw [eg, ea]
  rfl

end Cert.Val.Down
end
-- ==== Proof.lean ====
module

public import proofs.«01_k».proof.Defs
public import proofs.«01_k».proof.Proof.Kernel.Run
public import proofs.«01_k».proof.Proof.KernelIdeal.Run
public import proofs.«01_k».proof.Proof.KernelIdeal.Good
public import proofs.«01_k».proof.Proof.Value.Equal
public import proofs.«01_k».proof.Proof.Tables.Pre
public import proofs.«01_k».proof.Proof.Down.Run
public import proofs.«01_k».proof.Proof.DownIdeal.Run
public import proofs.«01_k».proof.Proof.DownIdeal.Good
public import proofs.«01_k».proof.Proof.Value.DownEqual
public import proofs.«01_k».proof.Proof.Gen.ReferenceIdeal.Frame
public import proofs.«01_k».proof.Proof.Gen.ReferenceIdeal.Value
public import proofs.«01_k».proof.Proof.Gen.Pre_rows_partitioned
public import proofs.«01_k».proof.Proof.Gen.Down.Launch
public import proofs.«01_k».proof.Proof.Gen.Down.Skeleton
public import proofs.«01_k».proof.Proof.Gen.DownIdeal.Launch
public import proofs.«01_k».proof.Proof.Gen.DownIdeal.Skeleton
public import proofs.«01_k».proof.Proof.Gen.DownReferenceIdeal.Frame
public import proofs.«01_k».proof.Proof.Gen.DownReferenceIdeal.Value
public import proofs.«01_k».proof.Proof.Gen.Pre_down_rows_partitioned

@[expose] public section

noncomputable section

namespace Cert.Proof

open Idealize.ShloMosaic Idealize.SL.Sem

/-- Every run of the kernel ends, with its arguments as they were. -/
theorem frame_Kernel : Cert.quiescent_Kernel (hKernel := Cert.Kernel.Gen.facts) (hPre_rows_partitioned := Cert.Pre_rows_partitioned.Gen.facts) :=
  fun m ρ h => (θ_run _ _ _).mono (fun _ e => ⟨fun c => (e.1 c).2, e.2⟩)
    (Cert.Kernel.Body.run_ends m ρ (Cert.Tables.sum_sizes _ (h 0)))

/-- The same over the reals. -/
theorem frame_KernelIdeal : Cert.quiescent_KernelIdeal (hKernelIdeal := Cert.KernelIdeal.Gen.facts) (hPre_rows_partitioned := Cert.Pre_rows_partitioned.Gen.facts) :=
  fun m ρ h => (θ_run _ _ _).mono (fun _ e => ⟨fun c => (e.1 c).2, e.2⟩)
    (Cert.KernelIdeal.Body.run_ends m ρ (Cert.Tables.sum_sizes _ (h 0)))

/-- Over the reals the kernel and the reference end with one array. -/
theorem algebraic : Cert.algebraic_KernelIdeal_ReferenceIdeal (hKernelIdeal := Cert.KernelIdeal.Gen.facts) (hReferenceIdeal := Cert.ReferenceIdeal.Gen.facts)
    (hPre_rows_partitioned := Cert.Pre_rows_partitioned.Gen.facts) := by
  intro m ρ m' ρ' hpre hag
  have hp := Cert.Tables.sum_sizes _ (hpre 0)
  refine ⟨fun c => Cert.KernelIdeal.Body.resA (Cert.KernelIdeal.Body.gsOf m) c (Cert.KernelIdeal.Body.V m c), ?_, ?_⟩
  · exact (θ_run _ _ _).mono (fun _ e c => ⟨Cert.KernelIdeal.Body.arr_eq _ hp c _ _ (e.1 c).1, (e.1 c).2⟩) (Cert.KernelIdeal.Body.run_ends m ρ hp)
  · refine (θ_run _ _ _).mono (fun _ e c => ⟨(e c).1.trans ?_, (e c).2⟩) (Cert.ReferenceIdeal.Value.run_blocks m' ρ')
    obtain ⟨h0, h1, h2, h3, h4, h5, h6, h7, h8, h9, h10⟩ := hag c
    exact (Cert.ReferenceIdeal.Body.final12 m' c).trans (Cert.Val.stored_eq m m' c h0 h1 h2 h3 h4 h5 h6 h7 h8 h9 h10 hp)

/-- Every run of the second call ends, with its arguments as they were. -/
theorem frame_Down : Cert.quiescent_Down (hDown := Cert.Down.Gen.facts) (hPre_down_rows_partitioned := Cert.Pre_down_rows_partitioned.Gen.facts) :=
  fun m ρ h => (θ_run _ _ _).mono (fun _ e => ⟨fun c => (e.1 c).2, e.2⟩)
    (Cert.Down.Body.run_ends m ρ (Cert.Tables.sum_sizes_down _ (h 0)))

/-- The same over the reals. -/
theorem frame_DownIdeal : Cert.quiescent_DownIdeal (hDownIdeal := Cert.DownIdeal.Gen.facts) (hPre_down_rows_partitioned := Cert.Pre_down_rows_partitioned.Gen.facts) :=
  fun m ρ h => (θ_run _ _ _).mono (fun _ e => ⟨fun c => (e.1 c).2, e.2⟩)
    (Cert.DownIdeal.Body.run_ends m ρ (Cert.Tables.sum_sizes_down _ (h 0)))

/-- Over the reals the second call and its reference end with one array. -/
theorem algebraic_down : Cert.algebraic_DownIdeal_DownReferenceIdeal (hDownIdeal := Cert.DownIdeal.Gen.facts) (hDownReferenceIdeal := Cert.DownReferenceIdeal.Gen.facts)
    (hPre_down_rows_partitioned := Cert.Pre_down_rows_partitioned.Gen.facts) := by
  intro m ρ m' ρ' hpre hag
  have hp := Cert.Tables.sum_sizes_down _ (hpre 0)
  refine ⟨fun c => Cert.DownIdeal.Body.resA (Cert.DownIdeal.Body.gsOf m) c (Cert.DownIdeal.Body.V m c), ?_, ?_⟩
  · exact (θ_run _ _ _).mono (fun _ e c => ⟨Cert.DownIdeal.Body.arr_eq _ hp c _ _ (e.1 c).1, (e.1 c).2⟩) (Cert.DownIdeal.Body.run_ends m ρ hp)
  · refine (θ_run _ _ _).mono (fun _ e c => ⟨(e c).1.trans ?_, (e c).2⟩) (Cert.DownReferenceIdeal.Value.run_blocks m' ρ')
    obtain ⟨h0, h1, h2, h3, h4, h5⟩ := hag c
    exact (Cert.DownReferenceIdeal.Body.final7 m' c).trans (Cert.Val.Down.stored_eq m m' c h0 h1 h2 h3 h4 h5 hp)

theorem claim : Cert.Claim := ⟨Cert.Kernel.Gen.facts, Cert.KernelIdeal.Gen.facts, Cert.ReferenceIdeal.Gen.facts, Cert.Down.Gen.facts, Cert.DownIdeal.Gen.facts,
  Cert.DownReferenceIdeal.Gen.facts, Cert.Pre_rows_partitioned.Gen.facts, Cert.Pre_down_rows_partitioned.Gen.facts,
  frame_Kernel, frame_KernelIdeal, fun m ρ _ => Cert.ReferenceIdeal.Gen.frame m ρ, fun m ρ _ => Cert.ReferenceIdeal.Gen.frame m ρ,
  frame_Down, frame_DownIdeal, fun m ρ _ => Cert.DownReferenceIdeal.Gen.frame m ρ, fun m ρ _ => Cert.DownReferenceIdeal.Gen.frame m ρ,
  trivial, algebraic, trivial, algebraic_down⟩

end Cert.Proof

end
